-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 [hPre_experts_named : Cert.Pre_experts_named.Facts] (m : (ℓ : Loc Cert.Kernel2.nD Cert.Kernel2.τ Cert.Kernel2.sig) → Buf (Elt Bits) ℓ) : Prop :=
  ∀ c : Dev Cert.Kernel2.nD,
    (Cert.Pre_experts_named.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_experts_named : Cert.Pre_experts_named.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts_named.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_experts_named [hPre_experts_named : Cert.Pre_experts_named.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts_named.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 [hPre_rows_named : Cert.Pre_rows_named.Facts] (m : (ℓ : Loc Cert.Kernel6.nD Cert.Kernel6.τ Cert.Kernel6.sig) → Buf (Elt Bits) ℓ) : Prop :=
  ∀ c : Dev Cert.Kernel6.nD,
    (Cert.Pre_rows_named.fn (F := Bits) (m ((c.tc : Thread Cert.Kernel6.nD Cert.Kernel6.τ).loc Cert.Kernel6.main_arg0)) (m ((c.tc : Thread Cert.Kernel6.nD Cert.Kernel6.τ).loc Cert.Kernel6.main_arg1)) (m ((c.tc : Thread Cert.Kernel6.nD Cert.Kernel6.τ).loc Cert.Kernel6.main_arg2)) (m ((c.tc : Thread Cert.Kernel6.nD Cert.Kernel6.τ).loc Cert.Kernel6.main_arg3)) (m ((c.tc : Thread Cert.Kernel6.nD Cert.Kernel6.τ).loc Cert.Kernel6.main_arg4)) (m ((c.tc : Thread Cert.Kernel6.nD Cert.Kernel6.τ).loc Cert.Kernel6.main_arg5))) = (fun _ => 1#1)

def Pre_Kernel6Ideal [hPre_rows_named : Cert.Pre_rows_named.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_rows_named.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_rows_named [hPre_rows_named : Cert.Pre_rows_named.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_rows_named.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] [hPre_experts_named : Cert.Pre_experts_named.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_experts_named : Cert.Pre_experts_named.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_experts_named [hReference2Ideal : Cert.Reference2Ideal.Facts] [hPre_experts_named : Cert.Pre_experts_named.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_experts_named m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] [hPre_rows_named : Cert.Pre_rows_named.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] [hPre_rows_named : Cert.Pre_rows_named.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Reference6Ideal_pre_rows_named [hReference6Ideal : Cert.Reference6Ideal.Facts] [hPre_rows_named : Cert.Pre_rows_named.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_rows_named m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] [hPre_experts_named : Cert.Pre_experts_named.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v66) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v22_0)) (v1 : (c : Dev Cert.Kernel3Ideal.nD) → Buf (Elt Ideal) ((c.tc : Thread Cert.Kernel3Ideal.nD Cert.Kernel3Ideal.τ).loc Cert.Kernel3Ideal.main_v22_1)) (v2 : (c : Dev Cert.Kernel3Ideal.nD) → Buf (Elt Ideal) ((c.tc : Thread Cert.Kernel3Ideal.nD Cert.Kernel3Ideal.τ).loc Cert.Kernel3Ideal.main_v22_2)) (v3 : (c : Dev Cert.Kernel3Ideal.nD) → Buf (Elt Ideal) ((c.tc : Thread Cert.Kernel3Ideal.nD Cert.Kernel3Ideal.τ).loc Cert.Kernel3Ideal.main_v22_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v22_0) = v0 c
          ∧ r.2.mem ((c.tc : Thread Cert.Kernel3Ideal.nD Cert.Kernel3Ideal.τ).loc Cert.Kernel3Ideal.main_v22_1) = v1 c
          ∧ r.2.mem ((c.tc : Thread Cert.Kernel3Ideal.nD Cert.Kernel3Ideal.τ).loc Cert.Kernel3Ideal.main_v22_2) = v2 c
          ∧ r.2.mem ((c.tc : Thread Cert.Kernel3Ideal.nD Cert.Kernel3Ideal.τ).loc Cert.Kernel3Ideal.main_v22_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v122) = v0 c
          ∧ r.2.mem ((c.tc : Thread Cert.Reference3Ideal.nD Cert.Reference3Ideal.τ).loc Cert.Reference3Ideal.main_v123) = v1 c
          ∧ r.2.mem ((c.tc : Thread Cert.Reference3Ideal.nD Cert.Reference3Ideal.τ).loc Cert.Reference3Ideal.main_v124) = v2 c
          ∧ r.2.mem ((c.tc : Thread Cert.Reference3Ideal.nD Cert.Reference3Ideal.τ).loc Cert.Reference3Ideal.main_v125) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v21_0)) (v1 : (c : Dev Cert.Kernel4Ideal.nD) → Buf (Elt Ideal) ((c.tc : Thread Cert.Kernel4Ideal.nD Cert.Kernel4Ideal.τ).loc Cert.Kernel4Ideal.main_v21_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v21_0) = v0 c
          ∧ r.2.mem ((c.tc : Thread Cert.Kernel4Ideal.nD Cert.Kernel4Ideal.τ).loc Cert.Kernel4Ideal.main_v21_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_v27) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v19) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] [hPre_rows_named : Cert.Pre_rows_named.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v27) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_experts_named : Cert.Pre_experts_named.Facts) (hPre_rows_named : Cert.Pre_rows_named.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_experts_named := hPre_experts_named)
    ∧ quiescent_Kernel2Ideal (hKernel2Ideal := hKernel2Ideal) (hPre_experts_named := hPre_experts_named)
    ∧ quiescent_Reference2Ideal (hReference2Ideal := hReference2Ideal)
    ∧ quiescent_Reference2Ideal_pre_experts_named (hReference2Ideal := hReference2Ideal) (hPre_experts_named := hPre_experts_named)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6) (hPre_rows_named := hPre_rows_named)
    ∧ quiescent_Kernel6Ideal (hKernel6Ideal := hKernel6Ideal) (hPre_rows_named := hPre_rows_named)
    ∧ quiescent_Reference6Ideal (hReference6Ideal := hReference6Ideal)
    ∧ quiescent_Reference6Ideal_pre_rows_named (hReference6Ideal := hReference6Ideal) (hPre_rows_named := hPre_rows_named)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_experts_named := hPre_experts_named)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal) (hPre_rows_named := hPre_rows_named)
-- ==== Pre_experts_named.lean ====
abbrev S288 : Shape := ⟨1, ![288]⟩
abbrev S1 : Shape := ⟨1, ![1]⟩
abbrev S73728x1024 : Shape := ⟨2, ![73728, 1024]⟩
abbrev S32x1024x512 : Shape := ⟨3, ![32, 1024, 512]⟩
abbrev S32x512x1024 : Shape := ⟨3, ![32, 512, 1024]⟩
abbrev S_ : Shape := ⟨0, ![]⟩

class Facts : Prop where
  bcast_S_S288 : S_.BroadcastsInDim S288 (![] : Fin 0 → Fin S288.rank)
  reducesTo_S288_S_d0 : S288.ReducesTo [0] S_
  h_S_ : 0 < S_.numel

variable [Facts]

def fn {F : FTy → Type} [FloatOps F] (main_arg0 : IVec S288 32) (main_arg1 : IVec S1 32) (main_arg2 : FVec F S73728x1024 .f32) (main_arg3 : FVec F S32x1024x512 .bf16) (main_arg4 : FVec F S32x1024x512 .bf16) (main_arg5 : FVec F S32x512x1024 .bf16) : IVec S_ 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 32 := constantI S_ 32 32#32
  let main_v2 : IVec S288 32 := broadcastInDim S288 ![] bcast_S_S288 main_c_0
  let main_v3 : IVec S288 1 := cmpi .slt main_arg0 main_v2
  let main_v4 : IVec S288 1 := andi main_v1 main_v3
  let main_c_1 : IVec S_ 1 := constantI S_ 1 1#1
  let main_v5 : IVec S_ 1 := (fun x v => Host.reduce IntOp.andi x v reducesTo_S288_S_d0 h_S_) main_v4 main_c_1
  main_v5
-- ==== Pre_finite.lean ====
abbrev S4x8192x512 : Shape := ⟨3, ![4, 8192, 512]⟩
abbrev S8x257 : Shape := ⟨2, ![8, 257]⟩
abbrev S_ : Shape := ⟨0, ![]⟩
abbrev S1 : Shape := ⟨1, ![1]⟩
abbrev S3 : Shape := ⟨1, ![3]⟩

class Facts : Prop where
  bitsLt_bf16_f32 : FTy.bits .bf16 < FTy.bits .f32
  bcast_S_S4x8192x512 : S_.BroadcastsInDim S4x8192x512 (![] : Fin 0 → Fin S4x8192x512.rank)
  reducesTo_S4x8192x512_S_d0_1_2 : S4x8192x512.ReducesTo [0, 1, 2] S_
  h_S_ : 0 < S_.numel
  bcast_S_S8x257 : S_.BroadcastsInDim S8x257 (![] : Fin 0 → Fin S8x257.rank)
  reducesTo_S8x257_S_d0_1 : S8x257.ReducesTo [0, 1] S_
  bcast_S_S1 : S_.BroadcastsInDim S1 (![] : Fin 0 → Fin S1.rank)
  concatenates_S1_S1_S1_S3_d0 : Shape.Concatenates [S1, S1, S1] S3 0
  reducesTo_S3_S_d0 : S3.ReducesTo [0] S_

variable [Facts]

def fn_part1 {F : FTy → Type} [FloatOps F] (main_v17 : IVec S3 1) : IVec S_ 1 :=
  let main_c_4 : IVec S_ 1 := constantI S_ 1 1#1
  let main_v18 : IVec S_ 1 := (fun x v => Host.reduce IntOp.andi x v reducesTo_S3_S_d0 h_S_) main_v17 main_c_4
  main_v18

def fn {F : FTy → Type} [FloatOps F] (main_arg0 : FVec F S4x8192x512 .bf16) (main_arg1 : FVec F S4x8192x512 .bf16) (main_arg2 : FVec F S4x8192x512 .bf16) (main_arg3 : FVec F S8x257 .f32) : IVec S_ 1 :=
  let main_v0 : FVec F S4x8192x512 .f32 := (extf .f32 · bitsLt_bf16_f32) main_arg0
  let main_v1 : FVec F S4x8192x512 .f32 := Host.absf main_v0
  let main_cst : FVec F S_ .f32 := constant S_ .f32 0x7F800000#32
  let main_v2 : FVec F S4x8192x512 .f32 := broadcastInDim S4x8192x512 ![] bcast_S_S4x8192x512 main_cst
  let main_v3 : IVec S4x8192x512 1 := cmpf .olt main_v1 main_v2
  let main_c : IVec S_ 1 := constantI S_ 1 1#1
  let main_v4 : IVec S_ 1 := (fun x v => Host.reduce IntOp.andi x v reducesTo_S4x8192x512_S_d0_1_2 h_S_) main_v3 main_c
  let main_v5 : FVec F S4x8192x512 .f32 := (extf .f32 · bitsLt_bf16_f32) main_arg1
  let main_v6 : FVec F S4x8192x512 .f32 := Host.absf main_v5
  let main_cst_0 : FVec F S_ .f32 := constant S_ .f32 0x7F800000#32
  let main_v7 : FVec F S4x8192x512 .f32 := broadcastInDim S4x8192x512 ![] bcast_S_S4x8192x512 main_cst_0
  let main_v8 : IVec S4x8192x512 1 := cmpf .olt main_v6 main_v7
  let main_c_1 : IVec S_ 1 := constantI S_ 1 1#1
  let main_v9 : IVec S_ 1 := (fun x v => Host.reduce IntOp.andi x v reducesTo_S4x8192x512_S_d0_1_2 h_S_) main_v8 main_c_1
  let main_v10 : FVec F S8x257 .f32 := Host.absf main_arg3
  let main_cst_2 : FVec F S_ .f32 := constant S_ .f32 0x7F800000#32
  let main_v11 : FVec F S8x257 .f32 := broadcastInDim S8x257 ![] bcast_S_S8x257 main_cst_2
  let main_v12 : IVec S8x257 1 := cmpf .olt main_v10 main_v11
  let main_c_3 : IVec S_ 1 := constantI S_ 1 1#1
  let main_v13 : IVec S_ 1 := (fun x v => Host.reduce IntOp.andi x v reducesTo_S8x257_S_d0_1 h_S_) main_v12 main_c_3
  let main_v14 : IVec S1 1 := broadcastInDim S1 ![] bcast_S_S1 main_v4
  let main_v15 : IVec S1 1 := broadcastInDim S1 ![] bcast_S_S1 main_v9
  let main_v16 : IVec S1 1 := broadcastInDim S1 ![] bcast_S_S1 main_v13
  let main_v17 : IVec S3 1 := concatenate S3 0 [⟨S1, main_v14⟩, ⟨S1, main_v15⟩, ⟨S1, main_v16⟩] concatenates_S1_S1_S1_S3_d0
  fn_part1 (F := F) main_v17
-- ==== Pre_rows_named.lean ====
abbrev S4x8192x1024 : Shape := ⟨3, ![4, 8192, 1024]⟩
abbrev S4x8192x128 : Shape := ⟨3, ![4, 8192, 128]⟩
abbrev S4x6x1024 : Shape := ⟨3, ![4, 6, 1024]⟩
abbrev S73728x1024 : Shape := ⟨2, ![73728, 1024]⟩
abbrev S32768 : Shape := ⟨1, ![32768]⟩
abbrev S_ : Shape := ⟨0, ![]⟩

class Facts : Prop where
  bcast_S_S32768 : S_.BroadcastsInDim S32768 (![] : Fin 0 → Fin S32768.rank)
  reducesTo_S32768_S_d0 : S32768.ReducesTo [0] S_
  h_S_ : 0 < S_.numel

variable [Facts]

def fn {F : FTy → Type} [FloatOps F] (main_arg0 : FVec F S4x8192x1024 .f32) (main_arg1 : FVec F S4x8192x128 .f32) (main_arg2 : FVec F S4x6x1024 .f32) (main_arg3 : FVec F S73728x1024 .f32) (main_arg4 : IVec S32768 32) (main_arg5 : IVec S32768 32) : IVec S_ 1 :=
  let main_c : IVec S_ 32 := constantI S_ 32 0#32
  let main_v0 : IVec S32768 32 := broadcastInDim S32768 ![] bcast_S_S32768 main_c
  let main_v1 : IVec S32768 1 := cmpi .sge main_arg4 main_v0
  let main_c_0 : IVec S_ 32 := constantI S_ 32 73728#32
  let main_v2 : IVec S32768 32 := broadcastInDim S32768 ![] bcast_S_S32768 main_c_0
  let main_v3 : IVec S32768 1 := cmpi .slt main_arg4 main_v2
  let main_v4 : IVec S32768 1 := andi main_v1 main_v3
  let main_c_1 : IVec S_ 32 := constantI S_ 32 0#32
  let main_v5 : IVec S32768 32 := broadcastInDim S32768 ![] bcast_S_S32768 main_c_1
  let main_v6 : IVec S32768 1 := cmpi .sge main_arg5 main_v5
  let main_v7 : IVec S32768 1 := andi main_v4 main_v6
  let main_c_2 : IVec S_ 32 := constantI S_ 32 73728#32
  let main_v8 : IVec S32768 32 := broadcastInDim S32768 ![] bcast_S_S32768 main_c_2
  let main_v9 : IVec S32768 1 := cmpi .slt main_arg5 main_v8
  let main_v10 : IVec S32768 1 := andi main_v7 main_v9
  let main_c_3 : IVec S_ 1 := constantI S_ 1 1#1
  let main_v11 : IVec S_ 1 := (fun x v => Host.reduce IntOp.andi x v reducesTo_S32768_S_d0 h_S_) main_v10 main_c_3
  main_v11
-- ==== Kernel.lean ====
abbrev S4x8192x512 : Shape := ⟨3, ![4, 8192, 512]⟩
abbrev S8x257 : Shape := ⟨2, ![8, 257]⟩
abbrev S128 : Shape := ⟨1, ![128]⟩
abbrev S128x1 : Shape := ⟨2, ![128, 1]⟩
abbrev S640 : Shape := ⟨1, ![640]⟩
abbrev S1x640 : Shape := ⟨2, ![1, 640]⟩
abbrev S_ : Shape := ⟨0, ![]⟩
abbrev S128x640 : Shape := ⟨2, ![128, 640]⟩
abbrev S128x640x1 : Shape := ⟨3, ![128, 640, 1]⟩
abbrev S8x128x640 : Shape := ⟨3, ![8, 128, 640]⟩
abbrev S1x128x640 : Shape := ⟨3, ![1, 128, 640]⟩
abbrev S1x512x128 : Shape := ⟨3, ![1, 512, 128]⟩
abbrev S2x128x640 : Shape := ⟨3, ![2, 128, 640]⟩
abbrev S1x128 : Shape := ⟨2, ![1, 128]⟩
abbrev S1x128x128 : Shape := ⟨3, ![1, 128, 128]⟩
abbrev S128x128 : Shape := ⟨2, ![128, 128]⟩
abbrev S512x128 : Shape := ⟨2, ![512, 128]⟩
abbrev S640x128 : Shape := ⟨2, ![640, 128]⟩
abbrev S1x384x128 : Shape := ⟨3, ![1, 384, 128]⟩
abbrev S384x128 : Shape := ⟨2, ![384, 128]⟩
abbrev S1x256x128 : Shape := ⟨3, ![1, 256, 128]⟩
abbrev S256x128 : Shape := ⟨2, ![256, 128]⟩

abbrev nBuf : Space → Nat
  | .hbm => 75
  | .vmem => 14
  | .smem => 0
  | _ => 0

abbrev bufTy : (tb : Table) → Fin (tcTables nBuf tb) → BufTy
  | .hbm, ⟨0, _⟩ => ⟨S4x8192x512, .bf16⟩
  | .hbm, ⟨1, _⟩ => ⟨S4x8192x512, .bf16⟩
  | .hbm, ⟨2, _⟩ => ⟨S4x8192x512, .bf16⟩
  | .hbm, ⟨3, _⟩ => ⟨S8x257, .f32⟩
  | .hbm, ⟨4, _⟩ => ⟨S128, .i32⟩
  | .hbm, ⟨5, _⟩ => ⟨S128x1, .i32⟩
  | .hbm, ⟨6, _⟩ => ⟨S640, .i32⟩
  | .hbm, ⟨7, _⟩ => ⟨S1x640, .i32⟩
  | .hbm, ⟨8, _⟩ => ⟨S_, .i32⟩
  | .hbm, ⟨9, _⟩ => ⟨S128x1, .i32⟩
  | .hbm, ⟨10, _⟩ => ⟨S128x1, .i32⟩
  | .hbm, ⟨11, _⟩ => ⟨S128x640, .i32⟩
  | .hbm, ⟨12, _⟩ => ⟨S128x640, .i32⟩
  | .hbm, ⟨13, _⟩ => ⟨S128x640, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S128x640, .i32⟩
  | .hbm, ⟨18, _⟩ => ⟨S128x640, .i32⟩
  | .hbm, ⟨19, _⟩ => ⟨S_, .i32⟩
  | .hbm, ⟨20, _⟩ => ⟨S128x640, .i32⟩
  | .hbm, ⟨21, _⟩ => ⟨S128x640, .i32⟩
  | .hbm, ⟨22, _⟩ => ⟨S_, .i32⟩
  | .hbm, ⟨23, _⟩ => ⟨S128x640, .i32⟩
  | .hbm, ⟨24, _⟩ => ⟨S128x640, .i32⟩
  | .hbm, ⟨25, _⟩ => ⟨S_, .i32⟩
  | .hbm, ⟨26, _⟩ => ⟨S_, .i32⟩
  | .hbm, ⟨27, _⟩ => ⟨S128x1, .i32⟩
  | .hbm, ⟨28, _⟩ => ⟨S128x1, .i32⟩
  | .hbm, ⟨29, _⟩ => ⟨S128x1, .i32⟩
  | .hbm, ⟨30, _⟩ => ⟨S_, .i32⟩
  | .hbm, ⟨31, _⟩ => ⟨S128x1, .i32⟩
  | .hbm, ⟨32, _⟩ => ⟨S128x1, .i1⟩
  | .hbm, ⟨33, _⟩ => ⟨S128x1, .i32⟩
  | .hbm, ⟨34, _⟩ => ⟨S128x1, .i32⟩
  | .hbm, ⟨35, _⟩ => ⟨S_, .i32⟩
  | .hbm, ⟨36, _⟩ => ⟨S128x1, .i32⟩
  | .hbm, ⟨37, _⟩ => ⟨S128x1, .i1⟩
  | .hbm, ⟨38, _⟩ => ⟨S128x1, .i1⟩
  | .hbm, ⟨39, _⟩ => ⟨S_, .i32⟩
  | .hbm, ⟨40, _⟩ => ⟨S128x1, .i32⟩
  | .hbm, ⟨41, _⟩ => ⟨S128x1, .i32⟩
  | .hbm, ⟨42, _⟩ => ⟨S128x1, .i32⟩
  | .hbm, ⟨43, _⟩ => ⟨S_, .i32⟩
  | .hbm, ⟨44, _⟩ => ⟨S128x1, .i32⟩
  | .hbm, ⟨45, _⟩ => ⟨S128x1, .i32⟩
  | .hbm, ⟨46, _⟩ => ⟨S128x640, .i32⟩
  | .hbm, ⟨47, _⟩ => ⟨S128x640, .i32⟩
  | .hbm, ⟨48, _⟩ => ⟨S128x640, .i1⟩
  | .hbm, ⟨49, _⟩ => ⟨S_, .i32⟩
  | .hbm, ⟨50, _⟩ => ⟨S128x1, .i32⟩
  | .hbm, ⟨51, _⟩ => ⟨S128x1, .i32⟩
  | .hbm, ⟨52, _⟩ => ⟨S_, .i32⟩
  | .hbm, ⟨53, _⟩ => ⟨S128x1, .i32⟩
  | .hbm, ⟨54, _⟩ => ⟨S128x1, .i32⟩
  | .hbm, ⟨55, _⟩ => ⟨S128x640, .i32⟩
  | .hbm, ⟨56, _⟩ => ⟨S128x640, .i32⟩
  | .hbm, ⟨57, _⟩ => ⟨S128x640, .i1⟩
  | .hbm, ⟨58, _⟩ => ⟨S128x640, .i1⟩
  | .hbm, ⟨59, _⟩ => ⟨S_, .i32⟩
  | .hbm, ⟨60, _⟩ => ⟨S128x640, .i32⟩
  | .hbm, ⟨61, _⟩ => ⟨S128x640, .i1⟩
  | .hbm, ⟨62, _⟩ => ⟨S_, .i32⟩
  | .hbm, ⟨63, _⟩ => ⟨S128x640, .i32⟩
  | .hbm, ⟨64, _⟩ => ⟨S128x640, .i32⟩
  | .hbm, ⟨65, _⟩ => ⟨S128x640, .i32⟩
  | .hbm, ⟨66, _⟩ => ⟨S128x640x1, .i32⟩
  | .hbm, ⟨67, _⟩ => ⟨S8x128x640, .f32⟩
  | .hbm, ⟨68, _⟩ => ⟨S1x128x640, .i1⟩
  | .hbm, ⟨69, _⟩ => ⟨S_, .f32⟩
  | .hbm, ⟨70, _⟩ => ⟨S_, .f32⟩
  | .hbm, ⟨71, _⟩ => ⟨S8x128x640, .i1⟩
  | .hbm, ⟨72, _⟩ => ⟨S8x128x640, .f32⟩
  | .hbm, ⟨73, _⟩ => ⟨S8x128x640, .f32⟩
  | .hbm, ⟨74, _⟩ => ⟨S4x8192x512, .bf16⟩
  | .local _ .vmem, ⟨0, _⟩ => ⟨S1x512x128, .bf16⟩
  | .local _ .vmem, ⟨1, _⟩ => ⟨S1x512x128, .bf16⟩
  | .local _ .vmem, ⟨2, _⟩ => ⟨S1x512x128, .bf16⟩
  | .local _ .vmem, ⟨3, _⟩ => ⟨S1x512x128, .bf16⟩
  | .local _ .vmem, ⟨4, _⟩ => ⟨S1x512x128, .bf16⟩
  | .local _ .vmem, ⟨5, _⟩ => ⟨S1x512x128, .bf16⟩
  | .local _ .vmem, ⟨6, _⟩ => ⟨S1x512x128, .bf16⟩
  | .local _ .vmem, ⟨7, _⟩ => ⟨S1x512x128, .bf16⟩
  | .local _ .vmem, ⟨8, _⟩ => ⟨S1x512x128, .bf16⟩
  | .local _ .vmem, ⟨9, _⟩ => ⟨S1x512x128, .bf16⟩
  | .local _ .vmem, ⟨10, _⟩ => ⟨S2x128x640, .f32⟩
  | .local _ .vmem, ⟨11, _⟩ => ⟨S2x128x640, .f32⟩
  | .local _ .vmem, ⟨12, _⟩ => ⟨S1x512x128, .bf16⟩
  | .local _ .vmem, ⟨13, _⟩ => ⟨S1x512x128, .bf16⟩
  | _, _ => ⟨S4x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_c_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v9 : Ref sig .tc := ⟨.hbm, 21, rfl⟩
abbrev main_c_2 : Ref sig .tc := ⟨.hbm, 22, rfl⟩
abbrev main_v10 : Ref sig .tc := ⟨.hbm, 23, rfl⟩
abbrev main_v11 : Ref sig .tc := ⟨.hbm, 24, rfl⟩
abbrev main_c_3 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_c : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_c_0 : Ref sig .tc := ⟨.hbm, 39, rfl⟩
abbrev main_call1_v12 : Ref sig .tc := ⟨.hbm, 40, rfl⟩
abbrev main_call1_v13 : Ref sig .tc := ⟨.hbm, 41, rfl⟩
abbrev main_v12 : Ref sig .tc := ⟨.hbm, 42, rfl⟩
abbrev main_c_4 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_c_5 : Ref sig .tc := ⟨.hbm, 49, rfl⟩
abbrev main_v18 : Ref sig .tc := ⟨.hbm, 50, rfl⟩
abbrev main_v19 : Ref sig .tc := ⟨.hbm, 51, rfl⟩
abbrev main_c_6 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_c_7 : Ref sig .tc := ⟨.hbm, 59, rfl⟩
abbrev main_v26 : Ref sig .tc := ⟨.hbm, 60, rfl⟩
abbrev main_v27 : Ref sig .tc := ⟨.hbm, 61, rfl⟩
abbrev main_c_8 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_cst : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_v34 : Ref sig .tc := ⟨.hbm, 73, rfl⟩
abbrev main_v35 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 4, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg2 c1_i32
  let c1_i32_0 : BitVec 32 := 1#32
  let v1 : BitVec 32 := Scalar.subi v0 c1_i32_0
  let c0_i32 : BitVec 32 := 0#32
  let v2 : BitVec 32 := Scalar.maxsi v1 c0_i32
  let c0_i32_1 : BitVec 32 := 0#32
  ![arg0.toNat, v2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg2 c1_i32
  let c1_i32_0 : BitVec 32 := 1#32
  let v1 : BitVec 32 := Scalar.subi v0 c1_i32_0
  let c0_i32 : BitVec 32 := 0#32
  let v2 : BitVec 32 := Scalar.maxsi v1 c0_i32
  let c0_i32_1 : BitVec 32 := 0#32
  ![arg0.toNat, v2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S2x128x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S4x8192x512 : Shape := ⟨3, ![4, 8192, 512]⟩
abbrev S8x257 : Shape := ⟨2, ![8, 257]⟩
abbrev S64 : Shape := ⟨1, ![64]⟩
abbrev S64x1 : Shape := ⟨2, ![64, 1]⟩
abbrev S_ : Shape := ⟨0, ![]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S8x64x576 : Shape := ⟨3, ![8, 64, 576]⟩
abbrev S4x8192x8x64 : Shape := ⟨4, ![4, 8192, 8, 64]⟩
abbrev S4x8704x8x64 : Shape := ⟨4, ![4, 8704, 8, 64]⟩
abbrev S128 : Shape := ⟨1, ![128]⟩
abbrev S128x1 : Shape := ⟨2, ![128, 1]⟩
abbrev S128x4 : Shape := ⟨2, ![128, 4]⟩
abbrev S128x4x64x8x64 : Shape := ⟨5, ![128, 4, 64, 8, 64]⟩
abbrev S128x4x576x8x64 : Shape := ⟨5, ![128, 4, 576, 8, 64]⟩
abbrev S128x4x8x64x576 : Shape := ⟨5, ![128, 4, 8, 64, 576]⟩
abbrev S1x8x64x576 : Shape := ⟨4, ![1, 8, 64, 576]⟩
abbrev S1x1x8x64x576 : Shape := ⟨5, ![1, 1, 8, 64, 576]⟩
abbrev S128x576 : Shape := ⟨2, ![128, 576]⟩
abbrev S128x1x1x1x576 : Shape := ⟨5, ![128, 1, 1, 1, 576]⟩
abbrev S4x8x64x576 : Shape := ⟨4, ![4, 8, 64, 576]⟩
abbrev S128x4x8x64 : Shape := ⟨4, ![128, 4, 8, 64]⟩
abbrev S128x4x8x64x1 : Shape := ⟨5, ![128, 4, 8, 64, 1]⟩
abbrev S128x4x8x64x64 : Shape := ⟨5, ![128, 4, 8, 64, 64]⟩
abbrev S4x128x64x8x64 : Shape := ⟨5, ![4, 128, 64, 8, 64]⟩

abbrev nBuf : Space → Nat
  | .hbm => 138
  | .vmem => 0
  | .smem => 0
  | _ => 0

abbrev hbmTy0_0 (i : Nat) : BufTy := match i % 128 with
  | 0 => ⟨S4x8192x512, .bf16⟩
  | 1 => ⟨S4x8192x512, .bf16⟩
  | 2 => ⟨S4x8192x512, .bf16⟩
  | 3 => ⟨S8x257, .f32⟩
  | 4 => ⟨S64, .i32⟩
  | 5 => ⟨S64x1, .i32⟩
  | 6 => ⟨S_, .i32⟩
  | 7 => ⟨S64x1, .i32⟩
  | 8 => ⟨S64x1, .i32⟩
  | 9 => ⟨S576, .i32⟩
  | 10 => ⟨S1x576, .i32⟩
  | 11 => ⟨S64x576, .i32⟩
  | 12 => ⟨S64x576, .i32⟩
  | 13 => ⟨S64x576, .i32⟩
  | 14 => ⟨S_, .i32⟩
  | 15 => ⟨S_, .i32⟩
  | 16 => ⟨S_, .i32⟩
  | 17 => ⟨S64x576, .i32⟩
  | 18 => ⟨S64x576, .i32⟩
  | 19 => ⟨S_, .i32⟩
  | 20 => ⟨S64x576, .i32⟩
  | 21 => ⟨S64x576, .i32⟩
  | 22 => ⟨S_, .i32⟩
  | 23 => ⟨S64x576, .i32⟩
  | 24 => ⟨S64x576, .i32⟩
  | 25 => ⟨S_, .i32⟩
  | 26 => ⟨S64x576, .i32⟩
  | 27 => ⟨S64x576, .i1⟩
  | 28 => ⟨S_, .i32⟩
  | 29 => ⟨S64x576, .i32⟩
  | 30 => ⟨S64x576, .i32⟩
  | 31 => ⟨S64x576, .i32⟩
  | 32 => ⟨S64x576x1, .i32⟩
  | 33 => ⟨S8x64x576, .f32⟩
  | 34 => ⟨S4x8192x512, .f32⟩
  | 35 => ⟨S4x8192x8x64, .f32⟩
  | 36 => ⟨S4x8192x512, .f32⟩
  | 37 => ⟨S4x8192x8x64, .f32⟩
  | 38 => ⟨S4x8192x512, .f32⟩
  | 39 => ⟨S4x8192x8x64, .f32⟩
  | 40 => ⟨S_, .i32⟩
  | 41 => ⟨S_, .f32⟩
  | 42 => ⟨S4x8704x8x64, .f32⟩
  | 43 => ⟨S_, .i32⟩
  | 44 => ⟨S_, .f32⟩
  | 45 => ⟨S4x8704x8x64, .f32⟩
  | 46 => ⟨S576, .i32⟩
  | 47 => ⟨S128, .i32⟩
  | 48 => ⟨S_, .i32⟩
  | 49 => ⟨S128, .i32⟩
  | 50 => ⟨S128, .i32⟩
  | 51 => ⟨S_, .i32⟩
  | 52 => ⟨S128, .i32⟩
  | 53 => ⟨S128, .i1⟩
  | 54 => ⟨S_, .i32⟩
  | 55 => ⟨S128, .i32⟩
  | 56 => ⟨S128, .i32⟩
  | 57 => ⟨S128, .i32⟩
  | 58 => ⟨S_, .i32⟩
  | 59 => ⟨S128x1, .i32⟩
  | 60 => ⟨S128x1, .i32⟩
  | 61 => ⟨S_, .i32⟩
  | 62 => ⟨S128x1, .i32⟩
  | 63 => ⟨S_, .i32⟩
  | 64 => ⟨S128x1, .i32⟩
  | 65 => ⟨S128x4, .i32⟩
  | 66 => ⟨S128x4x64x8x64, .f32⟩
  | 67 => ⟨S_, .i32⟩
  | 68 => ⟨S128, .i32⟩
  | 69 => ⟨S128, .i1⟩
  | 70 => ⟨S_, .i32⟩
  | 71 => ⟨S128, .i32⟩
  | 72 => ⟨S128, .i32⟩
  | 73 => ⟨S128, .i32⟩
  | 74 => ⟨S_, .i32⟩
  | 75 => ⟨S128x1, .i32⟩
  | 76 => ⟨S128x1, .i32⟩
  | 77 => ⟨S_, .i32⟩
  | 78 => ⟨S128x1, .i32⟩
  | 79 => ⟨S_, .i32⟩
  | 80 => ⟨S128x1, .i32⟩
  | 81 => ⟨S128x4, .i32⟩
  | 82 => ⟨S128x4x576x8x64, .f32⟩
  | 83 => ⟨S_, .i32⟩
  | 84 => ⟨S128, .i32⟩
  | 85 => ⟨S128, .i1⟩
  | 86 => ⟨S_, .i32⟩
  | 87 => ⟨S128, .i32⟩
  | 88 => ⟨S128, .i32⟩
  | 89 => ⟨S128, .i32⟩
  | 90 => ⟨S_, .i32⟩
  | 91 => ⟨S128x1, .i32⟩
  | 92 => ⟨S128x1, .i32⟩
  | 93 => ⟨S_, .i32⟩
  | 94 => ⟨S128x1, .i32⟩
  | 95 => ⟨S_, .i32⟩
  | 96 => ⟨S128x1, .i32⟩
  | 97 => ⟨S128x4, .i32⟩
  | 98 => ⟨S128x4x576x8x64, .f32⟩
  | 99 => ⟨S128x4x8x64x576, .f32⟩
  | 100 => ⟨S1x8x64x576, .f32⟩
  | 101 => ⟨S1x1x8x64x576, .f32⟩
  | 102 => ⟨S128x4x8x64x576, .f32⟩
  | 103 => ⟨S128x4x8x64x576, .f32⟩
  | 104 => ⟨S_, .i32⟩
  | 105 => ⟨S128, .i32⟩
  | 106 => ⟨S128, .i32⟩
  | 107 => ⟨S1x576, .i32⟩
  | 108 => ⟨S128x1, .i32⟩
  | 109 => ⟨S128x576, .i32⟩
  | 110 => ⟨S128x576, .i32⟩
  | 111 => ⟨S128x576, .i1⟩
  | 112 => ⟨S128x1x1x1x576, .i1⟩
  | 113 => ⟨S_, .f32⟩
  | 114 => ⟨S_, .f32⟩
  | 115 => ⟨S128x4x8x64x576, .i1⟩
  | 116 => ⟨S4x8x64x576, .f32⟩
  | 117 => ⟨S128x4x8x64x576, .f32⟩
  | 118 => ⟨S128x4x8x64x576, .f32⟩
  | 119 => ⟨S_, .f32⟩
  | 120 => ⟨S128x4x8x64, .f32⟩
  | 121 => ⟨S_, .f32⟩
  | 122 => ⟨S128x4x8x64, .f32⟩
  | 123 => ⟨S128x4x8x64, .f32⟩
  | 124 => ⟨S128x4x8x64x1, .f32⟩
  | 125 => ⟨S128x4x8x64x576, .f32⟩
  | 126 => ⟨S128x4x8x64x576, .f32⟩
  | 127 => ⟨S128x4x8x64x576, .f32⟩
  | _ => ⟨S4x8192x512, .bf16⟩

abbrev hbmTy0_1 (i : Nat) : BufTy := match i % 128 with
  | 0 => ⟨S_, .f32⟩
  | 1 => ⟨S128x4x8x64, .f32⟩
  | 2 => ⟨S128x4x8x64x1, .f32⟩
  | 3 => ⟨S128x4x8x64x576, .f32⟩
  | 4 => ⟨S128x4x8x64x576, .f32⟩
  | 5 => ⟨S128x4x8x64x64, .f32⟩
  | 6 => ⟨S128x4x64x8x64, .f32⟩
  | 7 => ⟨S4x128x64x8x64, .f32⟩
  | 8 => ⟨S4x8192x512, .f32⟩
  | 9 => ⟨S4x8192x512, .bf16⟩
  | _ => ⟨S4x8192x512, .bf16⟩

abbrev hbmTy (i : Nat) : BufTy := match i / 128 with
  | 0 => hbmTy0_0 i
  | 1 => hbmTy0_1 i
  | _ => ⟨S4x8192x512, .bf16⟩

abbrev bufTy : (tb : Table) → Fin (tcTables nBuf tb) → BufTy
  | .hbm, ⟨i, _⟩ => hbmTy i
  | _, _ => ⟨S4x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_c_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v9 : Ref sig .tc := ⟨.hbm, 21, rfl⟩
abbrev main_c_2 : Ref sig .tc := ⟨.hbm, 22, rfl⟩
abbrev main_v10 : Ref sig .tc := ⟨.hbm, 23, rfl⟩
abbrev main_v11 : Ref sig .tc := ⟨.hbm, 24, rfl⟩
abbrev main_c_3 : Ref sig .tc := ⟨.hbm, 25, rfl⟩
abbrev main_v12 : Ref sig .tc := ⟨.hbm, 26, rfl⟩
abbrev main_v13 : Ref sig .tc := ⟨.hbm, 27, rfl⟩
abbrev main_c_4 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_call1_v0 : Ref sig .tc := ⟨.hbm, 41, rfl⟩
abbrev main_v25 : Ref sig .tc := ⟨.hbm, 42, rfl⟩
abbrev main_c_6 : Ref sig .tc := ⟨.hbm, 43, rfl⟩
abbrev main_call2_v0 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_7 : Ref sig .tc := ⟨.hbm, 48, rfl⟩
abbrev main_v29 : Ref sig .tc := ⟨.hbm, 49, rfl⟩
abbrev main_v30 : Ref sig .tc := ⟨.hbm, 50, rfl⟩
abbrev main_c_8 : Ref sig .tc := ⟨.hbm, 51, rfl⟩
abbrev main_v31 : Ref sig .tc := ⟨.hbm, 52, rfl⟩
abbrev main_v32 : Ref sig .tc := ⟨.hbm, 53, rfl⟩
abbrev main_c_9 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_10 : Ref sig .tc := ⟨.hbm, 58, rfl⟩
abbrev main_v36 : Ref sig .tc := ⟨.hbm, 59, rfl⟩
abbrev main_v37 : Ref sig .tc := ⟨.hbm, 60, rfl⟩
abbrev main_c_11 : Ref sig .tc := ⟨.hbm, 61, rfl⟩
abbrev main_v38 : Ref sig .tc := ⟨.hbm, 62, rfl⟩
abbrev main_c_12 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_c_13 : Ref sig .tc := ⟨.hbm, 67, rfl⟩
abbrev main_v42 : Ref sig .tc := ⟨.hbm, 68, rfl⟩
abbrev main_v43 : Ref sig .tc := ⟨.hbm, 69, rfl⟩
abbrev main_c_14 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_c_15 : Ref sig .tc := ⟨.hbm, 74, rfl⟩
abbrev main_v47 : Ref sig .tc := ⟨.hbm, 75, rfl⟩
abbrev main_v48 : Ref sig .tc := ⟨.hbm, 76, rfl⟩
abbrev main_c_16 : Ref sig .tc := ⟨.hbm, 77, rfl⟩
abbrev main_v49 : Ref sig .tc := ⟨.hbm, 78, rfl⟩
abbrev main_c_17 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_c_18 : Ref sig .tc := ⟨.hbm, 83, rfl⟩
abbrev main_v53 : Ref sig .tc := ⟨.hbm, 84, rfl⟩
abbrev main_v54 : Ref sig .tc := ⟨.hbm, 85, rfl⟩
abbrev main_c_19 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_c_20 : Ref sig .tc := ⟨.hbm, 90, rfl⟩
abbrev main_v58 : Ref sig .tc := ⟨.hbm, 91, rfl⟩
abbrev main_v59 : Ref sig .tc := ⟨.hbm, 92, rfl⟩
abbrev main_c_21 : Ref sig .tc := ⟨.hbm, 93, rfl⟩
abbrev main_v60 : Ref sig .tc := ⟨.hbm, 94, rfl⟩
abbrev main_c_22 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_c_23 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_cst : Ref sig .tc := ⟨.hbm, 113, rfl⟩
abbrev main_call3_v0 : Ref sig .tc := ⟨.hbm, 114, rfl⟩
abbrev main_call3_v1 : Ref sig .tc := ⟨.hbm, 115, rfl⟩
abbrev main_call3_v2 : Ref sig .tc := ⟨.hbm, 116, rfl⟩
abbrev main_call3_v3 : Ref sig .tc := ⟨.hbm, 117, rfl⟩
abbrev main_v77 : Ref sig .tc := ⟨.hbm, 118, rfl⟩
abbrev main_cst_24 : Ref sig .tc := ⟨.hbm, 119, rfl⟩
abbrev main_v78 : Ref sig .tc := ⟨.hbm, 120, rfl⟩
abbrev main_cst_25 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_cst_26 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩

abbrev nD : Nat := 1
abbrev τ : Topo := Topo.v7x

variable {F : FTy → Type} [FloatOps F]
-- ==== Kernel2.lean ====
abbrev S288 : Shape := ⟨1, ![288]⟩
abbrev S1 : Shape := ⟨1, ![1]⟩
abbrev S73728x1024 : Shape := ⟨2, ![73728, 1024]⟩
abbrev S32x1024x512 : Shape := ⟨3, ![32, 1024, 512]⟩
abbrev S32x512x1024 : Shape := ⟨3, ![32, 512, 1024]⟩
abbrev S256x1024 : Shape := ⟨2, ![256, 1024]⟩
abbrev S1x1024x512 : Shape := ⟨3, ![1, 1024, 512]⟩
abbrev S1x512x1024 : Shape := ⟨3, ![1, 512, 1024]⟩
abbrev S1024x512 : Shape := ⟨2, ![1024, 512]⟩
abbrev S256x512 : Shape := ⟨2, ![256, 512]⟩
abbrev S512x1024 : Shape := ⟨2, ![512, 1024]⟩

abbrev nBuf : Space → Nat
  | .hbm => 5
  | .vmem => 10
  | .smem => 2
  | _ => 0

abbrev bufTy : (tb : Table) → Fin (tcTables nBuf tb) → BufTy
  | .hbm, ⟨0, _⟩ => ⟨S73728x1024, .f32⟩
  | .hbm, ⟨1, _⟩ => ⟨S32x1024x512, .bf16⟩
  | .hbm, ⟨2, _⟩ => ⟨S32x1024x512, .bf16⟩
  | .hbm, ⟨3, _⟩ => ⟨S32x512x1024, .bf16⟩
  | .hbm, ⟨4, _⟩ => ⟨S73728x1024, .f32⟩
  | .local _ .vmem, ⟨0, _⟩ => ⟨S256x1024, .f32⟩
  | .local _ .vmem, ⟨1, _⟩ => ⟨S256x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S256x1024, .f32⟩
  | .local _ .vmem, ⟨9, _⟩ => ⟨S256x1024, .f32⟩
  | .local _ .smem, ⟨0, _⟩ => ⟨S288, .i32⟩
  | .local _ .smem, ⟨1, _⟩ => ⟨S1, .i32⟩
  | _, _ => ⟨S73728x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S288 : Shape := ⟨1, ![288]⟩
abbrev S1 : Shape := ⟨1, ![1]⟩
abbrev S73728x1024 : Shape := ⟨2, ![73728, 1024]⟩
abbrev S32x1024x512 : Shape := ⟨3, ![32, 1024, 512]⟩
abbrev S32x512x1024 : Shape := ⟨3, ![32, 512, 1024]⟩
abbrev S288x256x1024 : Shape := ⟨3, ![288, 256, 1024]⟩
abbrev S_ : Shape := ⟨0, ![]⟩
abbrev S288x1 : Shape := ⟨2, ![288, 1]⟩
abbrev S288x3 : Shape := ⟨2, ![288, 3]⟩
abbrev S288x1x1024x512 : Shape := ⟨4, ![288, 1, 1024, 512]⟩
abbrev S288x1024x512 : Shape := ⟨3, ![288, 1024, 512]⟩
abbrev S288x256x512 : Shape := ⟨3, ![288, 256, 512]⟩
abbrev S288x1x512x1024 : Shape := ⟨4, ![288, 1, 512, 1024]⟩
abbrev S288x512x1024 : Shape := ⟨3, ![288, 512, 1024]⟩
abbrev S288x1x1 : Shape := ⟨3, ![288, 1, 1]⟩

abbrev nBuf : Space → Nat
  | .hbm => 121
  | .vmem => 0
  | .smem => 0
  | _ => 0

abbrev bufTy : (tb : Table) → Fin (tcTables nBuf tb) → BufTy
  | .hbm, ⟨0, _⟩ => ⟨S288, .i32⟩
  | .hbm, ⟨1, _⟩ => ⟨S1, .i32⟩
  | .hbm, ⟨2, _⟩ => ⟨S73728x1024, .f32⟩
  | .hbm, ⟨3, _⟩ => ⟨S32x1024x512, .bf16⟩
  | .hbm, ⟨4, _⟩ => ⟨S32x1024x512, .bf16⟩
  | .hbm, ⟨5, _⟩ => ⟨S32x512x1024, .bf16⟩
  | .hbm, ⟨6, _⟩ => ⟨S32x1024x512, .f32⟩
  | .hbm, ⟨7, _⟩ => ⟨S32x1024x512, .f32⟩
  | .hbm, ⟨8, _⟩ => ⟨S32x512x1024, .f32⟩
  | .hbm, ⟨9, _⟩ => ⟨S288x256x1024, .f32⟩
  | .hbm, ⟨10, _⟩ => ⟨S_, .i32⟩
  | .hbm, ⟨11, _⟩ => ⟨S288, .i32⟩
  | .hbm, ⟨12, _⟩ => ⟨S288, .i1⟩
  | .hbm, ⟨13, _⟩ => ⟨S_, .i32⟩
  | .hbm, ⟨14, _⟩ => ⟨S288, .i32⟩
  | .hbm, ⟨15, _⟩ => ⟨S288, .i32⟩
  | .hbm, ⟨16, _⟩ => ⟨S288, .i32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S288x1, .i32⟩
  | .hbm, ⟨34, _⟩ => ⟨S288x1, .i32⟩
  | .hbm, ⟨35, _⟩ => ⟨S288x1, .i32⟩
  | .hbm, ⟨36, _⟩ => ⟨S288x3, .i32⟩
  | .hbm, ⟨37, _⟩ => ⟨S288x1x1024x512, .f32⟩
  | .hbm, ⟨38, _⟩ => ⟨S288x1024x512, .f32⟩
  | .hbm, ⟨39, _⟩ => ⟨S288x256x512, .f32⟩
  | .hbm, ⟨40, _⟩ => ⟨S288x256x512, .f32⟩
  | .hbm, ⟨41, _⟩ => ⟨S288x256x512, .f32⟩
  | .hbm, ⟨42, _⟩ => ⟨S_, .f32⟩
  | .hbm, ⟨43, _⟩ => ⟨S288x256x512, .f32⟩
  | .hbm, ⟨44, _⟩ => ⟨S288x256x512, .f32⟩
  | .hbm, ⟨45, _⟩ => ⟨S_, .f32⟩
  | .hbm, ⟨46, _⟩ => ⟨S288x256x512, .f32⟩
  | .hbm, ⟨47, _⟩ => ⟨S288x256x512, .f32⟩
  | .hbm, ⟨48, _⟩ => ⟨S288x256x512, .f32⟩
  | .hbm, ⟨49, _⟩ => ⟨S_, .i32⟩
  | .hbm, ⟨50, _⟩ => ⟨S288, .i32⟩
  | .hbm, ⟨51, _⟩ => ⟨S288, .i1⟩
  | .hbm, ⟨52, _⟩ => ⟨S_, .i32⟩
  | .hbm, ⟨53, _⟩ => ⟨S288, .i32⟩
  | .hbm, ⟨54, _⟩ => ⟨S288, .i32⟩
  | .hbm, ⟨55, _⟩ => ⟨S288, .i32⟩
  | .hbm, ⟨56, _⟩ => ⟨S_, .i32⟩
  | .hbm, ⟨57, _⟩ => ⟨S_, .i32⟩
  | .hbm, ⟨58, _⟩ => ⟨S_, .i1⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i1⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S288x1, .i32⟩
  | .hbm, ⟨73, _⟩ => ⟨S288x1, .i32⟩
  | .hbm, ⟨74, _⟩ => ⟨S288x1, .i32⟩
  | .hbm, ⟨75, _⟩ => ⟨S288x3, .i32⟩
  | .hbm, ⟨76, _⟩ => ⟨S288x1x1024x512, .f32⟩
  | .hbm, ⟨77, _⟩ => ⟨S288x1024x512, .f32⟩
  | .hbm, ⟨78, _⟩ => ⟨S288x256x512, .f32⟩
  | .hbm, ⟨79, _⟩ => ⟨S288x256x512, .f32⟩
  | .hbm, ⟨80, _⟩ => ⟨S_, .i32⟩
  | .hbm, ⟨81, _⟩ => ⟨S288, .i32⟩
  | .hbm, ⟨82, _⟩ => ⟨S288, .i1⟩
  | .hbm, ⟨83, _⟩ => ⟨S_, .i32⟩
  | .hbm, ⟨84, _⟩ => ⟨S288, .i32⟩
  | .hbm, ⟨85, _⟩ => ⟨S288, .i32⟩
  | .hbm, ⟨86, _⟩ => ⟨S288, .i32⟩
  | .hbm, ⟨87, _⟩ => ⟨S_, .i32⟩
  | .hbm, ⟨88, _⟩ => ⟨S_, .i32⟩
  | .hbm, ⟨89, _⟩ => ⟨S_, .i1⟩
  | .hbm, ⟨90, _⟩ => ⟨S_, .i32⟩
  | .hbm, ⟨91, _⟩ => ⟨S_, .i32⟩
  | .hbm, ⟨92, _⟩ => ⟨S_, .i32⟩
  | .hbm, ⟨93, _⟩ => ⟨S_, .i32⟩
  | .hbm, ⟨94, _⟩ => ⟨S_, .i32⟩
  | .hbm, ⟨95, _⟩ => ⟨S_, .i32⟩
  | .hbm, ⟨96, _⟩ => ⟨S_, .i32⟩
  | .hbm, ⟨97, _⟩ => ⟨S_, .i1⟩
  | .hbm, ⟨98, _⟩ => ⟨S_, .i32⟩
  | .hbm, ⟨99, _⟩ => ⟨S_, .i32⟩
  | .hbm, ⟨100, _⟩ => ⟨S_, .i32⟩
  | .hbm, ⟨101, _⟩ => ⟨S_, .i32⟩
  | .hbm, ⟨102, _⟩ => ⟨S_, .i32⟩
  | .hbm, ⟨103, _⟩ => ⟨S288x1, .i32⟩
  | .hbm, ⟨104, _⟩ => ⟨S288x1, .i32⟩
  | .hbm, ⟨105, _⟩ => ⟨S288x1, .i32⟩
  | .hbm, ⟨106, _⟩ => ⟨S288x3, .i32⟩
  | .hbm, ⟨107, _⟩ => ⟨S288x1x512x1024, .f32⟩
  | .hbm, ⟨108, _⟩ => ⟨S288x512x1024, .f32⟩
  | .hbm, ⟨109, _⟩ => ⟨S288x256x1024, .f32⟩
  | .hbm, ⟨110, _⟩ => ⟨S288, .i32⟩
  | .hbm, ⟨111, _⟩ => ⟨S_, .i32⟩
  | .hbm, ⟨112, _⟩ => ⟨S288, .i32⟩
  | .hbm, ⟨113, _⟩ => ⟨S288, .i1⟩
  | .hbm, ⟨114, _⟩ => ⟨S288x1x1, .i1⟩
  | .hbm, ⟨115, _⟩ => ⟨S_, .f32⟩
  | .hbm, ⟨116, _⟩ => ⟨S_, .f32⟩
  | .hbm, ⟨117, _⟩ => ⟨S288x256x1024, .i1⟩
  | .hbm, ⟨118, _⟩ => ⟨S288x256x1024, .f32⟩
  | .hbm, ⟨119, _⟩ => ⟨S288x256x1024, .f32⟩
  | .hbm, ⟨120, _⟩ => ⟨S73728x1024, .f32⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_c_2 : Ref sig .tc := ⟨.hbm, 18, rfl⟩
abbrev main_v9 : Ref sig .tc := ⟨.hbm, 19, rfl⟩
abbrev main_c_3 : Ref sig .tc := ⟨.hbm, 20, rfl⟩
abbrev main_c_4 : Ref sig .tc := ⟨.hbm, 21, rfl⟩
abbrev main_v10 : Ref sig .tc := ⟨.hbm, 22, rfl⟩
abbrev main_c_5 : Ref sig .tc := ⟨.hbm, 23, rfl⟩
abbrev main_v11 : Ref sig .tc := ⟨.hbm, 24, rfl⟩
abbrev main_c_6 : Ref sig .tc := ⟨.hbm, 25, rfl⟩
abbrev main_c_7 : Ref sig .tc := ⟨.hbm, 26, rfl⟩
abbrev main_v12 : Ref sig .tc := ⟨.hbm, 27, rfl⟩
abbrev main_c_8 : Ref sig .tc := ⟨.hbm, 28, rfl⟩
abbrev main_c_9 : Ref sig .tc := ⟨.hbm, 29, rfl⟩
abbrev main_v13 : Ref sig .tc := ⟨.hbm, 30, rfl⟩
abbrev main_c_10 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v22 : Ref sig .tc := ⟨.hbm, 48, rfl⟩
abbrev main_c_11 : Ref sig .tc := ⟨.hbm, 49, rfl⟩
abbrev main_v23 : Ref sig .tc := ⟨.hbm, 50, rfl⟩
abbrev main_v24 : Ref sig .tc := ⟨.hbm, 51, rfl⟩
abbrev main_c_12 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_c_13 : Ref sig .tc := ⟨.hbm, 56, rfl⟩
abbrev main_c_14 : Ref sig .tc := ⟨.hbm, 57, rfl⟩
abbrev main_v28 : Ref sig .tc := ⟨.hbm, 58, rfl⟩
abbrev main_c_15 : Ref sig .tc := ⟨.hbm, 59, rfl⟩
abbrev main_c_16 : Ref sig .tc := ⟨.hbm, 60, rfl⟩
abbrev main_v29 : Ref sig .tc := ⟨.hbm, 61, rfl⟩
abbrev main_c_17 : Ref sig .tc := ⟨.hbm, 62, rfl⟩
abbrev main_v30 : Ref sig .tc := ⟨.hbm, 63, rfl⟩
abbrev main_c_18 : Ref sig .tc := ⟨.hbm, 64, rfl⟩
abbrev main_c_19 : Ref sig .tc := ⟨.hbm, 65, rfl⟩
abbrev main_v31 : Ref sig .tc := ⟨.hbm, 66, rfl⟩
abbrev main_c_20 : Ref sig .tc := ⟨.hbm, 67, rfl⟩
abbrev main_c_21 : Ref sig .tc := ⟨.hbm, 68, rfl⟩
abbrev main_v32 : Ref sig .tc := ⟨.hbm, 69, rfl⟩
abbrev main_c_22 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_c_23 : Ref sig .tc := ⟨.hbm, 80, rfl⟩
abbrev main_v42 : Ref sig .tc := ⟨.hbm, 81, rfl⟩
abbrev main_v43 : Ref sig .tc := ⟨.hbm, 82, rfl⟩
abbrev main_c_24 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_c_25 : Ref sig .tc := ⟨.hbm, 87, rfl⟩
abbrev main_c_26 : Ref sig .tc := ⟨.hbm, 88, rfl⟩
abbrev main_v47 : Ref sig .tc := ⟨.hbm, 89, rfl⟩
abbrev main_c_27 : Ref sig .tc := ⟨.hbm, 90, rfl⟩
abbrev main_c_28 : Ref sig .tc := ⟨.hbm, 91, rfl⟩
abbrev main_v48 : Ref sig .tc := ⟨.hbm, 92, rfl⟩
abbrev main_c_29 : Ref sig .tc := ⟨.hbm, 93, rfl⟩
abbrev main_v49 : Ref sig .tc := ⟨.hbm, 94, rfl⟩
abbrev main_c_30 : Ref sig .tc := ⟨.hbm, 95, rfl⟩
abbrev main_c_31 : Ref sig .tc := ⟨.hbm, 96, rfl⟩
abbrev main_v50 : Ref sig .tc := ⟨.hbm, 97, rfl⟩
abbrev main_c_32 : Ref sig .tc := ⟨.hbm, 98, rfl⟩
abbrev main_c_33 : Ref sig .tc := ⟨.hbm, 99, rfl⟩
abbrev main_v51 : Ref sig .tc := ⟨.hbm, 100, rfl⟩
abbrev main_c_34 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_cst : Ref sig .tc := ⟨.hbm, 115, rfl⟩
abbrev main_call1_v0 : Ref sig .tc := ⟨.hbm, 116, rfl⟩
abbrev main_call1_v1 : Ref sig .tc := ⟨.hbm, 117, rfl⟩
abbrev main_call1_v2 : Ref sig .tc := ⟨.hbm, 118, rfl⟩
abbrev main_v65 : Ref sig .tc := ⟨.hbm, 119, rfl⟩
abbrev main_v66 : Ref sig .tc := ⟨.hbm, 120, rfl⟩

abbrev nD : Nat := 1
abbrev τ : Topo := Topo.v7x

variable {F : FTy → Type} [FloatOps F]
-- ==== Kernel3.lean ====
abbrev S4x8192x1024 : Shape := ⟨3, ![4, 8192, 1024]⟩
abbrev S4x6x1024 : Shape := ⟨3, ![4, 6, 1024]⟩
abbrev S1024 : Shape := ⟨1, ![1024]⟩
abbrev S1024x2048 : Shape := ⟨2, ![1024, 2048]⟩
abbrev S4x128x128 : Shape := ⟨3, ![4, 128, 128]⟩
abbrev S512 : Shape := ⟨1, ![512]⟩
abbrev S64 : Shape := ⟨1, ![64]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S1x64 : Shape := ⟨2, ![1, 64]⟩
abbrev S8x64 : Shape := ⟨2, ![8, 64]⟩
abbrev S1x1024 : Shape := ⟨2, ![1, 1024]⟩
abbrev S4x8192x512 : Shape := ⟨3, ![4, 8192, 512]⟩
abbrev S1x512x1024 : Shape := ⟨3, ![1, 512, 1024]⟩
abbrev S1x6x1024 : Shape := ⟨3, ![1, 6, 1024]⟩
abbrev S1x512x512 : Shape := ⟨3, ![1, 512, 512]⟩
abbrev S528x512 : Shape := ⟨2, ![528, 512]⟩
abbrev S512x1024 : Shape := ⟨2, ![512, 1024]⟩
abbrev S1x1x1024 : Shape := ⟨3, ![1, 1, 1024]⟩
abbrev S512x2048 : Shape := ⟨2, ![512, 2048]⟩
abbrev S16x512 : Shape := ⟨2, ![16, 512]⟩
abbrev S528x128 : Shape := ⟨2, ![528, 128]⟩
abbrev S512x128 : Shape := ⟨2, ![512, 128]⟩
abbrev S1x128x128 : Shape := ⟨3, ![1, 128, 128]⟩
abbrev S128x128 : Shape := ⟨2, ![128, 128]⟩

abbrev nBuf : Space → Nat
  | .hbm => 52
  | .vmem => 20
  | .smem => 0
  | _ => 0

abbrev bufTy : (tb : Table) → Fin (tcTables nBuf tb) → BufTy
  | .hbm, ⟨0, _⟩ => ⟨S4x8192x1024, .f32⟩
  | .hbm, ⟨1, _⟩ => ⟨S4x6x1024, .f32⟩
  | .hbm, ⟨2, _⟩ => ⟨S1024, .f32⟩
  | .hbm, ⟨3, _⟩ => ⟨S1024x2048, .f32⟩
  | .hbm, ⟨4, _⟩ => ⟨S4x128x128, .f32⟩
  | .hbm, ⟨5, _⟩ => ⟨S512, .f32⟩
  | .hbm, ⟨6, _⟩ => ⟨S64, .f32⟩
  | .hbm, ⟨7, _⟩ => ⟨S64, .f32⟩
  | .hbm, ⟨8, _⟩ => ⟨S512, .i32⟩
  | .hbm, ⟨9, _⟩ => ⟨S_, .i32⟩
  | .hbm, ⟨10, _⟩ => ⟨S_, .i32⟩
  | .hbm, ⟨11, _⟩ => ⟨S512, .i32⟩
  | .hbm, ⟨12, _⟩ => ⟨S512, .i32⟩
  | .hbm, ⟨13, _⟩ => ⟨S512, .i32⟩
  | .hbm, ⟨14, _⟩ => ⟨S_, .i32⟩
  | .hbm, ⟨15, _⟩ => ⟨S512, .i32⟩
  | .hbm, ⟨16, _⟩ => ⟨S512, .i1⟩
  | .hbm, ⟨17, _⟩ => ⟨S512, .i32⟩
  | .hbm, ⟨18, _⟩ => ⟨S512, .i32⟩
  | .hbm, ⟨19, _⟩ => ⟨S_, .i32⟩
  | .hbm, ⟨20, _⟩ => ⟨S512, .i32⟩
  | .hbm, ⟨21, _⟩ => ⟨S512, .i1⟩
  | .hbm, ⟨22, _⟩ => ⟨S512, .i1⟩
  | .hbm, ⟨23, _⟩ => ⟨S_, .i32⟩
  | .hbm, ⟨24, _⟩ => ⟨S512, .i32⟩
  | .hbm, ⟨25, _⟩ => ⟨S512, .i32⟩
  | .hbm, ⟨26, _⟩ => ⟨S512, .i32⟩
  | .hbm, ⟨27, _⟩ => ⟨S512x1, .i32⟩
  | .hbm, ⟨28, _⟩ => ⟨S1x512, .i32⟩
  | .hbm, ⟨29, _⟩ => ⟨S512x512, .i32⟩
  | .hbm, ⟨30, _⟩ => ⟨S512x512, .i32⟩
  | .hbm, ⟨31, _⟩ => ⟨S512x512, .i1⟩
  | .hbm, ⟨32, _⟩ => ⟨S512x512, .bf16⟩
  | .hbm, ⟨33, _⟩ => ⟨S1x64, .f32⟩
  | .hbm, ⟨34, _⟩ => ⟨S8x64, .f32⟩
  | .hbm, ⟨35, _⟩ => ⟨S512, .f32⟩
  | .hbm, ⟨36, _⟩ => ⟨S_, .f32⟩
  | .hbm, ⟨37, _⟩ => ⟨S512, .f32⟩
  | .hbm, ⟨38, _⟩ => ⟨S512, .f32⟩
  | .hbm, ⟨39, _⟩ => ⟨S1x512, .f32⟩
  | .hbm, ⟨40, _⟩ => ⟨S1x64, .f32⟩
  | .hbm, ⟨41, _⟩ => ⟨S8x64, .f32⟩
  | .hbm, ⟨42, _⟩ => ⟨S512, .f32⟩
  | .hbm, ⟨43, _⟩ => ⟨S1x512, .f32⟩
  | .hbm, ⟨44, _⟩ => ⟨S1x1024, .f32⟩
  | .hbm, ⟨45, _⟩ => ⟨S1024x2048, .bf16⟩
  | .hbm, ⟨46, _⟩ => ⟨S4x128x128, .bf16⟩
  | .hbm, ⟨47, _⟩ => ⟨S1x512, .f32⟩
  | .hbm, ⟨48, _⟩ => ⟨S4x8192x512, .bf16⟩
  | .hbm, ⟨49, _⟩ => ⟨S4x8192x512, .bf16⟩
  | .hbm, ⟨50, _⟩ => ⟨S4x8192x512, .bf16⟩
  | .hbm, ⟨51, _⟩ => ⟨S4x8192x512, .bf16⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x2048, .bf16⟩
  | .local _ .vmem, ⟨6, _⟩ => ⟨S4x128x128, .bf16⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S512x512, .bf16⟩
  | .local _ .vmem, ⟨11, _⟩ => ⟨S1x512x512, .bf16⟩
  | .local _ .vmem, ⟨12, _⟩ => ⟨S1x512x512, .bf16⟩
  | .local _ .vmem, ⟨13, _⟩ => ⟨S1x512x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x512, .bf16⟩
  | .local _ .vmem, ⟨17, _⟩ => ⟨S1x512x512, .bf16⟩
  | .local _ .vmem, ⟨18, _⟩ => ⟨S1x512x512, .bf16⟩
  | .local _ .vmem, ⟨19, _⟩ => ⟨S528x512, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22_0 : Ref sig .tc := ⟨.hbm, 48, rfl⟩
abbrev main_v22_1 : Ref sig .tc := ⟨.hbm, 49, rfl⟩
abbrev main_v22_2 : Ref sig .tc := ⟨.hbm, 50, rfl⟩
abbrev main_v22_3 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference3Ideal.lean ====
abbrev S4x8192x1024 : Shape := ⟨3, ![4, 8192, 1024]⟩
abbrev S4x6x1024 : Shape := ⟨3, ![4, 6, 1024]⟩
abbrev S1024 : Shape := ⟨1, ![1024]⟩
abbrev S1024x2048 : Shape := ⟨2, ![1024, 2048]⟩
abbrev S4x128x128 : Shape := ⟨3, ![4, 128, 128]⟩
abbrev S512 : Shape := ⟨1, ![512]⟩
abbrev S64 : Shape := ⟨1, ![64]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x2048 : Shape := ⟨3, ![4, 8192, 2048]⟩
abbrev S4x8192x512 : Shape := ⟨3, ![4, 8192, 512]⟩
abbrev S4x8192x128 : Shape := ⟨3, ![4, 8192, 128]⟩
abbrev S8192 : Shape := ⟨1, ![8192]⟩
abbrev S1x8192x1 : Shape := ⟨3, ![1, 8192, 1]⟩
abbrev S4x8192x1x128 : Shape := ⟨4, ![4, 8192, 1, 128]⟩
abbrev S4x8192x4x128 : Shape := ⟨4, ![4, 8192, 4, 128]⟩
abbrev S4x128x4x8192 : Shape := ⟨4, ![4, 128, 4, 8192]⟩
abbrev S1x1x512 : Shape := ⟨3, ![1, 1, 512]⟩
abbrev S4x8192x1536 : Shape := ⟨3, ![4, 8192, 1536]⟩
abbrev S4x8192x8x64 : Shape := ⟨4, ![4, 8192, 8, 64]⟩
abbrev S4x8192x8 : Shape := ⟨3, ![4, 8192, 8]⟩
abbrev S4x8192x8x1 : Shape := ⟨4, ![4, 8192, 8, 1]⟩
abbrev S1x1x1x64 : Shape := ⟨4, ![1, 1, 1, 64]⟩

abbrev nBuf : Space → Nat
  | .hbm => 157
  | .vmem => 0
  | .smem => 0
  | _ => 0

abbrev hbmTy0_0 (i : Nat) : BufTy := match i % 128 with
  | 0 => ⟨S4x8192x1024, .f32⟩
  | 1 => ⟨S4x6x1024, .f32⟩
  | 2 => ⟨S1024, .f32⟩
  | 3 => ⟨S1024x2048, .f32⟩
  | 4 => ⟨S4x128x128, .f32⟩
  | 5 => ⟨S512, .f32⟩
  | 6 => ⟨S64, .f32⟩
  | 7 => ⟨S64, .f32⟩
  | 8 => ⟨S4x1x1024, .f32⟩
  | 9 => ⟨S4x1x1024, .f32⟩
  | 10 => ⟨S4x8192x1024, .f32⟩
  | 11 => ⟨S_, .f32⟩
  | 12 => ⟨S4x8192, .f32⟩
  | 13 => ⟨S4x8192x1, .f32⟩
  | 14 => ⟨S_, .f32⟩
  | 15 => ⟨S4x8192x1, .f32⟩
  | 16 => ⟨S4x8192x1, .f32⟩
  | 17 => ⟨S_, .f32⟩
  | 18 => ⟨S4x8192x1, .f32⟩
  | 19 => ⟨S4x8192x1, .f32⟩
  | 20 => ⟨S4x8192x1, .f32⟩
  | 21 => ⟨S4x8192x1024, .f32⟩
  | 22 => ⟨S4x8192x1024, .f32⟩
  | 23 => ⟨S1x1x1024, .f32⟩
  | 24 => ⟨S4x8192x1024, .f32⟩
  | 25 => ⟨S4x8192x1024, .f32⟩
  | 26 => ⟨S_, .f32⟩
  | 27 => ⟨S4x1x1024, .f32⟩
  | 28 => ⟨S4x1x1024, .f32⟩
  | 29 => ⟨S4x8192x1024, .f32⟩
  | 30 => ⟨S4x8192x1024, .f32⟩
  | 31 => ⟨S4x8192x1024, .f32⟩
  | 32 => ⟨S4x8192x1024, .f32⟩
  | 33 => ⟨S4x8192x2048, .f32⟩
  | 34 => ⟨S4x8192x512, .f32⟩
  | 35 => ⟨S4x8192x128, .f32⟩
  | 36 => ⟨S_, .f32⟩
  | 37 => ⟨S_, .f32⟩
  | 38 => ⟨S4x8192x128, .f32⟩
  | 39 => ⟨S8192, .i32⟩
  | 40 => ⟨S_, .i32⟩
  | 41 => ⟨S8192, .i32⟩
  | 42 => ⟨S8192, .i32⟩
  | 43 => ⟨S_, .i32⟩
  | 44 => ⟨S8192, .i32⟩
  | 45 => ⟨S8192, .i32⟩
  | 46 => ⟨S8192, .f32⟩
  | 47 => ⟨S1x8192x1, .f32⟩
  | 48 => ⟨S4x8192x128, .f32⟩
  | 49 => ⟨S4x8192x128, .f32⟩
  | 50 => ⟨S4x8192x128, .f32⟩
  | 51 => ⟨S4x8192x128, .f32⟩
  | 52 => ⟨S_, .f32⟩
  | 53 => ⟨S_, .f32⟩
  | 54 => ⟨S4x8192x128, .f32⟩
  | 55 => ⟨S8192, .i32⟩
  | 56 => ⟨S_, .i32⟩
  | 57 => ⟨S8192, .i32⟩
  | 58 => ⟨S8192, .i32⟩
  | 59 => ⟨S_, .i32⟩
  | 60 => ⟨S8192, .i32⟩
  | 61 => ⟨S8192, .i32⟩
  | 62 => ⟨S8192, .f32⟩
  | 63 => ⟨S1x8192x1, .f32⟩
  | 64 => ⟨S4x8192x128, .f32⟩
  | 65 => ⟨S4x8192x128, .f32⟩
  | 66 => ⟨S4x8192x128, .f32⟩
  | 67 => ⟨S4x8192x128, .f32⟩
  | 68 => ⟨S_, .f32⟩
  | 69 => ⟨S_, .f32⟩
  | 70 => ⟨S4x8192x128, .f32⟩
  | 71 => ⟨S8192, .i32⟩
  | 72 => ⟨S_, .i32⟩
  | 73 => ⟨S8192, .i32⟩
  | 74 => ⟨S8192, .i32⟩
  | 75 => ⟨S_, .i32⟩
  | 76 => ⟨S8192, .i32⟩
  | 77 => ⟨S8192, .i32⟩
  | 78 => ⟨S8192, .f32⟩
  | 79 => ⟨S1x8192x1, .f32⟩
  | 80 => ⟨S4x8192x128, .f32⟩
  | 81 => ⟨S4x8192x128, .f32⟩
  | 82 => ⟨S4x8192x128, .f32⟩
  | 83 => ⟨S4x8192x128, .f32⟩
  | 84 => ⟨S_, .f32⟩
  | 85 => ⟨S_, .f32⟩
  | 86 => ⟨S4x8192x128, .f32⟩
  | 87 => ⟨S8192, .i32⟩
  | 88 => ⟨S_, .i32⟩
  | 89 => ⟨S8192, .i32⟩
  | 90 => ⟨S8192, .i32⟩
  | 91 => ⟨S_, .i32⟩
  | 92 => ⟨S8192, .i32⟩
  | 93 => ⟨S8192, .i32⟩
  | 94 => ⟨S8192, .f32⟩
  | 95 => ⟨S1x8192x1, .f32⟩
  | 96 => ⟨S4x8192x128, .f32⟩
  | 97 => ⟨S4x8192x128, .f32⟩
  | 98 => ⟨S4x8192x128, .f32⟩
  | 99 => ⟨S4x8192x1x128, .f32⟩
  | 100 => ⟨S4x8192x1x128, .f32⟩
  | 101 => ⟨S4x8192x1x128, .f32⟩
  | 102 => ⟨S4x8192x1x128, .f32⟩
  | 103 => ⟨S4x8192x4x128, .f32⟩
  | 104 => ⟨S4x128x4x8192, .f32⟩
  | 105 => ⟨S4x8192x4x128, .f32⟩
  | 106 => ⟨S4x8192x512, .f32⟩
  | 107 => ⟨S1x1x512, .f32⟩
  | 108 => ⟨S4x8192x512, .f32⟩
  | 109 => ⟨S4x8192x512, .f32⟩
  | 110 => ⟨S4x8192x1536, .f32⟩
  | 111 => ⟨S4x8192x512, .f32⟩
  | 112 => ⟨S4x8192x512, .f32⟩
  | 113 => ⟨S4x8192x512, .f32⟩
  | 114 => ⟨S4x8192x8x64, .f32⟩
  | 115 => ⟨S4x8192x8x64, .f32⟩
  | 116 => ⟨S_, .f32⟩
  | 117 => ⟨S4x8192x8, .f32⟩
  | 118 => ⟨S4x8192x8x1, .f32⟩
  | 119 => ⟨S_, .f32⟩
  | 120 => ⟨S4x8192x8x1, .f32⟩
  | 121 => ⟨S4x8192x8x1, .f32⟩
  | 122 => ⟨S_, .f32⟩
  | 123 => ⟨S4x8192x8x1, .f32⟩
  | 124 => ⟨S4x8192x8x1, .f32⟩
  | 125 => ⟨S4x8192x8x1, .f32⟩
  | 126 => ⟨S4x8192x8x64, .f32⟩
  | 127 => ⟨S4x8192x8x64, .f32⟩
  | _ => ⟨S4x8192x1024, .f32⟩

abbrev hbmTy0_1 (i : Nat) : BufTy := match i % 128 with
  | 0 => ⟨S1x1x1x64, .f32⟩
  | 1 => ⟨S4x8192x8x64, .f32⟩
  | 2 => ⟨S4x8192x8x64, .f32⟩
  | 3 => ⟨S_, .f32⟩
  | 4 => ⟨S4x8192x8x64, .f32⟩
  | 5 => ⟨S4x8192x8x64, .f32⟩
  | 6 => ⟨S4x8192x8x64, .f32⟩
  | 7 => ⟨S4x8192x8x64, .f32⟩
  | 8 => ⟨S_, .f32⟩
  | 9 => ⟨S4x8192x8, .f32⟩
  | 10 => ⟨S4x8192x8x1, .f32⟩
  | 11 => ⟨S_, .f32⟩
  | 12 => ⟨S4x8192x8x1, .f32⟩
  | 13 => ⟨S4x8192x8x1, .f32⟩
  | 14 => ⟨S_, .f32⟩
  | 15 => ⟨S4x8192x8x1, .f32⟩
  | 16 => ⟨S4x8192x8x1, .f32⟩
  | 17 => ⟨S4x8192x8x1, .f32⟩
  | 18 => ⟨S4x8192x8x64, .f32⟩
  | 19 => ⟨S4x8192x8x64, .f32⟩
  | 20 => ⟨S1x1x1x64, .f32⟩
  | 21 => ⟨S4x8192x8x64, .f32⟩
  | 22 => ⟨S4x8192x8x64, .f32⟩
  | 23 => ⟨S4x8192x512, .f32⟩
  | 24 => ⟨S4x8192x512, .f32⟩
  | 25 => ⟨S4x8192x512, .bf16⟩
  | 26 => ⟨S4x8192x512, .bf16⟩
  | 27 => ⟨S4x8192x512, .bf16⟩
  | 28 => ⟨S4x8192x512, .bf16⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_c_6 : Ref sig .tc := ⟨.hbm, 56, rfl⟩
abbrev main_v40 : Ref sig .tc := ⟨.hbm, 57, rfl⟩
abbrev main_v41 : Ref sig .tc := ⟨.hbm, 58, rfl⟩
abbrev main_c_7 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_c_9 : Ref sig .tc := ⟨.hbm, 72, rfl⟩
abbrev main_v53 : Ref sig .tc := ⟨.hbm, 73, rfl⟩
abbrev main_v54 : Ref sig .tc := ⟨.hbm, 74, rfl⟩
abbrev main_c_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_11 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_c_12 : Ref sig .tc := ⟨.hbm, 88, rfl⟩
abbrev main_v66 : Ref sig .tc := ⟨.hbm, 89, rfl⟩
abbrev main_v67 : Ref sig .tc := ⟨.hbm, 90, rfl⟩
abbrev main_c_13 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_cst_14 : Ref sig .tc := ⟨.hbm, 116, rfl⟩
abbrev main_v92 : Ref sig .tc := ⟨.hbm, 117, rfl⟩
abbrev main_v93 : Ref sig .tc := ⟨.hbm, 118, rfl⟩
abbrev main_cst_15 : Ref sig .tc := ⟨.hbm, 119, rfl⟩
abbrev main_v94 : Ref sig .tc := ⟨.hbm, 120, rfl⟩
abbrev main_v95 : Ref sig .tc := ⟨.hbm, 121, rfl⟩
abbrev main_cst_16 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_cst_17 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_cst_18 : Ref sig .tc := ⟨.hbm, 136, rfl⟩
abbrev main_v108 : Ref sig .tc := ⟨.hbm, 137, rfl⟩
abbrev main_v109 : Ref sig .tc := ⟨.hbm, 138, rfl⟩
abbrev main_cst_19 : Ref sig .tc := ⟨.hbm, 139, rfl⟩
abbrev main_v110 : Ref sig .tc := ⟨.hbm, 140, rfl⟩
abbrev main_v111 : Ref sig .tc := ⟨.hbm, 141, rfl⟩
abbrev main_cst_20 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩

abbrev nD : Nat := 1
abbrev τ : Topo := Topo.v7x

variable {F : FTy → Type} [FloatOps F]
-- ==== Kernel4.lean ====
abbrev S4x8192x1024 : Shape := ⟨3, ![4, 8192, 1024]⟩
abbrev S4x8192x512 : Shape := ⟨3, ![4, 8192, 512]⟩
abbrev S4x6x1024 : Shape := ⟨3, ![4, 6, 1024]⟩
abbrev S1024 : Shape := ⟨1, ![1024]⟩
abbrev S1024x1024 : Shape := ⟨2, ![1024, 1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S1024x128 : Shape := ⟨2, ![1024, 128]⟩
abbrev S1 : Shape := ⟨1, ![1]⟩
abbrev S1x128 : Shape := ⟨2, ![1, 128]⟩
abbrev S2 : Shape := ⟨1, ![2]⟩
abbrev S1x1024 : Shape := ⟨2, ![1, 1024]⟩
abbrev S1024x256 : Shape := ⟨2, ![1024, 256]⟩
abbrev S4x8192x128 : Shape := ⟨3, ![4, 8192, 128]⟩
abbrev S8x128 : Shape := ⟨2, ![8, 128]⟩
abbrev S1x512x1024 : Shape := ⟨3, ![1, 512, 1024]⟩
abbrev S1x512x512 : Shape := ⟨3, ![1, 512, 512]⟩
abbrev S1x6x1024 : Shape := ⟨3, ![1, 6, 1024]⟩
abbrev S1x512x128 : Shape := ⟨3, ![1, 512, 128]⟩
abbrev S512x512 : Shape := ⟨2, ![512, 512]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S512x256 : Shape := ⟨2, ![512, 256]⟩
abbrev S512x128 : Shape := ⟨2, ![512, 128]⟩
abbrev S128 : Shape := ⟨1, ![128]⟩

abbrev nBuf : Space → Nat
  | .hbm => 43
  | .vmem => 20
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .bf16⟩
  | .hbm, ⟨2, _⟩ => ⟨S4x8192x512, .bf16⟩
  | .hbm, ⟨3, _⟩ => ⟨S4x6x1024, .f32⟩
  | .hbm, ⟨4, _⟩ => ⟨S1024, .f32⟩
  | .hbm, ⟨5, _⟩ => ⟨S1024x1024, .f32⟩
  | .hbm, ⟨6, _⟩ => ⟨S1024x4, .f32⟩
  | .hbm, ⟨7, _⟩ => ⟨S4, .f32⟩
  | .hbm, ⟨8, _⟩ => ⟨S1024x32, .f32⟩
  | .hbm, ⟨9, _⟩ => ⟨S32, .f32⟩
  | .hbm, ⟨10, _⟩ => ⟨S_, .f32⟩
  | .hbm, ⟨11, _⟩ => ⟨S1024x128, .f32⟩
  | .hbm, ⟨12, _⟩ => ⟨S_, .i32⟩
  | .hbm, ⟨13, _⟩ => ⟨S1, .i32⟩
  | .hbm, ⟨14, _⟩ => ⟨S1024x128, .f32⟩
  | .hbm, ⟨15, _⟩ => ⟨S_, .i32⟩
  | .hbm, ⟨16, _⟩ => ⟨S1, .i32⟩
  | .hbm, ⟨17, _⟩ => ⟨S1024x128, .f32⟩
  | .hbm, ⟨18, _⟩ => ⟨S1024x128, .bf16⟩
  | .hbm, ⟨19, _⟩ => ⟨S1024x128, .f32⟩
  | .hbm, ⟨20, _⟩ => ⟨S1024x128, .f32⟩
  | .hbm, ⟨21, _⟩ => ⟨S1024x128, .bf16⟩
  | .hbm, ⟨22, _⟩ => ⟨S_, .f32⟩
  | .hbm, ⟨23, _⟩ => ⟨S1x128, .f32⟩
  | .hbm, ⟨24, _⟩ => ⟨S_, .i32⟩
  | .hbm, ⟨25, _⟩ => ⟨S1, .i32⟩
  | .hbm, ⟨26, _⟩ => ⟨S_, .i32⟩
  | .hbm, ⟨27, _⟩ => ⟨S1, .i32⟩
  | .hbm, ⟨28, _⟩ => ⟨S2, .i32⟩
  | .hbm, ⟨29, _⟩ => ⟨S1x128, .f32⟩
  | .hbm, ⟨30, _⟩ => ⟨S_, .i32⟩
  | .hbm, ⟨31, _⟩ => ⟨S1, .i32⟩
  | .hbm, ⟨32, _⟩ => ⟨S_, .i32⟩
  | .hbm, ⟨33, _⟩ => ⟨S1, .i32⟩
  | .hbm, ⟨34, _⟩ => ⟨S2, .i32⟩
  | .hbm, ⟨35, _⟩ => ⟨S1x128, .f32⟩
  | .hbm, ⟨36, _⟩ => ⟨S1x1024, .f32⟩
  | .hbm, ⟨37, _⟩ => ⟨S1024x1024, .bf16⟩
  | .hbm, ⟨38, _⟩ => ⟨S1024x256, .bf16⟩
  | .hbm, ⟨39, _⟩ => ⟨S4x8192x1024, .f32⟩
  | .hbm, ⟨40, _⟩ => ⟨S4x8192x1024, .f32⟩
  | .hbm, ⟨41, _⟩ => ⟨S4x8192x128, .f32⟩
  | .hbm, ⟨42, _⟩ => ⟨S8x128, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x6x1024, .f32⟩
  | .local _ .vmem, ⟨7, _⟩ => ⟨S1x6x1024, .f32⟩
  | .local _ .vmem, ⟨8, _⟩ => ⟨S1x1024, .f32⟩
  | .local _ .vmem, ⟨9, _⟩ => ⟨S1024x1024, .bf16⟩
  | .local _ .vmem, ⟨10, _⟩ => ⟨S1024x256, .bf16⟩
  | .local _ .vmem, ⟨11, _⟩ => ⟨S1x128, .f32⟩
  | .local _ .vmem, ⟨12, _⟩ => ⟨S1x512x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x512x1024, .f32⟩
  | .local _ .vmem, ⟨16, _⟩ => ⟨S1x512x128, .f32⟩
  | .local _ .vmem, ⟨17, _⟩ => ⟨S1x512x128, .f32⟩
  | .local _ .vmem, ⟨18, _⟩ => ⟨S8x128, .f32⟩
  | .local _ .vmem, ⟨19, _⟩ => ⟨S8x128, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_c_2 : Ref sig .tc := ⟨.hbm, 24, rfl⟩
abbrev main_v10 : Ref sig .tc := ⟨.hbm, 25, rfl⟩
abbrev main_c_3 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_4 : Ref sig .tc := ⟨.hbm, 30, rfl⟩
abbrev main_v14 : Ref sig .tc := ⟨.hbm, 31, rfl⟩
abbrev main_c_5 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21_0 : Ref sig .tc := ⟨.hbm, 39, rfl⟩
abbrev main_v21_1 : Ref sig .tc := ⟨.hbm, 40, rfl⟩
abbrev main_v21_2 : Ref sig .tc := ⟨.hbm, 41, rfl⟩
abbrev main_v21_3 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== Reference4Ideal.lean ====
abbrev S4x8192x1024 : Shape := ⟨3, ![4, 8192, 1024]⟩
abbrev S4x8192x512 : Shape := ⟨3, ![4, 8192, 512]⟩
abbrev S4x6x1024 : Shape := ⟨3, ![4, 6, 1024]⟩
abbrev S1024 : Shape := ⟨1, ![1024]⟩
abbrev S1024x1024 : Shape := ⟨2, ![1024, 1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .bf16⟩
  | .hbm, ⟨2, _⟩ => ⟨S4x8192x512, .bf16⟩
  | .hbm, ⟨3, _⟩ => ⟨S4x6x1024, .f32⟩
  | .hbm, ⟨4, _⟩ => ⟨S1024, .f32⟩
  | .hbm, ⟨5, _⟩ => ⟨S1024x1024, .f32⟩
  | .hbm, ⟨6, _⟩ => ⟨S1024x4, .f32⟩
  | .hbm, ⟨7, _⟩ => ⟨S4, .f32⟩
  | .hbm, ⟨8, _⟩ => ⟨S1024x32, .f32⟩
  | .hbm, ⟨9, _⟩ => ⟨S32, .f32⟩
  | .hbm, ⟨10, _⟩ => ⟨S4x1x1024, .f32⟩
  | .hbm, ⟨11, _⟩ => ⟨S4x1x1024, .f32⟩
  | .hbm, ⟨12, _⟩ => ⟨S4x1x1024, .f32⟩
  | .hbm, ⟨13, _⟩ => ⟨S4x8192x1024, .bf16⟩
  | .hbm, ⟨14, _⟩ => ⟨S4x8192x1024, .f32⟩
  | .hbm, ⟨15, _⟩ => ⟨S4x8192x1024, .f32⟩
  | .hbm, ⟨16, _⟩ => ⟨S4x8192x1024, .f32⟩
  | .hbm, ⟨17, _⟩ => ⟨S4x8192x1024, .f32⟩
  | .hbm, ⟨18, _⟩ => ⟨S4x8192x1024, .f32⟩
  | .hbm, ⟨19, _⟩ => ⟨S4x8192x1024, .f32⟩
  | .hbm, ⟨20, _⟩ => ⟨S_, .f32⟩
  | .hbm, ⟨21, _⟩ => ⟨S4x8192, .f32⟩
  | .hbm, ⟨22, _⟩ => ⟨S4x8192x1, .f32⟩
  | .hbm, ⟨23, _⟩ => ⟨S_, .f32⟩
  | .hbm, ⟨24, _⟩ => ⟨S4x8192x1, .f32⟩
  | .hbm, ⟨25, _⟩ => ⟨S4x8192x1, .f32⟩
  | .hbm, ⟨26, _⟩ => ⟨S_, .f32⟩
  | .hbm, ⟨27, _⟩ => ⟨S4x8192x1, .f32⟩
  | .hbm, ⟨28, _⟩ => ⟨S4x8192x1, .f32⟩
  | .hbm, ⟨29, _⟩ => ⟨S4x8192x1, .f32⟩
  | .hbm, ⟨30, _⟩ => ⟨S4x8192x1024, .f32⟩
  | .hbm, ⟨31, _⟩ => ⟨S4x8192x1024, .f32⟩
  | .hbm, ⟨32, _⟩ => ⟨S1x1x1024, .f32⟩
  | .hbm, ⟨33, _⟩ => ⟨S4x8192x1024, .f32⟩
  | .hbm, ⟨34, _⟩ => ⟨S4x8192x1024, .f32⟩
  | .hbm, ⟨35, _⟩ => ⟨S_, .f32⟩
  | .hbm, ⟨36, _⟩ => ⟨S4x1x1024, .f32⟩
  | .hbm, ⟨37, _⟩ => ⟨S4x1x1024, .f32⟩
  | .hbm, ⟨38, _⟩ => ⟨S4x8192x1024, .f32⟩
  | .hbm, ⟨39, _⟩ => ⟨S4x8192x1024, .f32⟩
  | .hbm, ⟨40, _⟩ => ⟨S4x8192x1024, .f32⟩
  | .hbm, ⟨41, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== Kernel5.lean ====
abbrev S8x1024 : Shape := ⟨2, ![8, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x8x6144 : Shape := ⟨3, ![2, 8, 6144]⟩
abbrev S1x1024x1024 : Shape := ⟨3, ![1, 1024, 1024]⟩
abbrev S1x1x1024 : Shape := ⟨3, ![1, 1, 1024]⟩
abbrev S1x8x1024 : Shape := ⟨3, ![1, 8, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x8x6144, .f32⟩
  | .local _ .vmem, ⟨0, _⟩ => ⟨S8x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S8x1024 : Shape := ⟨2, ![8, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S8x6144 : Shape := ⟨2, ![8, 6144]⟩
abbrev S1x6144 : Shape := ⟨2, ![1, 6144]⟩
abbrev S6144 : Shape := ⟨1, ![6144]⟩
abbrev S1x8x6144 : Shape := ⟨3, ![1, 8, 6144]⟩
abbrev S2x8x6144 : Shape := ⟨3, ![2, 8, 6144]⟩

abbrev nBuf : Space → Nat
  | .hbm => 31
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1x1024x6144, .f32⟩
  | .hbm, ⟨13, _⟩ => ⟨S1024x6144, .f32⟩
  | .hbm, ⟨14, _⟩ => ⟨S8x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S8x6144, .f32⟩
  | .hbm, ⟨19, _⟩ => ⟨S8x6144, .f32⟩
  | .hbm, ⟨20, _⟩ => ⟨S1x1024x6144, .f32⟩
  | .hbm, ⟨21, _⟩ => ⟨S1024x6144, .f32⟩
  | .hbm, ⟨22, _⟩ => ⟨S8x6144, .f32⟩
  | .hbm, ⟨23, _⟩ => ⟨S1x6144, .f32⟩
  | .hbm, ⟨24, _⟩ => ⟨S6144, .f32⟩
  | .hbm, ⟨25, _⟩ => ⟨S1x6144, .f32⟩
  | .hbm, ⟨26, _⟩ => ⟨S8x6144, .f32⟩
  | .hbm, ⟨27, _⟩ => ⟨S8x6144, .f32⟩
  | .hbm, ⟨28, _⟩ => ⟨S1x8x6144, .f32⟩
  | .hbm, ⟨29, _⟩ => ⟨S1x8x6144, .f32⟩
  | .hbm, ⟨30, _⟩ => ⟨S2x8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Kernel6.lean ====
abbrev S4x8192x1024 : Shape := ⟨3, ![4, 8192, 1024]⟩
abbrev S4x8192x128 : Shape := ⟨3, ![4, 8192, 128]⟩
abbrev S4x6x1024 : Shape := ⟨3, ![4, 6, 1024]⟩
abbrev S73728x1024 : Shape := ⟨2, ![73728, 1024]⟩
abbrev S32768 : Shape := ⟨1, ![32768]⟩
abbrev S128x1x256 : Shape := ⟨3, ![128, 1, 256]⟩
abbrev S1x1x256 : Shape := ⟨3, ![1, 1, 256]⟩
abbrev S1x256x1024 : Shape := ⟨3, ![1, 256, 1024]⟩
abbrev S1x256x128 : Shape := ⟨3, ![1, 256, 128]⟩
abbrev S1x6x1024 : Shape := ⟨3, ![1, 6, 1024]⟩
abbrev S256x1024 : Shape := ⟨2, ![256, 1024]⟩
abbrev S2 : Shape := ⟨1, ![2]⟩
abbrev S1x1x1 : Shape := ⟨3, ![1, 1, 1]⟩
abbrev S1 : Shape := ⟨1, ![1]⟩
abbrev S_ : Shape := ⟨0, ![]⟩
abbrev S1x1024 : Shape := ⟨2, ![1, 1024]⟩
abbrev S1x256x1 : Shape := ⟨3, ![1, 256, 1]⟩
abbrev S256x1 : Shape := ⟨2, ![256, 1]⟩
abbrev S1x1x1024 : Shape := ⟨3, ![1, 1, 1024]⟩

abbrev nBuf : Space → Nat
  | .hbm => 9
  | .vmem => 10
  | .smem => 4
  | _ => 0

abbrev bufTy : (tb : Table) → Fin (tcTables nBuf tb) → BufTy
  | .hbm, ⟨0, _⟩ => ⟨S4x8192x1024, .f32⟩
  | .hbm, ⟨1, _⟩ => ⟨S4x8192x128, .f32⟩
  | .hbm, ⟨2, _⟩ => ⟨S4x6x1024, .f32⟩
  | .hbm, ⟨3, _⟩ => ⟨S73728x1024, .f32⟩
  | .hbm, ⟨4, _⟩ => ⟨S32768, .i32⟩
  | .hbm, ⟨5, _⟩ => ⟨S32768, .i32⟩
  | .hbm, ⟨6, _⟩ => ⟨S128x1x256, .i32⟩
  | .hbm, ⟨7, _⟩ => ⟨S128x1x256, .i32⟩
  | .hbm, ⟨8, _⟩ => ⟨S4x8192x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x128, .f32⟩
  | .local _ .vmem, ⟨3, _⟩ => ⟨S1x256x128, .f32⟩
  | .local _ .vmem, ⟨4, _⟩ => ⟨S1x6x1024, .f32⟩
  | .local _ .vmem, ⟨5, _⟩ => ⟨S1x6x1024, .f32⟩
  | .local _ .vmem, ⟨6, _⟩ => ⟨S1x256x1024, .f32⟩
  | .local _ .vmem, ⟨7, _⟩ => ⟨S1x256x1024, .f32⟩
  | .local _ .vmem, ⟨8, _⟩ => ⟨S256x1024, .f32⟩
  | .local _ .vmem, ⟨9, _⟩ => ⟨S256x1024, .f32⟩
  | .local _ .smem, ⟨0, _⟩ => ⟨S1x1x256, .i32⟩
  | .local _ .smem, ⟨1, _⟩ => ⟨S1x1x256, .i32⟩
  | .local _ .smem, ⟨2, _⟩ => ⟨S1x1x256, .i32⟩
  | .local _ .smem, ⟨3, _⟩ => ⟨S1x1x256, .i32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg1_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 32], ![false, false]⟩

@[reducible] def k0_t1_loop : Scf.Loop 32 :=
  let c0_i32_0 : BitVec 32 := 0#32
  let c256_i32 : BitVec 32 := 256#32
  let v0 : BitVec 32 := Scalar.addi c0_i32_0 c256_i32
  let c1_i32 : BitVec 32 := 1#32
  ⟨c0_i32_0, v0, c1_i32⟩
def k0_off1 (k0_t1 : Fin k0_t1_loop.trips) : Fin 3 → Nat :=
  let c0_32 : Index := 0#32
  let c0_33 : Index := 0#32
  let c0_i32_0 : BitVec 32 := 0#32
  let c1_i32 : BitVec 32 := 1#32
  let arg12 : BitVec 32 := Scf.iv c0_i32_0 c1_i32 k0_t1
  let v25 : Index := Scalar.indexCast arg12
  ![0, 0, v25.toNat]
def k0_off2 (k0_t1 : Fin k0_t1_loop.trips) : Fin 2 → Nat :=
  let c0_i32_0 : BitVec 32 := 0#32
  let c1_i32 : BitVec 32 := 1#32
  let arg12 : BitVec 32 := Scf.iv c0_i32_0 c1_i32 k0_t1
  let c0_i32_34 : BitVec 32 := 0#32
  ![arg12.toNat, 0]
def k0_off3 (v26 : BitVec 32) : Fin 2 → Nat :=
  let c0_i32_35 : BitVec 32 := 0#32
  ![v26.toNat, 0]

def k0_chk1 (v26 : BitVec 32) : Prop :=
  (∀ a, (k0_off3 v26) a + S1x1024.size a ≤ S73728x1024.size a)
theorem k0_off3_inb : ∀ (v26 : BitVec 32) (k0_hw1 : k0_chk1 v26), ∀ a, (k0_off3 v26) a + S1x1024.size a ≤ S73728x1024.size a := fun v26 k0_hw1 => k0_hw1

@[reducible] def k0_t2_loop : Scf.Loop 32 :=
  let c0_i32_3 : BitVec 32 := 0#32
  let c256_i32_4 : BitVec 32 := 256#32
  let v1 : BitVec 32 := Scalar.addi c0_i32_3 c256_i32_4
  let c1_i32_5 : BitVec 32 := 1#32
  ⟨c0_i32_3, v1, c1_i32_5⟩
def k0_off4 (k0_t2 : Fin k0_t2_loop.trips) : Fin 3 → Nat :=
  let c0_32 : Index := 0#32
  let c0_33 : Index := 0#32
  let c0_i32_3 : BitVec 32 := 0#32
  let c1_i32_5 : BitVec 32 := 1#32
  let arg12 : BitVec 32 := Scf.iv c0_i32_3 c1_i32_5 k0_t2
  let v25 : Index := Scalar.indexCast arg12
  ![0, 0, v25.toNat]
def k0_off5 (k0_t2 : Fin k0_t2_loop.trips) : Fin 2 → Nat :=
  let c0_i32_3 : BitVec 32 := 0#32
  let c1_i32_5 : BitVec 32 := 1#32
  let arg12 : BitVec 32 := Scf.iv c0_i32_3 c1_i32_5 k0_t2
  let c0_i32_34 : BitVec 32 := 0#32
  ![arg12.toNat, 0]
def k0_off6 (v26 : BitVec 32) : Fin 2 → Nat :=
  let c0_i32_35 : BitVec 32 := 0#32
  ![v26.toNat, 0]

def k0_chk2 (v26 : BitVec 32) : Prop :=
  (∀ a, (k0_off6 v26) a + S1x1024.size a ≤ S73728x1024.size a)
theorem k0_off6_inb : ∀ (v26 : BitVec 32) (k0_hw2 : k0_chk2 v26), ∀ a, (k0_off6 v26) a + S1x1024.size a ≤ S73728x1024.size a := fun v26 k0_hw2 => k0_hw2

@[reducible] def k0_t3_loop : Scf.Loop 32 :=
  let c0_i32_8 : BitVec 32 := 0#32
  let c256_i32_9 : BitVec 32 := 256#32
  let v2 : BitVec 32 := Scalar.addi c0_i32_8 c256_i32_9
  let c1_i32_10 : BitVec 32 := 1#32
  ⟨c0_i32_8, v2, c1_i32_10⟩
def k0_off7 (k0_t3 : Fin k0_t3_loop.trips) : Fin 2 → Nat :=
  let c0_i32_8 : BitVec 32 := 0#32
  let c1_i32_10 : BitVec 32 := 1#32
  let arg12 : BitVec 32 := Scf.iv c0_i32_8 c1_i32_10 k0_t3
  let c0_i32_32 : BitVec 32 := 0#32
  ![arg12.toNat, 0]
@[reducible] def k0_t4_loop : Scf.Loop 32 :=
  let c0_i32_13 : BitVec 32 := 0#32
  let c256_i32_14 : BitVec 32 := 256#32
  let v3 : BitVec 32 := Scalar.addi c0_i32_13 c256_i32_14
  let c1_i32_15 : BitVec 32 := 1#32
  ⟨c0_i32_13, v3, c1_i32_15⟩
def k0_off8 (k0_t4 : Fin k0_t4_loop.trips) : Fin 2 → Nat :=
  let c0_i32_13 : BitVec 32 := 0#32
  let c1_i32_15 : BitVec 32 := 1#32
  let arg12 : BitVec 32 := Scf.iv c0_i32_13 c1_i32_15 k0_t4
  let c0_i32_32 : BitVec 32 := 0#32
  ![arg12.toNat, 0]
def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .smem S1x1x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .smem S1x1x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S4x8192x1024 : Shape := ⟨3, ![4, 8192, 1024]⟩
abbrev S4x8192x128 : Shape := ⟨3, ![4, 8192, 128]⟩
abbrev S4x6x1024 : Shape := ⟨3, ![4, 6, 1024]⟩
abbrev S73728x1024 : Shape := ⟨2, ![73728, 1024]⟩
abbrev S32768 : Shape := ⟨1, ![32768]⟩
abbrev S4x8192x2 : Shape := ⟨3, ![4, 8192, 2]⟩
abbrev S_ : Shape := ⟨0, ![]⟩
abbrev S32768x1 : Shape := ⟨2, ![32768, 1]⟩
abbrev S32768x1024 : Shape := ⟨2, ![32768, 1024]⟩
abbrev S4x8192x1 : Shape := ⟨3, ![4, 8192, 1]⟩
abbrev S4x1x1024 : Shape := ⟨3, ![4, 1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x128, .f32⟩
  | .hbm, ⟨2, _⟩ => ⟨S4x6x1024, .f32⟩
  | .hbm, ⟨3, _⟩ => ⟨S73728x1024, .f32⟩
  | .hbm, ⟨4, _⟩ => ⟨S32768, .i32⟩
  | .hbm, ⟨5, _⟩ => ⟨S32768, .i32⟩
  | .hbm, ⟨6, _⟩ => ⟨S4x8192x2, .f32⟩
  | .hbm, ⟨7, _⟩ => ⟨S_, .i32⟩
  | .hbm, ⟨8, _⟩ => ⟨S32768, .i32⟩
  | .hbm, ⟨9, _⟩ => ⟨S32768, .i1⟩
  | .hbm, ⟨10, _⟩ => ⟨S_, .i32⟩
  | .hbm, ⟨11, _⟩ => ⟨S32768, .i32⟩
  | .hbm, ⟨12, _⟩ => ⟨S32768, .i32⟩
  | .hbm, ⟨13, _⟩ => ⟨S32768, .i32⟩
  | .hbm, ⟨14, _⟩ => ⟨S32768x1, .i32⟩
  | .hbm, ⟨15, _⟩ => ⟨S32768x1024, .f32⟩
  | .hbm, ⟨16, _⟩ => ⟨S4x8192x1024, .f32⟩
  | .hbm, ⟨17, _⟩ => ⟨S4x8192x1, .f32⟩
  | .hbm, ⟨18, _⟩ => ⟨S4x8192x1024, .f32⟩
  | .hbm, ⟨19, _⟩ => ⟨S4x8192x1024, .f32⟩
  | .hbm, ⟨20, _⟩ => ⟨S_, .i32⟩
  | .hbm, ⟨21, _⟩ => ⟨S32768, .i32⟩
  | .hbm, ⟨22, _⟩ => ⟨S32768, .i1⟩
  | .hbm, ⟨23, _⟩ => ⟨S_, .i32⟩
  | .hbm, ⟨24, _⟩ => ⟨S32768, .i32⟩
  | .hbm, ⟨25, _⟩ => ⟨S32768, .i32⟩
  | .hbm, ⟨26, _⟩ => ⟨S32768, .i32⟩
  | .hbm, ⟨27, _⟩ => ⟨S32768x1, .i32⟩
  | .hbm, ⟨28, _⟩ => ⟨S32768x1024, .f32⟩
  | .hbm, ⟨29, _⟩ => ⟨S4x8192x1024, .f32⟩
  | .hbm, ⟨30, _⟩ => ⟨S4x8192x1, .f32⟩
  | .hbm, ⟨31, _⟩ => ⟨S4x8192x1024, .f32⟩
  | .hbm, ⟨32, _⟩ => ⟨S4x8192x1024, .f32⟩
  | .hbm, ⟨33, _⟩ => ⟨S4x8192x1024, .f32⟩
  | .hbm, ⟨34, _⟩ => ⟨S4x1x1024, .f32⟩
  | .hbm, ⟨35, _⟩ => ⟨S4x8192x1024, .f32⟩
  | .hbm, ⟨36, _⟩ => ⟨S4x8192x1024, .f32⟩
  | .hbm, ⟨37, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Proof.AttMath.lean ====
/- The attention's mathematics, free of both programs: a softmax-weighted sum of values over a band of keys, the same sum
   over a longer band whose further keys are masked, and the sum over one head's lanes. -/
module

public import Idealize.ShloMosaic.Lib.Pipeline.ValueKit
public import Idealize.ShloMosaic.Lib.Pointwise

@[expose] public section

set_option maxRecDepth 16384

noncomputable section

namespace Cert.Attention

open Idealize.ShloMosaic

/-- A number that is neither infinity. -/
def IsReal (x : EReal) : Prop := ∃ r : ℝ, x = (r : EReal)

theorem real_mul {x y : EReal} (hx : IsReal x) (hy : IsReal y) : IsReal (x * y) := by
  obtain ⟨a, rfl⟩ := hx; obtain ⟨b, rfl⟩ := hy; exact ⟨a * b, (EReal.coe_mul a b).symm⟩

theorem real_add {x y : EReal} (hx : IsReal x) (hy : IsReal y) : IsReal (x + y) := by
  obtain ⟨a, rfl⟩ := hx; obtain ⟨b, rfl⟩ := hy; exact ⟨a + b, (EReal.coe_add a b).symm⟩

theorem real_sum {ι : Type*} (s : Finset ι) {f : ι → EReal} (h : ∀ i ∈ s, IsReal (f i)) : IsReal (∑ i ∈ s, f i) :=
  Finset.sum_induction f IsReal (fun _ _ => real_add) ⟨0, rfl⟩ h

/-- A magnitude below infinity is a real number. -/
theorem real_of_abs {x : EReal} (h : max x (-x) < ⊤) : IsReal x := by
  induction x using EReal.rec with
  | bot => simp at h
  | top => simp at h
  | coe r => exact ⟨r, rfl⟩

/-- The weights' shared maximum. -/
def top {n : Nat} (s : Fin n → EReal) : EReal := Finset.univ.sup s

/-- A key's unnormalized weight. -/
def weight {n : Nat} (s : Fin n → EReal) (j : Fin n) : EReal := Ideal.exp (s j - top s)

/-- The values' sum under the scores' softmax, each weight divided before it is used. -/
def attend {n : Nat} (s v : Fin n → EReal) : EReal := ∑ j, Ideal.div (weight s j) (∑ k, weight s k) * v j

/-- The same with the one division after the sum. -/
def attendLate {n : Nat} (s v : Fin n → EReal) : EReal := Ideal.div (∑ j, weight s j * v j) (∑ k, weight s k)

/-- Scores with a real number among them and no plus infinity have a real maximum. -/
theorem top_real {n : Nat} (s : Fin n → EReal) (h : ∀ j, s j = ⊥ ∨ IsReal (s j)) (k : Fin n) (hk : IsReal (s k)) : IsReal (top s) := by
  obtain ⟨j, -, hj⟩ := Finset.exists_mem_eq_sup Finset.univ ⟨k, Finset.mem_univ k⟩ s
  have e : top s = s j := hj
  rcases h j with h0 | h0
  · have h1 : s k ≤ top s := Finset.le_sup (f := s) (Finset.mem_univ k)
    obtain ⟨r, hr⟩ := hk
    rw [e, h0, hr] at h1
    exact absurd h1 (by simp)
  · rw [e]; exact h0

/-- The weights are real and nonnegative, and the weights of masked keys zero. -/
theorem weight_real {n : Nat} (s : Fin n → EReal) (h : ∀ j, s j = ⊥ ∨ IsReal (s j)) (ht : IsReal (top s)) (j : Fin n) :
    ∃ r : ℝ, 0 ≤ r ∧ weight s j = (r : EReal) := by
  obtain ⟨m, hm⟩ := ht
  unfold weight
  rcases h j with h0 | ⟨r, h0⟩
  · refine ⟨0, le_rfl, ?_⟩; rw [h0, hm]; rfl
  · refine ⟨Real.exp (r - m), (Real.exp_pos _).le, ?_⟩; rw [h0, hm, ← EReal.coe_sub]; rfl

theorem weight_masked {n : Nat} (s : Fin n → EReal) (j : Fin n) (h : s j = ⊥) : weight s j = 0 := by
  unfold weight; rw [h, EReal.bot_sub]; rfl

/-- The weights' sum is a positive real number. -/
theorem total_pos {n : Nat} (s : Fin n → EReal) (h : ∀ j, s j = ⊥ ∨ IsReal (s j)) (k : Fin n) (hk : IsReal (s k)) :
    ∃ r : ℝ, 0 < r ∧ (∑ j, weight s j) = (r : EReal) := by
  have ht := top_real s h k hk
  choose w hw0 hw using weight_real s h ht
  refine ⟨∑ j, w j, ?_, ?_⟩
  · refine Finset.sum_pos' (fun j _ => hw0 j) ⟨k, Finset.mem_univ k, ?_⟩
    obtain ⟨m, hm⟩ := ht; obtain ⟨r, hr⟩ := hk
    have : weight s k = (Real.exp (r - m) : EReal) := by unfold weight; rw [hr, hm, ← EReal.coe_sub]; rfl
    have e := (hw k).symm.trans this
    rw [EReal.coe_eq_coe_iff.mp e]; exact Real.exp_pos _
  · simp only [hw]
    induction (Finset.univ : Finset (Fin n)) using Finset.cons_induction with
    | empty => simp
    | cons a s ha ih => rw [Finset.sum_cons, Finset.sum_cons, EReal.coe_add, ih]

/-- A factor that is a positive real number goes into a sum. -/
theorem sum_mul_real {ι : Type*} (s : Finset ι) (f : ι → EReal) {c : ℝ} (hc : 0 < c) :
    (∑ i ∈ s, f i) * (c : EReal) = ∑ i ∈ s, f i * (c : EReal) := by
  induction s using Finset.cons_induction with
  | empty => simp
  | cons a s ha ih =>
    rw [Finset.sum_cons, Finset.sum_cons, ← ih]
    exact EReal.right_distrib_of_nonneg_of_ne_top (by exact_mod_cast hc.le) (EReal.coe_ne_top c) _ _

/-- The division may come before the sum. -/
theorem attendLate_eq {n : Nat} (s v : Fin n → EReal) (h : ∀ j, s j = ⊥ ∨ IsReal (s j)) (k : Fin n) (hk : IsReal (s k)) :
    attendLate s v = attend s v := by
  obtain ⟨l, hl, e⟩ := total_pos s h k hk
  unfold attendLate attend
  rw [e, Ideal.div_coe hl.ne', sum_mul_real _ _ (one_div_pos.mpr hl)]
  refine Finset.sum_congr rfl fun j _ => ?_
  rw [Ideal.div_coe hl.ne', mul_right_comm]

/-- A band inside a longer one whose other keys are masked: the longer band attends to the same values. -/
theorem attendLate_band {n N : Nat} (o : Nat) (ho : o + n ≤ N) (s v : Fin n → EReal) (s' v' : Fin N → EReal)
    (hs : ∀ j : Fin n, s' ⟨o + j.val, by omega⟩ = s j) (hv : ∀ j : Fin n, s j ≠ ⊥ → v' ⟨o + j.val, by omega⟩ = v j)
    (hout : ∀ i : Fin N, (i.val < o ∨ o + n ≤ i.val) → s' i = ⊥) : attendLate s' v' = attendLate s v := by
  have hinj : Function.Injective (fun j : Fin n => (⟨o + j.val, by omega⟩ : Fin N)) := fun a b hab => by
    have := congrArg Fin.val hab; simp only at this; exact Fin.ext (by omega)
  have hrange : ∀ i : Fin N, i ∉ Set.range (fun j : Fin n => (⟨o + j.val, by omega⟩ : Fin N)) → s' i = ⊥ := fun i hi => by
    refine hout i ?_
    by_contra hc
    refine hi ⟨⟨i.val - o, by omega⟩, Fin.ext ?_⟩
    simp only; omega
  have htop : top s' = top s := by
    refine le_antisymm (Finset.sup_le fun i _ => ?_) (Finset.sup_le fun j _ => ?_)
    · by_cases hi : i ∈ Set.range (fun j : Fin n => (⟨o + j.val, by omega⟩ : Fin N))
      · obtain ⟨j, rfl⟩ := hi
        rw [hs j]; exact Finset.le_sup (f := s) (Finset.mem_univ j)
      · rw [hrange i hi]; exact bot_le
    · rw [← hs j]; exact Finset.le_sup (f := s') (Finset.mem_univ _)
  have hw : ∀ j : Fin n, weight s j = weight s' ⟨o + j.val, by omega⟩ := fun j => by unfold weight; rw [hs j, htop]
  have hsum : (∑ k, weight s k) = ∑ k, weight s' k :=
    Fintype.sum_of_injective _ hinj _ _ (fun i hi => weight_masked s' i (hrange i hi)) hw
  unfold attendLate
  rw [← hsum]
  congr 1
  refine (Fintype.sum_of_injective _ hinj _ _ (fun i hi => ?_) fun j => ?_).symm
  · show weight s' i * v' i = 0
    rw [weight_masked s' i (hrange i hi), zero_mul]
  · show weight s j * v j = weight s' _ * v' _
    by_cases hb : s j = ⊥
    · rw [weight_masked s j hb, weight_masked s' _ ((hs j).trans hb), zero_mul, zero_mul]
    · rw [hv j hb, hw j]

/-- The products over all 128 lanes with the queries of one head alone are that head's 64 products: the lower half's head. -/
theorem sum_lower (q k : Fin 128 → EReal) : (∑ l : Fin 128, (if l.val < 64 then q l else 0) * k l)
    = ∑ d : Fin 64, q ⟨d.val, by omega⟩ * k ⟨d.val, by omega⟩ := by
  refine (Fintype.sum_of_injective (fun d : Fin 64 => (⟨d.val, by omega⟩ : Fin 128)) (fun a b hab => ?_) _ _ (fun l hl => ?_) fun d => ?_).symm
  · have := congrArg Fin.val hab; exact Fin.ext this
  · rw [if_neg, zero_mul]
    exact fun hlt => hl ⟨⟨l.val, hlt⟩, rfl⟩
  · rw [if_pos d.isLt]

/-- The upper half's head. -/
theorem sum_upper (q k : Fin 128 → EReal) : (∑ l : Fin 128, (if l.val < 64 then 0 else q l) * k l)
    = ∑ d : Fin 64, q ⟨64 + d.val, by omega⟩ * k ⟨64 + d.val, by omega⟩ := by
  refine (Fintype.sum_of_injective (fun d : Fin 64 => (⟨64 + d.val, by omega⟩ : Fin 128)) (fun a b hab => ?_) _ _ (fun l hl => ?_) fun d => ?_).symm
  · exact Fin.ext (by have := congrArg Fin.val hab; simp only at this; omega)
  · rw [if_pos, zero_mul]
    by_contra hc
    exact hl ⟨⟨l.val - 64, by omega⟩, Fin.ext (by simp only; omega)⟩
  · rw [if_neg (by simp only; omega)]

end Cert.Attention

end
-- ==== Proof.AttKernel.lean ====
/- The attention's kernel at an index: one group of 128 rows of one pair of heads, from its queries, its band of 640 keys
   and values and its two bias tables. -/
module

public import proofs.«01_k».proof.Proof.Gen.KernelIdeal.Value
public import proofs.«01_k».proof.Proof.AttMath

@[expose] public section

set_option maxRecDepth 16384

noncomputable section

namespace Cert.KernelIdeal.Attention

open Idealize.ShloMosaic Idealize.ShloMosaic.TcCoe
open Cert.KernelIdeal Cert.KernelIdeal.Gen Cert.KernelIdeal.Value Cert.Attention

/-- Which keys of the band lie in the sequence: from the group's first such column on. -/
def validW (base : BitVec 32) (i : grid0.Coords) : IVec S1x640 1 :=
  cmpi .sge (iota .tc S1x640 32 [1] iota_S1x640_d1_w32) (broadcast S1x640 (Scalar.subi base (Scalar.muli (BitVec.ofNat 32 (i 2).val) 512#32)))

/-- The scores of one head: the products of its queries with the keys, the bias added, the keys outside the sequence masked. -/
def scoreTerm (valid : IVec S1x640 1) (qm : FVec Ideal S128x128 .bf16) (kb : FVec Ideal S640x128 .bf16) (b : Vec Ideal S1x128x640 .f32) :
    FVec Ideal S128x640 .f32 :=
  select (broadcastTo S128x640 (shapeCast S1x640 valid shapeCasts_S1x640_S1x640) broadcasts_S1x640_S128x640)
    (addf (matmul dot_S128x128_S640x128_S128x640_1_1_0_0_n_n none qm kb (constant S128x640 .f32 0x00000000#32))
      (shapeCast S128x640 b shapeCasts_S1x128x640_S128x640))
    (broadcast S128x640 (Named.named κ "mask" 0xF149F2CA#32))

/-- The unnormalized weights. -/
def weightTerm (s : FVec Ideal S128x640 .f32) : FVec Ideal S128x640 .f32 :=
  exp (subf s (broadcastTo S128x640 (shapeCast S128x1 (multiReduction .maximumf [1] S128 s 0xFF800000#32 reduces_S128x640_S128 (.inl rfl) rfl)
    shapeCasts_S128_S128x1) broadcasts_S128x1_S128x640))

/-- One head's sum of values, divided by its weights' sum. -/
def headTerm (s : FVec Ideal S128x640 .f32) (vb : FVec Ideal S640x128 .bf16) : FVec Ideal S128x128 .f32 :=
  divf (matmul dot_S128x640_S640x128_S128x128_1_0_0_1_n_n none (truncf .bf16 (weightTerm s) bitsLt_bf16_f32) vb (constant S128x128 .f32 0x00000000#32))
    (broadcastTo S128x128 (shapeCast S128x1 (multiReduction .add [1] S128 (weightTerm s) 0x00000000#32 reduces_S128x640_S128 (.inl rfl) rfl)
      shapeCasts_S128_S128x1) broadcasts_S128x1_S128x128)

/-- The queries of one head alone, the other head's lanes zero. -/
def queryTerm (half : IVec S1x128 1) (q : Vec Ideal S1x128x128 .bf16) : FVec Ideal S128x128 .bf16 :=
  select (broadcastTo S128x128 (shapeCast S1x128 half shapeCasts_S1x128_S1x128) broadcasts_S1x128_S128x128)
    (shapeCast S128x128 q shapeCasts_S1x128x128_S128x128) (broadcast S128x128 (Scalar.ofBits .bf16 0x0000#16))

/-- A group's stored rows. -/
def groupTerm (valid : IVec S1x640 1) (q : Vec Ideal S1x128x128 .bf16) (kb vb : FVec Ideal S640x128 .bf16) (b0 b1 : Vec Ideal S1x128x640 .f32) :
    FVec Ideal S1x128x128 .bf16 :=
  shapeCast S1x128x128 (truncf .bf16 (select (broadcastTo S128x128 (shapeCast S1x128 k0_pay2 shapeCasts_S1x128_S1x128) broadcasts_S1x128_S128x128)
    (headTerm (scoreTerm valid (queryTerm k0_pay2 q) kb b0) vb)
    (headTerm (scoreTerm valid (queryTerm (xori k0_pay2 (constantI S1x128 1 1#1)) q) kb b1) vb)) bitsLt_bf16_f32) shapeCasts_S128x128_S1x128x128

theorem pay_first (i : grid0.Coords) (q : Vec Ideal S1x128x128 .bf16) (kp : Vec Ideal S1x512x128 .bf16) (kc : Vec Ideal S1x128x128 .bf16)
    (vp : Vec Ideal S1x512x128 .bf16) (vc : Vec Ideal S1x128x128 .bf16) (b0 b1 : Vec Ideal S1x128x640 .f32) :
    k0_pay8 k0_pay2 (k0_pay3 q) (k0_pay4 kp kc) (k0_pay5 vp vc) (k0_pay6 i) (k0_pay7 i q kp kc b0) b1
      = groupTerm (validW 512#32 i) q (k0_pay4 kp kc) (k0_pay4 vp vc) b0 b1 := rfl

theorem pay_second (i : grid0.Coords) (q : Vec Ideal S1x128x128 .bf16) (kp : Vec Ideal S1x384x128 .bf16) (kc : Vec Ideal S1x256x128 .bf16)
    (vp : Vec Ideal S1x384x128 .bf16) (vc : Vec Ideal S1x256x128 .bf16) (b0 b1 : Vec Ideal S1x128x640 .f32) :
    k0_pay16 k0_pay2 (k0_pay9 q) (k0_pay10 kp kc) (k0_pay11 vp vc) (k0_pay12 (BitVec.ofNat 32 (i 2).val) (iota .tc S1x640 32 [1] iota_S1x640_d1_w32))
        (k0_pay14 (BitVec.ofNat 32 (i 2).val) k0_pay2 (iota .tc S1x640 32 [1] iota_S1x640_d1_w32) q kp kc b0)
        (k0_pay15 (BitVec.ofNat 32 (i 2).val) k0_pay2 (iota .tc S1x640 32 [1] iota_S1x640_d1_w32) q kp kc b0) (constant S128x128 .f32 0x00000000#32) b1
      = groupTerm (validW 384#32 i) q (k0_pay10 kp kc) (k0_pay10 vp vc) b0 b1 := rfl

theorem pay_third (i : grid0.Coords) (q : Vec Ideal S1x128x128 .bf16) (kp : Vec Ideal S1x256x128 .bf16) (kc : Vec Ideal S1x384x128 .bf16)
    (vp : Vec Ideal S1x256x128 .bf16) (vc : Vec Ideal S1x384x128 .bf16) (b0 b1 : Vec Ideal S1x128x640 .f32) :
    k0_pay24 k0_pay2 (k0_pay19 (k0_pay18 kp) kc) (k0_pay20 vp vc) (k0_pay21 (BitVec.ofNat 32 (i 2).val) (iota .tc S1x640 32 [1] iota_S1x640_d1_w32))
        (k0_pay22 (BitVec.ofNat 32 (i 2).val) k0_pay2 (iota .tc S1x640 32 [1] iota_S1x640_d1_w32) (k0_pay17 q) (k0_pay18 kp) kc vp vc b0)
        (k0_pay23 k0_pay2 (k0_pay17 q)) b1
      = groupTerm (validW 256#32 i) q (k0_pay20 kp kc) (k0_pay20 vp vc) b0 b1 := rfl

theorem pay_fourth (i : grid0.Coords) (q : Vec Ideal S1x128x128 .bf16) (kp : Vec Ideal S1x128x128 .bf16) (kc : Vec Ideal S1x512x128 .bf16)
    (vp : Vec Ideal S1x128x128 .bf16) (vc : Vec Ideal S1x512x128 .bf16) (b0 b1 : Vec Ideal S1x128x640 .f32) :
    k0_pay1 k0_pay2 (k0_pay28 (k0_pay27 vp) vc) (k0_pay30 (BitVec.ofNat 32 (i 2).val) k0_pay2 (iota .tc S1x640 32 [1] iota_S1x640_d1_w32) (k0_pay25 q) (k0_pay26 kp kc) (k0_pay27 vp) vc b0)
        (k0_pay31 k0_pay2 (k0_pay25 q) (k0_pay26 kp kc) b1) (Named.named κ "mask" 0xF149F2CA#32)
        (k0_pay32 (BitVec.ofNat 32 (i 2).val) (iota .tc S1x640 32 [1] iota_S1x640_d1_w32))
      = groupTerm (validW 128#32 i) q (k0_pay26 kp kc) (k0_pay26 vp vc) b0 b1 := rfl

theorem weightTerm_apply (s : FVec Ideal S128x640 .f32) (r : Fin 128) (j : Fin 640) :
    (show EReal from weightTerm s (ix2 r j)) = weight (fun k => (show EReal from s (ix2 r k))) j := by
  unfold weightTerm weight top
  pointwise []
  rfl

theorem headTerm_apply (s : FVec Ideal S128x640 .f32) (vb : FVec Ideal S640x128 .bf16) (r l : Fin 128) :
    (show EReal from headTerm s vb (ix2 r l)) = attendLate (fun k => (show EReal from s (ix2 r k))) (fun k => (show EReal from vb (ix2 k l))) := by
  unfold headTerm attendLate
  pointwise []
  simp only [weightTerm_apply]

theorem queryTerm_apply (half : IVec S1x128 1) (q : Vec Ideal S1x128x128 .bf16) (r l : Fin 128) :
    (show EReal from queryTerm half q (ix2 r l)) = Scalar.select (half (ix2 0 l)) (q (ix3 0 r l)) 0 := by
  unfold queryTerm
  pointwise []

theorem scoreTerm_apply (valid : IVec S1x640 1) (qm : FVec Ideal S128x128 .bf16) (kb : FVec Ideal S640x128 .bf16) (b : Vec Ideal S1x128x640 .f32)
    (r : Fin 128) (j : Fin 640) :
    (show EReal from scoreTerm valid qm kb b (ix2 r j))
      = Scalar.select (valid (ix2 0 j)) ((∑ l : Fin 128, (show EReal from qm (ix2 r l)) * kb (ix2 j l)) + b (ix3 0 r j)) ⊥ := by
  unfold scoreTerm
  pointwise []
  rfl

/-- The mask of the lower half's lanes, and its complement. -/
theorem lower_apply : ∀ l : Fin 128, k0_pay2 (ix2 0 l) = if l.val < 64 then 1#1 else 0#1 := by decide +kernel

theorem upper_apply : ∀ l : Fin 128, xori k0_pay2 (constantI S1x128 1 1#1) (ix2 0 l) = if l.val < 64 then 0#1 else 1#1 := by decide +kernel

/-- A group's scores for the pair's head `hh`, at a row, over the band. -/
def groupScore (hh : Fin 2) (valid : Fin 640 → Prop) [DecidablePred valid] (q : Fin 128 → EReal) (k : Fin 640 → Fin 128 → EReal) (b : Fin 640 → EReal)
    (j : Fin 640) : EReal :=
  if valid j then (∑ d : Fin 64, q ⟨64 * hh.val + d.val, by omega⟩ * k j ⟨64 * hh.val + d.val, by omega⟩) + b j else ⊥

theorem score_lower (valid : IVec S1x640 1) (q : Vec Ideal S1x128x128 .bf16) (kb : FVec Ideal S640x128 .bf16) (b : Vec Ideal S1x128x640 .f32)
    (r : Fin 128) (j : Fin 640) :
    (show EReal from scoreTerm valid (queryTerm k0_pay2 q) kb b (ix2 r j))
      = groupScore 0 (fun j => valid (ix2 0 j) = 1#1) (fun l => q (ix3 0 r l)) (fun j l => kb (ix2 j l)) (fun j => b (ix3 0 r j)) j := by
  rw [scoreTerm_apply]
  unfold groupScore Scalar.select
  refine if_congr Iff.rfl (congrArg (· + _) ?_) rfl
  have e : ∀ l : Fin 128, (show EReal from queryTerm k0_pay2 q (ix2 r l)) * kb (ix2 j l)
      = (if l.val < 64 then (show EReal from q (ix3 0 r l)) else 0) * (show EReal from kb (ix2 j l)) := fun l => by
    rw [queryTerm_apply, lower_apply]; unfold Scalar.select
    by_cases h : l.val < 64
    · rw [if_pos h, if_pos h]; rfl
    · rw [if_neg h, if_neg h]; rfl
  refine (Finset.sum_congr rfl fun l _ => e l).trans ((sum_lower _ _).trans (Finset.sum_congr rfl fun d _ => ?_))
  simp only [Fin.val_zero, Nat.mul_zero, Nat.zero_add]

theorem score_upper (valid : IVec S1x640 1) (q : Vec Ideal S1x128x128 .bf16) (kb : FVec Ideal S640x128 .bf16) (b : Vec Ideal S1x128x640 .f32)
    (r : Fin 128) (j : Fin 640) :
    (show EReal from scoreTerm valid (queryTerm (xori k0_pay2 (constantI S1x128 1 1#1)) q) kb b (ix2 r j))
      = groupScore 1 (fun j => valid (ix2 0 j) = 1#1) (fun l => q (ix3 0 r l)) (fun j l => kb (ix2 j l)) (fun j => b (ix3 0 r j)) j := by
  rw [scoreTerm_apply]
  unfold groupScore Scalar.select
  refine if_congr Iff.rfl (congrArg (· + _) ?_) rfl
  have e : ∀ l : Fin 128, (show EReal from queryTerm (xori k0_pay2 (constantI S1x128 1 1#1)) q (ix2 r l)) * kb (ix2 j l)
      = (if l.val < 64 then 0 else (show EReal from q (ix3 0 r l))) * (show EReal from kb (ix2 j l)) := fun l => by
    rw [queryTerm_apply, upper_apply]; unfold Scalar.select
    by_cases h : l.val < 64
    · rw [if_pos h, if_pos h]; rfl
    · rw [if_neg h, if_neg h]; rfl
  exact (Finset.sum_congr rfl fun l _ => e l).trans (sum_upper _ _)

/-- A group's stored rows at an index: the head of the lane's half attends over the band. -/
theorem groupTerm_apply (valid : IVec S1x640 1) (q : Vec Ideal S1x128x128 .bf16) (kb vb : FVec Ideal S640x128 .bf16) (b : Fin 2 → Vec Ideal S1x128x640 .f32)
    (r : Fin 128) (hh : Fin 2) (d : Fin 64) :
    (show EReal from groupTerm valid q kb vb (b 0) (b 1) (ix3 0 r ⟨64 * hh.val + d.val, by omega⟩))
      = attendLate (groupScore hh (fun j => valid (ix2 0 j) = 1#1) (fun l => q (ix3 0 r l)) (fun j l => kb (ix2 j l)) (fun j => b hh (ix3 0 r j)))
          (fun j => vb (ix2 j ⟨64 * hh.val + d.val, by omega⟩)) := by
  unfold groupTerm
  pointwise []
  have hh01 : hh = 0 ∨ hh = 1 := by omega
  rw [lower_apply]
  rcases hh01 with rfl | rfl
  · rw [if_pos (by simp only; omega)]
    refine Eq.trans ?_ ((headTerm_apply _ _ _ _).trans (congrArg (fun f => attendLate f _) (funext fun j => score_lower _ _ _ _ _ _)))
    rfl
  · rw [if_neg (by simp only; omega)]
    refine Eq.trans ?_ ((headTerm_apply _ _ _ _).trans (congrArg (fun f => attendLate f _) (funext fun j => score_upper _ _ _ _ _ _)))
    rfl

/-- Which columns of a group's band lie in the sequence. -/
theorem valid_iff (a : Fin 16) (g : Fin 4) (j : Fin 640) :
    cmpi .sge (iota .tc S1x640 32 [1] iota_S1x640_d1_w32)
        (broadcast S1x640 (Scalar.subi (BitVec.ofNat 32 (512 - 128 * g.val)) (Scalar.muli (BitVec.ofNat 32 a.val) 512#32))) (ix2 0 j) = 1#1
      ↔ 512 ≤ 512 * a.val + 128 * g.val + j.val := by
  revert a g j
  decide +kernel

end Cert.KernelIdeal.Attention

end
-- ==== Proof.AttBlock.lean ====
/- A block of the attention's result at an index: the row's head over the band of 640 keys that ends with the row's group. -/
module

public import proofs.«01_k».proof.Proof.AttKernel

@[expose] public section

set_option maxRecDepth 16384

noncomputable section

namespace Cert.KernelIdeal.Attention

open Idealize.ShloMosaic Idealize.ShloMosaic.TcCoe
open Cert.KernelIdeal Cert.KernelIdeal.Gen Cert.KernelIdeal.Value Cert.Attention

/-- Row `j` of group `g`'s band: the rows from `128 g` on of the two consecutive blocks. -/
def bandRow (x y : Vec Ideal S1x512x128 .bf16) (g : Fin 4) (j : Fin 640) (l : Fin 128) : EReal :=
  if h : 128 * g.val + j.val < 512 then x (ix3 0 ⟨128 * g.val + j.val, h⟩ l)
  else y (ix3 0 ⟨128 * g.val + j.val - 512, by omega⟩ l)

/-- Two pieces put one after the other along the rows. -/
theorem rows_concat {A B : Nat} (x : Vec Ideal ⟨3, ![1, A, 128]⟩ .bf16) (y : Vec Ideal ⟨3, ![1, B, 128]⟩ .bf16)
    (hx : Shape.ShapeCasts ⟨3, ![1, A, 128]⟩ ⟨2, ![A, 128]⟩) (hy : Shape.ShapeCasts ⟨3, ![1, B, 128]⟩ ⟨2, ![B, 128]⟩)
    (hc : Shape.Concatenates [⟨2, ![A, 128]⟩, ⟨2, ![B, 128]⟩] S640x128 0) (hAB : A + B = 640) (j : Fin 640) (l : Fin 128) :
    concatenate S640x128 0 [⟨⟨2, ![A, 128]⟩, shapeCast ⟨2, ![A, 128]⟩ x hx⟩, ⟨⟨2, ![B, 128]⟩, shapeCast ⟨2, ![B, 128]⟩ y hy⟩] hc (ix2 j l)
      = if h : j.val < A then x (ix3 0 ⟨j.val, h⟩ l) else y (ix3 0 ⟨j.val - A, by omega⟩ l) := by
  by_cases h : j.val < A
  · rw [dif_pos h]
    refine (concatenate_apply_piece (0 : Fin S640x128.rank) [⟨⟨2, ![A, 128]⟩, shapeCast ⟨2, ![A, 128]⟩ x hx⟩, ⟨⟨2, ![B, 128]⟩, shapeCast ⟨2, ![B, 128]⟩ y hy⟩] hc (ix2 j l) 0 (by simp) ⟨2, ![A, 128]⟩ (shapeCast ⟨2, ![A, 128]⟩ x hx) rfl rfl 0 rfl
      (ix2 ⟨j.val, h⟩ l) (fun d _ => match d with | ⟨0, _⟩ => rfl | ⟨1, _⟩ => rfl) (Nat.zero_add _)).trans ?_
    exact (shapeCast_dropUnit_apply ![A, 128] x hx _).trans (congrArg x (funext fun a => match a with | ⟨0, _⟩ => rfl | ⟨1, _⟩ => rfl | ⟨2, _⟩ => rfl))
  · rw [dif_neg h]
    refine (concatenate_apply_piece (0 : Fin S640x128.rank) [⟨⟨2, ![A, 128]⟩, shapeCast ⟨2, ![A, 128]⟩ x hx⟩, ⟨⟨2, ![B, 128]⟩, shapeCast ⟨2, ![B, 128]⟩ y hy⟩] hc (ix2 j l) 1 (by simp) ⟨2, ![B, 128]⟩ (shapeCast ⟨2, ![B, 128]⟩ y hy) rfl rfl A (Nat.add_zero A)
      (ix2 ⟨j.val - A, by omega⟩ l) (fun d hd => match d, hd with | ⟨0, _⟩, hd => absurd rfl hd | ⟨1, _⟩, _ => rfl)
      (by show A + (j.val - A) = j.val; omega)).trans ?_
    exact (shapeCast_dropUnit_apply ![B, 128] y hy _).trans (congrArg y (funext fun a => match a with | ⟨0, _⟩ => rfl | ⟨1, _⟩ => rfl | ⟨2, _⟩ => rfl))

theorem ld_rows {n o : Nat} (x : Vec Ideal S1x512x128 .bf16) (inb) (j : Fin n) (l : Fin 128) (h : o + j.val < 512) :
    View.ld x (Rect.unit (s := S1x512x128) ![0, o, 0] ![1, n, 128] inb) (ix3 0 j l) = x (ix3 0 ⟨o + j.val, h⟩ l) :=
  congrArg x (funext fun a => Fin.ext (by
    match a with
    | ⟨0, _⟩ => rfl
    | ⟨1, _⟩ => show o + 1 * j.val = o + j.val; omega
    | ⟨2, _⟩ => show 0 + 1 * l.val = l.val; omega))

theorem ld_head {o : Nat} (x : Vec Ideal S2x128x640 .f32) (inb) (r : Fin 128) (j : Fin 640) (h : o < 2) :
    View.ld x (Rect.unit (s := S2x128x640) ![o, 0, 0] ![1, 128, 640] inb) (ix3 0 r j) = x (ix3 ⟨o, h⟩ r j) :=
  congrArg x (funext fun a => Fin.ext (by
    match a with
    | ⟨0, _⟩ => show o + 1 * 0 = o; omega
    | ⟨1, _⟩ => show 0 + 1 * r.val = r.val; omega
    | ⟨2, _⟩ => show 0 + 1 * j.val = j.val; omega))

/-- The band that is loaded in two pieces and put together. -/
theorem band_of_pieces (g : Fin 4) {A B : Nat} (hA : A = 512 - 128 * g.val) (hB : B = 128 + 128 * g.val) (x y : Vec Ideal S1x512x128 .bf16)
    (inbx inby) (hx : Shape.ShapeCasts ⟨3, ![1, A, 128]⟩ ⟨2, ![A, 128]⟩) (hy : Shape.ShapeCasts ⟨3, ![1, B, 128]⟩ ⟨2, ![B, 128]⟩)
    (hc : Shape.Concatenates [⟨2, ![A, 128]⟩, ⟨2, ![B, 128]⟩] S640x128 0) (j : Fin 640) (l : Fin 128) :
    concatenate S640x128 0
        [⟨⟨2, ![A, 128]⟩, shapeCast ⟨2, ![A, 128]⟩ (View.ld x (Rect.unit (s := S1x512x128) ![0, 128 * g.val, 0] ![1, A, 128] inbx)) hx⟩,
          ⟨⟨2, ![B, 128]⟩, shapeCast ⟨2, ![B, 128]⟩ (View.ld y (Rect.unit (s := S1x512x128) ![0, 0, 0] ![1, B, 128] inby)) hy⟩] hc (ix2 j l)
      = bandRow x y g j l := by
  rw [rows_concat _ _ hx hy hc (by omega)]
  unfold bandRow
  by_cases h : j.val < A
  · rw [dif_pos h, dif_pos (by omega)]
    exact ld_rows x inbx ⟨j.val, h⟩ l (by show _ + j.val < 512; omega)
  · rw [dif_neg h, dif_neg (by omega)]
    refine (ld_rows y inby ⟨j.val - A, _⟩ l (by show 0 + (j.val - A) < 512; omega)).trans (congrArg y ?_)
    refine congrArg (fun r => ix3 0 r l) (Fin.ext ?_)
    show 0 + (j.val - A) = 128 * g.val + j.val - 512
    omega

/-- The four groups' bands. -/
theorem band_first (x y : Vec Ideal S1x512x128 .bf16) (j : Fin 640) (l : Fin 128) :
    k0_pay4 (View.ld x r0_1) (View.ld y r0_0) (ix2 j l) = bandRow x y 0 j l :=
  band_of_pieces 0 (A := 512) (B := 128) rfl rfl x y inb_S1x512x128_S1x512x128_0_0_0 inb_S1x512x128_S1x128x128_0_0_0 shapeCasts_S1x512x128_S512x128
    shapeCasts_S1x128x128_S128x128 concatenates_S512x128_S128x128_S640x128_d0 j l

theorem band_second (x y : Vec Ideal S1x512x128 .bf16) (j : Fin 640) (l : Fin 128) :
    k0_pay10 (View.ld x r0_5) (View.ld y r0_6) (ix2 j l) = bandRow x y 1 j l :=
  band_of_pieces 1 (A := 384) (B := 256) rfl rfl x y inb_S1x512x128_S1x384x128_0_128_0 inb_S1x512x128_S1x256x128_0_0_0 shapeCasts_S1x384x128_S384x128
    shapeCasts_S1x256x128_S256x128 concatenates_S384x128_S256x128_S640x128_d0 j l

theorem band_third (x y : Vec Ideal S1x512x128 .bf16) (j : Fin 640) (l : Fin 128) :
    k0_pay20 (View.ld x r0_8) (View.ld y r0_9) (ix2 j l) = bandRow x y 2 j l :=
  band_of_pieces 2 (A := 256) (B := 384) rfl rfl x y inb_S1x512x128_S1x256x128_0_256_0 inb_S1x512x128_S1x384x128_0_0_0 shapeCasts_S1x256x128_S256x128
    shapeCasts_S1x384x128_S384x128 concatenates_S256x128_S384x128_S640x128_d0 j l

theorem band_fourth (x y : Vec Ideal S1x512x128 .bf16) (j : Fin 640) (l : Fin 128) :
    k0_pay26 (View.ld x r0_10) (View.ld y r0_1) (ix2 j l) = bandRow x y 3 j l :=
  band_of_pieces 3 (A := 128) (B := 512) rfl rfl x y inb_S1x512x128_S1x128x128_0_384_0 inb_S1x512x128_S1x512x128_0_0_0 shapeCasts_S1x128x128_S128x128
    shapeCasts_S1x512x128_S512x128 concatenates_S128x128_S512x128_S640x128_d0 j l

theorem groupScore_congr (hh : Fin 2) {v v' : Fin 640 → Prop} [DecidablePred v] [DecidablePred v'] (hv : ∀ j, v j ↔ v' j)
    (q : Fin 128 → EReal) (k : Fin 640 → Fin 128 → EReal) (b : Fin 640 → EReal) : groupScore hh v q k b = groupScore hh v' q k b :=
  funext fun j => if_congr (hv j) rfl rfl

/-- A block of the result, from the blocks it is computed from: row `n`, lane `l`. -/
def blockAt (a : Nat) (x0 x1 x2 x3 x4 : Vec Ideal S1x512x128 .bf16) (x5 : Vec Ideal S2x128x640 .f32) (n : Fin 512) (l : Fin 128) : EReal :=
  attendLate
    (groupScore ⟨l.val / 64, by omega⟩ (fun j => 512 ≤ 512 * a + 128 * (n.val / 128) + j.val) (fun l => x0 (ix3 0 n l))
      (bandRow x1 x2 ⟨n.val / 128, by omega⟩) (fun j => x5 (ix3 ⟨l.val / 64, by omega⟩ ⟨n.val % 128, by omega⟩ j)))
    (fun j => bandRow x3 x4 ⟨n.val / 128, by omega⟩ j l)

/-- A group's stored rows are its rows of the block. -/
theorem group_piece (g : Fin 4) (a : Nat) (x0 x1 x2 x3 x4 : Vec Ideal S1x512x128 .bf16) (x5 : Vec Ideal S2x128x640 .f32)
    (valid : IVec S1x640 1) (q : Vec Ideal S1x128x128 .bf16) (kb vb : FVec Ideal S640x128 .bf16) (b0 b1 : Vec Ideal S1x128x640 .f32)
    (hv : ∀ j, valid (ix2 0 j) = 1#1 ↔ 512 ≤ 512 * a + 128 * g.val + j.val)
    (hq : ∀ (r l : Fin 128) (h), q (ix3 0 r l) = x0 (ix3 0 ⟨128 * g.val + r.val, h⟩ l))
    (hk : ∀ j l, kb (ix2 j l) = bandRow x1 x2 g j l) (hvb : ∀ j l, vb (ix2 j l) = bandRow x3 x4 g j l)
    (hb0 : ∀ r j, b0 (ix3 0 r j) = x5 (ix3 0 r j)) (hb1 : ∀ r j, b1 (ix3 0 r j) = x5 (ix3 1 r j))
    (r l : Fin 128) (h : 128 * g.val + r.val < 512) :
    (show EReal from groupTerm valid q kb vb b0 b1 (ix3 0 r l)) = blockAt a x0 x1 x2 x3 x4 x5 ⟨128 * g.val + r.val, h⟩ l := by
  obtain ⟨hh, d, rfl⟩ : ∃ (hh : Fin 2) (d : Fin 64), l = ⟨64 * hh.val + d.val, by omega⟩ :=
    ⟨⟨l.val / 64, by omega⟩, ⟨l.val % 64, by omega⟩, Fin.ext (by show l.val = 64 * (l.val / 64) + l.val % 64; omega)⟩
  refine (groupTerm_apply valid q kb vb (fun i => if i = 0 then b0 else b1) r hh d).trans ?_
  unfold blockAt
  have hg : (⟨(128 * g.val + r.val) / 128, by omega⟩ : Fin 4) = g := Fin.ext (by show (128 * g.val + r.val) / 128 = g.val; omega)
  have hhh : (⟨(64 * hh.val + d.val) / 64, by omega⟩ : Fin 2) = hh := Fin.ext (by show (64 * hh.val + d.val) / 64 = hh.val; omega)
  have hr : (⟨(128 * g.val + r.val) % 128, by omega⟩ : Fin 128) = r := Fin.ext (by show (128 * g.val + r.val) % 128 = r.val; omega)
  have hd : (128 * g.val + r.val) / 128 = g.val := by omega
  simp only [hg, hhh, hr]
  have eb : (fun j => (if hh = 0 then b0 else b1) (ix3 0 r j)) = fun j => x5 (ix3 hh r j) := funext fun j => by
    have hh01 : hh = 0 ∨ hh = 1 := by omega
    rcases hh01 with rfl | rfl
    · exact hb0 r j
    · exact hb1 r j
  rw [eb, funext fun j => hvb j _, funext fun l => hq r l h, funext fun j => funext fun l => hk j l, groupScore_congr hh (v' := fun j => 512 ≤ 512 * a + 128 * ((128 * g.val + r.val) / 128) + j.val) fun j => (hv j).trans (by rw [hd])]

/-- What the body leaves in the result's block. -/
theorem out_apply (i : grid0.Coords) (x0 x1 x2 x3 x4 : Vec Ideal S1x512x128 .bf16) (x5 : Vec Ideal S2x128x640 .f32) (n : Fin 512) (l : Fin 128) :
    (show EReal from out0_6 i x0 x1 x2 x3 x4 x5 (ix3 0 n l)) = blockAt (i 2).val x0 x1 x2 x3 x4 x5 n l := by
  have hx : ∀ x : S1x128x128.Idx, x = ix3 0 (x (1 : Fin 3)) (x (2 : Fin 3)) := fun x => funext fun a =>
    match a with | ⟨0, _⟩ => Subsingleton.elim (α := Fin 1) _ _ | ⟨1, _⟩ => rfl | ⟨2, _⟩ => rfl
  have piece : ∀ (g : Fin 4) (inb) (w : FVec Ideal S1x128x128 .bf16),
      (∀ (r l : Fin 128) (h : 128 * g.val + r.val < 512), (show EReal from w (ix3 0 r l)) = blockAt (i 2).val x0 x1 x2 x3 x4 x5 ⟨128 * g.val + r.val, h⟩ l) →
      ∀ x : S1x128x128.Idx, (show EReal from w x)
        = (fun y : S1x512x128.Idx => blockAt (i 2).val x0 x1 x2 x3 x4 x5 (y (1 : Fin 3)) (y (2 : Fin 3)))
          ((Rect.unit (s := S1x512x128) ![0, 128 * g.val, 0] S1x128x128.size inb).emb x) := fun g inb w hw x => by
    refine (congrArg w (hx x)).trans ((hw _ _ (by have : (x (1 : Fin 3)).val < 128 := (x (1 : Fin 3)).isLt; omega)).trans ?_)
    refine congr (congrArg (blockAt (i 2).val x0 x1 x2 x3 x4 x5) (Fin.ext ?_)) (Fin.ext ?_)
    · show 128 * g.val + (x (1 : Fin 3)).val = 128 * g.val + 1 * (x (1 : Fin 3)).val; omega
    · show (x (2 : Fin 3)).val = 0 + 1 * (x (2 : Fin 3)).val; omega
  unfold out0_6
  refine View.canon_apply_of_pieces (Val := Elt Ideal) (e := .bf16) (fun y : S1x512x128.Idx => blockAt (i 2).val x0 x1 x2 x3 x4 x5 (y (1 : Fin 3)) (y (2 : Fin 3))) _ ?_ (ix3 0 n l)
    (cover0_6 _ _ _ _ _)
  intro p hp
  rcases List.mem_cons.mp hp with rfl | hp
  · refine piece 3 inb_S1x512x128_S1x128x128_0_384_0 _ fun r l h => (congrFun (pay_fourth i (View.ld x0 r0_10) (View.ld x1 r0_10) (View.ld x2 r0_1) (View.ld x3 r0_10) (View.ld x4 r0_1) (View.ld x5 r0_2) (View.ld x5 r0_3)) (ix3 0 r l)).trans ?_
    exact group_piece 3 (i 2).val x0 x1 x2 x3 x4 x5 (validW 128#32 i) (View.ld x0 r0_10) (k0_pay26 (View.ld x1 r0_10) (View.ld x2 r0_1))
      (k0_pay26 (View.ld x3 r0_10) (View.ld x4 r0_1)) (View.ld x5 r0_2) (View.ld x5 r0_3) (fun j => valid_iff (i 2) 3 j) (fun r l h => ld_rows x0 _ r l h)
      (band_fourth x1 x2) (band_fourth x3 x4)
      (fun r j => ld_head x5 _ r j (by decide)) (fun r j => ld_head x5 _ r j (by decide)) r l h
  rcases List.mem_cons.mp hp with rfl | hp
  · refine piece 2 inb_S1x512x128_S1x128x128_0_256_0 _ fun r l h => (congrFun (pay_third i (View.ld x0 r0_7) (View.ld x1 r0_8) (View.ld x2 r0_9) (View.ld x3 r0_8) (View.ld x4 r0_9) (View.ld x5 r0_2) (View.ld x5 r0_3)) (ix3 0 r l)).trans ?_
    exact group_piece 2 (i 2).val x0 x1 x2 x3 x4 x5 (validW 256#32 i) (View.ld x0 r0_7) (k0_pay20 (View.ld x1 r0_8) (View.ld x2 r0_9))
      (k0_pay20 (View.ld x3 r0_8) (View.ld x4 r0_9)) (View.ld x5 r0_2) (View.ld x5 r0_3) (fun j => valid_iff (i 2) 2 j) (fun r l h => ld_rows x0 _ r l h)
      (band_third x1 x2) (band_third x3 x4)
      (fun r j => ld_head x5 _ r j (by decide)) (fun r j => ld_head x5 _ r j (by decide)) r l h
  rcases List.mem_cons.mp hp with rfl | hp
  · refine piece 1 inb_S1x512x128_S1x128x128_0_128_0 _ fun r l h => (congrFun (pay_second i (View.ld x0 r0_4) (View.ld x1 r0_5) (View.ld x2 r0_6) (View.ld x3 r0_5) (View.ld x4 r0_6) (View.ld x5 r0_2) (View.ld x5 r0_3)) (ix3 0 r l)).trans ?_
    exact group_piece 1 (i 2).val x0 x1 x2 x3 x4 x5 (validW 384#32 i) (View.ld x0 r0_4) (k0_pay10 (View.ld x1 r0_5) (View.ld x2 r0_6))
      (k0_pay10 (View.ld x3 r0_5) (View.ld x4 r0_6)) (View.ld x5 r0_2) (View.ld x5 r0_3) (fun j => valid_iff (i 2) 1 j) (fun r l h => ld_rows x0 _ r l h)
      (band_second x1 x2) (band_second x3 x4)
      (fun r j => ld_head x5 _ r j (by decide)) (fun r j => ld_head x5 _ r j (by decide)) r l h
  rcases List.mem_cons.mp hp with rfl | hp
  · refine piece 0 inb_S1x512x128_S1x128x128_0_0_0 _ fun r l h => (congrFun (pay_first i (View.ld x0 r0_0) (View.ld x1 r0_1) (View.ld x2 r0_0) (View.ld x3 r0_1) (View.ld x4 r0_0) (View.ld x5 r0_2) (View.ld x5 r0_3)) (ix3 0 r l)).trans ?_
    exact group_piece 0 (i 2).val x0 x1 x2 x3 x4 x5 (validW 512#32 i) (View.ld x0 r0_0) (k0_pay4 (View.ld x1 r0_1) (View.ld x2 r0_0))
      (k0_pay4 (View.ld x3 r0_1) (View.ld x4 r0_0)) (View.ld x5 r0_2) (View.ld x5 r0_3) (fun j => valid_iff (i 2) 0 j) (fun r l h => ld_rows x0 _ r l h)
      (band_first x1 x2) (band_first x3 x4)
      (fun r j => ld_head x5 _ r j (by decide)) (fun r j => ld_head x5 _ r j (by decide)) r l h
  exact absurd hp List.not_mem_nil

end Cert.KernelIdeal.Attention

end
-- ==== Proof.AttGather.lean ====
/- The two gathers of the attention: one entry of a row of a table for each start index, and one slice of rows for each
   start index. -/
module

public import Idealize.ShloMosaic.Lib.Pipeline.ValueKit
public import Idealize.ShloMosaic.Lib.Pointwise

@[expose] public section

set_option maxRecDepth 16384

noncomputable section

namespace Cert.Attention

open Idealize.ShloMosaic

variable {α : Type}

/-- The dimension numbers of taking, of each of `H` rows of `N` entries, the entry that each of `R × C` start indices names. -/
abbrev entryDims (H N R C : Nat) (wf : GatherDims.WF ⟨2, ![H, N]⟩ ⟨3, ![R, C, 1]⟩ ⟨3, ![H, R, C]⟩ [0] [1] [] [1] [] 2 ![H, 1]) :
    GatherDims ⟨2, ![H, N]⟩ ⟨3, ![R, C, 1]⟩ ⟨3, ![H, R, C]⟩ where
  offsetDims := [0]
  collapsedSliceDims := [1]
  operandBatchingDims := []
  startIndicesBatchingDims := []
  startIndexMap := [1]
  indexVectorDim := 2
  sliceSizes := ![H, 1]
  wf := wf

/-- The entry a start index names: the word, kept within the row. -/
def entryOf (N : Nat) (hN : 0 < N) (w : BitVec 32) : Fin N := ⟨min w.toInt.toNat (N - 1), by omega⟩

theorem gather_entry_apply {H N R C : Nat} (wf) (hN : 0 < N) (x : (⟨2, ![H, N]⟩ : Shape).Idx → α) (idx : IVec ⟨3, ![R, C, 1]⟩ 32)
    (h : Fin H) (r : Fin R) (j : Fin C) :
    Host.gather (entryDims H N R C wf) x idx (ix3 h r j) = x (ix2 h (entryOf N hN (idx (ix3 r j 0)))) := by
  unfold Host.gather
  congr 1
  funext a
  refine Fin.ext ?_
  show (entryDims H N R C wf).start (ix3 h r j) idx a + (entryDims H N R C wf).batchCoord (ix3 h r j) a
    + (entryDims H N R C wf).offCoord (ix3 h r j) a = _
  rw [GatherDims.batchCoord_eq_zero _ _ _ List.not_mem_nil]
  have hs := (entryDims H N R C wf).start_le (ix3 h r j) idx a
  have h01 : a = 0 ∨ a = 1 := by
    match a with
    | ⟨0, _⟩ => exact Or.inl rfl
    | ⟨1, _⟩ => exact Or.inr rfl
  rcases h01 with rfl | rfl
  · have : (entryDims H N R C wf).start (ix3 h r j) idx 0 ≤ H - H := hs
    show (entryDims H N R C wf).start (ix3 h r j) idx 0 + 0 + h.val = h.val
    omega
  · unfold GatherDims.start
    rw [dif_pos (show (1 : Fin 2) ∈ (entryDims H N R C wf).startIndexMap from List.mem_cons_self)]
    have hsi : (entryDims H N R C wf).siIdx (ix3 h r j) ⟨List.idxOf (1 : Fin 2) (entryDims H N R C wf).startIndexMap,
        List.idxOf_lt_length_iff.2 List.mem_cons_self⟩ = ix3 r j 0 := by
      funext b; refine Fin.ext ?_
      match b with
      | ⟨0, _⟩ => rfl
      | ⟨1, _⟩ => rfl
      | ⟨2, _⟩ => rfl
    show min (idx ((entryDims H N R C wf).siIdx (ix3 h r j) ⟨List.idxOf (1 : Fin 2) (entryDims H N R C wf).startIndexMap,
        List.idxOf_lt_length_iff.2 List.mem_cons_self⟩)).toInt.toNat (N - 1) + 0 + 0 = min (idx (ix3 r j 0)).toInt.toNat (N - 1)
    rw [hsi]
    rfl

/-- The dimension numbers of taking, for each of `n` start indices, `M` rows of an `A × N × C × D` array, whole on the other
    axes. -/
abbrev sliceDims (A N C D M n : Nat)
    (wf : GatherDims.WF ⟨4, ![A, N, C, D]⟩ ⟨2, ![n, 4]⟩ ⟨5, ![n, A, M, C, D]⟩ [1, 2, 3, 4] [] [] [0, 1, 2, 3] [] 1 ![A, M, C, D]) :
    GatherDims ⟨4, ![A, N, C, D]⟩ ⟨2, ![n, 4]⟩ ⟨5, ![n, A, M, C, D]⟩ where
  offsetDims := [1, 2, 3, 4]
  collapsedSliceDims := []
  operandBatchingDims := []
  startIndicesBatchingDims := []
  startIndexMap := [0, 1, 2, 3]
  indexVectorDim := 1
  sliceSizes := ![A, M, C, D]
  wf := wf

theorem gather_slice_apply {A N C D M n : Nat} (wf) (x : (⟨4, ![A, N, C, D]⟩ : Shape).Idx → α) (idx : IVec ⟨2, ![n, 4]⟩ 32)
    (g : Fin n) (a : Fin A) (r : Fin M) (c : Fin C) (d : Fin D) (s : Nat) (hs : (idx (ix2 g 1)).toInt = (s : Int)) (hN : s + M ≤ N) :
    Host.gather (sliceDims A N C D M n wf) x idx (ix5 g a r c d) = x (ix4 a ⟨s + r.val, by omega⟩ c d) := by
  unfold Host.gather
  congr 1
  funext b
  refine Fin.ext ?_
  show (sliceDims A N C D M n wf).start (ix5 g a r c d) idx b + (sliceDims A N C D M n wf).batchCoord (ix5 g a r c d) b
    + (sliceDims A N C D M n wf).offCoord (ix5 g a r c d) b = _
  rw [GatherDims.batchCoord_eq_zero _ _ _ List.not_mem_nil]
  have hle := (sliceDims A N C D M n wf).start_le (ix5 g a r c d) idx b
  have h0123 : b = 0 ∨ b = 1 ∨ b = 2 ∨ b = 3 := by
    match b with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases h0123 with rfl | rfl | rfl | rfl
  · have : (sliceDims A N C D M n wf).start (ix5 g a r c d) idx 0 ≤ A - A := hle
    show (sliceDims A N C D M n wf).start (ix5 g a r c d) idx 0 + 0 + a.val = a.val
    omega
  · have h1 : (1 : Fin 4) ∈ (sliceDims A N C D M n wf).startIndexMap := List.mem_cons_of_mem _ List.mem_cons_self
    unfold GatherDims.start
    rw [dif_pos h1]
    have hsi : (sliceDims A N C D M n wf).siIdx (ix5 g a r c d) ⟨List.idxOf (1 : Fin 4) (sliceDims A N C D M n wf).startIndexMap,
        List.idxOf_lt_length_iff.2 h1⟩ = ix2 g 1 := by
      funext b; refine Fin.ext ?_
      match b with
      | ⟨0, _⟩ => rfl
      | ⟨1, _⟩ => rfl
    show min (idx ((sliceDims A N C D M n wf).siIdx (ix5 g a r c d) ⟨List.idxOf (1 : Fin 4) (sliceDims A N C D M n wf).startIndexMap,
        List.idxOf_lt_length_iff.2 h1⟩)).toInt.toNat (N - M) + 0 + r.val = s + r.val
    rw [hsi, hs]
    omega
  · have : (sliceDims A N C D M n wf).start (ix5 g a r c d) idx 2 ≤ C - C := hle
    show (sliceDims A N C D M n wf).start (ix5 g a r c d) idx 2 + 0 + c.val = c.val
    omega
  · have : (sliceDims A N C D M n wf).start (ix5 g a r c d) idx 3 ≤ D - D := hle
    show (sliceDims A N C D M n wf).start (ix5 g a r c d) idx 3 + 0 + d.val = d.val
    omega

end Cert.Attention

end
-- ==== Proof.AttBias.lean ====
/- The bias table the kernel's host code makes for one group of 128 rows: in the band's columns that the row's chunk sees
   the head's bias of the row's distance to the column, elsewhere −∞. -/
module

public import proofs.«01_k».proof.Proof.Gen.KernelIdeal.Value
public import proofs.«01_k».proof.Proof.AttGather

@[expose] public section

set_option maxRecDepth 16384

noncomputable section

namespace Cert.Attention

open Idealize.ShloMosaic

/-- The table's column for a distance: the distance kept within 128 either way, counted from −128. -/
def columnWord (x : BitVec 32) : BitVec 32 :=
  let a := IntOp.addi (IntOp.minsi 128#32 (IntOp.maxsi 4294967168#32 x)) 128#32
  Scalar.select (IntOp.cmpi .slt a 0#32) (IntOp.addi a 257#32) a

/-- The distance from a row to a column of its band, the band starting 512 rows before the rows. -/
def distWord (r j : Nat) : BitVec 32 := IntOp.subi (IntOp.addi 512#32 (BitVec.ofNat 32 r)) (BitVec.ofNat 32 j)

/-- It is the same for both moved by the same amount. -/
theorem distWord_add (o r j : Nat) : distWord (o + r) (o + j) = distWord r j := by
  unfold distWord IntOp.subi IntOp.addi
  refine BitVec.eq_of_toNat_eq ?_
  simp only [BitVec.toNat_sub, BitVec.toNat_add, BitVec.toNat_ofNat]
  omega

/-- The bias of a distance. -/
def biasOf (T : FVec Ideal ⟨2, ![8, 257]⟩ .f32) (h : Fin 8) (x : BitVec 32) : EReal := T (ix2 h (entryOf 257 (by decide) (columnWord x)))

end Cert.Attention

namespace Cert.KernelIdeal.Attention

open Idealize.ShloMosaic Idealize.ShloMosaic.TcCoe
open Cert.KernelIdeal Cert.KernelIdeal.Gen Cert.KernelIdeal.Value Cert.Attention

/-- The rows' numbers and the columns' numbers. -/
def rowNo : IVec S128x1 32 := broadcastInDim S128x1 ![0] bcast_S128_S128x1_0 (iotaInDim S128 32 0)
def colNo : IVec S1x640 32 := broadcastInDim S1x640 ![1] bcast_S640_S1x640_1 (iotaInDim S640 32 0)

/-- A one-word constant over the rows, and over the table. -/
def rowsOf (v : IVec S_ 32) : IVec S128x1 32 := broadcastInDim S128x1 ![] bcast_S_S128x1 v
def tableOf (v : IVec S_ 32) : IVec S128x640 32 := broadcastInDim S128x640 ![] bcast_S_S128x640 v

/-- The first column a row's chunk sees: 64 times the row's number divided by 64. -/
def firstCol : IVec S128x1 32 :=
  muli (select (andi (cmpi .ne (signi rowNo) (broadcastInDim S128x1 ![] bcast_S_S128x1 (signi (id (constantI S_ 32 64#32)))))
      (cmpi .ne (Host.remsi rowNo (rowsOf (id (constantI S_ 32 64#32)))) (rowsOf (constantI S_ 32 0#32))))
    (subi (Host.divsi rowNo (rowsOf (id (constantI S_ 32 64#32)))) (rowsOf (constantI S_ 32 1#32)))
    (Host.divsi rowNo (rowsOf (id (constantI S_ 32 64#32))))) (rowsOf (constantI S_ 32 64#32))

/-- Which columns a row's chunk sees. -/
def visibleTerm (f : IVec S128x1 32) : IVec S128x640 1 :=
  andi (cmpi .sge (broadcastInDim S128x640 ![0, 1] bcast_S1x640_S128x640_0_1 colNo) (broadcastInDim S128x640 ![0, 1] bcast_S128x1_S128x640_0_1 f))
    (cmpi .slt (broadcastInDim S128x640 ![0, 1] bcast_S1x640_S128x640_0_1 colNo)
      (broadcastInDim S128x640 ![0, 1] bcast_S128x1_S128x640_0_1 (addi (addi f (rowsOf (constantI S_ 32 512#32))) (rowsOf (constantI S_ 32 64#32)))))

/-- The distance kept within 128 either way, counted from −128. -/
def clipTerm : IVec S128x640 32 :=
  addi (minsi (tableOf (id (constantI S_ 32 128#32))) (maxsi (tableOf (id (constantI S_ 32 4294967168#32)))
    (subi (broadcastInDim S128x640 ![0, 1] bcast_S128x1_S128x640_0_1 (addi (rowsOf (constantI S_ 32 512#32)) rowNo))
      (broadcastInDim S128x640 ![0, 1] bcast_S1x640_S128x640_0_1 colNo)))) (tableOf (constantI S_ 32 128#32))

/-- The bias table. -/
def biasTerm (T : FVec Ideal S8x257 .f32) (vis : IVec S128x640 1) (a : IVec S128x640 32) : FVec Ideal S8x128x640 .f32 :=
  select (broadcastInDim S8x128x640 ![0, 1, 2] bcast_S1x128x640_S8x128x640_0_1_2 (broadcastInDim S1x128x640 ![1, 2] bcast_S128x640_S1x128x640_1_2 vis))
    (Host.gather gather_S8x257_S128x640x1_S8x128x640_0_1_n_n_1_2_81 T
      (broadcastInDim S128x640x1 ![0, 1] bcast_S128x640_S128x640x1_0_1 (select (cmpi .slt a (tableOf (constantI S_ 32 0#32)))
        (addi a (tableOf (constantI S_ 32 257#32))) a)))
    (broadcastInDim S8x128x640 ![] bcast_S_S8x128x640 (id (constant S_ .f32 0xFF800000#32)))

set_option maxHeartbeats 4000000 in
/-- The bias the kernel is entered with is that table of the last argument. -/
theorem V_bias (m : (ℓ : Loc nD τ sig) → Buf (Elt Ideal) ℓ) (c : Dev nD) :
    V m c main_v34 = biasTerm (m ((c : Thread nD τ).loc main_arg3)) (visibleTerm firstCol) clipTerm := by
  unfold V
  simp only [hostOps0, hostOps0_1, hostOps0_2, hostOps0_3, hostOps0_4, hostOps0_5, List.flatten_cons, List.flatten_nil, List.append_nil,
    List.cons_append, List.nil_append, StableHlo.TRef.binary, StableHlo.TRef.ternary, StableHlo.TRef.unary, StableHlo.TRef.nullary,
    StableHlo.TRef.toBuf, StableHlo.TRef.ofBuf, cast_eq]
  after_results_simp
  rfl

theorem firstCol_apply : ∀ r : Fin 128, firstCol (ix2 r 0) = BitVec.ofNat 32 (64 * (r.val / 64)) := by decide +kernel

theorem visible_word : ∀ (a : Fin 2) (j : Fin 640),
    IntOp.andi (IntOp.cmpi .sge (BitVec.ofNat 32 j.val) (BitVec.ofNat 32 (64 * a.val)))
        (IntOp.cmpi .slt (BitVec.ofNat 32 j.val) (IntOp.addi (IntOp.addi (BitVec.ofNat 32 (64 * a.val)) 512#32) 64#32))
      = if 64 * a.val ≤ j.val ∧ j.val < 64 * a.val + 576 then 1#1 else 0#1 := by decide +kernel

theorem visibleTerm_apply (f : IVec S128x1 32) (r : Fin 128) (j : Fin 640) (a : Fin 2) (ha : f (ix2 r 0) = BitVec.ofNat 32 (64 * a.val)) :
    visibleTerm f (ix2 r j) = if 64 * a.val ≤ j.val ∧ j.val < 64 * a.val + 576 then 1#1 else 0#1 := by
  rw [← visible_word a j, ← ha]
  unfold visibleTerm colNo rowsOf
  pointwise []

theorem clipTerm_apply (r : Fin 128) (j : Fin 640) :
    clipTerm (ix2 r j) = IntOp.addi (IntOp.minsi 128#32 (IntOp.maxsi 4294967168#32
      (IntOp.subi (IntOp.addi 512#32 (BitVec.ofNat 32 r.val)) (BitVec.ofNat 32 j.val)))) 128#32 := by
  unfold clipTerm colNo rowNo rowsOf tableOf
  pointwise []
  rfl

theorem biasTerm_apply (T : FVec Ideal S8x257 .f32) (vis : IVec S128x640 1) (a : IVec S128x640 32) (h : Fin 8) (r : Fin 128) (j : Fin 640) :
    (show EReal from biasTerm T vis a (ix3 h r j)) = Scalar.select (vis (ix2 r j))
      (T (ix2 h (entryOf 257 (by decide) (Scalar.select (IntOp.cmpi .slt (a (ix2 r j)) 0#32) (IntOp.addi (a (ix2 r j)) 257#32) (a (ix2 r j)))))) ⊥ := by
  have hg := fun idx => gather_entry_apply gather_S8x257_S128x640x1_S8x128x640_0_1_n_n_1_2_81.wf (by decide) T idx h r j
  unfold biasTerm tableOf
  pointwise []
  refine congr (congrArg (Scalar.select _) ((hg _).trans ?_)) rfl
  pointwise []

/-- The kernel's bias at an index. -/
theorem bias_apply (m : (ℓ : Loc nD τ sig) → Buf (Elt Ideal) ℓ) (c : Dev nD) (h : Fin 8) (r : Fin 128) (j : Fin 640) :
    (show EReal from V m c main_v34 (ix3 h r j))
      = if 64 * (r.val / 64) ≤ j.val ∧ j.val < 64 * (r.val / 64) + 576 then biasOf (m ((c : Thread nD τ).loc main_arg3)) h (distWord r.val j.val) else ⊥ := by
  refine (congrFun (V_bias m c) (ix3 h r j)).trans ((biasTerm_apply _ _ _ h r j).trans ?_)
  rw [visibleTerm_apply firstCol r j ⟨r.val / 64, by omega⟩ (firstCol_apply r), clipTerm_apply]
  by_cases hv : 64 * (r.val / 64) ≤ j.val ∧ j.val < 64 * (r.val / 64) + 576
  · rw [if_pos hv, if_pos hv]; rfl
  · rw [if_neg hv, if_neg hv]; rfl

end Cert.KernelIdeal.Attention

end
-- ==== Proof.AttValue.lean ====
/- What the attention's pipeline of `KernelIdeal` leaves in the result at an index. -/
module

public import proofs.«01_k».proof.Proof.AttBlock
public import proofs.«01_k».proof.Proof.AttBias
public import Idealize.ShloMosaic.Lib.Pipeline.Covers

@[expose] public section

set_option maxRecDepth 16384

noncomputable section

namespace Cert.KernelIdeal.Attention

open Idealize.ShloMosaic Idealize.ShloMosaic.TcCoe
open Cert.KernelIdeal Cert.KernelIdeal.Gen Cert.KernelIdeal.Value Cert.Attention

/-- A grid point's three coordinates: the sequence, the pair of heads and the block of rows. -/
theorem coords_val (t : Fin grid0.N) : (grid0.coords t 2).val = t.val % 16 :=
  (by decide +kernel : ∀ t : Fin grid0.N, (grid0.coords t 2).val = t.val % 16) t

theorem map0_val (t : Fin grid0.N) : cc0_transform_0 (grid0.coords t) = ![t.val / 64, t.val % 16, t.val / 16 % 4] :=
  (by decide +kernel : ∀ t : Fin grid0.N, cc0_transform_0 (grid0.coords t) = ![t.val / 64, t.val % 16, t.val / 16 % 4]) t

theorem map1_val (t : Fin grid0.N) : cc0_transform_1 (grid0.coords t) = ![t.val / 64, t.val % 16 - 1, t.val / 16 % 4] :=
  (by decide +kernel : ∀ t : Fin grid0.N, cc0_transform_1 (grid0.coords t) = ![t.val / 64, t.val % 16 - 1, t.val / 16 % 4]) t

theorem map5_val (t : Fin grid0.N) : cc0_transform_5 (grid0.coords t) = ![t.val / 16 % 4, 0, 0] :=
  (by decide +kernel : ∀ t : Fin grid0.N, cc0_transform_5 (grid0.coords t) = ![t.val / 16 % 4, 0, 0]) t

/-- An index of an array of rows, from a block's index. -/
abbrev rowIdx (t : Fin 256) (i : Nat) (hi : i < 16) (r : Fin 512) (l : Fin 128) : S4x8192x512.Idx :=
  ix3 ⟨t.val / 64, by omega⟩ ⟨512 * i + r.val, by omega⟩ ⟨128 * (t.val / 16 % 4) + l.val, by omega⟩

theorem block_idx {n0 n1 n2 : Nat} {f : Fin 3 → Nat} {a0 a1 a2 : Nat} (hf : f = ![a0, a1, a2]) (s0 s1 s2 : Nat) (x : Fin s0) (y : Fin s1) (z : Fin s2)
    (h0 : a0 * s0 + x.val < n0) (h1 : a1 * s1 + y.val < n1) (h2 : a2 * s2 + z.val < n2) (idx : (⟨3, ![n0, n1, n2]⟩ : Shape).Idx)
    (e0 : (idx 0).val = f 0 * s0 + 1 * x.val) (e1 : (idx 1).val = f 1 * s1 + 1 * y.val) (e2 : (idx 2).val = f 2 * s2 + 1 * z.val) :
    idx = ix3 ⟨a0 * s0 + x.val, h0⟩ ⟨a1 * s1 + y.val, h1⟩ ⟨a2 * s2 + z.val, h2⟩ := by
  subst hf
  funext a
  refine Fin.ext ?_
  match a with
  | ⟨0, _⟩ => exact e0.trans (by show a0 * s0 + 1 * x.val = a0 * s0 + x.val; omega)
  | ⟨1, _⟩ => exact e1.trans (by show a1 * s1 + 1 * y.val = a1 * s1 + y.val; omega)
  | ⟨2, _⟩ => exact e2.trans (by show a2 * s2 + 1 * z.val = a2 * s2 + z.val; omega)

theorem rowIdx_eq (t : Fin 256) (i : Nat) (hi : i < 16) (r : Fin 512) (l : Fin 128) (f : Fin 3 → Nat) (hf : f = ![t.val / 64, i, t.val / 16 % 4])
    (idx : S4x8192x512.Idx) (e0 : (idx (0 : Fin 3)).val = f 0 * 1 + 1 * 0) (e1 : (idx (1 : Fin 3)).val = f 1 * 512 + 1 * r.val)
    (e2 : (idx (2 : Fin 3)).val = f 2 * 128 + 1 * l.val) : idx = rowIdx t i hi r l := by
  subst hf
  funext a
  refine Fin.ext ?_
  match a with
  | ⟨0, _⟩ => exact e0.trans (by show t.val / 64 * 1 + 1 * 0 = t.val / 64; omega)
  | ⟨1, _⟩ => exact e1.trans (by show i * 512 + 1 * r.val = 512 * i + r.val; omega)
  | ⟨2, _⟩ => exact e2.trans (by show t.val / 16 % 4 * 128 + 1 * l.val = 128 * (t.val / 16 % 4) + l.val; omega)

variable (m : (ℓ : Loc nD τ sig) → Buf (Elt Ideal) ℓ) (c : Dev nD)

/-- The queries', keys' and values' blocks at a point. -/
theorem iblk0_apply (t : Fin cfg0.N) (r : Fin 512) (l : Fin 128) :
    (show EReal from iblk m c 0 t (ix3 0 r l)) = m ((c : Thread nD τ).loc main_arg0) (rowIdx t (t.val % 16) (by omega) r l) :=
  (congrArg (V m c main_arg0) (rowIdx_eq t _ (by omega) r l _ (map0_val t) _ rfl rfl rfl)).trans (congrFun (V_main_arg0 m c) _)

theorem iblk1_apply (t : Fin cfg0.N) (r : Fin 512) (l : Fin 128) :
    (show EReal from iblk m c 1 t (ix3 0 r l)) = m ((c : Thread nD τ).loc main_arg1) (rowIdx t (t.val % 16 - 1) (by omega) r l) :=
  (congrArg (V m c main_arg1) (rowIdx_eq t _ (by omega) r l _ (map1_val t) _ rfl rfl rfl)).trans (congrFun (V_main_arg1 m c) _)

theorem iblk2_apply (t : Fin cfg0.N) (r : Fin 512) (l : Fin 128) :
    (show EReal from iblk m c 2 t (ix3 0 r l)) = m ((c : Thread nD τ).loc main_arg1) (rowIdx t (t.val % 16) (by omega) r l) :=
  (congrArg (V m c main_arg1) (rowIdx_eq t _ (by omega) r l _ (map0_val t) _ rfl rfl rfl)).trans (congrFun (V_main_arg1 m c) _)

theorem iblk3_apply (t : Fin cfg0.N) (r : Fin 512) (l : Fin 128) :
    (show EReal from iblk m c 3 t (ix3 0 r l)) = m ((c : Thread nD τ).loc main_arg2) (rowIdx t (t.val % 16 - 1) (by omega) r l) :=
  (congrArg (V m c main_arg2) (rowIdx_eq t _ (by omega) r l _ (map1_val t) _ rfl rfl rfl)).trans (congrFun (V_main_arg2 m c) _)

theorem iblk4_apply (t : Fin cfg0.N) (r : Fin 512) (l : Fin 128) :
    (show EReal from iblk m c 4 t (ix3 0 r l)) = m ((c : Thread nD τ).loc main_arg2) (rowIdx t (t.val % 16) (by omega) r l) :=
  (congrArg (V m c main_arg2) (rowIdx_eq t _ (by omega) r l _ (map0_val t) _ rfl rfl rfl)).trans (congrFun (V_main_arg2 m c) _)

/-- The pair's two bias tables. -/
theorem iblk5_apply (t : Fin cfg0.N) (hh : Fin 2) (r : Fin 128) (j : Fin 640) (h : t.val / 16 % 4 * 2 + hh.val < 8) :
    (show EReal from iblk m c 5 t (ix3 hh r j)) = V m c main_v34 (ix3 ⟨t.val / 16 % 4 * 2 + hh.val, h⟩ r j) := by
  refine congrArg (V m c main_v34) (funext fun a => Fin.ext ?_)
  match a with
  | ⟨0, _⟩ =>
    show cc0_transform_5 (grid0.coords t) 0 * 2 + 1 * hh.val = t.val / 16 % 4 * 2 + hh.val
    rw [map5_val t]; show t.val / 16 % 4 * 2 + 1 * hh.val = _; omega
  | ⟨1, _⟩ =>
    show cc0_transform_5 (grid0.coords t) 1 * 128 + 1 * r.val = r.val
    rw [map5_val t]; show 0 * 128 + 1 * r.val = _; omega
  | ⟨2, _⟩ =>
    show cc0_transform_5 (grid0.coords t) 2 * 640 + 1 * j.val = j.val
    rw [map5_val t]; show 0 * 640 + 1 * j.val = _; omega

/-- An array that agrees with every point's block is the run's result. -/
theorem final (G : Buf (Elt Ideal) ((c.tc : Thread nD τ).loc main_v35))
    (hG : ∀ (t : Fin 256) (r : Fin 512) (l : Fin 128), (show EReal from G (rowIdx t (t.val % 16) (by omega) r l))
      = blockAt (t.val % 16) (iblk m c 0 t) (iblk m c 1 t) (iblk m c 2 t) (iblk m c 3 t) (iblk m c 4 t) (iblk m c 5 t) r l) :
    (dats m 0 c).arrAt 6 cfg0.N = G := by
  refine (dats m 0 c).arrAt_eq_of_covers 6 _ ?_ fun t _ y => ?_
  · refine Pipeline.Window.covers_of_index_surj (w := cfg0.win 6) rfl ?_ ?_
    · exact (by decide : ∀ a : Fin 3, 0 < S1x512x128.size a)
    · intro β
      have h0 : (β (0 : Fin 3)).val < 4 := lt_of_lt_of_eq (β (0 : Fin 3)).isLt (show (cfg0.win 6).nblk (0 : Fin 3) = 4 from (by decide : (4 + 1 - 1) / 1 = 4))
      have h1 : (β (1 : Fin 3)).val < 16 := lt_of_lt_of_eq (β (1 : Fin 3)).isLt (show (cfg0.win 6).nblk (1 : Fin 3) = 16 from (by decide : (8192 + 512 - 1) / 512 = 16))
      have h2 : (β (2 : Fin 3)).val < 4 := lt_of_lt_of_eq (β (2 : Fin 3)).isLt (show (cfg0.win 6).nblk (2 : Fin 3) = 4 from (by decide : (512 + 128 - 1) / 128 = 4))
      have hm := map0_val ⟨(β (0 : Fin 3)).val * 64 + (β (2 : Fin 3)).val * 16 + (β (1 : Fin 3)).val, by show _ < 256; omega⟩
      refine ⟨⟨(β (0 : Fin 3)).val * 64 + (β (2 : Fin 3)).val * 16 + (β (1 : Fin 3)).val, by show _ < 256; omega⟩, fun a => ?_⟩
      match a with
      | ⟨0, _⟩ => refine (congrFun hm 0).trans ?_; show ((β (0 : Fin 3)).val * 64 + (β (2 : Fin 3)).val * 16 + (β (1 : Fin 3)).val) / 64 = (β (0 : Fin 3)).val; omega
      | ⟨1, _⟩ => refine (congrFun hm 1).trans ?_; show ((β (0 : Fin 3)).val * 64 + (β (2 : Fin 3)).val * 16 + (β (1 : Fin 3)).val) % 16 = (β (1 : Fin 3)).val; omega
      | ⟨2, _⟩ => refine (congrFun hm 2).trans ?_; show ((β (0 : Fin 3)).val * 64 + (β (2 : Fin 3)).val * 16 + (β (1 : Fin 3)).val) / 16 % 4 = (β (2 : Fin 3)).val; omega
  · have hy : y = ix3 0 (y (1 : Fin 3)) (y (2 : Fin 3)) := by
      funext a
      match a with
      | ⟨0, _⟩ => exact Subsingleton.elim (α := Fin 1) _ _
      | ⟨1, _⟩ => rfl
      | ⟨2, _⟩ => rfl
    have e : (show EReal from out0_6 (grid0.coords t) (iblk m c 0 t) (iblk m c 1 t) (iblk m c 2 t) (iblk m c 3 t) (iblk m c 4 t) (iblk m c 5 t) y)
        = G (rowIdx t (t.val % 16) (by omega) (y (1 : Fin 3)) (y (2 : Fin 3))) := by
      refine (congrArg (out0_6 (grid0.coords t) (iblk m c 0 t) (iblk m c 1 t) (iblk m c 2 t) (iblk m c 3 t) (iblk m c 4 t) (iblk m c 5 t)) hy).trans
        ((out_apply _ _ _ _ _ _ _ _ _).trans ?_)
      rw [coords_val]
      exact (hG t _ _).symm
    refine (congrFun (flushed6 m c t) y).trans (e.trans ?_)
    refine congrArg G (rowIdx_eq t _ (by omega) _ _ _ (map0_val t) _ ?_ rfl rfl).symm
    show _ = cc0_transform_0 (grid0.coords t) 0 * 1 + 1 * 0
    have : (y (0 : Fin 3)).val < 1 := (y (0 : Fin 3)).isLt
    show cc0_transform_0 (grid0.coords t) 0 * 1 + 1 * (y (0 : Fin 3)).val = _
    omega

end Cert.KernelIdeal.Attention

end
-- ==== Proof.AttRefTerm.lean ====
/- The attention's reference as one term of its arguments, named by its parts. -/
module

public import proofs.«01_k».proof.Proof.Gen.ReferenceIdeal.Run
public import proofs.«01_k».proof.Proof.AttMath

@[expose] public section

set_option maxRecDepth 16384

noncomputable section

namespace Cert.ReferenceIdeal.Attention

open Idealize.ShloMosaic Idealize.ShloMosaic.TcCoe
open Cert.ReferenceIdeal Cert.ReferenceIdeal.Gen Cert.ReferenceIdeal.Value

/-- Each chunk's first row. -/
def chunkRow : IVec S128 32 := muli (iotaInDim S128 32 0) (broadcastInDim S128 ![] bcast_S_S128 (constantI S_ 32 64#32))

/-- A start index's columns: the row to start from, and zero for the whole axes. -/
def rowCol (w : BitVec 32) : IVec S128x1 32 :=
  broadcastInDim S128x1 ![0] bcast_S128_S128x1_0 (select (cmpi .slt chunkRow (broadcastInDim S128 ![] bcast_S_S128 (constantI S_ 32 0#32)))
    (addi chunkRow (broadcastInDim S128 ![] bcast_S_S128 (constantI S_ 32 w))) chunkRow)
def zeroCol : IVec S128x1 32 := broadcastInDim S128x1 ![] bcast_S_S128x1 (constantI S_ 32 0#32)

/-- The start indices of the chunks' slices. -/
def chunkStarts (w : BitVec 32) : IVec S128x4 32 :=
  concatenate S128x4 1 [⟨S128x1, zeroCol⟩, ⟨S128x1, rowCol w⟩, ⟨S128x1, zeroCol⟩, ⟨S128x1, zeroCol⟩] concatenates_S128x1_S128x1_S128x1_S128x1_S128x4_d1

/-- An array's lanes split by head. -/
def byHead (x : FVec Ideal S4x8192x512 .bf16) : FVec Ideal S4x8192x8x64 .f32 :=
  shapeCast _ (extf .f32 x bitsLt_bf16_f32) shapeCasts_S4x8192x512_S4x8192x8x64

/-- That array behind 512 rows of zeros. -/
def padded (x : FVec Ideal S4x8192x8x64 .f32) : FVec Ideal S4x8704x8x64 .f32 :=
  pad S4x8704x8x64 ![0, 512, 0, 0] ![0, 0, 0, 0] ![0, 0, 0, 0] x (sitofp .f32 (constantI S_ 32 0#32)) pads_S4x8192x8x64_S4x8704x8x64_000_51200_000_000 h_S_

/-- Each chunk's rows, and each chunk's band. -/
def chunkRows (x : FVec Ideal S4x8192x8x64 .f32) (s : IVec S128x4 32) : FVec Ideal S128x4x64x8x64 .f32 :=
  Host.gather gather_S4x8192x8x64_S128x4_S128x4x64x8x64_1234_n_n_n_0123_1_464864 x s
def chunkBand (x : FVec Ideal S4x8704x8x64 .f32) (s : IVec S128x4 32) : FVec Ideal S128x4x576x8x64 .f32 :=
  Host.gather gather_S4x8704x8x64_S128x4_S128x4x576x8x64_1234_n_n_n_0123_1_4576864 x s

/-- Which of a chunk's band's keys lie in the sequence. -/
def inSequence : IVec S128x576 1 :=
  cmpi .sge (broadcastInDim S128x576 ![0, 1] bcast_S1x576_S128x576_0_1 (broadcastInDim S1x576 ![1] bcast_S576_S1x576_1 (iotaInDim S576 32 0)))
    (broadcastInDim S128x576 ![0, 1] bcast_S128x1_S128x576_0_1 (broadcastInDim S128x1 ![0] bcast_S128_S128x1_0
      (subi (broadcastInDim S128 ![] bcast_S_S128 (constantI S_ 32 512#32)) chunkRow)))

/-- The distance of a chunk's row to a column of its band, kept within 128 either way, counted from −128. -/
def clipped : IVec S64x576 32 :=
  addi (minsi (broadcastInDim S64x576 ![] bcast_S_S64x576 (id (constantI S_ 32 128#32))) (maxsi (broadcastInDim S64x576 ![] bcast_S_S64x576 (id (constantI S_ 32 4294967168#32)))
    (subi (broadcastInDim S64x576 ![0, 1] bcast_S64x1_S64x576_0_1 (addi (broadcastInDim S64x1 ![] bcast_S_S64x1 (constantI S_ 32 512#32))
        (broadcastInDim S64x1 ![0] bcast_S64_S64x1_0 (iotaInDim S64 32 0))))
      (broadcastInDim S64x576 ![0, 1] bcast_S1x576_S64x576_0_1 (broadcastInDim S1x576 ![1] bcast_S576_S1x576_1 (iotaInDim S576 32 0))))))
    (broadcastInDim S64x576 ![] bcast_S_S64x576 (constantI S_ 32 128#32))

/-- The bias table of a chunk. -/
def chunkBias (T : FVec Ideal S8x257 .f32) (a : IVec S64x576 32) : FVec Ideal S8x64x576 .f32 :=
  Host.gather gather_S8x257_S64x576x1_S8x64x576_0_1_n_n_1_2_81 T (broadcastInDim S64x576x1 ![0, 1] bcast_S64x576_S64x576x1_0_1
    (select (cmpi .slt a (broadcastInDim S64x576 ![] bcast_S_S64x576 (constantI S_ 32 0#32)))
      (addi a (broadcastInDim S64x576 ![] bcast_S_S64x576 (constantI S_ 32 257#32))) a))

/-- The scores. -/
def scores (v : IVec S128x576 1) (Q : FVec Ideal S128x4x64x8x64 .f32) (K : FVec Ideal S128x4x576x8x64 .f32) (B : FVec Ideal S8x64x576 .f32) :
    FVec Ideal S128x4x8x64x576 .f32 :=
  select (broadcastInDim S128x4x8x64x576 ![0, 1, 2, 3, 4] bcast_S128x1x1x1x576_S128x4x8x64x576_0_1_2_3_4
      (broadcastInDim S128x1x1x1x576 ![0, 4] bcast_S128x576_S128x1x1x1x576_0_4 v))
    (addf (Host.dotGeneral dot_S128x4x64x8x64_S128x4x576x8x64_S128x4x8x64x576_4_4_2_2_013_013 none Q K)
      (broadcastInDim S128x4x8x64x576 ![0, 1, 2, 3, 4] bcast_S1x1x8x64x576_S128x4x8x64x576_0_1_2_3_4
        (broadcastInDim S1x1x8x64x576 ![1, 2, 3, 4] bcast_S1x8x64x576_S1x1x8x64x576_1_2_3_4
          (broadcastInDim S1x8x64x576 ![1, 2, 3] bcast_S8x64x576_S1x8x64x576_1_2_3 B))))
    (broadcastInDim S128x4x8x64x576 ![1, 2, 3, 4] bcast_S4x8x64x576_S128x4x8x64x576_1_2_3_4
      (broadcastInDim S4x8x64x576 ![] bcast_S_S4x8x64x576 (id (constant S_ .f32 0xFF800000#32))))

/-- Each row's largest score. -/
def rowMax (s : FVec Ideal S128x4x8x64x576 .f32) : FVec Ideal S128x4x8x64 .f32 :=
  Host.reduce FloatOps.maximumf s (constant S_ .f32 0xFF800000#32) reducesTo_S128x4x8x64x576_S128x4x8x64_d4 h_S_

/-- The unnormalized weights. -/
def expScores (s : FVec Ideal S128x4x8x64x576 .f32) (M : FVec Ideal S128x4x8x64 .f32) : FVec Ideal S128x4x8x64x576 .f32 :=
  Host.exp (subf s (broadcastInDim S128x4x8x64x576 ![0, 1, 2, 3, 4] bcast_S128x4x8x64x1_S128x4x8x64x576_0_1_2_3_4
    (broadcastInDim S128x4x8x64x1 ![0, 1, 2, 3] bcast_S128x4x8x64_S128x4x8x64x1_0_1_2_3
      (maximumf (broadcastInDim S128x4x8x64 ![] bcast_S_S128x4x8x64 (constant S_ .f32 0xFF800000#32)) M))))

/-- The weights. -/
def normalized (w : FVec Ideal S128x4x8x64x576 .f32) : FVec Ideal S128x4x8x64x576 .f32 :=
  Host.divf w (broadcastInDim S128x4x8x64x576 ![0, 1, 2, 3, 4] bcast_S128x4x8x64x1_S128x4x8x64x576_0_1_2_3_4
    (broadcastInDim S128x4x8x64x1 ![0, 1, 2, 3] bcast_S128x4x8x64_S128x4x8x64x1_0_1_2_3
      (Host.reduceAdd w (constant S_ .f32 0x00000000#32) reducesTo_S128x4x8x64x576_S128x4x8x64_d4 h_S_)))

/-- The weighted values, put back in the sequence's order. -/
def gathered (V : FVec Ideal S128x4x576x8x64 .f32) (p : FVec Ideal S128x4x8x64x576 .f32) : FVec Ideal S4x8192x512 .bf16 :=
  truncf .bf16 (shapeCast _ (transpose S4x128x64x8x64 [1, 0, 2, 3, 4] (transpose S128x4x64x8x64 [0, 1, 4, 2, 3]
    (Host.dotGeneral dot_S128x4x576x8x64_S128x4x8x64x576_S128x4x8x64x64_2_4_4_3_013_012 none V p)
    transposes_S128x4x8x64x64_S128x4x64x8x64_0_1_4_2_3) transposes_S128x4x64x8x64_S4x128x64x8x64_1_0_2_3_4) shapeCasts_S4x128x64x8x64_S4x8192x512) bitsLt_bf16_f32

/-- The result from the scores. -/
def ofScores (V : FVec Ideal S128x4x576x8x64 .f32) (s : FVec Ideal S128x4x8x64x576 .f32) : FVec Ideal S4x8192x512 .bf16 :=
  gathered V (normalized (expScores s (rowMax s)))

/-- The result as one term of the arguments. -/
def refTerm (q k v : FVec Ideal S4x8192x512 .bf16) (T : FVec Ideal S8x257 .f32) : FVec Ideal S4x8192x512 .bf16 :=
  ofScores (chunkBand (padded (byHead v)) (chunkStarts 8704#32))
    (scores inSequence (chunkRows (byHead q) (chunkStarts 8192#32)) (chunkBand (padded (byHead k)) (chunkStarts 8704#32)) (chunkBias T clipped))

/-- The reference's result is that term of its arguments. -/
theorem res_eq (m : (ℓ : Loc nD τ sig) → Buf (Elt Ideal) ℓ) (c : Dev nD) :
    res_main_v93 m c = refTerm (m ((c : Thread nD τ).loc main_arg0)) (m ((c : Thread nD τ).loc main_arg1)) (m ((c : Thread nD τ).loc main_arg2))
      (m ((c : Thread nD τ).loc main_arg3)) := by
  with_unfolding_all rfl

end Cert.ReferenceIdeal.Attention

end
-- ==== Proof.AttRef.lean ====
/- The attention's reference at an index: the row's head over the chunk's band of 576 keys. -/
module

public import proofs.«01_k».proof.Proof.AttRefTerm
public import proofs.«01_k».proof.Proof.AttBias
public import proofs.«01_k».proof.Proof.AttMath

@[expose] public section

set_option maxRecDepth 16384

noncomputable section

namespace Cert.ReferenceIdeal.Attention

open Idealize.ShloMosaic Idealize.ShloMosaic.TcCoe
open Cert.ReferenceIdeal Cert.ReferenceIdeal.Gen Cert.ReferenceIdeal.Value Cert.Attention

theorem gathered_apply (V : FVec Ideal S128x4x576x8x64 .f32) (p : FVec Ideal S128x4x8x64x576 .f32) (b : Fin 4) (g : Fin 128) (r : Fin 64) (h : Fin 8) (d : Fin 64) :
    (show EReal from gathered V p (ix3 b ⟨g.val * 64 + r.val, by omega⟩ ⟨h.val * 64 + d.val, by omega⟩))
      = ∑ j : Fin 576, (show EReal from V (ix5 g b j h d)) * p (ix5 g b h r j) := by
  unfold gathered
  pointwise []

theorem normalized_apply (w : FVec Ideal S128x4x8x64x576 .f32) (g : Fin 128) (b : Fin 4) (h : Fin 8) (r : Fin 64) (j : Fin 576) :
    (show EReal from normalized w (ix5 g b h r j)) = Ideal.div (w (ix5 g b h r j)) (∑ k : Fin 576, (show EReal from w (ix5 g b h r k))) := by
  unfold normalized
  pointwise []

theorem fold_max {n : Nat} (f : Fin n → EReal) : max (⊥ : EReal) (Finset.fold max ⊥ f Finset.univ) = top f := max_bot_left _

theorem rowMax_apply (s : FVec Ideal S128x4x8x64x576 .f32) (g : Fin 128) (b : Fin 4) (h : Fin 8) (r : Fin 64) :
    (show EReal from rowMax s (ix4 g b h r)) = Finset.fold max (Ideal.ofBits .f32 0xFF800000#32) (fun k => (show EReal from s (ix5 g b h r k))) Finset.univ := by
  unfold rowMax
  pointwise []

theorem expScores_apply (s : FVec Ideal S128x4x8x64x576 .f32) (M : FVec Ideal S128x4x8x64 .f32) (g : Fin 128) (b : Fin 4) (h : Fin 8) (r : Fin 64) (j : Fin 576) :
    (show EReal from expScores s M (ix5 g b h r j)) = Ideal.exp ((show EReal from s (ix5 g b h r j)) - max (Ideal.ofBits .f32 0xFF800000#32) (M (ix4 g b h r))) := by
  unfold expScores
  pointwise []

/-- The result at an index, from the scores. -/
theorem ofScores_apply (V : FVec Ideal S128x4x576x8x64 .f32) (s : FVec Ideal S128x4x8x64x576 .f32) (b : Fin 4) (g : Fin 128) (r : Fin 64) (h : Fin 8) (d : Fin 64) :
    (show EReal from ofScores V s (ix3 b ⟨g.val * 64 + r.val, by omega⟩ ⟨h.val * 64 + d.val, by omega⟩))
      = attend (fun j => (show EReal from s (ix5 g b h r j))) (fun j => (show EReal from V (ix5 g b j h d))) := by
  have e : ∀ j, (show EReal from expScores s (rowMax s) (ix5 g b h r j)) = weight (fun k => (show EReal from s (ix5 g b h r k))) j := fun j => by
    refine (expScores_apply s (rowMax s) g b h r j).trans ?_
    unfold weight
    refine congrArg (fun x => Ideal.exp ((show EReal from s (ix5 g b h r j)) - x)) ?_
    refine (congrArg (max (Ideal.ofBits .f32 0xFF800000#32)) (rowMax_apply s g b h r)).trans ?_
    rw [show Ideal.ofBits .f32 0xFF800000#32 = (⊥ : EReal) from rfl]
    exact fold_max _
  unfold ofScores
  refine (gathered_apply V _ b g r h d).trans ?_
  unfold attend
  refine Finset.sum_congr rfl fun j _ => ?_
  rw [mul_comm]
  refine congrArg (· * (show EReal from V (ix5 g b j h d))) ((normalized_apply _ g b h r j).trans ?_)
  exact congr (congrArg Ideal.div (e j)) (Finset.sum_congr rfl fun k _ => e k)

theorem scores_apply (v : IVec S128x576 1) (Q : FVec Ideal S128x4x64x8x64 .f32) (K : FVec Ideal S128x4x576x8x64 .f32) (B : FVec Ideal S8x64x576 .f32)
    (g : Fin 128) (b : Fin 4) (h : Fin 8) (r : Fin 64) (j : Fin 576) :
    (show EReal from scores v Q K B (ix5 g b h r j)) = Scalar.select (v (ix2 g j))
      ((∑ d : Fin 64, (show EReal from Q (ix5 g b r h d)) * K (ix5 g b j h d)) + B (ix3 h r j)) ⊥ := by
  unfold scores
  pointwise []
  rfl

theorem byHead_apply (x : FVec Ideal S4x8192x512 .bf16) (b : Fin 4) (n : Fin 8192) (h : Fin 8) (d : Fin 64) :
    (show EReal from byHead x (ix4 b n h d)) = x (ix3 b n ⟨h.val * 64 + d.val, by omega⟩) := by
  unfold byHead
  pointwise []

theorem padded_apply (x : FVec Ideal S4x8192x8x64 .f32) (b : Fin 4) (n : Fin 8704) (h : Fin 8) (d : Fin 64) :
    (show EReal from padded x (ix4 b n h d)) = if hn : 512 ≤ n.val then x (ix4 b ⟨n.val - 512, by omega⟩ h d) else 0 := by
  unfold padded
  pointwise []
  by_cases hn : 512 ≤ n.val
  · rw [dif_pos ⟨hn, by omega⟩, dif_pos hn]
  · rw [dif_neg fun h => hn h.1, dif_neg hn]
    simp [FloatOps.sitofp]

theorem chunkBias_apply (T : FVec Ideal S8x257 .f32) (h : Fin 8) (r : Fin 64) (j : Fin 576) :
    (show EReal from chunkBias T clipped (ix3 h r j)) = biasOf T h (distWord r.val j.val) := by
  have hg := fun idx => gather_entry_apply gather_S8x257_S64x576x1_S8x64x576_0_1_n_n_1_2_81.wf (by decide) T idx h r j
  unfold chunkBias
  refine (hg _).trans ?_
  unfold biasOf columnWord distWord clipped
  pointwise []
  rfl

theorem chunkRow_word : ∀ g : Fin 128, (IntOp.muli (BitVec.ofNat 32 g.val) 64#32).toInt = 64 * g.val ∧
    IntOp.cmpi .slt (IntOp.muli (BitVec.ofNat 32 g.val) 64#32) 0#32 = 0#1 := by decide +kernel

theorem chunkStarts_word (w : BitVec 32) (g : Fin 128) : (chunkStarts w (ix2 g 1)).toInt = ((64 * g.val : Nat) : Int) := by
  have h : chunkStarts w (ix2 g 1) = rowCol w (ix2 g 0) :=
    concatenate_apply_piece (1 : Fin S128x4.rank) [⟨S128x1, zeroCol⟩, ⟨S128x1, rowCol w⟩, ⟨S128x1, zeroCol⟩, ⟨S128x1, zeroCol⟩]
      concatenates_S128x1_S128x1_S128x1_S128x1_S128x4_d1 (ix2 g 1) 1 (by simp) S128x1 (rowCol w) rfl rfl 1 rfl (ix2 g 0)
      (fun d hd => match d, hd with | ⟨0, _⟩, _ => rfl | ⟨1, _⟩, hd => absurd rfl hd) rfl
  rw [h]
  unfold rowCol chunkRow
  pointwise []
  rw [(chunkRow_word g).2]
  exact (chunkRow_word g).1.trans (by push_cast; rfl)

theorem inSequence_word : ∀ (g : Fin 128) (j : Fin 576),
    IntOp.cmpi .sge (BitVec.ofNat 32 j.val) (IntOp.subi 512#32 (IntOp.muli (BitVec.ofNat 32 g.val) 64#32))
      = if 512 ≤ 64 * g.val + j.val then 1#1 else 0#1 := by decide +kernel

theorem inSequence_apply (g : Fin 128) (j : Fin 576) : inSequence (ix2 g j) = if 512 ≤ 64 * g.val + j.val then 1#1 else 0#1 := by
  rw [← inSequence_word]
  unfold inSequence chunkRow
  pointwise []

theorem select_set {α : Type} (a b : α) : Scalar.select (1#1) a b = a := rfl

/-- A row's scores over its chunk's band. -/
def rowScore (q k : FVec Ideal S4x8192x512 .bf16) (T : FVec Ideal S8x257 .f32) (b : Fin 4) (g : Fin 128) (r : Fin 64) (h : Fin 8) (j : Fin 576) : EReal :=
  if hj : 512 ≤ 64 * g.val + j.val then
    (∑ d : Fin 64, (show EReal from q (ix3 b ⟨g.val * 64 + r.val, by omega⟩ ⟨h.val * 64 + d.val, by omega⟩))
      * k (ix3 b ⟨64 * g.val + j.val - 512, by omega⟩ ⟨h.val * 64 + d.val, by omega⟩)) + biasOf T h (distWord r.val j.val)
  else ⊥

/-- A lane's values over a chunk's band. -/
def bandValue (v : FVec Ideal S4x8192x512 .bf16) (b : Fin 4) (g : Fin 128) (l : Fin 512) (j : Fin 576) : EReal :=
  if hj : 512 ≤ 64 * g.val + j.val then v (ix3 b ⟨64 * g.val + j.val - 512, by omega⟩ l) else 0

theorem band_apply (x : FVec Ideal S4x8192x512 .bf16) (g : Fin 128) (b : Fin 4) (j : Fin 576) (h : Fin 8) (d : Fin 64) :
    (show EReal from chunkBand (padded (byHead x)) (chunkStarts 8704#32) (ix5 g b j h d)) = bandValue x b g ⟨h.val * 64 + d.val, by omega⟩ j := by
  unfold chunkBand
  refine (gather_slice_apply gather_S4x8704x8x64_S128x4_S128x4x576x8x64_1234_n_n_n_0123_1_4576864.wf _ _ g b j h d (64 * g.val)
    (chunkStarts_word _ g) (by omega)).trans ((padded_apply _ _ _ _ _).trans ?_)
  unfold bandValue
  by_cases hj : 512 ≤ 64 * g.val + j.val
  · rw [dif_pos hj, dif_pos hj]; exact byHead_apply x _ _ _ _
  · rw [dif_neg hj, dif_neg hj]

theorem rows_apply (x : FVec Ideal S4x8192x512 .bf16) (g : Fin 128) (b : Fin 4) (r : Fin 64) (h : Fin 8) (d : Fin 64) :
    (show EReal from chunkRows (byHead x) (chunkStarts 8192#32) (ix5 g b r h d)) = x (ix3 b ⟨g.val * 64 + r.val, by omega⟩ ⟨h.val * 64 + d.val, by omega⟩) := by
  unfold chunkRows
  refine (gather_slice_apply gather_S4x8192x8x64_S128x4_S128x4x64x8x64_1234_n_n_n_0123_1_464864.wf _ _ g b r h d (64 * g.val)
    (chunkStarts_word _ g) (by omega)).trans ((byHead_apply x _ _ _ _).trans ?_)
  refine congrArg (fun n => x (ix3 b n _)) (Fin.ext ?_)
  show 64 * g.val + r.val = g.val * 64 + r.val
  omega

/-- The reference at an index. -/
theorem refTerm_apply (q k v : FVec Ideal S4x8192x512 .bf16) (T : FVec Ideal S8x257 .f32) (b : Fin 4) (g : Fin 128) (r : Fin 64) (h : Fin 8) (d : Fin 64) :
    (show EReal from refTerm q k v T (ix3 b ⟨g.val * 64 + r.val, by omega⟩ ⟨h.val * 64 + d.val, by omega⟩))
      = attend (rowScore q k T b g r h) (bandValue v b g ⟨h.val * 64 + d.val, by omega⟩) := by
  unfold refTerm
  refine (ofScores_apply _ _ b g r h d).trans (congr (congrArg attend (funext fun j => ?_)) (funext fun j => band_apply v g b j h d))
  refine (scores_apply _ _ _ _ g b h r j).trans ?_
  rw [inSequence_apply]
  unfold rowScore
  by_cases hj : 512 ≤ 64 * g.val + j.val
  · rw [if_pos hj, dif_pos hj]
    refine (select_set _ _).trans
      (congr (congrArg HAdd.hAdd (Finset.sum_congr rfl fun d _ => ?_)) (chunkBias_apply T h r j))
    refine congr (congrArg HMul.hMul (rows_apply q g b r h d)) ((band_apply k g b j h d).trans ?_)
    unfold bandValue
    rw [dif_pos hj]
  · rw [if_neg hj, dif_neg hj]; rfl

end Cert.ReferenceIdeal.Attention

end
-- ==== Proof.ExpertsMath.lean ====
/- The experts' mathematics, free of both programs: one block's row through its expert, the gather that takes one table
   of a stack, and what the precondition says of the table of experts. -/
module

public import proofs.«01_k».proof.Pre_experts_named
public import proofs.«01_k».proof.Proof.Gen.Pre_experts_named
public import Idealize.ShloMosaic.Lib.Pipeline.ValueKit
public import Idealize.ShloMosaic.Lib.Pointwise
public import Idealize.ShloMosaic.Lib.ReduceAll

@[expose] public section

set_option maxRecDepth 16384

noncomputable section

namespace Cert.Experts

open Idealize.ShloMosaic

/-! ## The gather of one table of a stack -/

section Stack
variable {α : Type}

/-- The dimension numbers of taking, for each of `n` start indices, one whole `A × B` table of a stack of `N`. -/
abbrev stackDims (N A B n : Nat)
    (wf : GatherDims.WF ⟨3, ![N, A, B]⟩ ⟨2, ![n, 3]⟩ ⟨4, ![n, 1, A, B]⟩ [1, 2, 3] [] [] [0, 1, 2] [] 1 ![1, A, B]) :
    GatherDims ⟨3, ![N, A, B]⟩ ⟨2, ![n, 3]⟩ ⟨4, ![n, 1, A, B]⟩ where
  offsetDims := [1, 2, 3]
  collapsedSliceDims := []
  operandBatchingDims := []
  startIndicesBatchingDims := []
  startIndexMap := [0, 1, 2]
  indexVectorDim := 1
  sliceSizes := ![1, A, B]
  wf := wf

/-- That gather at an index: the table named by the first word of the start index, when the word is a table's number and
    the two others start at zero. -/
theorem gather_stack_apply {N A B n : Nat}
    (wf : GatherDims.WF ⟨3, ![N, A, B]⟩ ⟨2, ![n, 3]⟩ ⟨4, ![n, 1, A, B]⟩ [1, 2, 3] [] [] [0, 1, 2] [] 1 ![1, A, B])
    (x : (⟨3, ![N, A, B]⟩ : Shape).Idx → α) (idx : IVec ⟨2, ![n, 3]⟩ 32) (b : Fin n) (z : Fin 1) (r : Fin A) (l : Fin B) (e : Fin N)
    (he : (idx (ix2 b 0)).toInt = e.val) :
    Host.gather (stackDims N A B n wf) x idx (ix4 b z r l) = x (ix3 e r l) := by
  unfold Host.gather
  congr 1
  funext a
  refine Fin.ext ?_
  show (stackDims N A B n wf).start (ix4 b z r l) idx a + (stackDims N A B n wf).batchCoord (ix4 b z r l) a
    + (stackDims N A B n wf).offCoord (ix4 b z r l) a = _
  rw [GatherDims.batchCoord_eq_zero _ _ _ List.not_mem_nil]
  have hs := (stackDims N A B n wf).start_le (ix4 b z r l) idx a
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · unfold GatherDims.start
    rw [dif_pos (show (0 : Fin 3) ∈ (stackDims N A B n wf).startIndexMap from List.mem_cons_self)]
    have hsi : (stackDims N A B n wf).siIdx (ix4 b z r l) ⟨List.idxOf (0 : Fin 3) (stackDims N A B n wf).startIndexMap,
        List.idxOf_lt_length_iff.2 List.mem_cons_self⟩ = ix2 b 0 := by
      funext b; refine Fin.ext ?_
      match b with
      | ⟨0, _⟩ => rfl
      | ⟨1, _⟩ => rfl
    show min (idx ((stackDims N A B n wf).siIdx (ix4 b z r l) ⟨List.idxOf (0 : Fin 3) (stackDims N A B n wf).startIndexMap,
        List.idxOf_lt_length_iff.2 List.mem_cons_self⟩)).toInt.toNat (N - 1) + 0 + z.val = e.val
    rw [hsi, he]; have := e.isLt; have := z.isLt; omega
  · have : (stackDims N A B n wf).start (ix4 b z r l) idx 1 ≤ A - A := hs
    show (stackDims N A B n wf).start (ix4 b z r l) idx 1 + 0 + r.val = r.val
    omega
  · have : (stackDims N A B n wf).start (ix4 b z r l) idx 2 ≤ B - B := hs
    show (stackDims N A B n wf).start (ix4 b z r l) idx 2 + 0 + l.val = l.val
    omega

end Stack

/-! ## The precondition -/

/-- A word between 0 and 31, read signed, is its own value below 32. -/
theorem word_of_bounds (v : BitVec 32) (e : IntOp.andi (IntOp.cmpi .sge v 0#32) (IntOp.cmpi .slt v 32#32) = 1#1) : v.toNat < 32 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

open Cert.Pre_experts_named in
/-- The precondition says that every word of the first table is an expert's number. -/
theorem lt_of_pre [Pre_experts_named.Facts] {F : FTy → Type} [FloatOps F] (a0 : IVec S288 32) (a1 : IVec S1 32) (a2 : FVec F S73728x1024 .f32)
    (a3 a4 : FVec F S32x1024x512 .bf16) (a5 : FVec F S32x512x1024 .bf16)
    (h : Pre_experts_named.fn (F := F) a0 a1 a2 a3 a4 a5 = fun _ => 1#1) (x : S288.Idx) : (a0 x).toNat < 32 := by
  have e := congrFun h (fun a => a.elim0)
  unfold Pre_experts_named.fn at e
  haveI : Subsingleton S_.Idx := ⟨fun a b => funext fun i => i.elim0⟩
  have k := Host.reduce_andi_all _ _ _ _ _ e x
  simp only [andi, cmpi, broadcastInDim, constantI] at k
  exact word_of_bounds _ k

/-! ## One row of a block through its expert -/

/-- The hidden width's gated product: `silu(x·Wg) · (x·Wu)` of the row `x` at hidden column `f`. -/
def gatedRow (x : Fin 1024 → EReal) (wg wu : Fin 1024 → Fin 512 → EReal) (f : Fin 512) : EReal :=
  (∑ k, x k * wg k f) * Ideal.div 1 (1 + Ideal.exp (-(∑ k, x k * wg k f))) * ∑ k, x k * wu k f

/-- The expert's output of the row at output column `c`. -/
def expert (x : Fin 1024 → EReal) (wg wu : Fin 1024 → Fin 512 → EReal) (wd : Fin 512 → Fin 1024 → EReal) (c : Fin 1024) : EReal :=
  ∑ f, gatedRow x wg wu f * wd f c

end Cert.Experts

end
-- ==== Proof.AttEqual.lean ====
/- The attention's kernel and reference agree at every index when the queries, keys and biases are finite. -/
module

public import proofs.«01_k».proof.Proof.AttValue
public import proofs.«01_k».proof.Proof.AttRef
public import proofs.«01_k».proof.Pre_finite
public import proofs.«01_k».proof.Proof.ExpertsMath

@[expose] public section

set_option maxRecDepth 16384

noncomputable section

namespace Cert.Attention

open Idealize.ShloMosaic Idealize.ShloMosaic.TcCoe

/-! ## What the precondition says -/

theorem real_of_bit {x : EReal} (h : Ideal.cmp .olt (max x (-x)) ⊤ = 1#1) : IsReal x := by
  refine real_of_abs ?_
  by_contra hc
  simp [Ideal.cmp, hc] at h

open Cert.Pre_finite in
/-- Three bits that are all ones, one by one. -/
theorem bits_of_all [Pre_finite.Facts] (x y z : IVec S_ 1) (i : S_.Idx)
    (h : fn_part1 (F := Ideal) (concatenate S3 0 [⟨S1, broadcastInDim S1 ![] Pre_finite.Facts.bcast_S_S1 x⟩,
      ⟨S1, broadcastInDim S1 ![] Pre_finite.Facts.bcast_S_S1 y⟩, ⟨S1, broadcastInDim S1 ![] Pre_finite.Facts.bcast_S_S1 z⟩]
      Pre_finite.Facts.concatenates_S1_S1_S1_S3_d0) i = 1#1) : x i = 1#1 ∧ y i = 1#1 ∧ z i = 1#1 := by
  haveI : Subsingleton S_.Idx := ⟨fun a b => funext fun i => i.elim0⟩
  unfold fn_part1 at h
  have a := fun j => Host.reduce_andi_all _ _ _ _ _ h j
  have a0 := a (ix1 0)
  have a1 := a (ix1 1)
  have a2 := a (ix1 2)
  unfold concatenate at a0 a1 a2
  refine ⟨Eq.trans (congrArg x (Subsingleton.elim _ _)) a0, Eq.trans (congrArg y (Subsingleton.elim _ _)) a1, Eq.trans (congrArg z (Subsingleton.elim _ _)) a2⟩

open Cert.Pre_finite in
/-- The precondition makes every query, key and bias a real number. -/
theorem real_of_pre [Pre_finite.Facts] (q k v : FVec Ideal S4x8192x512 .bf16) (T : FVec Ideal S8x257 .f32)
    (h : Pre_finite.fn (F := Ideal) q k v T = fun _ => 1#1) :
    (∀ x, IsReal (q x)) ∧ (∀ x, IsReal (k x)) ∧ ∀ x, IsReal (T x) := by
  have e := congrFun h (fun a => a.elim0)
  unfold Pre_finite.fn at e
  haveI : Subsingleton S_.Idx := ⟨fun a b => funext fun i => i.elim0⟩
  obtain ⟨a0, a1, a2⟩ := bits_of_all _ _ _ _ e
  refine ⟨fun x => ?_, fun x => ?_, fun x => ?_⟩
  · exact real_of_bit (Host.reduce_andi_all _ _ _ _ _ a0 x)
  · exact real_of_bit (Host.reduce_andi_all _ _ _ _ _ a1 x)
  · exact real_of_bit (Host.reduce_andi_all _ _ _ _ _ a2 x)

end Cert.Attention

namespace Cert.KernelIdeal.Attention

open Idealize.ShloMosaic Idealize.ShloMosaic.TcCoe
open Cert.KernelIdeal Cert.KernelIdeal.Gen Cert.KernelIdeal.Value Cert.Attention Cert.ReferenceIdeal.Attention

/-- A band's row is the array's row, when the band's row is one of the sequence. -/
theorem bandRow_eq (t : Fin 256) (K : S4x8192x512.Idx → EReal) (x y : Vec Ideal S1x512x128 .bf16)
    (hx : ∀ r l, (show EReal from x (ix3 0 r l)) = K (rowIdx t (t.val % 16 - 1) (by omega) r l))
    (hy : ∀ r l, (show EReal from y (ix3 0 r l)) = K (rowIdx t (t.val % 16) (by omega) r l))
    (g : Fin 4) (j : Fin 640) (l : Fin 128) (p : Nat) (hp : p < 8192) (h : 512 * (t.val % 16) + 128 * g.val + j.val = p + 512) :
    bandRow x y g j l = K (ix3 ⟨t.val / 64, by omega⟩ ⟨p, hp⟩ ⟨128 * (t.val / 16 % 4) + l.val, by omega⟩) := by
  unfold bandRow
  by_cases hj : 128 * g.val + j.val < 512
  · rw [dif_pos hj]
    refine (hx _ l).trans (congrArg (fun n => K (ix3 _ n _)) (Fin.ext ?_))
    show 512 * (t.val % 16 - 1) + (128 * g.val + j.val) = p
    omega
  · rw [dif_neg hj]
    refine (hy _ l).trans (congrArg (fun n => K (ix3 _ n _)) (Fin.ext ?_))
    show 512 * (t.val % 16) + (128 * g.val + j.val - 512) = p
    omega

variable (m : (ℓ : Loc nD τ sig) → Buf (Elt Ideal) ℓ) (c : Dev nD)

theorem point (q k v : FVec Ideal S4x8192x512 .bf16) (T : FVec Ideal S8x257 .f32)
    (hq : q = m ((c : Thread nD τ).loc main_arg0)) (hk : k = m ((c : Thread nD τ).loc main_arg1))
    (hv : v = m ((c : Thread nD τ).loc main_arg2)) (hT : T = m ((c : Thread nD τ).loc main_arg3))
    (rq : ∀ x, IsReal (q x)) (rk : ∀ x, IsReal (k x)) (rT : ∀ x, IsReal (T x)) (t : Fin 256) (r : Fin 512) (l : Fin 128) :
    (show EReal from refTerm q k v T (rowIdx t (t.val % 16) (by omega) r l))
      = blockAt (t.val % 16) (iblk m c 0 t) (iblk m c 1 t) (iblk m c 2 t) (iblk m c 3 t) (iblk m c 4 t) (iblk m c 5 t) r l := by
  have hb : t.val / 64 < 4 := by omega
  have hg : 8 * (t.val % 16) + r.val / 64 < 128 := by omega
  have hh : 2 * (t.val / 16 % 4) + l.val / 64 < 8 := by omega
  have ei : rowIdx t (t.val % 16) (by omega) r l
      = ix3 ⟨t.val / 64, hb⟩ ⟨(8 * (t.val % 16) + r.val / 64) * 64 + r.val % 64, by omega⟩
          ⟨(2 * (t.val / 16 % 4) + l.val / 64) * 64 + l.val % 64, by omega⟩ := by
    unfold rowIdx
    congr 1
    · exact Fin.ext (by show 512 * (t.val % 16) + r.val = (8 * (t.val % 16) + r.val / 64) * 64 + r.val % 64; omega)
    · exact Fin.ext (by show 128 * (t.val / 16 % 4) + l.val = (2 * (t.val / 16 % 4) + l.val / 64) * 64 + l.val % 64; omega)
  refine (congrArg (refTerm q k v T) ei).trans ((refTerm_apply q k v T ⟨t.val / 64, hb⟩ ⟨8 * (t.val % 16) + r.val / 64, hg⟩
    ⟨r.val % 64, by omega⟩ ⟨2 * (t.val / 16 % 4) + l.val / 64, hh⟩ ⟨l.val % 64, by omega⟩).trans ?_)
  have hs : ∀ j, rowScore q k T ⟨t.val / 64, hb⟩ ⟨8 * (t.val % 16) + r.val / 64, hg⟩ ⟨r.val % 64, by omega⟩
      ⟨2 * (t.val / 16 % 4) + l.val / 64, hh⟩ j = ⊥ ∨ IsReal (rowScore q k T ⟨t.val / 64, hb⟩ ⟨8 * (t.val % 16) + r.val / 64, hg⟩
        ⟨r.val % 64, by omega⟩ ⟨2 * (t.val / 16 % 4) + l.val / 64, hh⟩ j) := fun j => by
    unfold rowScore
    by_cases hj : 512 ≤ 64 * (8 * (t.val % 16) + r.val / 64) + j.val
    · rw [dif_pos hj]; exact Or.inr (real_add (real_sum _ fun d _ => real_mul (rq _) (rk _)) (rT _))
    · rw [dif_neg hj]; exact Or.inl rfl
  have hlast : IsReal (rowScore q k T ⟨t.val / 64, hb⟩ ⟨8 * (t.val % 16) + r.val / 64, hg⟩ ⟨r.val % 64, by omega⟩
      ⟨2 * (t.val / 16 % 4) + l.val / 64, hh⟩ ⟨575, by omega⟩) := by
    unfold rowScore
    rw [dif_pos (show 512 ≤ 64 * (8 * (t.val % 16) + r.val / 64) + 575 by omega)]
    exact real_add (real_sum _ fun d _ => real_mul (rq _) (rk _)) (rT _)
  refine (attendLate_eq _ _ hs _ hlast).symm.trans ?_
  unfold blockAt
  refine (attendLate_band (64 * (r.val % 128 / 64)) (by omega) _ _ _ _ (fun j => ?_) (fun j hj => ?_) (fun i hi => ?_)).symm
  · unfold groupScore rowScore
    have ho : 512 * (t.val % 16) + 128 * (r.val / 128) + (64 * (r.val % 128 / 64) + j.val) = 64 * (8 * (t.val % 16) + r.val / 64) + j.val := by omega
    by_cases hj : 512 ≤ 64 * (8 * (t.val % 16) + r.val / 64) + j.val
    · rw [dif_pos hj, if_pos (show 512 ≤ 512 * (t.val % 16) + 128 * (r.val / 128) + (64 * (r.val % 128 / 64) + j.val) by omega)]
      refine congr (congrArg HAdd.hAdd (Finset.sum_congr rfl fun d _ => ?_)) ?_
      · refine congr (congrArg HMul.hMul ((iblk0_apply m c t r _).trans ?_)) ((bandRow_eq t (m ((c : Thread nD τ).loc main_arg1)) _ _
          (iblk1_apply m c t) (iblk2_apply m c t) _ _ _ (64 * (8 * (t.val % 16) + r.val / 64) + j.val - 512) (by omega)
          (by show 512 * (t.val % 16) + 128 * (r.val / 128) + (64 * (r.val % 128 / 64) + j.val) = _; omega)).trans ?_)
        · rw [← hq]
          refine congrArg₂ (fun n l => q (ix3 ⟨t.val / 64, hb⟩ n l)) (Fin.ext ?_) (Fin.ext ?_)
          · show 512 * (t.val % 16) + r.val = (8 * (t.val % 16) + r.val / 64) * 64 + r.val % 64; omega
          · show 128 * (t.val / 16 % 4) + (64 * (l.val / 64) + d.val) = (2 * (t.val / 16 % 4) + l.val / 64) * 64 + d.val; omega
        · rw [← hk]
          refine congrArg (fun l => k (ix3 _ _ l)) (Fin.ext ?_)
          show 128 * (t.val / 16 % 4) + (64 * (l.val / 64) + d.val) = (2 * (t.val / 16 % 4) + l.val / 64) * 64 + d.val; omega
      · refine (iblk5_apply m c t _ _ _ (by show t.val / 16 % 4 * 2 + l.val / 64 < 8; omega)).trans ((bias_apply m c _ _ _).trans ?_)
        rw [if_pos ⟨by show 64 * (r.val % 128 / 64) ≤ 64 * (r.val % 128 / 64) + j.val; omega,
          by show 64 * (r.val % 128 / 64) + j.val < 64 * (r.val % 128 / 64) + 576; omega⟩, ← hT]
        refine congr (congrArg (biasOf T) (Fin.ext ?_)) ?_
        · show t.val / 16 % 4 * 2 + l.val / 64 = 2 * (t.val / 16 % 4) + l.val / 64; omega
        · refine Eq.trans ?_ (distWord_add (64 * (r.val % 128 / 64)) (r.val % 64) j.val)
          refine congrArg (distWord · _) ?_
          show r.val % 128 = 64 * (r.val % 128 / 64) + r.val % 64; omega
    · rw [dif_neg hj, if_neg (show ¬ 512 ≤ 512 * (t.val % 16) + 128 * (r.val / 128) + (64 * (r.val % 128 / 64) + j.val) by omega)]
  · unfold rowScore at hj
    unfold bandValue
    by_cases hv' : 512 ≤ 64 * (8 * (t.val % 16) + r.val / 64) + j.val
    · rw [dif_pos hv']
      refine (bandRow_eq t (m ((c : Thread nD τ).loc main_arg2)) _ _
          (iblk3_apply m c t) (iblk4_apply m c t) _ _ _ (64 * (8 * (t.val % 16) + r.val / 64) + j.val - 512) (by omega)
          (by show 512 * (t.val % 16) + 128 * (r.val / 128) + (64 * (r.val % 128 / 64) + j.val) = _; omega)).trans ?_
      rw [← hv]
      refine congrArg (fun l => v (ix3 _ _ l)) (Fin.ext ?_)
      show 128 * (t.val / 16 % 4) + l.val = (2 * (t.val / 16 % 4) + l.val / 64) * 64 + l.val % 64; omega
    · exact absurd (dif_neg hv') hj
  · unfold groupScore
    by_cases hv' : 512 ≤ 512 * (t.val % 16) + 128 * (r.val / 128) + i.val
    · rw [if_pos hv']
      have e : (show EReal from iblk m c 5 t (ix3 ⟨l.val / 64, by omega⟩ ⟨r.val % 128, by omega⟩ i)) = ⊥ := by
        refine (iblk5_apply m c t _ _ _ (by show t.val / 16 % 4 * 2 + l.val / 64 < 8; omega)).trans ((bias_apply m c _ _ _).trans ?_)
        refine if_neg fun hc => ?_
        have h1 : 64 * (r.val % 128 / 64) ≤ i.val := hc.1
        have h2 : i.val < 64 * (r.val % 128 / 64) + 576 := hc.2
        omega
      exact (congrArg (HAdd.hAdd _) e).trans (EReal.add_bot _)
    · rw [if_neg hv']

end Cert.KernelIdeal.Attention

end
-- ==== Proof.NormMath.lean ====
/- A row's root mean square norm and its modulation, free of both programs. -/
module

public import Idealize.ShloMosaic.Lib.Pipeline.ValueKit
public import Idealize.ShloMosaic.Lib.Pointwise

@[expose] public section

set_option maxRecDepth 16384

noncomputable section

namespace Cert.Norm

open Idealize.ShloMosaic

/-- The mean of a row's squares, over the row's length as the programs write it. -/
def meanSquare {n : Nat} (len : EReal) (x : Fin n → EReal) : EReal := Ideal.div (∑ j, x j * x j) len

/-- The factor that brings a row's mean square to one. -/
def rowFactor {n : Nat} (len eps : EReal) (x : Fin n → EReal) : EReal := Ideal.rsqrt (meanSquare len x + eps)

/-- A normed row: each entry by the row's factor and the gain. -/
def normed {n : Nat} (len eps : EReal) (x g : Fin n → EReal) (j : Fin n) : EReal := x j * rowFactor len eps x * g j

/-- A normed row with its modulation. -/
def modulated {n : Nat} (len eps one : EReal) (x g scale shift : Fin n → EReal) (j : Fin n) : EReal :=
  normed len eps x g j * (one + scale j) + shift j

/-- A residual and a gated product of two mixers' rows with the two halves of a column. -/
def gated (x gate : EReal) (a b : Fin 512 → EReal) (w : Fin 1024 → EReal) : EReal :=
  x + gate * ((∑ l : Fin 512, a l * w ⟨l.val, by omega⟩) + ∑ l : Fin 512, b l * w ⟨512 + l.val, by omega⟩)

/-- A sum over 1024 columns, by halves. -/
theorem sum_halves (f : Fin 1024 → EReal) : ∑ k, f k = (∑ l : Fin 512, f ⟨l.val, by omega⟩) + ∑ l : Fin 512, f ⟨512 + l.val, by omega⟩ :=
  Fin.sum_univ_add (a := 512) (b := 512) f

end Cert.Norm

end
-- ==== Proof.InMath.lean ====
/- A head's norm by a product with zeros and ones, free of both programs. -/
module

public import proofs.«01_k».proof.Proof.NormMath
public import Idealize.ShloMosaic.Lib.IdealHost

@[expose] public section

set_option maxRecDepth 16384

noncomputable section

namespace Cert.Norm

open Idealize.ShloMosaic

/-- A row's product with a column, the row normed and modulated. -/
def projected (len eps one : EReal) (x g scale shift w : Fin 1024 → EReal) : EReal :=
  ∑ k : Fin 1024, modulated len eps one x g scale shift k * w k

/-- The columns of an entry's head. -/
def headCol (l : Fin 512) (d : Fin 64) : Fin 512 := ⟨64 * (l.val / 64) + d.val, by omega⟩

/-- An entry's place in its head. -/
def inHead (l : Fin 512) : Fin 64 := ⟨l.val % 64, by omega⟩

/-- The entry normed over its head. -/
def headNormed (len eps : EReal) (q : Fin 512 → EReal) (g : Fin 64 → EReal) (l : Fin 512) : EReal :=
  q l * Ideal.rsqrt (Ideal.div (∑ d : Fin 64, q (headCol l d) * q (headCol l d)) len + eps) * g (inHead l)

/-- A sum over all columns with one on the head's and zero elsewhere is the sum over the head's. -/
theorem sum_head (f : Fin 512 → EReal) (l : Fin 512) :
    (∑ c : Fin 512, f c * (if c.val / 64 = l.val / 64 then (1 : EReal) else 0)) = ∑ d : Fin 64, f (headCol l d) := by
  rw [← Equiv.sum_comp (finProdFinEquiv (m := 8) (n := 64)) (fun c : Fin 512 => f c * (if c.val / 64 = l.val / 64 then (1 : EReal) else 0)), Fintype.sum_prod_type,
    Finset.sum_eq_single (⟨l.val / 64, by omega⟩ : Fin 8)]
  · refine Finset.sum_congr rfl fun d _ => ?_
    have e : finProdFinEquiv ((⟨l.val / 64, by omega⟩ : Fin 8), d) = headCol l d := by
      refine Fin.ext ?_
      show d.val + 64 * (l.val / 64) = 64 * (l.val / 64) + d.val
      omega
    rw [e, if_pos, mul_one]
    show (64 * (l.val / 64) + d.val) / 64 = l.val / 64
    omega
  · intro h _ hne
    refine Finset.sum_eq_zero fun d _ => ?_
    rw [if_neg, mul_zero]
    intro e
    refine hne (Fin.ext ?_)
    have e' : (d.val + 64 * h.val) / 64 = l.val / 64 := e
    show h.val = l.val / 64
    omega
  · intro h
    exact absurd (Finset.mem_univ _) h

theorem ofBits_64 : Ideal.ofBits .f32 0x42800000#32 = ((64 : ℝ) : EReal) := by
  simp [Ideal.ofBits, Ideal.ieee, -EReal.coe_mul]
  norm_num

theorem ofBits_inv64 : Ideal.ofBits .f32 0x3C800000#32 = (((1 : ℝ) / 64 : ℝ) : EReal) := by
  simp [Ideal.ofBits, Ideal.ieee, -EReal.coe_mul]
  norm_num

/-- The mean over a head: by the inverse of its length, or over it. -/
theorem mean_head (x : EReal) : x * Ideal.ofBits .f32 0x3C800000#32 = Ideal.div x (Ideal.ofBits .f32 0x42800000#32) := by
  rw [ofBits_64, ofBits_inv64]
  have h : ((64 : ℝ) : EReal) ≠ 0 := by
    intro h
    exact absurd (EReal.coe_eq_zero.mp h) (by norm_num)
  unfold Ideal.div
  rw [if_neg h, ← EReal.coe_inv, one_div]

end Cert.Norm

end
-- ==== Proof.InBlock.lean ====
/- The input projection's blocks at an index: the normed and modulated rows against the weights, and the heads' norms. -/
module

public import proofs.«01_k».proof.Proof.Gen.Kernel3Ideal.Value
public import proofs.«01_k».proof.Proof.InMath

@[expose] public section

set_option maxRecDepth 16384

noncomputable section

namespace Cert.Kernel3Ideal.In

open Idealize.ShloMosaic Idealize.ShloMosaic.TcCoe
open Cert.Kernel3Ideal Cert.Kernel3Ideal.Gen Cert.Kernel3Ideal.Value Cert.Norm

/-- The shift and the scale among the modulation's six rows. -/
def shiftRow (d : Vec Ideal S1x6x1024 .f32) : Vec Ideal S1x1x1024 .f32 :=
  View.ld d (Rect.unit (s := S1x6x1024) ![0, 0, 0] S1x1x1024.size inb_S1x6x1024_S1x1x1024_0_0_0)

def scaleRow (d : Vec Ideal S1x6x1024 .f32) : Vec Ideal S1x1x1024 .f32 :=
  View.ld d (Rect.unit (s := S1x6x1024) ![0, 1, 0] S1x1x1024.size inb_S1x6x1024_S1x1x1024_0_1_0)

/-- The projected block; the queries, the keys and the values that it leaves. -/
def rows (x0 : Vec Ideal S1x512x1024 .f32) (x1 : Vec Ideal S1x6x1024 .f32) (x2 : Vec Ideal S1x1024 .f32) (x3 : Vec Ideal S1024x2048 .bf16) : FVec Ideal S512x2048 .f32 :=
  k0_pay3 x0 x2 (scaleRow x1) (shiftRow x1) x3

def queries (x0 : Vec Ideal S1x512x1024 .f32) (x1 : Vec Ideal S1x6x1024 .f32) (x2 : Vec Ideal S1x1024 .f32) (x3 : Vec Ideal S1024x2048 .bf16)
    (x6 : Vec Ideal S1x512 .f32) (x8 : Vec Ideal S512x512 .bf16) : FVec Ideal S1x512x512 .bf16 :=
  k0_pay8 (k0_pay5 x0 x2 (scaleRow x1) (shiftRow x1) x3) (k0_pay7 x0 x2 (scaleRow x1) (shiftRow x1) x3 x8) x6

def keys (x0 : Vec Ideal S1x512x1024 .f32) (x1 : Vec Ideal S1x6x1024 .f32) (x2 : Vec Ideal S1x1024 .f32) (x3 : Vec Ideal S1024x2048 .bf16)
    (x7 : Vec Ideal S1x512 .f32) (x8 : Vec Ideal S512x512 .bf16) : FVec Ideal S1x512x512 .bf16 :=
  k0_pay9 (k0_pay4 x8) (k0_pay6 x0 x2 (scaleRow x1) (shiftRow x1) x3) x7

def values (x0 : Vec Ideal S1x512x1024 .f32) (x1 : Vec Ideal S1x6x1024 .f32) (x2 : Vec Ideal S1x1024 .f32) (x3 : Vec Ideal S1024x2048 .bf16) : FVec Ideal S1x512x512 .bf16 :=
  k0_pay10 (rows x0 x1 x2 x3)

theorem zeros3 : (![0, 0, 0] : Fin 3 → Nat) = fun _ => 0 := by decide
theorem zeros2 : (![0, 0] : Fin 2 → Nat) = fun _ => 0 := by decide

section run

variable (c : Dev nD) (i : grid0.Coords) (arg2 : Memref sig .tc .vmem S1x512x1024 .f32) (harg2 : arg2.IsWhole) (arg3 : Memref sig .tc .vmem S1x6x1024 .f32) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S4x128x128 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S512x512 .bf16) (harg10 : arg10.IsWhole) (arg11 : Memref sig .tc .vmem S1x512x512 .bf16) (harg11 : arg11.IsWhole) (arg12 : Memref sig .tc .vmem S1x512x512 .bf16) (harg12 : arg12.IsWhole) (arg13 : Memref sig .tc .vmem S1x512x512 .bf16) (harg13 : arg13.IsWhole) (arg14 : Memref sig .tc .vmem S1x512x512 .bf16) (harg14 : arg14.IsWhole) (arg15 : Memref sig .tc .vmem S528x512 .f32) (harg15 : arg15.IsWhole)
  (x0 : Vec Ideal S1x512x1024 .f32) (x1 : Vec Ideal S1x6x1024 .f32) (x2 : Vec Ideal S1x1024 .f32) (x3 : Vec Ideal S1024x2048 .bf16) (x4 : Vec Ideal S4x128x128 .bf16) (x5 : Vec Ideal S1x512 .f32) (x6 : Vec Ideal S1x512 .f32) (x7 : Vec Ideal S1x512 .f32) (x8 : Vec Ideal S512x512 .bf16) (xs : Vec Ideal S528x512 .f32)

theorem out_A_10 (hc : cond0_0 i) : out0_A_10 c i arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 x8 = queries x0 x1 x2 x3 x6 x8 := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 x8)]
  unfold kernelRun0_A
  dsimp only
  sl_unfold_words
  rw [View.canon_unit_zero (S := S1x512x512) zeros3]
  simp only [View.readAt_eq_ld, harg2.read_unread, harg3.read_unread, harg4.read_unread, harg5.read_unread, harg8.read_unread, harg9.read_unread, harg10.read_unread,
    View.ld_unit_zero (S := S1x512x1024) zeros3, View.ld_unit_zero (S := S1024x2048) zeros2, View.ld_unit_zero (S := S1x1024) zeros2,
    View.ld_unit_zero (S := S1x512) zeros2, View.ld_unit_zero (S := S512x512) zeros2]
  rfl

theorem out_A_11 (hc : cond0_0 i) : out0_A_11 c i arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 x8 = keys x0 x1 x2 x3 x7 x8 := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 x8)]
  unfold kernelRun0_A
  dsimp only
  sl_unfold_words
  rw [View.canon_unit_zero (S := S1x512x512) zeros3]
  simp only [View.readAt_eq_ld, harg2.read_unread, harg3.read_unread, harg4.read_unread, harg5.read_unread, harg8.read_unread, harg9.read_unread, harg10.read_unread,
    View.ld_unit_zero (S := S1x512x1024) zeros3, View.ld_unit_zero (S := S1024x2048) zeros2, View.ld_unit_zero (S := S1x1024) zeros2,
    View.ld_unit_zero (S := S1x512) zeros2, View.ld_unit_zero (S := S512x512) zeros2]
  rfl

theorem out_A_12 (hc : cond0_0 i) : out0_A_12 c i arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 x8 = values x0 x1 x2 x3 := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 x8)]
  unfold kernelRun0_A
  dsimp only
  sl_unfold_words
  rw [View.canon_unit_zero (S := S1x512x512) zeros3]
  simp only [View.readAt_eq_ld, harg2.read_unread, harg3.read_unread, harg4.read_unread, harg5.read_unread, harg8.read_unread, harg9.read_unread, harg10.read_unread,
    View.ld_unit_zero (S := S1x512x1024) zeros3, View.ld_unit_zero (S := S1024x2048) zeros2, View.ld_unit_zero (S := S1x1024) zeros2,
    View.ld_unit_zero (S := S1x512) zeros2, View.ld_unit_zero (S := S512x512) zeros2]
  rfl

theorem out_B_10 (hc : ¬cond0_0 i) : out0_B_10 c i arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 x8 xs = queries x0 x1 x2 x3 x6 x8 := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 x8 xs)]
  unfold kernelRun0_B
  dsimp only
  sl_unfold_words
  rw [View.canon_unit_zero (S := S1x512x512) zeros3]
  simp only [View.readAt_eq_ld, harg2.read_unread, harg3.read_unread, harg4.read_unread, harg5.read_unread, harg8.read_unread, harg9.read_unread, harg10.read_unread,
    View.ld_unit_zero (S := S1x512x1024) zeros3, View.ld_unit_zero (S := S1024x2048) zeros2, View.ld_unit_zero (S := S1x1024) zeros2,
    View.ld_unit_zero (S := S1x512) zeros2, View.ld_unit_zero (S := S512x512) zeros2]
  rfl

theorem out_B_11 (hc : ¬cond0_0 i) : out0_B_11 c i arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 x8 xs = keys x0 x1 x2 x3 x7 x8 := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 x8 xs)]
  unfold kernelRun0_B
  dsimp only
  sl_unfold_words
  rw [View.canon_unit_zero (S := S1x512x512) zeros3]
  simp only [View.readAt_eq_ld, harg2.read_unread, harg3.read_unread, harg4.read_unread, harg5.read_unread, harg8.read_unread, harg9.read_unread, harg10.read_unread,
    View.ld_unit_zero (S := S1x512x1024) zeros3, View.ld_unit_zero (S := S1024x2048) zeros2, View.ld_unit_zero (S := S1x1024) zeros2,
    View.ld_unit_zero (S := S1x512) zeros2, View.ld_unit_zero (S := S512x512) zeros2]
  rfl

theorem out_B_12 (hc : ¬cond0_0 i) : out0_B_12 c i arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 x8 xs = values x0 x1 x2 x3 := by
  unfold out0_B_12
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 x8 xs)]
  unfold kernelRun0_B
  dsimp only
  sl_unfold_words
  rw [View.canon_unit_zero (S := S1x512x512) zeros3]
  simp only [View.readAt_eq_ld, harg2.read_unread, harg3.read_unread, harg4.read_unread, harg5.read_unread, harg8.read_unread, harg9.read_unread, harg10.read_unread,
    View.ld_unit_zero (S := S1x512x1024) zeros3, View.ld_unit_zero (S := S1024x2048) zeros2, View.ld_unit_zero (S := S1x1024) zeros2,
    View.ld_unit_zero (S := S1x512) zeros2, View.ld_unit_zero (S := S512x512) zeros2]
  rfl

end run

/-- The projected block, over the rows of the modulation that it reads. -/
theorem rows_pay (x0 : Vec Ideal S1x512x1024 .f32) (sc sh : Vec Ideal S1x1x1024 .f32) (x2 : Vec Ideal S1x1024 .f32) (x3 : Vec Ideal S1024x2048 .bf16) (r : Fin 512) (j : Fin 2048) :
    (show EReal from k0_pay3 x0 x2 sc sh x3 (ix2 r j))
      = projected (Ideal.ofBits .f32 0x44800000#32) (Ideal.ofBits .f32 0x358637BD#32) (Ideal.ofBits .f32 0x3F800000#32)
          (fun k => x0 (ix3 0 r k)) (fun k => x2 (ix2 0 k)) (fun k => sc (ix3 0 0 k)) (fun k => sh (ix3 0 0 k)) (fun k => x3 (ix2 k j)) := by
  unfold k0_pay3 projected modulated normed rowFactor meanSquare
  pointwise []

theorem rows_apply (x0 : Vec Ideal S1x512x1024 .f32) (x1 : Vec Ideal S1x6x1024 .f32) (x2 : Vec Ideal S1x1024 .f32) (x3 : Vec Ideal S1024x2048 .bf16) (r : Fin 512) (j : Fin 2048) :
    (show EReal from rows x0 x1 x2 x3 (ix2 r j))
      = projected (Ideal.ofBits .f32 0x44800000#32) (Ideal.ofBits .f32 0x358637BD#32) (Ideal.ofBits .f32 0x3F800000#32)
          (fun k => x0 (ix3 0 r k)) (fun k => x2 (ix2 0 k)) (fun k => x1 (ix3 0 1 k)) (fun k => x1 (ix3 0 0 k)) (fun k => x3 (ix2 k j)) := by
  refine (rows_pay x0 (scaleRow x1) (shiftRow x1) x2 x3 r j).trans ?_
  refine congr (congr (congrArg (projected _ _ _ _ _) (funext fun k => ?_)) (funext fun k => ?_)) rfl
  · exact congrArg x1 (by ext a; match a with | ⟨0, _⟩ => rfl | ⟨1, _⟩ => rfl | ⟨2, _⟩ => (show 0 + 1 * k.val = k.val; omega))
  · exact congrArg x1 (by ext a; match a with | ⟨0, _⟩ => rfl | ⟨1, _⟩ => rfl | ⟨2, _⟩ => (show 0 + 1 * k.val = k.val; omega))

/-- The stored values, queries and keys over the projected block. -/
theorem values_pay (Z : FVec Ideal S512x2048 .f32) (r l : Fin 512) : (show EReal from k0_pay10 Z (ix3 0 r l)) = Z (ix2 r ⟨1536 + l.val, by omega⟩) := by
  unfold k0_pay10
  pointwise []

def headBlock (Q S : FVec Ideal S512x512 .f32) (g : Vec Ideal S1x512 .f32) : FVec Ideal S1x512x512 .bf16 := k0_pay8 Q S g

theorem head_pay (Q S : FVec Ideal S512x512 .f32) (g : Vec Ideal S1x512 .f32) (r l : Fin 512) :
    (show EReal from headBlock Q S g (ix3 0 r l))
      = (show EReal from Q (ix2 r l)) * Ideal.rsqrt ((show EReal from S (ix2 r l)) * Ideal.ofBits .f32 0x3C800000#32 + Ideal.ofBits .f32 0x358637BD#32) * g (ix2 0 l) := by
  unfold headBlock k0_pay8
  pointwise []

/-- The squares' product with the heads' zeros and ones. -/
def squares (Q : FVec Ideal S512x512 .f32) (d : Vec Ideal S512x512 .bf16) : FVec Ideal S512x512 .f32 :=
  matmul dot_S512x512_S512x512_S512x512_1_0_0_1_n_n none (truncf .bf16 (mulf Q Q) bitsLt_bf16_f32) (k0_pay4 d) (constant S512x512 .f32 0x00000000#32)

theorem squares_apply (Q : FVec Ideal S512x512 .f32) (d : Vec Ideal S512x512 .bf16) (r l : Fin 512) :
    (show EReal from squares Q d (ix2 r l)) = ∑ k : Fin 512, ((show EReal from Q (ix2 r k)) * (show EReal from Q (ix2 r k))) * d (ix2 k l) := by
  unfold squares k0_pay4
  pointwise []

/-- A block's head norm, its zeros and ones and its gain those of the heads. -/
theorem head_apply (Q : FVec Ideal S512x512 .f32) (d : Vec Ideal S512x512 .bf16) (g : Vec Ideal S1x512 .f32) (gain : Fin 64 → EReal)
    (hd : ∀ k l : Fin 512, (show EReal from d (ix2 k l)) = if k.val / 64 = l.val / 64 then (1 : EReal) else 0)
    (hg : ∀ l : Fin 512, (show EReal from g (ix2 0 l)) = gain (inHead l)) (r l : Fin 512) :
    (show EReal from headBlock Q (squares Q d) g (ix3 0 r l))
      = headNormed (Ideal.ofBits .f32 0x42800000#32) (Ideal.ofBits .f32 0x358637BD#32) (fun k => (show EReal from Q (ix2 r k))) gain l := by
  refine (head_pay Q (squares Q d) g r l).trans ?_
  unfold headNormed
  have e : (show EReal from squares Q d (ix2 r l)) = ∑ k : Fin 64, (show EReal from Q (ix2 r (headCol l k))) * (show EReal from Q (ix2 r (headCol l k))) :=
    (squares_apply Q d r l).trans ((Finset.sum_congr rfl fun k _ => congrArg (_ * ·) (hd k l)).trans
      (sum_head (fun k => (show EReal from Q (ix2 r k)) * (show EReal from Q (ix2 r k))) l))
  refine congr (congrArg HMul.hMul (congrArg ((show EReal from Q (ix2 r l)) * ·) (congrArg (fun s => Ideal.rsqrt (s + _)) ?_))) (hg l)
  exact (congrArg (· * _) e).trans (mean_head _)

/-- The two column ranges. -/
theorem cols_q (Z : FVec Ideal S512x2048 .f32) (r l : Fin 512) :
    (show EReal from extractStridedSlice S512x512 ![0, 512] Z slices_S512x2048_o0_512_S512x512 (ix2 r l)) = Z (ix2 r ⟨512 + l.val, by omega⟩) := by
  pointwise []

theorem cols_k (Z : FVec Ideal S512x2048 .f32) (r l : Fin 512) :
    (show EReal from extractStridedSlice S512x512 ![0, 1024] Z slices_S512x2048_o0_1024_S512x512 (ix2 r l)) = Z (ix2 r ⟨1024 + l.val, by omega⟩) := by
  pointwise []

theorem queries_eq (x0 : Vec Ideal S1x512x1024 .f32) (x1 : Vec Ideal S1x6x1024 .f32) (x2 : Vec Ideal S1x1024 .f32) (x3 : Vec Ideal S1024x2048 .bf16)
    (x6 : Vec Ideal S1x512 .f32) (x8 : Vec Ideal S512x512 .bf16) :
    queries x0 x1 x2 x3 x6 x8 = headBlock (extractStridedSlice S512x512 ![0, 512] (rows x0 x1 x2 x3) slices_S512x2048_o0_512_S512x512)
      (squares (extractStridedSlice S512x512 ![0, 512] (rows x0 x1 x2 x3) slices_S512x2048_o0_512_S512x512) x8) x6 := rfl

theorem keys_eq (x0 : Vec Ideal S1x512x1024 .f32) (x1 : Vec Ideal S1x6x1024 .f32) (x2 : Vec Ideal S1x1024 .f32) (x3 : Vec Ideal S1024x2048 .bf16)
    (x7 : Vec Ideal S1x512 .f32) (x8 : Vec Ideal S512x512 .bf16) :
    keys x0 x1 x2 x3 x7 x8 = headBlock (extractStridedSlice S512x512 ![0, 1024] (rows x0 x1 x2 x3) slices_S512x2048_o0_1024_S512x512)
      (squares (extractStridedSlice S512x512 ![0, 1024] (rows x0 x1 x2 x3) slices_S512x2048_o0_1024_S512x512) x8) x7 := rfl

end Cert.Kernel3Ideal.In

end
-- ==== Proof.InValue.lean ====
/- What the input projection's pipeline of `Kernel3Ideal` leaves in its queries, keys and values at an index. -/
module

public import proofs.«01_k».proof.Proof.InBlock
public import Idealize.ShloMosaic.Lib.Pipeline.Covers

@[expose] public section

set_option maxRecDepth 16384

noncomputable section

namespace Cert.Kernel3Ideal.In

open Idealize.ShloMosaic Idealize.ShloMosaic.TcCoe
open Cert.Kernel3Ideal Cert.Kernel3Ideal.Gen Cert.Kernel3Ideal.Value Cert.Norm

/-- A grid point's blocks: the sequence and the block of rows, or the sequence alone. -/
theorem map0_val (t : Fin grid0.N) : cc0_transform_0 (grid0.coords t) = ![t.val / 16, t.val % 16, 0] :=
  (by decide +kernel : ∀ t : Fin grid0.N, cc0_transform_0 (grid0.coords t) = ![t.val / 16, t.val % 16, 0]) t

theorem map1_val (t : Fin grid0.N) : cc0_transform_1 (grid0.coords t) = ![t.val / 16, 0, 0] :=
  (by decide +kernel : ∀ t : Fin grid0.N, cc0_transform_1 (grid0.coords t) = ![t.val / 16, 0, 0]) t

/-- An index of an array of rows of width `n`, from a block's index. -/
abbrev rowIdx (n : Nat) (t : Fin 64) (r : Fin 512) (l : Fin n) : (⟨3, ![4, 8192, n]⟩ : Shape).Idx :=
  ix3 ⟨t.val / 16, by omega⟩ ⟨512 * (t.val % 16) + r.val, by omega⟩ l

theorem rowIdx_eq (n : Nat) (t : Fin 64) (r : Fin 512) (l : Fin n) (f : Fin 3 → Nat) (hf : f = ![t.val / 16, t.val % 16, 0])
    (idx : (⟨3, ![4, 8192, n]⟩ : Shape).Idx) (e0 : (idx (0 : Fin 3)).val = f 0 * 1 + 1 * 0) (e1 : (idx (1 : Fin 3)).val = f 1 * 512 + 1 * r.val)
    (e2 : (idx (2 : Fin 3)).val = f 2 * n + 1 * l.val) : idx = rowIdx n t r l := by
  subst hf
  funext a
  refine Fin.ext ?_
  match a with
  | ⟨0, _⟩ => exact e0.trans (by show t.val / 16 * 1 + 1 * 0 = t.val / 16; omega)
  | ⟨1, _⟩ => exact e1.trans (by show t.val % 16 * 512 + 1 * r.val = 512 * (t.val % 16) + r.val; omega)
  | ⟨2, _⟩ => exact e2.trans (by show 0 * n + 1 * l.val = l.val; omega)

/-- The head of each column, as the host code's words. -/
def colNo : IVec S512 32 := iotaInDim S512 32 0

abbrev overCols (x : IVec S_ 32) : IVec S512 32 := broadcastInDim S512 ![] bcast_S_S512 x

def headNo : IVec S512 32 :=
  select (andi (cmpi .ne (signi colNo) (overCols (signi (id (constantI S_ 32 64#32)))))
      (cmpi .ne (Host.remsi colNo (overCols (id (constantI S_ 32 64#32)))) (overCols (constantI S_ 32 0#32))))
    (subi (Host.divsi colNo (overCols (id (constantI S_ 32 64#32)))) (overCols (constantI S_ 32 1#32)))
    (Host.divsi colNo (overCols (id (constantI S_ 32 64#32))))

/-- One where two columns are of one head, zero elsewhere. -/
def sameHead (h : IVec S512 32) : FVec Ideal S512x512 .bf16 :=
  uitofp .bf16 (cmpi .eq (broadcastInDim S512x512 ![0, 1] bcast_S512x1_S512x512_0_1 (broadcastInDim S512x1 ![0] bcast_S512_S512x1_0 h))
    (broadcastInDim S512x512 ![0, 1] bcast_S1x512_S512x512_0_1 (broadcastInDim S1x512 ![1] bcast_S512_S1x512_1 h)))

/-- A head's gain over the heads, without and with the softmax scale. -/
def tiled (g : FVec Ideal S64 .f32) : FVec Ideal S512 .f32 :=
  shapeCast S512 (broadcastInDim S8x64 ![0, 1] bcast_S1x64_S8x64_0_1 (shapeCast S1x64 g shapeCasts_S64_S1x64)) shapeCasts_S8x64_S512

def gainQ (g : FVec Ideal S64 .f32) : FVec Ideal S1x512 .f32 :=
  shapeCast S1x512 (mulf (tiled g) (broadcastInDim S512 ![] bcast_S_S512 (constant S_ .f32 0x3E000000#32))) shapeCasts_S512_S1x512

def gainK (g : FVec Ideal S64 .f32) : FVec Ideal S1x512 .f32 := shapeCast S1x512 (tiled g) shapeCasts_S512_S1x512

theorem headNo_apply : ∀ l : Fin 512, headNo (ix1 l) = BitVec.ofNat 32 (l.val / 64) := by decide +kernel

theorem sameHead_apply (h : IVec S512 32) (k l : Fin 512) :
    (show EReal from sameHead h (ix2 k l)) = if h (ix1 k) = h (ix1 l) then (1 : EReal) else 0 := by
  unfold sameHead
  pointwise []
  by_cases e : h (ix1 k) = h (ix1 l)
  · rw [if_pos e, e]
    simp [FloatOps.uitofp, IntOp.cmpi]
  · rw [if_neg e]
    simp [FloatOps.uitofp, IntOp.cmpi, e]

theorem ones_apply (k l : Fin 512) : (show EReal from sameHead headNo (ix2 k l)) = if k.val / 64 = l.val / 64 then (1 : EReal) else 0 := by
  refine (sameHead_apply headNo k l).trans ?_
  rw [headNo_apply k, headNo_apply l]
  refine if_congr ⟨fun e => ?_, fun e => by rw [e]⟩ rfl rfl
  have e' := congrArg BitVec.toNat e
  rw [BitVec.toNat_ofNat, BitVec.toNat_ofNat] at e'
  omega

theorem tiled_apply (g : FVec Ideal S64 .f32) (l : Fin 512) : (show EReal from tiled g (ix1 l)) = g (ix1 (inHead l)) := by
  unfold tiled
  pointwise []
  rfl

theorem gainQ_apply (g : FVec Ideal S64 .f32) (l : Fin 512) : (show EReal from gainQ g (ix2 0 l)) = (show EReal from g (ix1 (inHead l))) * Ideal.ofBits .f32 0x3E000000#32 := by
  have e : ∀ T : FVec Ideal S512 .f32, (show EReal from shapeCast S1x512 (mulf T (broadcastInDim S512 ![] bcast_S_S512 (constant S_ .f32 0x3E000000#32))) shapeCasts_S512_S1x512 (ix2 0 l))
      = (show EReal from T (ix1 l)) * Ideal.ofBits .f32 0x3E000000#32 := by
    intro T
    pointwise []
  exact (e (tiled g)).trans (congrArg (· * _) (tiled_apply g l))

theorem gainK_apply (g : FVec Ideal S64 .f32) (l : Fin 512) : (show EReal from gainK g (ix2 0 l)) = g (ix1 (inHead l)) := by
  have e : ∀ T : FVec Ideal S512 .f32, (show EReal from shapeCast S1x512 T shapeCasts_S512_S1x512 (ix2 0 l)) = T (ix1 l) := by
    intro T
    pointwise []
  exact (e (tiled g)).trans (tiled_apply g l)

variable (m : (ℓ : Loc nD τ sig) → Buf (Elt Ideal) ℓ) (c : Dev nD)

set_option maxHeartbeats 4000000 in
/-- The zeros and ones the kernel is entered with. -/
theorem V_ones : V m c main_v7 = sameHead headNo := by
  unfold V
  simp only [hostOps0, hostOps0_1, hostOps0_2, List.flatten_cons, List.flatten_nil, List.append_nil, List.cons_append, List.nil_append,
    StableHlo.TRef.binary, StableHlo.TRef.ternary, StableHlo.TRef.unary, StableHlo.TRef.nullary, StableHlo.TRef.toBuf, StableHlo.TRef.ofBuf, cast_eq]
  after_results_simp
  rfl

set_option maxHeartbeats 4000000 in
/-- The queries' gain. -/
theorem V_gainQ : V m c main_v13 = gainQ (m ((c : Thread nD τ).loc main_arg6)) := by
  unfold V
  simp only [hostOps0, hostOps0_1, hostOps0_2, List.flatten_cons, List.flatten_nil, List.append_nil, List.cons_append, List.nil_append,
    StableHlo.TRef.binary, StableHlo.TRef.ternary, StableHlo.TRef.unary, StableHlo.TRef.nullary, StableHlo.TRef.toBuf, StableHlo.TRef.ofBuf, cast_eq]
  after_results_simp
  rfl

set_option maxHeartbeats 4000000 in
/-- The keys' gain. -/
theorem V_gainK : V m c main_v17 = gainK (m ((c : Thread nD τ).loc main_arg7)) := by
  unfold V
  simp only [hostOps0, hostOps0_1, hostOps0_2, List.flatten_cons, List.flatten_nil, List.append_nil, List.cons_append, List.nil_append,
    StableHlo.TRef.binary, StableHlo.TRef.ternary, StableHlo.TRef.unary, StableHlo.TRef.nullary, StableHlo.TRef.toBuf, StableHlo.TRef.ofBuf, cast_eq]
  after_results_simp
  rfl

set_option maxHeartbeats 4000000 in
/-- The rows' gain. -/
theorem V_gain : V m c main_v18 = shapeCast S1x1024 (m ((c : Thread nD τ).loc main_arg2)) shapeCasts_S1024_S1x1024 := by
  unfold V
  simp only [hostOps0, hostOps0_1, hostOps0_2, List.flatten_cons, List.flatten_nil, List.append_nil, List.cons_append, List.nil_append,
    StableHlo.TRef.binary, StableHlo.TRef.ternary, StableHlo.TRef.unary, StableHlo.TRef.nullary, StableHlo.TRef.toBuf, StableHlo.TRef.ofBuf, cast_eq]
  after_results_simp
  rfl

set_option maxHeartbeats 4000000 in
/-- The weights. -/
theorem V_weights : V m c main_v19 = truncf (F := Ideal) (s := S1024x2048) (φ := .f32) .bf16 (m ((c : Thread nD τ).loc main_arg3)) bitsLt_bf16_f32 := by
  unfold V
  simp only [hostOps0, hostOps0_1, hostOps0_2, List.flatten_cons, List.flatten_nil, List.append_nil, List.cons_append, List.nil_append,
    StableHlo.TRef.binary, StableHlo.TRef.ternary, StableHlo.TRef.unary, StableHlo.TRef.nullary, StableHlo.TRef.toBuf, StableHlo.TRef.ofBuf, cast_eq]
  after_results_simp

/-- The blocks at a point, of the arguments. -/
theorem iblk0_apply (t : Fin cfg0.N) (r : Fin 512) (l : Fin 1024) :
    (show EReal from iblk m c 0 t (ix3 0 r l)) = m ((c : Thread nD τ).loc main_arg0) (rowIdx 1024 t r l) :=
  (congrArg (V m c main_arg0) (rowIdx_eq 1024 t r l _ (map0_val t) _ rfl rfl rfl)).trans (congrFun (V_main_arg0 m c) _)

theorem iblk1_apply (t : Fin cfg0.N) (a : Fin 6) (l : Fin 1024) (h : t.val / 16 < 4) :
    (show EReal from iblk m c 1 t (ix3 0 a l)) = m ((c : Thread nD τ).loc main_arg1) (ix3 ⟨t.val / 16, h⟩ a l) := by
  refine (congrArg (V m c main_arg1) (funext fun b => Fin.ext ?_)).trans (congrFun (V_main_arg1 m c) _)
  match b with
  | ⟨0, _⟩ => show cc0_transform_1 (grid0.coords t) 0 * 1 + 1 * 0 = t.val / 16; rw [map1_val t]; show t.val / 16 * 1 + 1 * 0 = t.val / 16; omega
  | ⟨1, _⟩ => show cc0_transform_1 (grid0.coords t) 1 * 6 + 1 * a.val = a.val; rw [map1_val t]; show 0 * 6 + 1 * a.val = a.val; omega
  | ⟨2, _⟩ => show cc0_transform_1 (grid0.coords t) 2 * 1024 + 1 * l.val = l.val; rw [map1_val t]; show 0 * 1024 + 1 * l.val = l.val; omega

theorem gain_apply (g : FVec Ideal S1024 .f32) (l : Fin 1024) : (show EReal from shapeCast S1x1024 g shapeCasts_S1024_S1x1024 (ix2 0 l)) = g (ix1 l) := by
  pointwise []

theorem iblk2_apply (t : Fin cfg0.N) (l : Fin 1024) :
    (show EReal from iblk m c 2 t (ix2 0 l)) = m ((c : Thread nD τ).loc main_arg2) (ix1 l) := by
  refine (congrArg (V m c main_v18) (a₂ := ix2 0 l) (funext fun b => Fin.ext ?_)).trans ((congrFun (V_gain m c) _).trans (gain_apply _ l))
  match b with
  | ⟨0, _⟩ => rfl
  | ⟨1, _⟩ => show 0 * 1024 + 1 * l.val = l.val; omega

theorem iblk3_apply (t : Fin cfg0.N) (k : Fin 1024) (l : Fin 2048) :
    (show EReal from iblk m c 3 t (ix2 k l)) = m ((c : Thread nD τ).loc main_arg3) (ix2 k l) := by
  refine (congrArg (V m c main_v19) (a₂ := ix2 k l) (funext fun b => Fin.ext ?_)).trans (congrFun (V_weights m c) _)
  match b with
  | ⟨0, _⟩ => show 0 * 1024 + 1 * k.val = k.val; omega
  | ⟨1, _⟩ => show 0 * 2048 + 1 * l.val = l.val; omega

theorem iblk6_apply (t : Fin cfg0.N) (l : Fin 512) :
    (show EReal from iblk m c 6 t (ix2 0 l)) = (show EReal from m ((c : Thread nD τ).loc main_arg6) (ix1 (inHead l))) * Ideal.ofBits .f32 0x3E000000#32 := by
  refine (congrArg (V m c main_v13) (a₂ := ix2 0 l) (funext fun b => Fin.ext ?_)).trans ((congrFun (V_gainQ m c) _).trans (gainQ_apply _ l))
  match b with
  | ⟨0, _⟩ => rfl
  | ⟨1, _⟩ => show 0 * 512 + 1 * l.val = l.val; omega

theorem iblk7_apply (t : Fin cfg0.N) (l : Fin 512) :
    (show EReal from iblk m c 7 t (ix2 0 l)) = m ((c : Thread nD τ).loc main_arg7) (ix1 (inHead l)) := by
  refine (congrArg (V m c main_v17) (a₂ := ix2 0 l) (funext fun b => Fin.ext ?_)).trans ((congrFun (V_gainK m c) _).trans (gainK_apply _ l))
  match b with
  | ⟨0, _⟩ => rfl
  | ⟨1, _⟩ => show 0 * 512 + 1 * l.val = l.val; omega

theorem iblk8_apply (t : Fin cfg0.N) (k l : Fin 512) :
    (show EReal from iblk m c 8 t (ix2 k l)) = if k.val / 64 = l.val / 64 then (1 : EReal) else 0 := by
  refine (congrArg (V m c main_v7) (a₂ := ix2 k l) (funext fun b => Fin.ext ?_)).trans ((congrFun (V_ones m c) _).trans (ones_apply k l))
  match b with
  | ⟨0, _⟩ => show 0 * 512 + 1 * k.val = k.val; omega
  | ⟨1, _⟩ => show 0 * 512 + 1 * l.val = l.val; omega

/-- The projected row at a column, of the arguments. -/
abbrev argRow (t : Fin 64) (r : Fin 512) (j : Fin 2048) : EReal :=
  projected (Ideal.ofBits .f32 0x44800000#32) (Ideal.ofBits .f32 0x358637BD#32) (Ideal.ofBits .f32 0x3F800000#32)
    (fun k => m ((c : Thread nD τ).loc main_arg0) (rowIdx 1024 t r k)) (fun k => m ((c : Thread nD τ).loc main_arg2) (ix1 k))
    (fun k => m ((c : Thread nD τ).loc main_arg1) (ix3 ⟨t.val / 16, by omega⟩ 1 k)) (fun k => m ((c : Thread nD τ).loc main_arg1) (ix3 ⟨t.val / 16, by omega⟩ 0 k))
    (fun k => m ((c : Thread nD τ).loc main_arg3) (ix2 k j))

theorem rows_arg (t : Fin 64) (r : Fin 512) (j : Fin 2048) :
    (show EReal from rows (iblk m c 0 t) (iblk m c 1 t) (iblk m c 2 t) (iblk m c 3 t) (ix2 r j)) = argRow m c t r j := by
  refine (rows_apply _ _ _ _ r j).trans ?_
  exact congr (congr (congr (congr (congrArg (projected _ _ _) (funext fun k => iblk0_apply m c t r k)) (funext fun k => iblk2_apply m c t k))
    (funext fun k => iblk1_apply m c t 1 k _)) (funext fun k => iblk1_apply m c t 0 k _)) (funext fun k => iblk3_apply m c t k j)

theorem values_arg (t : Fin 64) (r l : Fin 512) :
    (show EReal from values (iblk m c 0 t) (iblk m c 1 t) (iblk m c 2 t) (iblk m c 3 t) (ix3 0 r l)) = argRow m c t r ⟨1536 + l.val, by omega⟩ :=
  (values_pay _ r l).trans (rows_arg m c t r _)

theorem queries_arg (t : Fin 64) (r l : Fin 512) :
    (show EReal from queries (iblk m c 0 t) (iblk m c 1 t) (iblk m c 2 t) (iblk m c 3 t) (iblk m c 6 t) (iblk m c 8 t) (ix3 0 r l))
      = headNormed (Ideal.ofBits .f32 0x42800000#32) (Ideal.ofBits .f32 0x358637BD#32) (fun k => argRow m c t r ⟨512 + k.val, by omega⟩)
          (fun k => (show EReal from m ((c : Thread nD τ).loc main_arg6) (ix1 k)) * Ideal.ofBits .f32 0x3E000000#32) l := by
  rw [queries_eq]
  refine (head_apply _ (iblk m c 8 t) (iblk m c 6 t) (fun k => (show EReal from m ((c : Thread nD τ).loc main_arg6) (ix1 k)) * Ideal.ofBits .f32 0x3E000000#32) (iblk8_apply m c t) (iblk6_apply m c t) r l).trans ?_
  exact congrArg (fun q => headNormed _ _ q _ l) (funext fun k => (cols_q _ r k).trans (rows_arg m c t r _))

theorem keys_arg (t : Fin 64) (r l : Fin 512) :
    (show EReal from keys (iblk m c 0 t) (iblk m c 1 t) (iblk m c 2 t) (iblk m c 3 t) (iblk m c 7 t) (iblk m c 8 t) (ix3 0 r l))
      = headNormed (Ideal.ofBits .f32 0x42800000#32) (Ideal.ofBits .f32 0x358637BD#32) (fun k => argRow m c t r ⟨1024 + k.val, by omega⟩)
          (fun k => m ((c : Thread nD τ).loc main_arg7) (ix1 k)) l := by
  rw [keys_eq]
  refine (head_apply _ (iblk m c 8 t) (iblk m c 7 t) (fun k => m ((c : Thread nD τ).loc main_arg7) (ix1 k)) (iblk8_apply m c t) (iblk7_apply m c t) r l).trans ?_
  exact congrArg (fun q => headNormed _ _ q _ l) (funext fun k => (cols_k _ r k).trans (rows_arg m c t r _))

/-- The point that holds a block. -/
theorem point_of (a b : Nat) (ha : a < 4) (hb : b < 16) :
    ∃ t : Fin 64, t.val / 16 = a ∧ t.val % 16 = b := ⟨⟨a * 16 + b, by omega⟩, by show (a * 16 + b) / 16 = a; omega, by show (a * 16 + b) % 16 = b; omega⟩

/-- What a point writes back of the queries, whichever of the two it is. -/
theorem qs_at (t : Fin cfg0.N) : (dats m 0 c).flushed 10 t = (cfg0.win 10).cut (grid0.coords t) (queries (iblk m c 0 t) (iblk m c 1 t) (iblk m c 2 t) (iblk m c 3 t) (iblk m c 6 t) (iblk m c 8 t)) := by
  by_cases h0 : t.val % 16 = 0
  · rw [flushed10_A m c t h0, out_A_10]
  · rw [flushed10_B m c t h0, out_B_10]

/-- An array that agrees with every point's block of queries is their array. -/
theorem final10 (G : Buf (Elt Ideal) ((c.tc : Thread nD τ).loc main_v22_1))
    (hG : ∀ (t : Fin 64) (r : Fin 512) (l : Fin 512), (show EReal from G (rowIdx 512 t r l))
      = queries (iblk m c 0 t) (iblk m c 1 t) (iblk m c 2 t) (iblk m c 3 t) (iblk m c 6 t) (iblk m c 8 t) (ix3 0 r l)) :
    (dats m 0 c).arrAt 10 cfg0.N = G := by
  refine (dats m 0 c).arrAt_eq_of_covers 10 _ ?_ fun t _ y => ?_
  · refine Pipeline.Window.covers_of_index_surj (w := cfg0.win 10) rfl ?_ ?_
    · exact (by decide : ∀ a : Fin 3, 0 < S1x512x512.size a)
    · intro β
      obtain ⟨t, e0, e1⟩ := point_of (β (0 : Fin 3)).val (β (1 : Fin 3)).val
        (lt_of_lt_of_eq (β (0 : Fin 3)).isLt (show (cfg0.win 10).nblk (0 : Fin 3) = 4 from (by decide : (4 + 1 - 1) / 1 = 4)))
        (lt_of_lt_of_eq (β (1 : Fin 3)).isLt (show (cfg0.win 10).nblk (1 : Fin 3) = 16 from (by decide : (8192 + 512 - 1) / 512 = 16)))
      have h2 : (β (2 : Fin 3)).val < 1 := lt_of_lt_of_eq (β (2 : Fin 3)).isLt (show (cfg0.win 10).nblk (2 : Fin 3) = 1 from (by decide : (512 + 512 - 1) / 512 = 1))
      refine ⟨t, fun a => ?_⟩
      match a with
      | ⟨0, _⟩ => exact (congrFun (map0_val t) 0).trans e0
      | ⟨1, _⟩ => exact (congrFun (map0_val t) 1).trans e1
      | ⟨2, _⟩ => exact (congrFun (map0_val t) 2).trans (by show 0 = (β (2 : Fin 3)).val; omega)
  · have hy : y = ix3 0 (y (1 : Fin 3)) (y (2 : Fin 3)) := by
      funext a
      match a with
      | ⟨0, _⟩ => exact Subsingleton.elim (α := Fin 1) _ _
      | ⟨1, _⟩ => rfl
      | ⟨2, _⟩ => rfl
    have e : (show EReal from queries (iblk m c 0 t) (iblk m c 1 t) (iblk m c 2 t) (iblk m c 3 t) (iblk m c 6 t) (iblk m c 8 t) y)
        = G (rowIdx 512 t (y (1 : Fin 3)) (y (2 : Fin 3))) :=
      (congrArg (queries (iblk m c 0 t) (iblk m c 1 t) (iblk m c 2 t) (iblk m c 3 t) (iblk m c 6 t) (iblk m c 8 t)) hy).trans (hG t _ _).symm
    refine (congrFun (qs_at m c t) y).trans (e.trans ?_)
    refine congrArg G (rowIdx_eq 512 t _ _ _ (map0_val t) _ ?_ rfl rfl).symm
    have : (y (0 : Fin 3)).val < 1 := (y (0 : Fin 3)).isLt
    show cc0_transform_0 (grid0.coords t) 0 * 1 + 1 * (y (0 : Fin 3)).val = cc0_transform_0 (grid0.coords t) 0 * 1 + 1 * 0
    omega

/-- What a point writes back of the keys, whichever of the two it is. -/
theorem ks_at (t : Fin cfg0.N) : (dats m 0 c).flushed 11 t = (cfg0.win 11).cut (grid0.coords t) (keys (iblk m c 0 t) (iblk m c 1 t) (iblk m c 2 t) (iblk m c 3 t) (iblk m c 7 t) (iblk m c 8 t)) := by
  by_cases h0 : t.val % 16 = 0
  · rw [flushed11_A m c t h0, out_A_11]
  · rw [flushed11_B m c t h0, out_B_11]

/-- An array that agrees with every point's block of keys is their array. -/
theorem final11 (G : Buf (Elt Ideal) ((c.tc : Thread nD τ).loc main_v22_2))
    (hG : ∀ (t : Fin 64) (r : Fin 512) (l : Fin 512), (show EReal from G (rowIdx 512 t r l))
      = keys (iblk m c 0 t) (iblk m c 1 t) (iblk m c 2 t) (iblk m c 3 t) (iblk m c 7 t) (iblk m c 8 t) (ix3 0 r l)) :
    (dats m 0 c).arrAt 11 cfg0.N = G := by
  refine (dats m 0 c).arrAt_eq_of_covers 11 _ ?_ fun t _ y => ?_
  · refine Pipeline.Window.covers_of_index_surj (w := cfg0.win 11) rfl ?_ ?_
    · exact (by decide : ∀ a : Fin 3, 0 < S1x512x512.size a)
    · intro β
      obtain ⟨t, e0, e1⟩ := point_of (β (0 : Fin 3)).val (β (1 : Fin 3)).val
        (lt_of_lt_of_eq (β (0 : Fin 3)).isLt (show (cfg0.win 11).nblk (0 : Fin 3) = 4 from (by decide : (4 + 1 - 1) / 1 = 4)))
        (lt_of_lt_of_eq (β (1 : Fin 3)).isLt (show (cfg0.win 11).nblk (1 : Fin 3) = 16 from (by decide : (8192 + 512 - 1) / 512 = 16)))
      have h2 : (β (2 : Fin 3)).val < 1 := lt_of_lt_of_eq (β (2 : Fin 3)).isLt (show (cfg0.win 11).nblk (2 : Fin 3) = 1 from (by decide : (512 + 512 - 1) / 512 = 1))
      refine ⟨t, fun a => ?_⟩
      match a with
      | ⟨0, _⟩ => exact (congrFun (map0_val t) 0).trans e0
      | ⟨1, _⟩ => exact (congrFun (map0_val t) 1).trans e1
      | ⟨2, _⟩ => exact (congrFun (map0_val t) 2).trans (by show 0 = (β (2 : Fin 3)).val; omega)
  · have hy : y = ix3 0 (y (1 : Fin 3)) (y (2 : Fin 3)) := by
      funext a
      match a with
      | ⟨0, _⟩ => exact Subsingleton.elim (α := Fin 1) _ _
      | ⟨1, _⟩ => rfl
      | ⟨2, _⟩ => rfl
    have e : (show EReal from keys (iblk m c 0 t) (iblk m c 1 t) (iblk m c 2 t) (iblk m c 3 t) (iblk m c 7 t) (iblk m c 8 t) y)
        = G (rowIdx 512 t (y (1 : Fin 3)) (y (2 : Fin 3))) :=
      (congrArg (keys (iblk m c 0 t) (iblk m c 1 t) (iblk m c 2 t) (iblk m c 3 t) (iblk m c 7 t) (iblk m c 8 t)) hy).trans (hG t _ _).symm
    refine (congrFun (ks_at m c t) y).trans (e.trans ?_)
    refine congrArg G (rowIdx_eq 512 t _ _ _ (map0_val t) _ ?_ rfl rfl).symm
    have : (y (0 : Fin 3)).val < 1 := (y (0 : Fin 3)).isLt
    show cc0_transform_0 (grid0.coords t) 0 * 1 + 1 * (y (0 : Fin 3)).val = cc0_transform_0 (grid0.coords t) 0 * 1 + 1 * 0
    omega

/-- What a point writes back of the values, whichever of the two it is. -/
theorem vs_at (t : Fin cfg0.N) : (dats m 0 c).flushed 12 t = (cfg0.win 12).cut (grid0.coords t) (values (iblk m c 0 t) (iblk m c 1 t) (iblk m c 2 t) (iblk m c 3 t)) := by
  by_cases h0 : t.val % 16 = 0
  · rw [flushed12_A m c t h0, out_A_12]
  · rw [flushed12_B m c t h0, out_B_12]

/-- An array that agrees with every point's block of values is their array. -/
theorem final12 (G : Buf (Elt Ideal) ((c.tc : Thread nD τ).loc main_v22_3))
    (hG : ∀ (t : Fin 64) (r : Fin 512) (l : Fin 512), (show EReal from G (rowIdx 512 t r l))
      = values (iblk m c 0 t) (iblk m c 1 t) (iblk m c 2 t) (iblk m c 3 t) (ix3 0 r l)) :
    (dats m 0 c).arrAt 12 cfg0.N = G := by
  refine (dats m 0 c).arrAt_eq_of_covers 12 _ ?_ fun t _ y => ?_
  · refine Pipeline.Window.covers_of_index_surj (w := cfg0.win 12) rfl ?_ ?_
    · exact (by decide : ∀ a : Fin 3, 0 < S1x512x512.size a)
    · intro β
      obtain ⟨t, e0, e1⟩ := point_of (β (0 : Fin 3)).val (β (1 : Fin 3)).val
        (lt_of_lt_of_eq (β (0 : Fin 3)).isLt (show (cfg0.win 12).nblk (0 : Fin 3) = 4 from (by decide : (4 + 1 - 1) / 1 = 4)))
        (lt_of_lt_of_eq (β (1 : Fin 3)).isLt (show (cfg0.win 12).nblk (1 : Fin 3) = 16 from (by decide : (8192 + 512 - 1) / 512 = 16)))
      have h2 : (β (2 : Fin 3)).val < 1 := lt_of_lt_of_eq (β (2 : Fin 3)).isLt (show (cfg0.win 12).nblk (2 : Fin 3) = 1 from (by decide : (512 + 512 - 1) / 512 = 1))
      refine ⟨t, fun a => ?_⟩
      match a with
      | ⟨0, _⟩ => exact (congrFun (map0_val t) 0).trans e0
      | ⟨1, _⟩ => exact (congrFun (map0_val t) 1).trans e1
      | ⟨2, _⟩ => exact (congrFun (map0_val t) 2).trans (by show 0 = (β (2 : Fin 3)).val; omega)
  · have hy : y = ix3 0 (y (1 : Fin 3)) (y (2 : Fin 3)) := by
      funext a
      match a with
      | ⟨0, _⟩ => exact Subsingleton.elim (α := Fin 1) _ _
      | ⟨1, _⟩ => rfl
      | ⟨2, _⟩ => rfl
    have e : (show EReal from values (iblk m c 0 t) (iblk m c 1 t) (iblk m c 2 t) (iblk m c 3 t) y)
        = G (rowIdx 512 t (y (1 : Fin 3)) (y (2 : Fin 3))) :=
      (congrArg (values (iblk m c 0 t) (iblk m c 1 t) (iblk m c 2 t) (iblk m c 3 t)) hy).trans (hG t _ _).symm
    refine (congrFun (vs_at m c t) y).trans (e.trans ?_)
    refine congrArg G (rowIdx_eq 512 t _ _ _ (map0_val t) _ ?_ rfl rfl).symm
    have : (y (0 : Fin 3)).val < 1 := (y (0 : Fin 3)).isLt
    show cc0_transform_0 (grid0.coords t) 0 * 1 + 1 * (y (0 : Fin 3)).val = cc0_transform_0 (grid0.coords t) 0 * 1 + 1 * 0
    omega

end Cert.Kernel3Ideal.In

end
-- ==== Proof.InRef.lean ====
/- The input projection's reference at an index: the queries, the keys and the values. -/
module

public import proofs.«01_k».proof.Proof.Gen.Reference3Ideal.Run
public import proofs.«01_k».proof.Proof.InMath

@[expose] public section

set_option maxRecDepth 16384

noncomputable section

namespace Cert.Reference3Ideal.In

open Idealize.ShloMosaic Idealize.ShloMosaic.TcCoe
open Cert.Reference3Ideal Cert.Reference3Ideal.Gen Cert.Reference3Ideal.Value Cert.Norm

/-- The rows' factors. -/
def factors (x : FVec Ideal S4x8192x1024 .f32) : FVec Ideal S4x8192x1 .f32 :=
  Host.rsqrt (addf (Host.divf (broadcastInDim S4x8192x1 ![0, 1] bcast_S4x8192_S4x8192x1_0_1 (Host.reduceAdd (mulf x x) (constant S_ .f32 0x00000000#32) reducesTo_S4x8192x1024_S4x8192_d2 h_S_))
    (broadcastInDim S4x8192x1 ![] bcast_S_S4x8192x1 (constant S_ .f32 0x44800000#32))) (broadcastInDim S4x8192x1 ![] bcast_S_S4x8192x1 (constant S_ .f32 0x358637BD#32)))

/-- The norm with its gain and its modulation. -/
def norms (x : FVec Ideal S4x8192x1024 .f32) (g : FVec Ideal S1024 .f32) (d : FVec Ideal S4x6x1024 .f32) : FVec Ideal S4x8192x1024 .f32 :=
  addf (mulf (mulf (mulf x (broadcastInDim S4x8192x1024 ![0, 1, 2] bcast_S4x8192x1_S4x8192x1024_0_1_2 (factors x)))
      (broadcastInDim S4x8192x1024 ![0, 1, 2] bcast_S1x1x1024_S4x8192x1024_0_1_2 (broadcastInDim S1x1x1024 ![2] bcast_S1024_S1x1x1024_2 g)))
    (broadcastInDim S4x8192x1024 ![0, 1, 2] bcast_S4x1x1024_S4x8192x1024_0_1_2 (addf (broadcastInDim S4x1x1024 ![] bcast_S_S4x1x1024 (constant S_ .f32 0x3F800000#32))
      (extractStridedSlice S4x1x1024 ![0, 1, 0] d slices_S4x6x1024_S4x1x1024_0_1_0))))
    (broadcastInDim S4x8192x1024 ![0, 1, 2] bcast_S4x1x1024_S4x8192x1024_0_1_2 (extractStridedSlice S4x1x1024 ![0, 0, 0] d slices_S4x6x1024_S4x1x1024_0_0_0))

/-- The projection, its columns past the first mixer's. -/
def proj (x : FVec Ideal S4x8192x1024 .f32) (g : FVec Ideal S1024 .f32) (d : FVec Ideal S4x6x1024 .f32) (w : FVec Ideal S1024x2048 .f32) : FVec Ideal S4x8192x1536 .f32 :=
  extractStridedSlice S4x8192x1536 ![0, 0, 512] (Host.dotGeneral (F := Ideal) (φ₁ := .f32) (φ₂ := .f32) dot_S4x8192x1024_S1024x2048_S4x8192x2048_2_0_01_1_n_n none (norms x g d) w)
    slices_S4x8192x2048_S4x8192x1536_0_0_512

/-- The queries', the keys' and the values' columns. -/
def colsQ (z : FVec Ideal S4x8192x1536 .f32) : FVec Ideal S4x8192x512 .f32 := extractStridedSlice S4x8192x512 ![0, 0, 0] z slices_S4x8192x1536_S4x8192x512_0_0_0
def colsK (z : FVec Ideal S4x8192x1536 .f32) : FVec Ideal S4x8192x512 .f32 := extractStridedSlice S4x8192x512 ![0, 0, 512] z slices_S4x8192x1536_S4x8192x512_0_0_512
def colsV (z : FVec Ideal S4x8192x1536 .f32) : FVec Ideal S4x8192x512 .f32 := extractStridedSlice S4x8192x512 ![0, 0, 1024] z slices_S4x8192x1536_S4x8192x512_0_0_1024

/-- Columns by heads, and back. -/
def toHeads (q : FVec Ideal S4x8192x512 .f32) : FVec Ideal S4x8192x8x64 .f32 := shapeCast S4x8192x8x64 q shapeCasts_S4x8192x512_S4x8192x8x64
def ofHeads (q : FVec Ideal S4x8192x8x64 .f32) : FVec Ideal S4x8192x512 .f32 := shapeCast S4x8192x512 q shapeCasts_S4x8192x8x64_S4x8192x512

/-- The heads' norm. -/
def headNorms (q : FVec Ideal S4x8192x8x64 .f32) (g : FVec Ideal S64 .f32) : FVec Ideal S4x8192x8x64 .f32 :=
  mulf (mulf q (broadcastInDim S4x8192x8x64 ![0, 1, 2, 3] bcast_S4x8192x8x1_S4x8192x8x64_0_1_2_3
    (Host.rsqrt (addf (Host.divf (broadcastInDim S4x8192x8x1 ![0, 1, 2] bcast_S4x8192x8_S4x8192x8x1_0_1_2
        (Host.reduceAdd (mulf q q) (constant S_ .f32 0x00000000#32) reducesTo_S4x8192x8x64_S4x8192x8_d3 h_S_))
      (broadcastInDim S4x8192x8x1 ![] bcast_S_S4x8192x8x1 (constant S_ .f32 0x42800000#32))) (broadcastInDim S4x8192x8x1 ![] bcast_S_S4x8192x8x1 (constant S_ .f32 0x358637BD#32))))))
    (broadcastInDim S4x8192x8x64 ![0, 1, 2, 3] bcast_S1x1x1x64_S4x8192x8x64_0_1_2_3 (broadcastInDim S1x1x1x64 ![3] bcast_S64_S1x1x1x64_3 g))

/-- By the softmax scale. -/
def scaled (q : FVec Ideal S4x8192x8x64 .f32) : FVec Ideal S4x8192x8x64 .f32 :=
  mulf q (broadcastInDim S4x8192x8x64 ![] bcast_S_S4x8192x8x64 (constant S_ .f32 0x3E000000#32))

def narrow (q : FVec Ideal S4x8192x512 .f32) : FVec Ideal S4x8192x512 .bf16 := truncf .bf16 q bitsLt_bf16_f32

def projOf (m : (ℓ : Loc nD τ sig) → Buf (Elt Ideal) ℓ) (c : Dev nD) : FVec Ideal S4x8192x1536 .f32 :=
  proj (m ((c.tc : Thread nD τ).loc main_arg0)) (m ((c.tc : Thread nD τ).loc main_arg2)) (m ((c.tc : Thread nD τ).loc main_arg1)) (m ((c.tc : Thread nD τ).loc main_arg3))

theorem queries_eq (m : (ℓ : Loc nD τ sig) → Buf (Elt Ideal) ℓ) (c : Dev nD) :
    res_main_v123 m c = narrow (ofHeads (scaled (headNorms (toHeads (colsQ (projOf m c))) (m ((c.tc : Thread nD τ).loc main_arg6))))) := by
  with_unfolding_all rfl

theorem keys_eq (m : (ℓ : Loc nD τ sig) → Buf (Elt Ideal) ℓ) (c : Dev nD) :
    res_main_v124 m c = narrow (ofHeads (headNorms (toHeads (colsK (projOf m c))) (m ((c.tc : Thread nD τ).loc main_arg7)))) := by
  with_unfolding_all rfl

theorem norms_apply (x : FVec Ideal S4x8192x1024 .f32) (g : FVec Ideal S1024 .f32) (d : FVec Ideal S4x6x1024 .f32) (b : Fin 4) (n : Fin 8192) (j : Fin 1024) :
    (show EReal from norms x g d (ix3 b n j))
      = modulated (Ideal.ofBits .f32 0x44800000#32) (Ideal.ofBits .f32 0x358637BD#32) (Ideal.ofBits .f32 0x3F800000#32)
          (fun k => (show EReal from x (ix3 b n k))) (fun k => g (ix1 k)) (fun k => d (ix3 b 1 k)) (fun k => d (ix3 b 0 k)) j := by
  unfold norms factors modulated normed rowFactor meanSquare
  pointwise []

theorem proj_apply (x : FVec Ideal S4x8192x1024 .f32) (g : FVec Ideal S1024 .f32) (d : FVec Ideal S4x6x1024 .f32) (w : FVec Ideal S1024x2048 .f32)
    (b : Fin 4) (n : Fin 8192) (j : Fin 1536) :
    (show EReal from proj x g d w (ix3 b n j))
      = projected (Ideal.ofBits .f32 0x44800000#32) (Ideal.ofBits .f32 0x358637BD#32) (Ideal.ofBits .f32 0x3F800000#32)
          (fun k => (show EReal from x (ix3 b n k))) (fun k => g (ix1 k)) (fun k => d (ix3 b 1 k)) (fun k => d (ix3 b 0 k)) (fun k => w (ix2 k ⟨512 + j.val, by omega⟩)) := by
  have e : ∀ h : FVec Ideal S4x8192x1024 .f32, (show EReal from extractStridedSlice S4x8192x1536 ![0, 0, 512] (Host.dotGeneral (F := Ideal) (φ₁ := .f32) (φ₂ := .f32) dot_S4x8192x1024_S1024x2048_S4x8192x2048_2_0_01_1_n_n none h w)
      slices_S4x8192x2048_S4x8192x1536_0_0_512 (ix3 b n j)) = ∑ k : Fin 1024, (show EReal from h (ix3 b n k)) * w (ix2 k ⟨512 + j.val, by omega⟩) := by
    intro h
    pointwise []
  exact (e (norms x g d)).trans (Finset.sum_congr rfl fun k _ => congrArg (· * _) (norms_apply x g d b n k))

theorem toHeads_apply (q : FVec Ideal S4x8192x512 .f32) (b : Fin 4) (n : Fin 8192) (h : Fin 8) (d : Fin 64) :
    (show EReal from toHeads q (ix4 b n h d)) = q (ix3 b n ⟨64 * h.val + d.val, by omega⟩) := by
  unfold toHeads
  pointwise []
  exact congrArg (fun k => q (ix3 b n k)) (Fin.ext (by show h.val * 64 + d.val = 64 * h.val + d.val; omega))

theorem ofHeads_apply (q : FVec Ideal S4x8192x8x64 .f32) (b : Fin 4) (n : Fin 8192) (l : Fin 512) :
    (show EReal from ofHeads q (ix3 b n l)) = q (ix4 b n ⟨l.val / 64, by omega⟩ ⟨l.val % 64, by omega⟩) := by
  unfold ofHeads
  pointwise []

theorem headNorms_apply (q : FVec Ideal S4x8192x8x64 .f32) (g : FVec Ideal S64 .f32) (b : Fin 4) (n : Fin 8192) (h : Fin 8) (d : Fin 64) :
    (show EReal from headNorms q g (ix4 b n h d)) = (show EReal from q (ix4 b n h d))
      * Ideal.rsqrt (Ideal.div (∑ k : Fin 64, (show EReal from q (ix4 b n h k)) * (show EReal from q (ix4 b n h k))) (Ideal.ofBits .f32 0x42800000#32) + Ideal.ofBits .f32 0x358637BD#32) * g (ix1 d) := by
  unfold headNorms
  pointwise []

/-- The norm of columns by heads. -/
theorem heads_apply (q : FVec Ideal S4x8192x512 .f32) (g : FVec Ideal S64 .f32) (b : Fin 4) (n : Fin 8192) (l : Fin 512) :
    (show EReal from ofHeads (headNorms (toHeads q) g) (ix3 b n l))
      = headNormed (Ideal.ofBits .f32 0x42800000#32) (Ideal.ofBits .f32 0x358637BD#32) (fun k => (show EReal from q (ix3 b n k))) (fun k => g (ix1 k)) l := by
  refine (ofHeads_apply _ b n l).trans ((headNorms_apply _ g b n _ _).trans ?_)
  have e : ∀ d : Fin 64, (show EReal from toHeads q (ix4 b n ⟨l.val / 64, by omega⟩ d)) = q (ix3 b n (headCol l d)) := fun d => toHeads_apply q b n _ d
  have e' : (show EReal from toHeads q (ix4 b n ⟨l.val / 64, by omega⟩ ⟨l.val % 64, by omega⟩)) = q (ix3 b n l) :=
    (e ⟨l.val % 64, by omega⟩).trans (congrArg (fun k => q (ix3 b n k)) (Fin.ext (by show 64 * (l.val / 64) + l.val % 64 = l.val; omega)))
  unfold headNormed
  refine congrArg (· * _) (congr (congrArg HMul.hMul e') (congrArg (fun s => Ideal.rsqrt (Ideal.div s _ + _)) (Finset.sum_congr rfl fun d _ => congr (congrArg HMul.hMul (e d)) (e d))))

/-- The scale goes with the gain. -/
theorem scaled_apply (q : FVec Ideal S4x8192x512 .f32) (g : FVec Ideal S64 .f32) (b : Fin 4) (n : Fin 8192) (l : Fin 512) :
    (show EReal from ofHeads (scaled (headNorms (toHeads q) g)) (ix3 b n l))
      = headNormed (Ideal.ofBits .f32 0x42800000#32) (Ideal.ofBits .f32 0x358637BD#32) (fun k => (show EReal from q (ix3 b n k)))
          (fun k => (show EReal from g (ix1 k)) * Ideal.ofBits .f32 0x3E000000#32) l := by
  have e : ∀ p : FVec Ideal S4x8192x8x64 .f32, (show EReal from ofHeads (scaled p) (ix3 b n l)) = (show EReal from ofHeads p (ix3 b n l)) * Ideal.ofBits .f32 0x3E000000#32 := by
    intro p
    refine (ofHeads_apply _ b n l).trans (Eq.trans ?_ (congrArg (· * _) (ofHeads_apply p b n l).symm))
    unfold scaled
    pointwise []
  refine (e (headNorms (toHeads q) g)).trans ((congrArg (· * _) (heads_apply q g b n l)).trans ?_)
  unfold headNormed
  exact mul_assoc _ _ _

theorem colsQ_apply (z : FVec Ideal S4x8192x1536 .f32) (b : Fin 4) (n : Fin 8192) (l : Fin 512) :
    (show EReal from colsQ z (ix3 b n l)) = z (ix3 b n ⟨l.val, by omega⟩) := by
  unfold colsQ
  pointwise []

theorem colsK_apply (z : FVec Ideal S4x8192x1536 .f32) (b : Fin 4) (n : Fin 8192) (l : Fin 512) :
    (show EReal from colsK z (ix3 b n l)) = z (ix3 b n ⟨512 + l.val, by omega⟩) := by
  unfold colsK
  pointwise []

theorem colsV_apply (z : FVec Ideal S4x8192x1536 .f32) (b : Fin 4) (n : Fin 8192) (l : Fin 512) :
    (show EReal from colsV z (ix3 b n l)) = z (ix3 b n ⟨1024 + l.val, by omega⟩) := by
  unfold colsV
  pointwise []

variable (m : (ℓ : Loc nD τ sig) → Buf (Elt Ideal) ℓ) (c : Dev nD)

/-- The queries, the keys and the values of the arguments. -/
abbrev outQ : FVec Ideal S4x8192x512 .bf16 := narrow (ofHeads (scaled (headNorms (toHeads (colsQ (projOf m c))) (m ((c.tc : Thread nD τ).loc main_arg6)))))
abbrev outK : FVec Ideal S4x8192x512 .bf16 := narrow (ofHeads (headNorms (toHeads (colsK (projOf m c))) (m ((c.tc : Thread nD τ).loc main_arg7))))
abbrev outV : FVec Ideal S4x8192x512 .bf16 := narrow (colsV (projOf m c))

/-- The projected row at a column, of the arguments. -/
abbrev argRow (b : Fin 4) (n : Fin 8192) (j : Fin 2048) : EReal :=
  projected (Ideal.ofBits .f32 0x44800000#32) (Ideal.ofBits .f32 0x358637BD#32) (Ideal.ofBits .f32 0x3F800000#32)
    (fun k => m ((c.tc : Thread nD τ).loc main_arg0) (ix3 b n k)) (fun k => m ((c.tc : Thread nD τ).loc main_arg2) (ix1 k))
    (fun k => m ((c.tc : Thread nD τ).loc main_arg1) (ix3 b 1 k)) (fun k => m ((c.tc : Thread nD τ).loc main_arg1) (ix3 b 0 k))
    (fun k => m ((c.tc : Thread nD τ).loc main_arg3) (ix2 k j))

theorem projOf_apply (b : Fin 4) (n : Fin 8192) (j : Fin 1536) (i : Fin 2048) (h : 512 + j.val = i.val) :
    (show EReal from projOf m c (ix3 b n j)) = argRow m c b n i := by
  refine (proj_apply _ _ _ _ b n j).trans ?_
  exact congrArg (projected _ _ _ _ _ _ _) (funext fun k => congrArg (fun i => m ((c.tc : Thread nD τ).loc main_arg3) (ix2 k i)) (Fin.ext h))

theorem outV_apply (b : Fin 4) (n : Fin 8192) (l : Fin 512) :
    (show EReal from outV m c (ix3 b n l)) = argRow m c b n ⟨1536 + l.val, by omega⟩ :=
  (colsV_apply (projOf m c) b n l).trans (projOf_apply m c b n _ _ (by show 512 + (1024 + l.val) = 1536 + l.val; omega))

theorem outQ_apply (b : Fin 4) (n : Fin 8192) (l : Fin 512) :
    (show EReal from outQ m c (ix3 b n l))
      = headNormed (Ideal.ofBits .f32 0x42800000#32) (Ideal.ofBits .f32 0x358637BD#32) (fun k => argRow m c b n ⟨512 + k.val, by omega⟩)
          (fun k => (show EReal from m ((c.tc : Thread nD τ).loc main_arg6) (ix1 k)) * Ideal.ofBits .f32 0x3E000000#32) l :=
  (scaled_apply (colsQ (projOf m c)) _ b n l).trans (congrArg (fun q => headNormed _ _ q _ l)
    (funext fun k => (colsQ_apply (projOf m c) b n k).trans (projOf_apply m c b n _ _ rfl)))

theorem outK_apply (b : Fin 4) (n : Fin 8192) (l : Fin 512) :
    (show EReal from outK m c (ix3 b n l))
      = headNormed (Ideal.ofBits .f32 0x42800000#32) (Ideal.ofBits .f32 0x358637BD#32) (fun k => argRow m c b n ⟨1024 + k.val, by omega⟩)
          (fun k => m ((c.tc : Thread nD τ).loc main_arg7) (ix1 k)) l :=
  (heads_apply (colsK (projOf m c)) _ b n l).trans (congrArg (fun q => headNormed _ _ q _ l)
    (funext fun k => (colsK_apply (projOf m c) b n k).trans (projOf_apply m c b n _ _ (by show 512 + (512 + k.val) = 1024 + k.val; omega))))

end Cert.Reference3Ideal.In

end
-- ==== Proof.InEqual.lean ====
/- The input projection's kernel and reference meet, array by array. -/
module

public import proofs.«01_k».proof.Proof.InValue
public import proofs.«01_k».proof.Proof.InRef

@[expose] public section

set_option maxRecDepth 16384

noncomputable section

namespace Cert.Proof

open Idealize.ShloMosaic Idealize.ShloMosaic.TcCoe
open Cert.Norm

theorem projected_congr {len eps one : EReal} {x x' g g' a a' b b' w w' : Fin 1024 → EReal} (hx : x = x') (hg : g = g') (ha : a = a') (hb : b = b') (hw : w = w') :
    projected len eps one x g a b w = projected len eps one x' g' a' b' w' := by
  rw [hx, hg, ha, hb, hw]

section
variable
  (m : (ℓ : Loc Cert.Kernel3Ideal.nD Cert.Kernel3Ideal.τ Cert.Kernel3Ideal.sig) → Buf (Elt Ideal) ℓ) (m' : (ℓ : Loc Cert.Reference3Ideal.nD Cert.Reference3Ideal.τ Cert.Reference3Ideal.sig) → Buf (Elt Ideal) ℓ) (c : Dev 1)
  (e0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0))
  (e1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1))
  (e2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2))
  (e3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3))
  (e6 : m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6))
  (e7 : m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7))

include e0 e1 e2 e3

theorem input_row (t : Fin 64) (r : Fin 512) (j : Fin 2048) :
    Cert.Reference3Ideal.In.argRow m' c ⟨t.val / 16, by omega⟩ ⟨512 * (t.val % 16) + r.val, by omega⟩ j = Cert.Kernel3Ideal.In.argRow m c t r j := by
  exact projected_congr (funext fun k => congrFun e0 (ix3 ⟨t.val / 16, by omega⟩ ⟨512 * (t.val % 16) + r.val, by omega⟩ k)) (funext fun k => congrFun e2 (ix1 k))
    (funext fun k => congrFun e1 (ix3 ⟨t.val / 16, by omega⟩ 1 k)) (funext fun k => congrFun e1 (ix3 ⟨t.val / 16, by omega⟩ 0 k)) (funext fun k => congrFun e3 (ix2 k j))

theorem input_values : (Cert.Kernel3Ideal.Gen.dats m 0 c).arrAt 12 Cert.Kernel3Ideal.cfg0.N = Cert.Reference3Ideal.In.outV m' c :=
  Cert.Kernel3Ideal.In.final12 m c (Cert.Reference3Ideal.In.outV m' c) fun t r l =>
    (Cert.Reference3Ideal.In.outV_apply m' c _ _ l).trans ((input_row m m' c e0 e1 e2 e3 t r _).trans (Cert.Kernel3Ideal.In.values_arg m c t r l).symm)

include e6 in
theorem input_queries : (Cert.Kernel3Ideal.Gen.dats m 0 c).arrAt 10 Cert.Kernel3Ideal.cfg0.N = Cert.Reference3Ideal.In.outQ m' c :=
  Cert.Kernel3Ideal.In.final10 m c (Cert.Reference3Ideal.In.outQ m' c) fun t r l =>
    (Cert.Reference3Ideal.In.outQ_apply m' c _ _ l).trans ((congrArg (fun f => f l) (congr (congrArg (headNormed _ _) (funext fun k => input_row m m' c e0 e1 e2 e3 t r _))
      (funext fun k => congrArg (· * Ideal.ofBits .f32 0x3E000000#32) (congrFun e6 (ix1 k))))).trans (Cert.Kernel3Ideal.In.queries_arg m c t r l).symm)

include e7 in
theorem input_keys : (Cert.Kernel3Ideal.Gen.dats m 0 c).arrAt 11 Cert.Kernel3Ideal.cfg0.N = Cert.Reference3Ideal.In.outK m' c :=
  Cert.Kernel3Ideal.In.final11 m c (Cert.Reference3Ideal.In.outK m' c) fun t r l =>
    (Cert.Reference3Ideal.In.outK_apply m' c _ _ l).trans ((congrArg (fun f => f l) (congr (congrArg (headNormed _ _) (funext fun k => input_row m m' c e0 e1 e2 e3 t r _))
      (funext fun k => congrFun e7 (ix1 k)))).trans (Cert.Kernel3Ideal.In.keys_arg m c t r l).symm)

end

end Cert.Proof

end
-- ==== Proof.PoolBlock.lean ====
/- The pooling mixer's block: the rows it carries and what it leaves. -/
module

public import proofs.«01_k».proof.Proof.InBlock
public import Idealize.ShloMosaic.Lib.WritesUnit

@[expose] public section

set_option maxRecDepth 16384

noncomputable section

namespace Cert.Kernel3Ideal.In

open Idealize.ShloMosaic Idealize.ShloMosaic.TcCoe
open Cert.Kernel3Ideal Cert.Kernel3Ideal.Gen Cert.Kernel3Ideal.Value Cert.Norm

/-- The carried rows over the block's projected rows. -/
def extended (H : Vec Ideal S16x512 .f32) (Z : FVec Ideal S512x2048 .f32) : Vec Ideal S528x512 .f32 :=
  fun y => if h : (y (0 : Fin 2)).val < 16 then H (ix2 ⟨(y (0 : Fin 2)).val, h⟩ (y (1 : Fin 2)))
    else Z (ix2 ⟨(y (0 : Fin 2)).val - 16, by have h2 : (y (0 : Fin 2)).val < 528 := (y (0 : Fin 2)).isLt; omega⟩ ⟨(y (1 : Fin 2)).val, by have h2 : (y (1 : Fin 2)).val < 512 := (y (1 : Fin 2)).isLt; omega⟩)

/-- The rows that a scratch carries. -/
def carried (s : Vec Ideal S528x512 .f32) : Vec Ideal S16x512 .f32 := fun x => s (ix2 ⟨(x (0 : Fin 2)).val, by have h2 : (x (0 : Fin 2)).val < 16 := (x (0 : Fin 2)).isLt; omega⟩ (x (1 : Fin 2)))

/-- A group's columns of the rows, and its weights. -/
def groupCols (E : Vec Ideal S528x512 .f32) (o : Fin 2 → Nat) (h : ∀ a, o a + S528x128.size a ≤ S528x512.size a) : Vec Ideal S528x128 .f32 :=
  View.ld E (Rect.unit (s := S528x512) o S528x128.size h)

def groupWeights (w : Vec Ideal S4x128x128 .bf16) (o : Fin 3 → Nat) (h : ∀ a, o a + S1x128x128.size a ≤ S4x128x128.size a) : Vec Ideal S1x128x128 .bf16 :=
  View.ld w (Rect.unit (s := S4x128x128) o S1x128x128.size h)

/-- What the pooling mixer leaves of the block `n` of a sequence. -/
def pooled (n : BitVec 32) (E : Vec Ideal S528x512 .f32) (w : Vec Ideal S4x128x128 .bf16) (g : Vec Ideal S1x512 .f32) : FVec Ideal S1x512x512 .bf16 :=
  k0_pay1 (k0_pay14 n (groupCols E ![0, 0] inb_S528x512_S528x128_0_0) (groupWeights w ![0, 0, 0] inb_S4x128x128_S1x128x128_0_0_0))
    (k0_pay16 (groupCols E ![0, 128] inb_S528x512_S528x128_0_128) (k0_pay15 n (groupCols E ![0, 128] inb_S528x512_S528x128_0_128)) (groupWeights w ![1, 0, 0] inb_S4x128x128_S1x128x128_1_0_0))
    (k0_pay17 (k0_pay13 n) (groupCols E ![0, 256] inb_S528x512_S528x128_0_256) (groupWeights w ![2, 0, 0] inb_S4x128x128_S1x128x128_2_0_0))
    (groupCols E ![0, 384] inb_S528x512_S528x128_0_384) (k0_pay18 (groupCols E ![0, 384] inb_S528x512_S528x128_0_384)) (k0_pay19 (k0_pay13 n))
    (groupWeights w ![3, 0, 0] inb_S4x128x128_S1x128x128_3_0_0) g

theorem pay12_apply (Z : FVec Ideal S512x2048 .f32) (r l : Fin 512) : (show EReal from k0_pay12 Z (ix2 r l)) = Z (ix2 r ⟨l.val, by omega⟩) := by
  unfold k0_pay12
  pointwise []

theorem pay2_apply (v : Vec Ideal S16x512 .f32) (r : Fin 16) (l : Fin 512) : (show EReal from k0_pay2 v (ix2 r l)) = v (ix2 r l) := by
  unfold k0_pay2
  pointwise []

theorem pay11_eq : (k0_pay11 (F := Ideal)) = fun _ => (0 : EReal) := by
  funext y
  unfold k0_pay11
  pointwise [Ideal.ofBits_zero]

theorem canon_at {s : Shape} {off size : Fin s.rank → Nat} (inb : ∀ a, off a + size a ≤ s.size a) (w : (Rect.unit off size inb).shape.Idx → Elt Ideal .f32)
    (L : List (View.Piece (Elt Ideal) s .f32)) (y : s.Idx) (x : (Rect.unit off size inb).shape.Idx) (hx : ∀ a, (y a).val = off a + (x a).val) :
    View.canon ((⟨Rect.unit off size inb, w⟩ : View.Piece (Elt Ideal) s .f32) :: L) y = w x := by
  have hy : (Rect.unit off size inb).emb x = y := funext fun a => Fin.ext (by
    show off a + 1 * (x a).val = (y a).val
    rw [hx a, Nat.one_mul])
  rw [← hy]
  exact View.canon_cons_emb _ w L x

theorem canon_off {s : Shape} {off size : Fin s.rank → Nat} (inb : ∀ a, off a + size a ≤ s.size a) (w : (Rect.unit off size inb).shape.Idx → Elt Ideal .f32)
    (L : List (View.Piece (Elt Ideal) s .f32)) (y : s.Idx) (a : Fin s.rank) (ha : (y a).val < off a ∨ off a + size a ≤ (y a).val) :
    View.canon ((⟨Rect.unit off size inb, w⟩ : View.Piece (Elt Ideal) s .f32) :: L) y = View.canon L y := by
  refine View.canon_cons_of_not_mem _ L ?_
  rw [Rect.mem_set_unit]
  intro hall
  have := hall a
  omega

/-- The scratch read back, over zeros and over what the point before left. -/
theorem over_zeros (Z : FVec Ideal S512x2048 .f32) :
    View.canon (Val := Elt Ideal) [⟨Rect.unit (s := S528x512) ![16, 0] S512x512.size inb_S528x512_S512x512_16_0, k0_pay12 Z⟩,
      ⟨Rect.unit (s := S528x512) ![0, 0] S16x512.size inb_S528x512_S16x512_0_0, k0_pay11 (F := Ideal)⟩] = extended (fun _ => (0 : EReal)) Z := by
  funext y
  have b0 : (y (0 : Fin 2)).val < 528 := (y (0 : Fin 2)).isLt
  have b1 : (y (1 : Fin 2)).val < 512 := (y (1 : Fin 2)).isLt
  unfold extended
  by_cases h : (y (0 : Fin 2)).val < 16
  · rw [dif_pos h]
    refine (canon_off _ _ _ y (0 : Fin 2) (Or.inl h)).trans ((canon_at _ _ _ y (ix2 ⟨(y (0 : Fin 2)).val, h⟩ ⟨(y (1 : Fin 2)).val, b1⟩) (fun a => ?_)).trans (congrFun pay11_eq _))
    match a with
    | ⟨0, _⟩ => show (y (0 : Fin 2)).val = 0 + (y (0 : Fin 2)).val; omega
    | ⟨1, _⟩ => show (y (1 : Fin 2)).val = 0 + (y (1 : Fin 2)).val; omega
  · rw [dif_neg h]
    refine (canon_at _ _ _ y (ix2 ⟨(y (0 : Fin 2)).val - 16, by omega⟩ ⟨(y (1 : Fin 2)).val, b1⟩) (fun a => ?_)).trans (pay12_apply Z _ _)
    match a with
    | ⟨0, _⟩ => show (y (0 : Fin 2)).val = 16 + ((y (0 : Fin 2)).val - 16); omega
    | ⟨1, _⟩ => show (y (1 : Fin 2)).val = 0 + (y (1 : Fin 2)).val; omega

theorem over_carried (xs : Vec Ideal S528x512 .f32) (Z : FVec Ideal S512x2048 .f32) (M : Memref sig .tc .vmem S528x512 .f32) (hM : M.IsWhole) :
    M.view.read (Elt Ideal) (M.view.writes (Elt Ideal) (hM.unread xs) [⟨Rect.unit (s := S528x512) ![16, 0] S512x512.size inb_S528x512_S512x512_16_0, k0_pay12 Z⟩])
      = extended (carried xs) Z := by
  funext y
  have b0 : (y (0 : Fin 2)).val < 528 := (y (0 : Fin 2)).isLt
  have b1 : (y (1 : Fin 2)).val < 512 := (y (1 : Fin 2)).isLt
  unfold extended
  by_cases h : (y (0 : Fin 2)).val < 16
  · rw [dif_pos h]
    refine (View.read_writes_cons_unit_of_not_mem _ _ _ _ _ y rfl (0 : Fin 2) (Or.inl h)).trans ?_
    rw [View.writes_nil, hM.read_unread]
    exact congrArg xs (funext fun a => Fin.ext (match a with | ⟨0, _⟩ => rfl | ⟨1, _⟩ => rfl))
  · rw [dif_neg h]
    refine (View.read_writes_cons_unit_of_mem _ _ _ _ _ y (ix2 ⟨(y (0 : Fin 2)).val - 16, by omega⟩ ⟨(y (1 : Fin 2)).val, b1⟩) rfl (fun a => ?_)).trans (pay12_apply Z _ _)
    match a with
    | ⟨0, _⟩ => show (y (0 : Fin 2)).val = 16 + ((y (0 : Fin 2)).val - 16); omega
    | ⟨1, _⟩ => show (y (1 : Fin 2)).val = 0 + (y (1 : Fin 2)).val; omega

/-- What a point leaves in the carried rows. -/
theorem carries (Z : FVec Ideal S512x2048 .f32) (L L' : List (View.Piece (Elt Ideal) S528x512 .f32)) (r : Fin 16) (l : Fin 512) :
    (show EReal from View.canon (Val := Elt Ideal) ((⟨Rect.unit (s := S528x512) ![0, 0] S16x512.size inb_S528x512_S16x512_0_0,
      k0_pay2 (fun j => View.canon (Val := Elt Ideal) ((⟨Rect.unit (s := S528x512) ![16, 0] S512x512.size inb_S528x512_S512x512_16_0, k0_pay12 Z⟩ : View.Piece (Elt Ideal) S528x512 .f32) :: L')
        ((Rect.unit (s := S528x512) ![512, 0] S16x512.size inb_S528x512_S16x512_512_0).toLoadRect.idx j))⟩ : View.Piece (Elt Ideal) S528x512 .f32) :: L) (ix2 ⟨r.val, by omega⟩ l))
      = Z (ix2 ⟨496 + r.val, by omega⟩ ⟨l.val, by omega⟩) := by
  have e1 := canon_at inb_S528x512_S16x512_0_0 (k0_pay2 (fun j => View.canon (Val := Elt Ideal) ((⟨Rect.unit (s := S528x512) ![16, 0] S512x512.size inb_S528x512_S512x512_16_0, k0_pay12 Z⟩ : View.Piece (Elt Ideal) S528x512 .f32) :: L')
        ((Rect.unit (s := S528x512) ![512, 0] S16x512.size inb_S528x512_S16x512_512_0).toLoadRect.idx j))) L (ix2 ⟨r.val, by omega⟩ l) (ix2 r l) (fun a => by
    match a with
    | ⟨0, _⟩ => show r.val = 0 + r.val; omega
    | ⟨1, _⟩ => show l.val = 0 + l.val; omega)
  have e2 := canon_at inb_S528x512_S512x512_16_0 (k0_pay12 Z) L' ((Rect.unit (s := S528x512) ![512, 0] S16x512.size inb_S528x512_S16x512_512_0).toLoadRect.idx (ix2 r l))
    (ix2 ⟨496 + r.val, by omega⟩ l) (fun a => by
    match a with
    | ⟨0, _⟩ => show 512 + 1 * r.val = 16 + (496 + r.val); omega
    | ⟨1, _⟩ => show 0 + 1 * l.val = 0 + l.val; omega)
  exact e1.trans ((pay2_apply _ r l).trans (e2.trans (pay12_apply Z _ _)))

section run

variable (c : Dev nD) (i : grid0.Coords) (arg2 : Memref sig .tc .vmem S1x512x1024 .f32) (harg2 : arg2.IsWhole) (arg3 : Memref sig .tc .vmem S1x6x1024 .f32) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S4x128x128 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S512x512 .bf16) (harg10 : arg10.IsWhole) (arg11 : Memref sig .tc .vmem S1x512x512 .bf16) (harg11 : arg11.IsWhole) (arg12 : Memref sig .tc .vmem S1x512x512 .bf16) (harg12 : arg12.IsWhole) (arg13 : Memref sig .tc .vmem S1x512x512 .bf16) (harg13 : arg13.IsWhole) (arg14 : Memref sig .tc .vmem S1x512x512 .bf16) (harg14 : arg14.IsWhole) (arg15 : Memref sig .tc .vmem S528x512 .f32) (harg15 : arg15.IsWhole)
  (x0 : Vec Ideal S1x512x1024 .f32) (x1 : Vec Ideal S1x6x1024 .f32) (x2 : Vec Ideal S1x1024 .f32) (x3 : Vec Ideal S1024x2048 .bf16) (x4 : Vec Ideal S4x128x128 .bf16) (x5 : Vec Ideal S1x512 .f32) (x6 : Vec Ideal S1x512 .f32) (x7 : Vec Ideal S1x512 .f32) (x8 : Vec Ideal S512x512 .bf16) (xs : Vec Ideal S528x512 .f32)

theorem out_A_9 (hc : cond0_0 i) : out0_A_9 c i arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 x8 = pooled (BitVec.ofNat 32 (i 1).val) (extended (fun _ => (0 : EReal)) (rows x0 x1 x2 x3)) x4 x5 := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 x8)]
  unfold kernelRun0_A
  dsimp only
  sl_unfold_words
  rw [View.canon_unit_zero (S := S1x512x512) zeros3]
  simp only [View.readAt_eq_ld, View.readCov_eq_canon', harg2.read_unread, harg3.read_unread, harg4.read_unread, harg5.read_unread, harg6.read_unread, harg7.read_unread,
    View.ld_unit_zero (S := S1x512x1024) zeros3, View.ld_unit_zero (S := S1024x2048) zeros2, View.ld_unit_zero (S := S1x1024) zeros2,
    View.ld_unit_zero (S := S1x512) zeros2]
  unfold pooled groupCols groupWeights
  rw [← over_zeros]
  rfl

theorem out_B_9 (hc : ¬cond0_0 i) : out0_B_9 c i arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 x8 xs = pooled (BitVec.ofNat 32 (i 1).val) (extended (carried xs) (rows x0 x1 x2 x3)) x4 x5 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 x8 xs)]
  unfold kernelRun0_B
  dsimp only
  sl_unfold_words
  rw [View.canon_unit_zero (S := S1x512x512) zeros3]
  simp only [View.readAt_eq_ld, View.readCov_eq_canon', harg2.read_unread, harg3.read_unread, harg4.read_unread, harg5.read_unread, harg6.read_unread, harg7.read_unread,
    View.ld_unit_zero (S := S1x512x1024) zeros3, View.ld_unit_zero (S := S1024x2048) zeros2, View.ld_unit_zero (S := S1x1024) zeros2,
    View.ld_unit_zero (S := S1x512) zeros2]
  unfold pooled groupCols groupWeights
  rw [← over_carried xs (rows x0 x1 x2 x3) arg15 harg15]
  rfl

theorem scr_A (hc : cond0_0 i) (r : Fin 16) (l : Fin 512) :
    (show EReal from sout0_A_0 c i arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 x8 (ix2 ⟨r.val, by omega⟩ l)) = rows x0 x1 x2 x3 (ix2 ⟨496 + r.val, by omega⟩ ⟨l.val, by omega⟩) := by
  unfold sout0_A_0
  unfold kernelRun0_A
  dsimp only
  sl_unfold_words
  simp only [View.readAt_eq_ld, View.readCov_eq_canon', View.read_writes_junk_eq_canon, harg2.read_unread, harg3.read_unread, harg4.read_unread, harg5.read_unread,
    View.ld_unit_zero (S := S1x512x1024) zeros3, View.ld_unit_zero (S := S1024x2048) zeros2, View.ld_unit_zero (S := S1x1024) zeros2]
  exact carries (rows x0 x1 x2 x3) _ _ r l

theorem scr_B (hc : ¬cond0_0 i) (r : Fin 16) (l : Fin 512) :
    (show EReal from sout0_B_0 c i arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 x8 xs (ix2 ⟨r.val, by omega⟩ l)) = rows x0 x1 x2 x3 (ix2 ⟨496 + r.val, by omega⟩ ⟨l.val, by omega⟩) := by
  unfold sout0_B_0
  unfold kernelRun0_B
  dsimp only
  sl_unfold_words
  simp only [View.readAt_eq_ld, View.readCov_eq_canon', View.read_writes_junk_eq_canon, harg2.read_unread, harg3.read_unread, harg4.read_unread, harg5.read_unread,
    View.ld_unit_zero (S := S1x512x1024) zeros3, View.ld_unit_zero (S := S1024x2048) zeros2, View.ld_unit_zero (S := S1x1024) zeros2]
  exact carries (rows x0 x1 x2 x3) _ _ r l

end run

end Cert.Kernel3Ideal.In

end
-- ==== Proof.PoolMath.lean ====
/- A trailing mean over a window less the token, and the pooling mixer's entry, free of both programs. -/
module

public import proofs.«01_k».proof.Proof.NormMath
public import Idealize.ShloMosaic.Lib.IdealHost

@[expose] public section

set_option maxRecDepth 16384

noncomputable section

namespace Cert.Norm

open Idealize.ShloMosaic

/-- The sum of the last `w` tokens. -/
def trailing (w : Nat) (u : Nat → EReal) (n : Nat) : EReal := ∑ i ∈ Finset.range w, if i ≤ n then u (n - i) else 0

/-- The number of tokens in the window. -/
def tokens (w n : Nat) : EReal := (FloatOps.sitofp .f32 (IntOp.minsi (BitVec.ofNat 32 (n + 1)) (BitVec.ofNat 32 w)) : Ideal .f32)

/-- The trailing mean less the token. -/
def centred (w : Nat) (u : Nat → EReal) (n : Nat) : EReal := Ideal.div (trailing w u n) (tokens w n) - u n

/-- A column of a column's group. -/
def groupCol (l : Fin 512) (c : Fin 128) : Fin 512 := ⟨128 * (l.val / 128) + c.val, by omega⟩

/-- The pooling mixer's entry, its weights given for the entry's group. -/
def pooledAt (u : Fin 512 → Nat → EReal) (w : Fin 4 → Fin 128 → Fin 128 → EReal) (s : Fin 512 → EReal) (n : Nat) (l : Fin 512) : EReal :=
  (∑ c : Fin 128, centred (2 ^ (l.val / 128 + 1)) (u (groupCol l c)) n * w ⟨l.val / 128, by omega⟩ c ⟨l.val % 128, by omega⟩) * s l

/-- A sum of a function and of its values `s` places before. -/
def doubled (s : Nat) (f : Nat → EReal) (y : Nat) : EReal := f y + f (y - s)

/-- Sums doubled again and again are sums over windows. -/
theorem doubled_one (f : Nat → EReal) (y : Nat) : doubled 1 f y = ∑ i ∈ Finset.range (2 ^ (0 + 1)), f (y - i) := by
  simp only [doubled, Nat.reduceAdd, Nat.reducePow, Finset.sum_range_succ, Finset.sum_range_zero, zero_add, Nat.sub_zero]

theorem doubled_two (f : Nat → EReal) (y : Nat) : doubled 2 (doubled 1 f) y = ∑ i ∈ Finset.range (2 ^ (1 + 1)), f (y - i) := by
  simp only [doubled, Nat.reduceAdd, Nat.reducePow, Finset.sum_range_succ, Finset.sum_range_zero, zero_add, Nat.sub_zero, Nat.sub_sub, add_assoc]

theorem doubled_three (f : Nat → EReal) (y : Nat) : doubled 4 (doubled 2 (doubled 1 f)) y = ∑ i ∈ Finset.range (2 ^ (2 + 1)), f (y - i) := by
  simp only [doubled, Nat.reduceAdd, Nat.reducePow, Finset.sum_range_succ, Finset.sum_range_zero, zero_add, Nat.sub_zero, Nat.sub_sub, add_assoc]

theorem doubled_four (f : Nat → EReal) (y : Nat) : doubled 8 (doubled 4 (doubled 2 (doubled 1 f))) y = ∑ i ∈ Finset.range (2 ^ (3 + 1)), f (y - i) := by
  simp only [doubled, Nat.reduceAdd, Nat.reducePow, Finset.sum_range_succ, Finset.sum_range_zero, zero_add, Nat.sub_zero, Nat.sub_sub, add_assoc]

/-- A window read from its first token on. -/
theorem trailing_forward (p : Nat) (u : Nat → EReal) (n : Nat) :
    (∑ i ∈ Finset.range (p + 1), if p ≤ n + i then u (n + i - p) else 0) = trailing (p + 1) u n := by
  unfold trailing
  rw [← Finset.sum_range_reflect]
  refine Finset.sum_congr rfl fun i hi => ?_
  have hi' := Finset.mem_range.mp hi
  have e : n + (p + 1 - 1 - i) - p = n - i := by omega
  rw [e]
  refine if_congr ⟨fun h => ?_, fun h => ?_⟩ rfl rfl
  · omega
  · omega

end Cert.Norm

end
-- ==== Proof.PoolCell.lean ====
/- The pooling mixer's block at an index. -/
module

public import proofs.«01_k».proof.Proof.PoolBlock
public import proofs.«01_k».proof.Proof.PoolMath
public import Idealize.ShloMosaic.Lib.KernelVsHost

@[expose] public section

set_option maxRecDepth 16384

noncomputable section

namespace Cert.Kernel3Ideal.In

open Idealize.ShloMosaic Idealize.ShloMosaic.TcCoe
open Cert.Kernel3Ideal Cert.Kernel3Ideal.Gen Cert.Kernel3Ideal.Value Cert.Norm

/-- The rows and the rows `s` before them. -/
def twice (s : BitVec 32) (E : Vec Ideal S528x128 .f32) : FVec Ideal S528x128 .f32 := addf (F := Ideal) (φ := .f32) E (dynamicRotate 0 s none E rotates_S528x128_d0)

/-- The rows' positions, from one. -/
def positions (n : BitVec 32) : IVec S512x1 32 := addi (k0_pay13 n) (broadcast S512x1 1#32)

/-- The means less the rows, by the weights. -/
def group (T E : Vec Ideal S528x128 .f32) (q : IVec S512x1 32) (W : BitVec 32) (w : Vec Ideal S1x128x128 .bf16) : FVec Ideal S512x128 .f32 :=
  matmul (F := Ideal) (φ₁ := .bf16) (φ₂ := .bf16) dot_S512x128_S128x128_S512x128_1_0_0_1_n_n none
    (truncf (F := Ideal) (φ := .f32) .bf16 (subf (divf (extractStridedSlice S512x128 ![16, 0] T slices_S528x128_o16_0_S512x128)
      (broadcastTo S512x128 (sitofp (F := Ideal) .f32 (minsi q (broadcast S512x1 W))) broadcasts_S512x1_S512x128))
      (extractStridedSlice S512x128 ![16, 0] E slices_S528x128_o16_0_S512x128)) bitsLt_bf16_f32)
    (shapeCast S128x128 w shapeCasts_S1x128x128_S128x128) (constant S512x128 .f32 0x00000000#32)

/-- The groups side by side, by the scale. -/
def joined (a b c d : FVec Ideal S512x128 .f32) (s : Vec Ideal S1x512 .f32) : FVec Ideal S1x512x512 .bf16 :=
  shapeCast S1x512x512 (truncf (F := Ideal) (φ := .f32) .bf16 (mulf (F := Ideal) (φ := .f32) (concatenate S512x512 1 [⟨S512x128, a⟩, ⟨S512x128, b⟩, ⟨S512x128, c⟩, ⟨S512x128, d⟩] concatenates_S512x128_S512x128_S512x128_S512x128_S512x512_d1)
    (broadcastTo S512x512 (shapeCast S1x512 s shapeCasts_S1x512_S1x512) broadcasts_S1x512_S512x512)) bitsLt_bf16_f32) shapeCasts_S512x512_S1x512x512

abbrev grp0 (E : Vec Ideal S528x512 .f32) := groupCols E ![0, 0] inb_S528x512_S528x128_0_0
abbrev grp1 (E : Vec Ideal S528x512 .f32) := groupCols E ![0, 128] inb_S528x512_S528x128_0_128
abbrev grp2 (E : Vec Ideal S528x512 .f32) := groupCols E ![0, 256] inb_S528x512_S528x128_0_256
abbrev grp3 (E : Vec Ideal S528x512 .f32) := groupCols E ![0, 384] inb_S528x512_S528x128_0_384

theorem pooled_eq (n : BitVec 32) (E : Vec Ideal S528x512 .f32) (w : Vec Ideal S4x128x128 .bf16) (g : Vec Ideal S1x512 .f32) :
    pooled n E w g = joined
      (group (twice 1#32 (grp0 E)) (grp0 E) (positions n) 2#32 (groupWeights w ![0, 0, 0] inb_S4x128x128_S1x128x128_0_0_0))
      (group (twice 2#32 (twice 1#32 (grp1 E))) (grp1 E) (positions n) 4#32 (groupWeights w ![1, 0, 0] inb_S4x128x128_S1x128x128_1_0_0))
      (group (twice 4#32 (twice 2#32 (twice 1#32 (grp2 E)))) (grp2 E) (positions n) 8#32 (groupWeights w ![2, 0, 0] inb_S4x128x128_S1x128x128_2_0_0))
      (group (twice 8#32 (twice 4#32 (twice 2#32 (twice 1#32 (grp3 E))))) (grp3 E) (positions n) 16#32 (groupWeights w ![3, 0, 0] inb_S4x128x128_S1x128x128_3_0_0)) g := rfl

theorem joined_apply (a b c d : FVec Ideal S512x128 .f32) (s : Vec Ideal S1x512 .f32) (r l : Fin 512) (v : EReal)
    (hv : (show EReal from concatenate S512x512 1 [⟨S512x128, a⟩, ⟨S512x128, b⟩, ⟨S512x128, c⟩, ⟨S512x128, d⟩] concatenates_S512x128_S512x128_S512x128_S512x128_S512x512_d1 (ix2 r l)) = v) :
    (show EReal from joined a b c d s (ix3 0 r l)) = v * s (ix2 0 l) := by
  have e : ∀ C : FVec Ideal S512x512 .f32, (show EReal from shapeCast S1x512x512 (truncf (F := Ideal) (φ := .f32) .bf16 (mulf (F := Ideal) (φ := .f32) C
      (broadcastTo S512x512 (shapeCast S1x512 s shapeCasts_S1x512_S1x512) broadcasts_S1x512_S512x512)) bitsLt_bf16_f32) shapeCasts_S512x512_S1x512x512 (ix3 0 r l))
        = (show EReal from C (ix2 r l)) * s (ix2 0 l) := by
    intro C
    pointwise []
  exact (e _).trans (congrArg (· * _) hv)

theorem group_apply (T E : Vec Ideal S528x128 .f32) (q : IVec S512x1 32) (W : BitVec 32) (w : Vec Ideal S1x128x128 .bf16) (r : Fin 512) (d : Fin 128) :
    (show EReal from group T E q W w (ix2 r d))
      = ∑ c : Fin 128, (Ideal.div (T (ix2 ⟨16 + r.val, by omega⟩ c)) (FloatOps.sitofp .f32 (IntOp.minsi (q (ix2 r 0)) W) : Ideal .f32) - (show EReal from E (ix2 ⟨16 + r.val, by omega⟩ c)))
          * w (ix3 0 c d) := by
  unfold group
  pointwise []

theorem positions_apply (j : Nat) (r : Fin 512) : positions (BitVec.ofNat 32 j) (ix2 r 0) = BitVec.ofNat 32 (512 * j + r.val + 1) := by
  unfold positions k0_pay13
  pointwise []
  show BitVec.ofNat 32 j * BitVec.ofNat 32 512 + BitVec.ofNat 32 r.val + BitVec.ofNat 32 1 = _
  rw [BitVec.ofNat_add, BitVec.ofNat_add, BitVec.ofNat_mul, BitVec.mul_comm]

theorem twice_apply (s : BitVec 32) (k : Nat) (hk : s.toNat = k) (h16 : k < 16) (E : Vec Ideal S528x128 .f32) (f : Nat → EReal) (c : Fin 128) (lo : Nat)
    (hf : ∀ y : Fin 528, lo ≤ y.val → (show EReal from E (ix2 y c)) = f y.val) (y : Fin 528) (hy : lo + k ≤ y.val) :
    (show EReal from twice s E (ix2 y c)) = doubled k f y.val := by
  have e : dynamicRotate 0 s none E rotates_S528x128_d0 (ix2 y c) = E (ix2 ⟨y.val - k, by omega⟩ c) := by
    refine dynamicRotate_apply (0 : Fin 2) s E rotates_S528x128_d0 (ix2 y c) (ix2 ⟨y.val - k, by omega⟩ c) (fun b => ?_)
    match b with
    | ⟨0, _⟩ => show y.val - k = (y.val + 528 - s.toNat % 528) % 528; rw [hk]; omega
    | ⟨1, _⟩ => rfl
  show (show EReal from E (ix2 y c)) + (show EReal from dynamicRotate 0 s none E rotates_S528x128_d0 (ix2 y c)) = _
  exact congr (congrArg HAdd.hAdd (hf y (by omega))) ((congrArg (fun v => v) e).trans (hf ⟨y.val - k, by omega⟩ (by show lo ≤ y.val - k; omega)))

theorem groupCols_apply (E : Vec Ideal S528x512 .f32) (o : Nat) (h : ∀ a, (![0, o] : Fin 2 → Nat) a + S528x128.size a ≤ S528x512.size a) (y : Fin 528) (c : Fin 128) (l : Fin 512) (hl : l.val = o + c.val) :
    (show EReal from groupCols E ![0, o] h (ix2 y c)) = E (ix2 y l) := by
  refine congrArg E (funext fun a => Fin.ext ?_)
  match a with
  | ⟨0, _⟩ => show 0 + 1 * y.val = y.val; omega
  | ⟨1, _⟩ => show o + 1 * c.val = l.val; omega

theorem groupWeights_apply (w : Vec Ideal S4x128x128 .bf16) (k : Fin 4) (h : ∀ a, (![k.val, 0, 0] : Fin 3 → Nat) a + S1x128x128.size a ≤ S4x128x128.size a) (c d : Fin 128) :
    (show EReal from groupWeights w ![k.val, 0, 0] h (ix3 0 c d)) = w (ix3 k c d) := by
  refine congrArg w (funext fun a => Fin.ext ?_)
  match a with
  | ⟨0, _⟩ => show k.val + 1 * 0 = k.val; omega
  | ⟨1, _⟩ => show 0 + 1 * c.val = c.val; omega
  | ⟨2, _⟩ => show 0 + 1 * d.val = d.val; omega

section cell

variable (j : Nat) (E : Vec Ideal S528x512 .f32) (w : Vec Ideal S4x128x128 .bf16) (g : Vec Ideal S1x512 .f32) (u : Fin 512 → Nat → EReal) (r : Fin 512)
  (hE : ∀ (i : Nat) (_ : i < 16) (l : Fin 512), (show EReal from E (ix2 ⟨16 + r.val - i, Nat.lt_of_le_of_lt (Nat.sub_le _ _) (Nat.add_lt_add_left r.isLt 16)⟩ l)) = if i ≤ 512 * j + r.val then u l (512 * j + r.val - i) else 0)

/-- A column by row number. -/
def byRow (l : Fin 512) (y : Nat) : EReal := if h : y < 528 then E (ix2 ⟨y, h⟩ l) else 0

theorem byRow_of (l : Fin 512) (y : Fin 528) : (show EReal from E (ix2 y l)) = byRow E l y.val := by
  unfold byRow
  rw [dif_pos y.isLt]

/-- A column of a group. -/
abbrev colOf (k : Fin 4) (c : Fin 128) : Fin 512 := ⟨128 * k.val + c.val, by omega⟩

include hE

theorem byRow_back (i : Nat) (hi : i < 16) (l : Fin 512) : byRow E l (16 + r.val - i) = if i ≤ 512 * j + r.val then u l (512 * j + r.val - i) else 0 :=
  (byRow_of E l ⟨16 + r.val - i, by omega⟩).symm.trans (hE i hi l)

theorem group_cell (k : Fin 4) (T G : Vec Ideal S528x128 .f32) (W : BitVec 32) (hW : W = BitVec.ofNat 32 (2 ^ (k.val + 1)))
    (h : ∀ a, (![k.val, 0, 0] : Fin 3 → Nat) a + S1x128x128.size a ≤ S4x128x128.size a)
    (hG : ∀ (y : Fin 528) (c : Fin 128), (show EReal from G (ix2 y c)) = byRow E (colOf k c) y.val)
    (hT : ∀ c : Fin 128, (show EReal from T (ix2 ⟨16 + r.val, by omega⟩ c)) = ∑ i ∈ Finset.range (2 ^ (k.val + 1)), byRow E (colOf k c) (16 + r.val - i)) (d : Fin 128) :
    (show EReal from group T G (positions (BitVec.ofNat 32 j)) W (groupWeights w ![k.val, 0, 0] h) (ix2 r d))
      = ∑ c : Fin 128, centred (2 ^ (k.val + 1)) (u (colOf k c)) (512 * j + r.val) * w (ix3 k c d) := by
  subst hW
  have hk : 2 ^ (k.val + 1) ≤ 16 := (by decide : ∀ k : Fin 4, 2 ^ (k.val + 1) ≤ 16) k
  refine (group_apply T G _ _ _ r d).trans (Finset.sum_congr rfl fun c _ => ?_)
  have e1 : (show EReal from T (ix2 ⟨16 + r.val, by omega⟩ c)) = trailing (2 ^ (k.val + 1)) (u (colOf k c)) (512 * j + r.val) :=
    (hT c).trans (Finset.sum_congr rfl fun i hi => byRow_back j E u r hE i (by have := Finset.mem_range.mp hi; omega) _)
  have e2 : (FloatOps.sitofp .f32 (IntOp.minsi (positions (BitVec.ofNat 32 j) (ix2 r 0)) (BitVec.ofNat 32 (2 ^ (k.val + 1)))) : Ideal .f32) = tokens (2 ^ (k.val + 1)) (512 * j + r.val) := by
    rw [positions_apply]
    rfl
  have e3 : (show EReal from G (ix2 ⟨16 + r.val, by omega⟩ c)) = u (colOf k c) (512 * j + r.val) :=
    (hG _ c).trans ((byRow_back j E u r hE 0 (by omega) _).trans (if_pos (Nat.zero_le _)))
  exact congr (congrArg HMul.hMul (congr (congrArg HSub.hSub (congr (congrArg Ideal.div e1) e2)) e3)) (groupWeights_apply w k h c d)

omit hE in
theorem grp_rows (k : Fin 4) (o : Nat) (ho : o = 128 * k.val) (h : ∀ a, (![0, o] : Fin 2 → Nat) a + S528x128.size a ≤ S528x512.size a) (y : Fin 528) (c : Fin 128) :
    (show EReal from groupCols E ![0, o] h (ix2 y c)) = byRow E (colOf k c) y.val :=
  (groupCols_apply E o h y c (colOf k c) (by show 128 * k.val + c.val = o + c.val; omega)).trans (byRow_of E _ y)

omit hE in
theorem once_rows (k : Fin 4) (G : Vec Ideal S528x128 .f32) (hG : ∀ (y : Fin 528) (c : Fin 128), (show EReal from G (ix2 y c)) = byRow E (colOf k c) y.val)
    (y : Fin 528) (c : Fin 128) (hy : 1 ≤ y.val) : (show EReal from twice 1#32 G (ix2 y c)) = doubled 1 (byRow E (colOf k c)) y.val :=
  twice_apply 1#32 1 rfl (by omega) G _ c 0 (fun y _ => hG y c) y (by omega)

omit hE in
theorem two_rows (k : Fin 4) (G : Vec Ideal S528x128 .f32) (hG : ∀ (y : Fin 528) (c : Fin 128), (show EReal from G (ix2 y c)) = byRow E (colOf k c) y.val)
    (y : Fin 528) (c : Fin 128) (hy : 3 ≤ y.val) : (show EReal from twice 2#32 (twice 1#32 G) (ix2 y c)) = doubled 2 (doubled 1 (byRow E (colOf k c))) y.val :=
  twice_apply 2#32 2 rfl (by omega) _ _ c 1 (fun y hy => once_rows E k G hG y c hy) y (by omega)

omit hE in
theorem three_rows (k : Fin 4) (G : Vec Ideal S528x128 .f32) (hG : ∀ (y : Fin 528) (c : Fin 128), (show EReal from G (ix2 y c)) = byRow E (colOf k c) y.val)
    (y : Fin 528) (c : Fin 128) (hy : 7 ≤ y.val) :
    (show EReal from twice 4#32 (twice 2#32 (twice 1#32 G)) (ix2 y c)) = doubled 4 (doubled 2 (doubled 1 (byRow E (colOf k c)))) y.val :=
  twice_apply 4#32 4 rfl (by omega) _ _ c 3 (fun y hy => two_rows E k G hG y c hy) y (by omega)

omit hE in
theorem four_rows (k : Fin 4) (G : Vec Ideal S528x128 .f32) (hG : ∀ (y : Fin 528) (c : Fin 128), (show EReal from G (ix2 y c)) = byRow E (colOf k c) y.val)
    (y : Fin 528) (c : Fin 128) (hy : 15 ≤ y.val) :
    (show EReal from twice 8#32 (twice 4#32 (twice 2#32 (twice 1#32 G))) (ix2 y c)) = doubled 8 (doubled 4 (doubled 2 (doubled 1 (byRow E (colOf k c))))) y.val :=
  twice_apply 8#32 8 rfl (by omega) _ _ c 7 (fun y hy => three_rows E k G hG y c hy) y (by omega)

omit hE in
/-- The group a column lies in. -/
theorem piece_apply (k : Fin 4) (p : Fin 4 → FVec Ideal S512x128 .f32) (d : Fin 128) :
    (show EReal from concatenate S512x512 1 [⟨S512x128, p 0⟩, ⟨S512x128, p 1⟩, ⟨S512x128, p 2⟩, ⟨S512x128, p 3⟩] concatenates_S512x128_S512x128_S512x128_S512x128_S512x512_d1 (ix2 r (colOf k d)))
      = p k (ix2 r d) :=
  concatenate_apply_piece (1 : Fin S512x512.rank) [⟨S512x128, p 0⟩, ⟨S512x128, p 1⟩, ⟨S512x128, p 2⟩, ⟨S512x128, p 3⟩] concatenates_S512x128_S512x128_S512x128_S512x128_S512x512_d1
    (ix2 r (colOf k d)) k.val k.isLt S512x128 (p k) (match k with | 0 => rfl | 1 => rfl | 2 => rfl | 3 => rfl) rfl (128 * k.val) (match k with | 0 => rfl | 1 => rfl | 2 => rfl | 3 => rfl) (ix2 r d)
    (fun b hb => match b, hb with | ⟨0, _⟩, _ => rfl | ⟨1, _⟩, hb => absurd rfl hb) rfl

omit hE in
theorem pooledAt_group (k : Fin 4) (d : Fin 128) (w : Fin 4 → Fin 128 → Fin 128 → EReal) (s : Fin 512 → EReal) (n : Nat) :
    pooledAt u w s n (colOf k d) = (∑ c : Fin 128, centred (2 ^ (k.val + 1)) (u (colOf k c)) n * w k c d) * s (colOf k d) := by
  have h1 : (128 * k.val + d.val) / 128 = k.val := by omega
  have h2 : (128 * k.val + d.val) % 128 = d.val := by omega
  unfold pooledAt groupCol
  simp only [h1, h2]

theorem pooled_group (k : Fin 4) (d : Fin 128) :
    (show EReal from pooled (BitVec.ofNat 32 j) E w g (ix3 0 r (colOf k d)))
      = pooledAt u (fun k c d => w (ix3 k c d)) (fun l => g (ix2 0 l)) (512 * j + r.val) (colOf k d) := by
  rw [pooledAt_group, pooled_eq]
  refine joined_apply _ _ _ _ g r (colOf k d) _ ((piece_apply r k ![_, _, _, _] d).trans ?_)
  match k with
  | 0 => exact group_cell j E w u r hE 0 _ _ _ rfl _ (grp_rows E 0 _ rfl _) (fun c => (once_rows E 0 _ (grp_rows E 0 _ rfl _) _ c (by show 1 ≤ 16 + r.val; omega)).trans (doubled_one _ _)) d
  | 1 => exact group_cell j E w u r hE 1 _ _ _ rfl _ (grp_rows E 1 _ rfl _) (fun c => (two_rows E 1 _ (grp_rows E 1 _ rfl _) _ c (by show 3 ≤ 16 + r.val; omega)).trans (doubled_two _ _)) d
  | 2 => exact group_cell j E w u r hE 2 _ _ _ rfl _ (grp_rows E 2 _ rfl _) (fun c => (three_rows E 2 _ (grp_rows E 2 _ rfl _) _ c (by show 7 ≤ 16 + r.val; omega)).trans (doubled_three _ _)) d
  | 3 => exact group_cell j E w u r hE 3 _ _ _ rfl _ (grp_rows E 3 _ rfl _) (fun c => (four_rows E 3 _ (grp_rows E 3 _ rfl _) _ c (by show 15 ≤ 16 + r.val; omega)).trans (doubled_four _ _)) d

theorem pooled_apply (l : Fin 512) :
    (show EReal from pooled (BitVec.ofNat 32 j) E w g (ix3 0 r l))
      = pooledAt u (fun k c d => w (ix3 k c d)) (fun l => g (ix2 0 l)) (512 * j + r.val) l := by
  have e : l = colOf ⟨l.val / 128, by omega⟩ ⟨l.val % 128, by omega⟩ := Fin.ext (by show l.val = 128 * (l.val / 128) + l.val % 128; omega)
  rw [e]
  exact pooled_group j E w g u r hE _ _

end cell

end Cert.Kernel3Ideal.In

end
-- ==== Proof.PoolValue.lean ====
/- What the input projection's pipeline of `Kernel3Ideal` leaves in its pooling mixer's result at an index. -/
module

public import proofs.«01_k».proof.Proof.InValue
public import proofs.«01_k».proof.Proof.PoolCell

@[expose] public section

set_option maxRecDepth 16384

noncomputable section

namespace Cert.Kernel3Ideal.In

open Idealize.ShloMosaic Idealize.ShloMosaic.TcCoe
open Cert.Kernel3Ideal Cert.Kernel3Ideal.Gen Cert.Kernel3Ideal.Value Cert.Norm

theorem coord1_val (t : Fin grid0.N) : (grid0.coords t 1).val = t.val % 16 :=
  (by decide +kernel : ∀ t : Fin grid0.N, (grid0.coords t 1).val = t.val % 16) t

variable (m : (ℓ : Loc nD τ sig) → Buf (Elt Ideal) ℓ) (c : Dev nD)

set_option maxHeartbeats 4000000 in
/-- The mixer's weights. -/
theorem V_poolWeights : V m c main_v20 = truncf (F := Ideal) (s := S4x128x128) (φ := .f32) .bf16 (m ((c : Thread nD τ).loc main_arg4)) bitsLt_bf16_f32 := by
  unfold V
  simp only [hostOps0, hostOps0_1, hostOps0_2, List.flatten_cons, List.flatten_nil, List.append_nil, List.cons_append, List.nil_append,
    StableHlo.TRef.binary, StableHlo.TRef.ternary, StableHlo.TRef.unary, StableHlo.TRef.nullary, StableHlo.TRef.toBuf, StableHlo.TRef.ofBuf, cast_eq]
  after_results_simp

set_option maxHeartbeats 4000000 in
/-- The mixer's scale. -/
theorem V_poolScale : V m c main_v21 = shapeCast S1x512 (m ((c : Thread nD τ).loc main_arg5)) shapeCasts_S512_S1x512 := by
  unfold V
  simp only [hostOps0, hostOps0_1, hostOps0_2, List.flatten_cons, List.flatten_nil, List.append_nil, List.cons_append, List.nil_append,
    StableHlo.TRef.binary, StableHlo.TRef.ternary, StableHlo.TRef.unary, StableHlo.TRef.nullary, StableHlo.TRef.toBuf, StableHlo.TRef.ofBuf, cast_eq]
  after_results_simp
  rfl

theorem iblk4_apply (t : Fin cfg0.N) (k : Fin 4) (a d : Fin 128) :
    (show EReal from iblk m c 4 t (ix3 k a d)) = m ((c : Thread nD τ).loc main_arg4) (ix3 k a d) := by
  refine (congrArg (V m c main_v20) (a₂ := ix3 k a d) (funext fun b => Fin.ext ?_)).trans (congrFun (V_poolWeights m c) _)
  match b with
  | ⟨0, _⟩ => show 0 * 4 + 1 * k.val = k.val; omega
  | ⟨1, _⟩ => show 0 * 128 + 1 * a.val = a.val; omega
  | ⟨2, _⟩ => show 0 * 128 + 1 * d.val = d.val; omega

theorem scale_apply (g : FVec Ideal S512 .f32) (l : Fin 512) : (show EReal from shapeCast S1x512 g shapeCasts_S512_S1x512 (ix2 0 l)) = g (ix1 l) := by
  pointwise []

theorem iblk5_apply (t : Fin cfg0.N) (l : Fin 512) :
    (show EReal from iblk m c 5 t (ix2 0 l)) = m ((c : Thread nD τ).loc main_arg5) (ix1 l) := by
  refine (congrArg (V m c main_v21) (a₂ := ix2 0 l) (funext fun b => Fin.ext ?_)).trans ((congrFun (V_poolScale m c) _).trans (scale_apply _ l))
  match b with
  | ⟨0, _⟩ => rfl
  | ⟨1, _⟩ => show 0 * 512 + 1 * l.val = l.val; omega

/-- A point's projected rows. -/
abbrev rowsAt (t : Fin cfg0.N) : FVec Ideal S512x2048 .f32 := rows (iblk m c 0 t) (iblk m c 1 t) (iblk m c 2 t) (iblk m c 3 t)

/-- A point leaves its last sixteen rows to the next. -/
theorem left_at (t : Fin cfg0.N) (r : Fin 16) (l : Fin 512) :
    (show EReal from (outsAt0 m c t.val t.isLt).2.2.2.2 (ix2 ⟨r.val, by omega⟩ l)) = rowsAt m c t (ix2 ⟨496 + r.val, by omega⟩ ⟨l.val, by omega⟩) := by
  by_cases h0 : t.val % 16 = 0
  · have e1 := scr_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t) (iblk m c 7 t) (iblk m c 8 t) ((hcond0_0 t).mpr h0) r l
    have e2 := congrArg (fun p => p.2.2.2.2) (outsAt0_A m c t h0)
    dsimp only at e2
    rw [e2]
    exact e1
  · have e1 := scr_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.2 (fun h => h0 ((hcond0_0 t).mp h)) r l
    have e2 := congrArg (fun p => p.2.2.2.2) (outsAt0_B m c t h0)
    dsimp only at e2
    rw [e2]
    exact e1

/-- The rows that a point's mixer reads. -/
def extAt (t : Fin cfg0.N) : Vec Ideal S528x512 .f32 :=
  if t.val % 16 = 0 then extended (fun _ => (0 : EReal)) (rowsAt m c t)
  else extended (carried (outsAt0 m c (t.val - 1) (Nat.lt_of_le_of_lt (Nat.sub_le _ _) t.isLt)).2.2.2.2) (rowsAt m c t)

/-- What a point's mixer leaves. -/
def poolBlk (t : Fin cfg0.N) : FVec Ideal S1x512x512 .bf16 := pooled (BitVec.ofNat 32 (grid0.coords t 1).val) (extAt m c t) (iblk m c 4 t) (iblk m c 5 t)

theorem ps_at (t : Fin cfg0.N) : (dats m 0 c).flushed 9 t = (cfg0.win 9).cut (grid0.coords t) (poolBlk m c t) := by
  unfold poolBlk extAt
  by_cases h0 : t.val % 16 = 0
  · rw [flushed9_A m c t h0, out_A_9, if_pos h0]
  · rw [flushed9_B m c t h0, out_B_9, if_neg h0]

/-- The projected row at a column, of the arguments. -/
abbrev argAt (b : Fin 4) (n : Fin 8192) (j : Fin 2048) : EReal :=
  projected (Ideal.ofBits .f32 0x44800000#32) (Ideal.ofBits .f32 0x358637BD#32) (Ideal.ofBits .f32 0x3F800000#32)
    (fun k => m ((c : Thread nD τ).loc main_arg0) (ix3 b n k)) (fun k => m ((c : Thread nD τ).loc main_arg2) (ix1 k))
    (fun k => m ((c : Thread nD τ).loc main_arg1) (ix3 b 1 k)) (fun k => m ((c : Thread nD τ).loc main_arg1) (ix3 b 0 k))
    (fun k => m ((c : Thread nD τ).loc main_arg3) (ix2 k j))

/-- A sequence's column by token. -/
def tokenAt (b : Fin 4) (l : Fin 512) (n : Nat) : EReal := if h : n < 8192 then argAt m c b ⟨n, h⟩ ⟨l.val, by omega⟩ else 0

theorem rowsAt_token (t : Fin 64) (q : Fin 512) (l : Fin 512) (b : Fin 4) (n : Nat) (hb : b.val = t.val / 16) (hn : n = 512 * (t.val % 16) + q.val) :
    (show EReal from rowsAt m c t (ix2 q ⟨l.val, by omega⟩)) = tokenAt m c b l n := by
  subst hn
  rw [show b = ⟨t.val / 16, by omega⟩ from Fin.ext hb]
  unfold tokenAt
  rw [dif_pos (by omega)]
  exact rows_arg m c t q _

theorem extAt_apply (t : Fin 64) (r : Fin 512) (i : Nat) (hi : i < 16) (l : Fin 512) :
    (show EReal from extAt m c t (ix2 ⟨16 + r.val - i, by omega⟩ l))
      = if i ≤ 512 * (t.val % 16) + r.val then tokenAt m c ⟨t.val / 16, by omega⟩ l (512 * (t.val % 16) + r.val - i) else 0 := by
  unfold extAt
  by_cases hr : i ≤ r.val
  · have e : ∀ H : Vec Ideal S16x512 .f32, (show EReal from extended H (rowsAt m c t) (ix2 ⟨16 + r.val - i, by omega⟩ l))
        = rowsAt m c t (ix2 ⟨r.val - i, by omega⟩ ⟨l.val, by omega⟩) := by
      intro H
      refine (dif_neg (show ¬ 16 + r.val - i < 16 by omega)).trans ?_
      exact congrArg (fun q => rowsAt m c t (ix2 q _)) (Fin.ext (by show 16 + r.val - i - 16 = r.val - i; omega))
    refine Eq.trans ?_ (Eq.trans (rowsAt_token m c t ⟨r.val - i, by omega⟩ l ⟨t.val / 16, by omega⟩ (512 * (t.val % 16) + r.val - i) rfl (by show 512 * (t.val % 16) + r.val - i = 512 * (t.val % 16) + (r.val - i); omega)) (if_pos (show i ≤ 512 * (t.val % 16) + r.val by omega)).symm)
    by_cases h0 : t.val % 16 = 0
    · rw [if_pos h0]; exact e _
    · rw [if_neg h0]; exact e _
  · have e : ∀ H : Vec Ideal S16x512 .f32, (show EReal from extended H (rowsAt m c t) (ix2 ⟨16 + r.val - i, by omega⟩ l)) = H (ix2 ⟨16 + r.val - i, by omega⟩ l) :=
      fun H => dif_pos (show 16 + r.val - i < 16 by omega)
    by_cases h0 : t.val % 16 = 0
    · rw [if_pos h0, if_neg (by omega)]; exact e _
    · rw [if_neg h0, if_pos (by omega)]
      refine (e _).trans ((left_at m c (⟨t.val - 1, by omega⟩ : Fin 64) ⟨16 + r.val - i, by omega⟩ l).trans ?_)
      exact rowsAt_token m c (⟨t.val - 1, by omega⟩ : Fin 64) ⟨496 + (16 + r.val - i), by omega⟩ l ⟨t.val / 16, by omega⟩ (512 * (t.val % 16) + r.val - i) (by show t.val / 16 = (t.val - 1) / 16; omega)
        (by show 512 * (t.val % 16) + r.val - i = 512 * ((t.val - 1) % 16) + (496 + (16 + r.val - i)); omega)

/-- What a point's mixer leaves, of the arguments. -/
theorem pool_arg (t : Fin 64) (r l : Fin 512) :
    (show EReal from poolBlk m c t (ix3 0 r l))
      = pooledAt (tokenAt m c ⟨t.val / 16, by omega⟩) (fun k a d => m ((c : Thread nD τ).loc main_arg4) (ix3 k a d)) (fun l => m ((c : Thread nD τ).loc main_arg5) (ix1 l))
          (512 * (t.val % 16) + r.val) l := by
  unfold poolBlk
  rw [coord1_val t]
  refine (pooled_apply (t.val % 16) (extAt m c t) (iblk m c 4 t) (iblk m c 5 t) (tokenAt m c ⟨t.val / 16, by omega⟩) r (extAt_apply m c t r) l).trans ?_
  exact congrFun (congrFun (congr (congrArg (pooledAt _) (funext fun k => funext fun a => funext fun d => iblk4_apply m c t k a d)) (funext fun l => iblk5_apply m c t l)) _) _

/-- An array that agrees with every point's block of the mixer is their array. -/
theorem final9 (G : Buf (Elt Ideal) ((c.tc : Thread nD τ).loc main_v22_0))
    (hG : ∀ (t : Fin 64) (r : Fin 512) (l : Fin 512), (show EReal from G (rowIdx 512 t r l))
      = poolBlk m c t (ix3 0 r l)) :
    (dats m 0 c).arrAt 9 cfg0.N = G := by
  refine (dats m 0 c).arrAt_eq_of_covers 9 _ ?_ fun t _ y => ?_
  · refine Pipeline.Window.covers_of_index_surj (w := cfg0.win 9) rfl ?_ ?_
    · exact (by decide : ∀ a : Fin 3, 0 < S1x512x512.size a)
    · intro β
      obtain ⟨t, e0, e1⟩ := point_of (β (0 : Fin 3)).val (β (1 : Fin 3)).val
        (lt_of_lt_of_eq (β (0 : Fin 3)).isLt (show (cfg0.win 9).nblk (0 : Fin 3) = 4 from (by decide : (4 + 1 - 1) / 1 = 4)))
        (lt_of_lt_of_eq (β (1 : Fin 3)).isLt (show (cfg0.win 9).nblk (1 : Fin 3) = 16 from (by decide : (8192 + 512 - 1) / 512 = 16)))
      have h2 : (β (2 : Fin 3)).val < 1 := lt_of_lt_of_eq (β (2 : Fin 3)).isLt (show (cfg0.win 9).nblk (2 : Fin 3) = 1 from (by decide : (512 + 512 - 1) / 512 = 1))
      refine ⟨t, fun a => ?_⟩
      match a with
      | ⟨0, _⟩ => exact (congrFun (map0_val t) 0).trans e0
      | ⟨1, _⟩ => exact (congrFun (map0_val t) 1).trans e1
      | ⟨2, _⟩ => exact (congrFun (map0_val t) 2).trans (by show 0 = (β (2 : Fin 3)).val; omega)
  · have hy : y = ix3 0 (y (1 : Fin 3)) (y (2 : Fin 3)) := by
      funext a
      match a with
      | ⟨0, _⟩ => exact Subsingleton.elim (α := Fin 1) _ _
      | ⟨1, _⟩ => rfl
      | ⟨2, _⟩ => rfl
    have e : (show EReal from poolBlk m c t y)
        = G (rowIdx 512 t (y (1 : Fin 3)) (y (2 : Fin 3))) :=
      (congrArg (poolBlk m c t) hy).trans (hG t _ _).symm
    refine (congrFun (ps_at m c t) y).trans (e.trans ?_)
    refine congrArg G (rowIdx_eq 512 t _ _ _ (map0_val t) _ ?_ rfl rfl).symm
    have : (y (0 : Fin 3)).val < 1 := (y (0 : Fin 3)).isLt
    show cc0_transform_0 (grid0.coords t) 0 * 1 + 1 * (y (0 : Fin 3)).val = cc0_transform_0 (grid0.coords t) 0 * 1 + 1 * 0
    omega

end Cert.Kernel3Ideal.In

end
-- ==== Proof.PoolRef.lean ====
/- The pooling mixer's reference at an index. -/
module

public import proofs.«01_k».proof.Proof.InRef
public import proofs.«01_k».proof.Proof.PoolMath

@[expose] public section

set_option maxRecDepth 16384

noncomputable section

namespace Cert.Reference3Ideal.In

open Idealize.ShloMosaic Idealize.ShloMosaic.TcCoe
open Cert.Reference3Ideal Cert.Reference3Ideal.Gen Cert.Reference3Ideal.Value Cert.Norm

/-- Zero, with no axes. -/
def zero0 : FVec Ideal S_ .f32 := broadcastInDim S_ ![] bcast_S_S_ (constant S_ .f32 0x00000000#32)

/-- The number of tokens in each token's window. -/
def counts (W : BitVec 32) : FVec Ideal S4x8192x128 .f32 :=
  broadcastInDim S4x8192x128 ![0, 1, 2] bcast_S1x8192x1_S4x8192x128_0_1_2 (broadcastInDim S1x8192x1 ![1] bcast_S8192_S1x8192x1_1
    (sitofp (F := Ideal) .f32 (minsi (addi (iotaInDim S8192 32 0) (broadcastInDim S8192 ![] bcast_S_S8192 (constantI S_ 32 1#32))) (broadcastInDim S8192 ![] bcast_S_S8192 (constantI S_ 32 W)))))

/-- A group's sums over a window. -/
def sumsOver (w p : Nat) (h : S4x8192x128.ReduceWindows (![1, w, 1] : Fin 3 → Nat) ![1, 1, 1] ![0, p, 0] ![0, 0, 0] S4x8192x128) (z : FVec Ideal S4x8192x128 .f32) : FVec Ideal S4x8192x128 .f32 :=
  Host.reduceWindowAdd (F := Ideal) ![1, w, 1] ![1, 1, 1] ![0, p, 0] ![0, 0, 0] z zero0 h h_S_

/-- Means less tokens. -/
def lessMean (t z k : FVec Ideal S4x8192x128 .f32) : FVec Ideal S4x8192x128 .f32 := subf (Host.divf t k) z

def asGroup (z : FVec Ideal S4x8192x128 .f32) : FVec Ideal S4x8192x1x128 .f32 := broadcastInDim S4x8192x1x128 ![0, 1, 3] bcast_S4x8192x128_S4x8192x1x128_0_1_3 z

def stacked (a b c d : FVec Ideal S4x8192x128 .f32) : FVec Ideal S4x8192x4x128 .f32 :=
  concatenate S4x8192x4x128 2 [⟨S4x8192x1x128, asGroup a⟩, ⟨S4x8192x1x128, asGroup b⟩, ⟨S4x8192x1x128, asGroup c⟩, ⟨S4x8192x1x128, asGroup d⟩]
    concatenates_S4x8192x1x128_S4x8192x1x128_S4x8192x1x128_S4x8192x1x128_S4x8192x4x128_d2

/-- The groups by their weights and the scale. -/
def weighed (p : FVec Ideal S4x8192x4x128 .f32) (w : FVec Ideal S4x128x128 .f32) (s : FVec Ideal S512 .f32) : FVec Ideal S4x8192x512 .f32 :=
  mulf (shapeCast S4x8192x512 (transpose S4x8192x4x128 [2, 3, 0, 1]
      (Host.dotGeneral (F := Ideal) (φ₁ := .f32) (φ₂ := .f32) dot_S4x128x128_S4x8192x4x128_S4x128x4x8192_1_3_2_01_0_2 none w p) transposes_S4x128x4x8192_S4x8192x4x128_2_3_0_1) shapeCasts_S4x8192x4x128_S4x8192x512)
    (broadcastInDim S4x8192x512 ![0, 1, 2] bcast_S1x1x512_S4x8192x512_0_1_2 (broadcastInDim S1x1x512 ![2] bcast_S512_S1x1x512_2 s))

def tokensOf (x : FVec Ideal S4x8192x1024 .f32) (g : FVec Ideal S1024 .f32) (d : FVec Ideal S4x6x1024 .f32) (w : FVec Ideal S1024x2048 .f32) : FVec Ideal S4x8192x512 .f32 :=
  extractStridedSlice S4x8192x512 ![0, 0, 0] (Host.dotGeneral (F := Ideal) (φ₁ := .f32) (φ₂ := .f32) dot_S4x8192x1024_S1024x2048_S4x8192x2048_2_0_01_1_n_n none (norms x g d) w)
    slices_S4x8192x2048_S4x8192x512_0_0_0

def grp0 (u : FVec Ideal S4x8192x512 .f32) : FVec Ideal S4x8192x128 .f32 := extractStridedSlice S4x8192x128 ![0, 0, 0] u slices_S4x8192x512_S4x8192x128_0_0_0
def grp1 (u : FVec Ideal S4x8192x512 .f32) : FVec Ideal S4x8192x128 .f32 := extractStridedSlice S4x8192x128 ![0, 0, 128] u slices_S4x8192x512_S4x8192x128_0_0_128
def grp2 (u : FVec Ideal S4x8192x512 .f32) : FVec Ideal S4x8192x128 .f32 := extractStridedSlice S4x8192x128 ![0, 0, 256] u slices_S4x8192x512_S4x8192x128_0_0_256
def grp3 (u : FVec Ideal S4x8192x512 .f32) : FVec Ideal S4x8192x128 .f32 := extractStridedSlice S4x8192x128 ![0, 0, 384] u slices_S4x8192x512_S4x8192x128_0_0_384

abbrev centredGroup (w p : Nat) (W : BitVec 32) (h : S4x8192x128.ReduceWindows (![1, w, 1] : Fin 3 → Nat) ![1, 1, 1] ![0, p, 0] ![0, 0, 0] S4x8192x128) (z : FVec Ideal S4x8192x128 .f32) :
    FVec Ideal S4x8192x128 .f32 := lessMean (sumsOver w p h z) z (counts W)

/-- The pooling mixer. -/
def mixer (u : FVec Ideal S4x8192x512 .f32) (w : FVec Ideal S4x128x128 .f32) (s : FVec Ideal S512 .f32) : FVec Ideal S4x8192x512 .f32 :=
  weighed (stacked (centredGroup 2 1 2#32 reduceWindows_S4x8192x128_S4x8192x128_w1s1p0_0_w2s1p1_0_w1s1p0_0 (grp0 u))
    (centredGroup 4 3 4#32 reduceWindows_S4x8192x128_S4x8192x128_w1s1p0_0_w4s1p3_0_w1s1p0_0 (grp1 u))
    (centredGroup 8 7 8#32 reduceWindows_S4x8192x128_S4x8192x128_w1s1p0_0_w8s1p7_0_w1s1p0_0 (grp2 u))
    (centredGroup 16 15 16#32 reduceWindows_S4x8192x128_S4x8192x128_w1s1p0_0_w16s1p15_0_w1s1p0_0 (grp3 u))) w s

theorem mixer_eq (m : (ℓ : Loc nD τ sig) → Buf (Elt Ideal) ℓ) (c : Dev nD) :
    res_main_v122 m c = narrow (mixer (tokensOf (m ((c.tc : Thread nD τ).loc main_arg0)) (m ((c.tc : Thread nD τ).loc main_arg2)) (m ((c.tc : Thread nD τ).loc main_arg1)) (m ((c.tc : Thread nD τ).loc main_arg3)))
      (m ((c.tc : Thread nD τ).loc main_arg4)) (m ((c.tc : Thread nD τ).loc main_arg5))) := by
  with_unfolding_all rfl

theorem tokensOf_apply (x : FVec Ideal S4x8192x1024 .f32) (g : FVec Ideal S1024 .f32) (d : FVec Ideal S4x6x1024 .f32) (w : FVec Ideal S1024x2048 .f32)
    (b : Fin 4) (n : Fin 8192) (j : Fin 512) :
    (show EReal from tokensOf x g d w (ix3 b n j))
      = projected (Ideal.ofBits .f32 0x44800000#32) (Ideal.ofBits .f32 0x358637BD#32) (Ideal.ofBits .f32 0x3F800000#32)
          (fun k => (show EReal from x (ix3 b n k))) (fun k => g (ix1 k)) (fun k => d (ix3 b 1 k)) (fun k => d (ix3 b 0 k)) (fun k => w (ix2 k ⟨j.val, by omega⟩)) := by
  have e : ∀ h : FVec Ideal S4x8192x1024 .f32, (show EReal from extractStridedSlice S4x8192x512 ![0, 0, 0] (Host.dotGeneral (F := Ideal) (φ₁ := .f32) (φ₂ := .f32) dot_S4x8192x1024_S1024x2048_S4x8192x2048_2_0_01_1_n_n none h w)
      slices_S4x8192x2048_S4x8192x512_0_0_0 (ix3 b n j)) = ∑ k : Fin 1024, (show EReal from h (ix3 b n k)) * w (ix2 k ⟨j.val, by omega⟩) := by
    intro h
    pointwise []
  exact (e (norms x g d)).trans (Finset.sum_congr rfl fun k _ => congrArg (· * _) (norms_apply x g d b n k))

theorem lessMean_apply (t z k : FVec Ideal S4x8192x128 .f32) (i : S4x8192x128.Idx) :
    (show EReal from lessMean t z k i) = Ideal.div (t i) (k i) - (show EReal from z i) := by
  unfold lessMean
  pointwise []

theorem counts_apply (w : Nat) (b : Fin 4) (n : Fin 8192) (c : Fin 128) : (show EReal from counts (BitVec.ofNat 32 w) (ix3 b n c)) = tokens w n.val := by
  unfold counts tokens
  pointwise []
  rw [BitVec.ofNat_add]
  rfl

theorem weighed_apply (p : FVec Ideal S4x8192x4x128 .f32) (w : FVec Ideal S4x128x128 .f32) (s : FVec Ideal S512 .f32) (b : Fin 4) (n : Fin 8192) (l : Fin 512) :
    (show EReal from weighed p w s (ix3 b n l))
      = (∑ c : Fin 128, (show EReal from p (ix4 b n ⟨l.val / 128, by omega⟩ c)) * w (ix3 ⟨l.val / 128, by omega⟩ c ⟨l.val % 128, by omega⟩)) * s (ix1 l) := by
  unfold weighed
  pointwise []
  refine congrArg (· * _) (Finset.sum_congr rfl fun c _ => mul_comm _ _)

theorem sum_fold {α : Type} (g : α → EReal) (l : List α) (v : EReal) : l.foldl (fun r n => r + g n) v = v + (l.map g).sum := by
  induction l generalizing v with
  | nil => simp
  | cons a l ih => rw [List.foldl_cons, ih, List.map_cons, List.sum_cons, add_assoc]

/-- A column of a group through the tokens, zero after the last. -/
def column (z : FVec Ideal S4x8192x128 .f32) (b : Fin 4) (c : Fin 128) (t : Nat) : EReal := if h : t < 8192 then z (ix3 b ⟨t, h⟩ c) else 0

/-- What a window's place adds. -/
def windowTerm (p : Nat) (z : S4x8192x128.Idx → EReal) (j : S4x8192x128.Idx) (q : (⟨3, ![1, p + 1, 1]⟩ : Shape).Idx) : EReal :=
  if hin : ∀ a : Fin 3, (![0, p, 0] : Fin 3 → Nat) a ≤ (j a).val * (![1, 1, 1] : Fin 3 → Nat) a + (q a).val
      ∧ (j a).val * (![1, 1, 1] : Fin 3 → Nat) a + (q a).val - (![0, p, 0] : Fin 3 → Nat) a < S4x8192x128.size a
  then z (fun a => ⟨(j a).val * (![1, 1, 1] : Fin 3 → Nat) a + (q a).val - (![0, p, 0] : Fin 3 → Nat) a, (hin a).2⟩) else 0

theorem windowTerm_eq (p : Nat) (z : FVec Ideal S4x8192x128 .f32) (b : Fin 4) (n : Fin 8192) (c : Fin 128) (i : Fin (p + 1)) :
    windowTerm p z (ix3 b n c) (ix3 0 i 0) = if p ≤ n.val + i.val then column z b c (n.val + i.val - p) else 0 := by
  have hi : i.val ≤ p := Nat.le_of_lt_succ i.isLt
  have hn := n.isLt
  by_cases hp : p ≤ n.val + i.val
  · have ht : n.val + i.val - p < 8192 := by omega
    have hall : ∀ a : Fin 3, (![0, p, 0] : Fin 3 → Nat) a ≤ ((ix3 b n c : S4x8192x128.Idx) a).val * (![1, 1, 1] : Fin 3 → Nat) a + ((ix3 0 i 0 : (⟨3, ![1, p + 1, 1]⟩ : Shape).Idx) a).val
        ∧ ((ix3 b n c : S4x8192x128.Idx) a).val * (![1, 1, 1] : Fin 3 → Nat) a + ((ix3 0 i 0 : (⟨3, ![1, p + 1, 1]⟩ : Shape).Idx) a).val - (![0, p, 0] : Fin 3 → Nat) a < S4x8192x128.size a := by
      intro a
      match a with
      | ⟨0, _⟩ => exact ⟨Nat.zero_le _, by show b.val * 1 + 0 - 0 < 4; omega⟩
      | ⟨1, _⟩ => exact ⟨by show p ≤ n.val * 1 + i.val; omega, by show n.val * 1 + i.val - p < 8192; omega⟩
      | ⟨2, _⟩ => exact ⟨Nat.zero_le _, by show c.val * 1 + 0 - 0 < 128; omega⟩
    unfold windowTerm column
    rw [if_pos hp, dif_pos hall, dif_pos ht]
    refine congrArg z (funext fun a => Fin.ext ?_)
    match a with
    | ⟨0, _⟩ => show b.val * 1 + 0 - 0 = b.val; omega
    | ⟨1, _⟩ => show n.val * 1 + i.val - p = n.val + i.val - p; omega
    | ⟨2, _⟩ => show c.val * 1 + 0 - 0 = c.val; omega
  · unfold windowTerm
    rw [if_neg hp, dif_neg]
    intro h
    have h1 : p ≤ n.val * 1 + i.val := (h 1).1
    omega

theorem fold_windows (p : Nat) (z : S4x8192x128.Idx → EReal) (j : S4x8192x128.Idx) :
    (List.finRange (⟨3, ![1, p + 1, 1]⟩ : Shape).numel).foldl (fun r n => r + windowTerm p z j ((⟨3, ![1, p + 1, 1]⟩ : Shape).rowMajor.symm n)) 0
      = ∑ i : Fin (p + 1), windowTerm p z j (ix3 0 i 0) := by
  rw [sum_fold, zero_add, ← Fin.sum_univ_def, Equiv.sum_comp (⟨3, ![1, p + 1, 1]⟩ : Shape).rowMajor.symm (windowTerm p z j), sum_idx3, Fin.sum_univ_one]
  exact Finset.sum_congr rfl fun i _ => Fin.sum_univ_one _

theorem sumsOver_apply (p : Nat) (h : S4x8192x128.ReduceWindows (![1, p + 1, 1] : Fin 3 → Nat) ![1, 1, 1] ![0, p, 0] ![0, 0, 0] S4x8192x128)
    (z : FVec Ideal S4x8192x128 .f32) (b : Fin 4) (n : Fin 8192) (c : Fin 128) :
    (show EReal from sumsOver (p + 1) p h z (ix3 b n c)) = trailing (p + 1) (column z b c) n.val := by
  have h0 : (show EReal from zero0 (Shape.Idx.first h_S_)) = 0 := by
    unfold zero0
    pointwise []
  have e : (show EReal from sumsOver (p + 1) p h z (ix3 b n c))
      = (List.finRange (⟨3, ![1, p + 1, 1]⟩ : Shape).numel).foldl (fun r n' => r + windowTerm p z (ix3 b n c) ((⟨3, ![1, p + 1, 1]⟩ : Shape).rowMajor.symm n')) 0 := by
    refine (congrArg (fun v => Ideal.hostReduceWindowAdd (s := S4x8192x128) (![1, p + 1, 1] : Fin 3 → Nat) ![1, 1, 1] ![0, p, 0] ![0, 0, 0] h z v (ix3 b n c)) h0).trans ?_
    unfold Ideal.hostReduceWindowAdd Host.reduceWindow
    refine congrArg (fun f => List.foldl f 0 _) (funext fun r => funext fun k => congrArg (r + ·) ?_)
    exact dite_congr rfl (fun _ => rfl) (fun _ => rfl)
  rw [e, fold_windows, Finset.sum_congr rfl fun i _ => windowTerm_eq p z b n c i]
  exact (Fin.sum_univ_eq_sum_range (fun i => if p ≤ n.val + i then column z b c (n.val + i - p) else 0) (p + 1)).trans (trailing_forward p _ _)

theorem centredGroup_apply (p : Nat) (h : S4x8192x128.ReduceWindows (![1, p + 1, 1] : Fin 3 → Nat) ![1, 1, 1] ![0, p, 0] ![0, 0, 0] S4x8192x128)
    (z : FVec Ideal S4x8192x128 .f32) (b : Fin 4) (n : Fin 8192) (c : Fin 128) :
    (show EReal from centredGroup (p + 1) p (BitVec.ofNat 32 (p + 1)) h z (ix3 b n c)) = centred (p + 1) (column z b c) n.val := by
  refine (lessMean_apply _ _ _ _).trans ?_
  unfold centred
  refine congr (congrArg _ (congr (congrArg Ideal.div (sumsOver_apply p h z b n c)) (counts_apply (p + 1) b n c))) ?_
  unfold column
  rw [dif_pos n.isLt]

theorem asGroup_apply (z : FVec Ideal S4x8192x128 .f32) (b : Fin 4) (n : Fin 8192) (c : Fin 128) : (show EReal from asGroup z (ix4 b n 0 c)) = z (ix3 b n c) := by
  unfold asGroup
  pointwise []

theorem stacked_apply (k : Fin 4) (p : Fin 4 → FVec Ideal S4x8192x128 .f32) (b : Fin 4) (n : Fin 8192) (c : Fin 128) :
    (show EReal from stacked (p 0) (p 1) (p 2) (p 3) (ix4 b n k c)) = p k (ix3 b n c) :=
  (concatenate_apply_piece (2 : Fin S4x8192x4x128.rank) [⟨S4x8192x1x128, asGroup (p 0)⟩, ⟨S4x8192x1x128, asGroup (p 1)⟩, ⟨S4x8192x1x128, asGroup (p 2)⟩, ⟨S4x8192x1x128, asGroup (p 3)⟩]
    concatenates_S4x8192x1x128_S4x8192x1x128_S4x8192x1x128_S4x8192x1x128_S4x8192x4x128_d2 (ix4 b n k c) k.val k.isLt S4x8192x1x128 (asGroup (p k))
    (match k with | 0 => rfl | 1 => rfl | 2 => rfl | 3 => rfl) rfl k.val (match k with | 0 => rfl | 1 => rfl | 2 => rfl | 3 => rfl) (ix4 b n 0 c)
    (fun a ha => match a, ha with | ⟨0, _⟩, _ => rfl | ⟨1, _⟩, _ => rfl | ⟨2, _⟩, ha => absurd rfl ha | ⟨3, _⟩, _ => rfl) rfl).trans (asGroup_apply (p k) b n c)

/-- The four groups' windows, centred. -/
def fourGroups (u : FVec Ideal S4x8192x512 .f32) : Fin 4 → FVec Ideal S4x8192x128 .f32 :=
  ![centredGroup 2 1 2#32 reduceWindows_S4x8192x128_S4x8192x128_w1s1p0_0_w2s1p1_0_w1s1p0_0 (grp0 u),
    centredGroup 4 3 4#32 reduceWindows_S4x8192x128_S4x8192x128_w1s1p0_0_w4s1p3_0_w1s1p0_0 (grp1 u),
    centredGroup 8 7 8#32 reduceWindows_S4x8192x128_S4x8192x128_w1s1p0_0_w8s1p7_0_w1s1p0_0 (grp2 u),
    centredGroup 16 15 16#32 reduceWindows_S4x8192x128_S4x8192x128_w1s1p0_0_w16s1p15_0_w1s1p0_0 (grp3 u)]

/-- A column of the tokens, zero after the last. -/
def wide (u : FVec Ideal S4x8192x512 .f32) (b : Fin 4) (l : Fin 512) (t : Nat) : EReal := if h : t < 8192 then u (ix3 b ⟨t, h⟩ l) else 0

theorem column_grp0 (u : FVec Ideal S4x8192x512 .f32) (b : Fin 4) (c : Fin 128) : column (grp0 u) b c = wide u b ⟨128 * 0 + c.val, by omega⟩ := by
  have e : ∀ n, (show EReal from grp0 u (ix3 b n c)) = u (ix3 b n ⟨128 * 0 + c.val, by omega⟩) := by intro n; unfold grp0; pointwise []
  funext t; unfold column wide; split
  · exact e _
  · rfl

theorem column_grp1 (u : FVec Ideal S4x8192x512 .f32) (b : Fin 4) (c : Fin 128) : column (grp1 u) b c = wide u b ⟨128 * 1 + c.val, by omega⟩ := by
  have e : ∀ n, (show EReal from grp1 u (ix3 b n c)) = u (ix3 b n ⟨128 * 1 + c.val, by omega⟩) := by intro n; unfold grp1; pointwise []
  funext t; unfold column wide; split
  · exact e _
  · rfl

theorem column_grp2 (u : FVec Ideal S4x8192x512 .f32) (b : Fin 4) (c : Fin 128) : column (grp2 u) b c = wide u b ⟨128 * 2 + c.val, by omega⟩ := by
  have e : ∀ n, (show EReal from grp2 u (ix3 b n c)) = u (ix3 b n ⟨128 * 2 + c.val, by omega⟩) := by intro n; unfold grp2; pointwise []
  funext t; unfold column wide; split
  · exact e _
  · rfl

theorem column_grp3 (u : FVec Ideal S4x8192x512 .f32) (b : Fin 4) (c : Fin 128) : column (grp3 u) b c = wide u b ⟨128 * 3 + c.val, by omega⟩ := by
  have e : ∀ n, (show EReal from grp3 u (ix3 b n c)) = u (ix3 b n ⟨128 * 3 + c.val, by omega⟩) := by intro n; unfold grp3; pointwise []
  funext t; unfold column wide; split
  · exact e _
  · rfl

theorem fourGroups_apply (u : FVec Ideal S4x8192x512 .f32) (k : Fin 4) (b : Fin 4) (n : Fin 8192) (c : Fin 128) :
    (show EReal from fourGroups u k (ix3 b n c)) = centred (2 ^ (k.val + 1)) (wide u b ⟨128 * k.val + c.val, by omega⟩) n.val := by
  match k with
  | 0 => exact (centredGroup_apply 1 reduceWindows_S4x8192x128_S4x8192x128_w1s1p0_0_w2s1p1_0_w1s1p0_0 (grp0 u) b n c).trans (congrArg (fun f => centred 2 f n.val) (column_grp0 u b c))
  | 1 => exact (centredGroup_apply 3 reduceWindows_S4x8192x128_S4x8192x128_w1s1p0_0_w4s1p3_0_w1s1p0_0 (grp1 u) b n c).trans (congrArg (fun f => centred 4 f n.val) (column_grp1 u b c))
  | 2 => exact (centredGroup_apply 7 reduceWindows_S4x8192x128_S4x8192x128_w1s1p0_0_w8s1p7_0_w1s1p0_0 (grp2 u) b n c).trans (congrArg (fun f => centred 8 f n.val) (column_grp2 u b c))
  | 3 => exact (centredGroup_apply 15 reduceWindows_S4x8192x128_S4x8192x128_w1s1p0_0_w16s1p15_0_w1s1p0_0 (grp3 u) b n c).trans (congrArg (fun f => centred 16 f n.val) (column_grp3 u b c))

theorem mixer_apply (u : FVec Ideal S4x8192x512 .f32) (w : FVec Ideal S4x128x128 .f32) (s : FVec Ideal S512 .f32) (b : Fin 4) (n : Fin 8192) (l : Fin 512) :
    (show EReal from mixer u w s (ix3 b n l)) = pooledAt (wide u b) (fun k a d => w (ix3 k a d)) (fun l => s (ix1 l)) n.val l := by
  refine (weighed_apply _ w s b n l).trans ?_
  unfold pooledAt
  refine congrArg (· * _) (Finset.sum_congr rfl fun c _ => congrArg (· * _) ?_)
  exact (stacked_apply ⟨l.val / 128, by omega⟩ (fourGroups u) b n c).trans (fourGroups_apply u _ b n c)

variable (m : (ℓ : Loc nD τ sig) → Buf (Elt Ideal) ℓ) (c : Dev nD)

/-- A projected column of a sequence, zero after the last token. -/
def tokenAt (b : Fin 4) (l : Fin 512) (t : Nat) : EReal := if h : t < 8192 then argRow m c b ⟨t, h⟩ ⟨l.val, Nat.lt_of_lt_of_le l.isLt (by decide)⟩ else 0

/-- The pooling mixer's result. -/
def outPool : FVec Ideal S4x8192x512 .bf16 :=
  narrow (mixer (tokensOf (m ((c.tc : Thread nD τ).loc main_arg0)) (m ((c.tc : Thread nD τ).loc main_arg2)) (m ((c.tc : Thread nD τ).loc main_arg1)) (m ((c.tc : Thread nD τ).loc main_arg3)))
    (m ((c.tc : Thread nD τ).loc main_arg4)) (m ((c.tc : Thread nD τ).loc main_arg5)))

theorem outPool_apply (b : Fin 4) (n : Fin 8192) (l : Fin 512) :
    (show EReal from outPool m c (ix3 b n l))
      = pooledAt (tokenAt m c b) (fun k a d => m ((c.tc : Thread nD τ).loc main_arg4) (ix3 k a d)) (fun l => m ((c.tc : Thread nD τ).loc main_arg5) (ix1 l)) n.val l := by
  refine (mixer_apply (tokensOf (m ((c.tc : Thread nD τ).loc main_arg0)) (m ((c.tc : Thread nD τ).loc main_arg2)) (m ((c.tc : Thread nD τ).loc main_arg1)) (m ((c.tc : Thread nD τ).loc main_arg3)))
    (m ((c.tc : Thread nD τ).loc main_arg4)) (m ((c.tc : Thread nD τ).loc main_arg5)) b n l).trans ?_
  refine congrArg (fun u => pooledAt u _ _ _ _) (funext fun j => funext fun t => ?_)
  unfold wide tokenAt
  split
  · exact tokensOf_apply _ _ _ _ b _ j
  · rfl

end Cert.Reference3Ideal.In

end
-- ==== Proof.PoolEqual.lean ====
/- The pooling mixer's kernel and reference meet. -/
module

public import proofs.«01_k».proof.Proof.InEqual
public import proofs.«01_k».proof.Proof.PoolValue
public import proofs.«01_k».proof.Proof.PoolRef

@[expose] public section

set_option maxRecDepth 16384

noncomputable section

namespace Cert.Proof

open Idealize.ShloMosaic Idealize.ShloMosaic.TcCoe
open Cert.Norm

section
variable
  (m : (ℓ : Loc Cert.Kernel3Ideal.nD Cert.Kernel3Ideal.τ Cert.Kernel3Ideal.sig) → Buf (Elt Ideal) ℓ) (m' : (ℓ : Loc Cert.Reference3Ideal.nD Cert.Reference3Ideal.τ Cert.Reference3Ideal.sig) → Buf (Elt Ideal) ℓ) (c : Dev 1)
  (e0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0))
  (e1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1))
  (e2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2))
  (e3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3))
  (e4 : m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4))
  (e5 : m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5))

include e0 e1 e2 e3

theorem tokens_agree (b : Fin 4) : Cert.Reference3Ideal.In.tokenAt m' c b = Cert.Kernel3Ideal.In.tokenAt m c b := by
  funext l t
  unfold Cert.Reference3Ideal.In.tokenAt Cert.Kernel3Ideal.In.tokenAt
  split
  · exact projected_congr (funext fun k => congrFun e0 (ix3 b _ k)) (funext fun k => congrFun e2 (ix1 k)) (funext fun k => congrFun e1 (ix3 b 1 k)) (funext fun k => congrFun e1 (ix3 b 0 k))
      (funext fun k => congrFun e3 (ix2 k _))
  · rfl

include e4 e5 in
theorem input_pool : (Cert.Kernel3Ideal.Gen.dats m 0 c).arrAt 9 Cert.Kernel3Ideal.cfg0.N = Cert.Reference3Ideal.In.outPool m' c :=
  Cert.Kernel3Ideal.In.final9 m c (Cert.Reference3Ideal.In.outPool m' c) fun t r l =>
    (Cert.Reference3Ideal.In.outPool_apply m' c _ _ l).trans ((congr (congr (congr (congr (congrArg pooledAt (tokens_agree m m' c e0 e1 e2 e3 _))
      (funext fun k => funext fun a => funext fun d => congrFun e4 (ix3 k a d))) (funext fun k => congrFun e5 (ix1 k))) rfl) rfl).trans (Cert.Kernel3Ideal.In.pool_arg m c t r l).symm)

end

end Cert.Proof

end
-- ==== Proof.OutBlock.lean ====
/- The output projection's block at an index: the two mixers' rows against the two halves of the weights, the gate, the
   residual, and the second norm with its modulation. -/
module

public import proofs.«01_k».proof.Proof.Gen.Kernel4Ideal.Value
public import proofs.«01_k».proof.Proof.NormMath

@[expose] public section

set_option maxRecDepth 16384

noncomputable section

namespace Cert.Kernel4Ideal.Out

open Idealize.ShloMosaic Idealize.ShloMosaic.TcCoe
open Cert.Kernel4Ideal Cert.Kernel4Ideal.Gen Cert.Kernel4Ideal.Value Cert.Norm

/-- The first mixer's rows of the weights, and the second's. -/
def upperHalf (w : Vec Ideal S1024x1024 .bf16) : Vec Ideal S512x1024 .bf16 :=
  View.ld w (Rect.unit (s := S1024x1024) ![0, 0] S512x1024.size inb_S1024x1024_S512x1024_0_0)

def lowerHalf (w : Vec Ideal S1024x1024 .bf16) : Vec Ideal S512x1024 .bf16 :=
  View.ld w (Rect.unit (s := S1024x1024) ![512, 0] S512x1024.size inb_S1024x1024_S512x1024_512_0)

/-- The gate, the scale and the shift among the modulation's six rows. -/
def gateRow (d : Vec Ideal S1x6x1024 .f32) : Vec Ideal S1x1x1024 .f32 :=
  View.ld d (Rect.unit (s := S1x6x1024) ![0, 2, 0] S1x1x1024.size inb_S1x6x1024_S1x1x1024_0_2_0)

def shiftRow (d : Vec Ideal S1x6x1024 .f32) : Vec Ideal S1x1x1024 .f32 :=
  View.ld d (Rect.unit (s := S1x6x1024) ![0, 3, 0] S1x1x1024.size inb_S1x6x1024_S1x1x1024_0_3_0)

def scaleRow (d : Vec Ideal S1x6x1024 .f32) : Vec Ideal S1x1x1024 .f32 :=
  View.ld d (Rect.unit (s := S1x6x1024) ![0, 4, 0] S1x1x1024.size inb_S1x6x1024_S1x1x1024_0_4_0)

/-- The block of sums with the residual, and its stored form; the normed block. -/
def residual (x0 : Vec Ideal S1x512x1024 .f32) (x1 x2 : Vec Ideal S1x512x512 .bf16) (x3 : Vec Ideal S1x6x1024 .f32) (x5 : Vec Ideal S1024x1024 .bf16) :
    FVec Ideal S512x1024 .f32 :=
  k0_pay3 x1 (upperHalf x5) x2 (lowerHalf x5) x0 (gateRow x3)

def sumBlock (x0 : Vec Ideal S1x512x1024 .f32) (x1 x2 : Vec Ideal S1x512x512 .bf16) (x3 : Vec Ideal S1x6x1024 .f32) (x5 : Vec Ideal S1024x1024 .bf16) :
    FVec Ideal S1x512x1024 .f32 :=
  k0_pay4 x1 (upperHalf x5) x2 (lowerHalf x5) x0 (gateRow x3)

def normBlock (x0 : Vec Ideal S1x512x1024 .f32) (x1 x2 : Vec Ideal S1x512x512 .bf16) (x3 : Vec Ideal S1x6x1024 .f32) (x4 : Vec Ideal S1x1024 .f32)
    (x5 : Vec Ideal S1024x1024 .bf16) : FVec Ideal S1x512x1024 .f32 :=
  k0_pay8 (residual x0 x1 x2 x3 x5) (k0_pay5 x1 (upperHalf x5) x2 (lowerHalf x5) x0 (gateRow x3)) k0_pay6 x4 (scaleRow x3) (shiftRow x3)

theorem zeros3 : (![0, 0, 0] : Fin 3 → Nat) = fun _ => 0 := by decide
theorem zeros2 : (![0, 0] : Fin 2 → Nat) = fun _ => 0 := by decide

section run

variable (c : Dev nD) (i : grid0.Coords) (arg2 : Memref sig .tc .vmem S1x512x1024 .f32) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1x6x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x256 .bf16) (harg8 : arg8.IsWhole) (arg9 : Memref sig .tc .vmem S1x128 .f32) (harg9 : arg9.IsWhole) (arg10 : Memref sig .tc .vmem S1x512x1024 .f32) (harg10 : arg10.IsWhole) (arg11 : Memref sig .tc .vmem S1x512x1024 .f32) (harg11 : arg11.IsWhole) (arg12 : Memref sig .tc .vmem S1x512x128 .f32) (harg12 : arg12.IsWhole) (arg13 : Memref sig .tc .vmem S8x128 .f32) (harg13 : arg13.IsWhole) (arg14 : Memref sig .tc .vmem S8x128 .f32) (harg14 : arg14.IsWhole)
  (x0 : Vec Ideal S1x512x1024 .f32) (x1 : Vec Ideal S1x512x512 .bf16) (x2 : Vec Ideal S1x512x512 .bf16) (x3 : Vec Ideal S1x6x1024 .f32) (x4 : Vec Ideal S1x1024 .f32) (x5 : Vec Ideal S1024x1024 .bf16) (x6 : Vec Ideal S1024x256 .bf16) (x7 : Vec Ideal S1x128 .f32) (xs : Vec Ideal S8x128 .f32)

theorem out_A_8 (hc : cond0_0 i) : out0_A_8 c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 = sumBlock x0 x1 x2 x3 x5 := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7)]
  unfold kernelRun0_A
  dsimp only
  sl_unfold_words
  rw [View.canon_unit_zero (S := S1x512x1024) zeros3]
  simp only [View.readAt_eq_ld, harg2.read_unread, harg3.read_unread, harg4.read_unread, harg5.read_unread, harg6.read_unread, harg7.read_unread,
    View.ld_unit_zero (S := S1x512x1024) zeros3, View.ld_unit_zero (S := S1x512x512) zeros3, View.ld_unit_zero (S := S1x1024) zeros2]
  rfl

theorem out_A_9 (hc : cond0_0 i) : out0_A_9 c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 = normBlock x0 x1 x2 x3 x4 x5 := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7)]
  unfold kernelRun0_A
  dsimp only
  sl_unfold_words
  rw [View.canon_unit_zero (S := S1x512x1024) zeros3]
  simp only [View.readAt_eq_ld, harg2.read_unread, harg3.read_unread, harg4.read_unread, harg5.read_unread, harg6.read_unread, harg7.read_unread,
    View.ld_unit_zero (S := S1x512x1024) zeros3, View.ld_unit_zero (S := S1x512x512) zeros3, View.ld_unit_zero (S := S1x1024) zeros2]
  rfl

theorem out_B_8 (hc : ¬cond0_0 i) : out0_B_8 c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 xs = sumBlock x0 x1 x2 x3 x5 := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 xs)]
  unfold kernelRun0_B
  dsimp only
  sl_unfold_words
  rw [View.canon_unit_zero (S := S1x512x1024) zeros3]
  simp only [View.readAt_eq_ld, harg2.read_unread, harg3.read_unread, harg4.read_unread, harg5.read_unread, harg6.read_unread, harg7.read_unread,
    View.ld_unit_zero (S := S1x512x1024) zeros3, View.ld_unit_zero (S := S1x512x512) zeros3, View.ld_unit_zero (S := S1x1024) zeros2]
  rfl

theorem out_B_9 (hc : ¬cond0_0 i) : out0_B_9 c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 xs = normBlock x0 x1 x2 x3 x4 x5 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 xs)]
  unfold kernelRun0_B
  dsimp only
  sl_unfold_words
  rw [View.canon_unit_zero (S := S1x512x1024) zeros3]
  simp only [View.readAt_eq_ld, harg2.read_unread, harg3.read_unread, harg4.read_unread, harg5.read_unread, harg6.read_unread, harg7.read_unread,
    View.ld_unit_zero (S := S1x512x1024) zeros3, View.ld_unit_zero (S := S1x512x512) zeros3, View.ld_unit_zero (S := S1x1024) zeros2]
  rfl

end run

theorem residual_apply (x0 : Vec Ideal S1x512x1024 .f32) (x1 x2 : Vec Ideal S1x512x512 .bf16) (x3 : Vec Ideal S1x6x1024 .f32) (x5 : Vec Ideal S1024x1024 .bf16)
    (r : Fin 512) (j : Fin 1024) :
    (show EReal from residual x0 x1 x2 x3 x5 (ix2 r j))
      = gated (x0 (ix3 0 r j)) (x3 (ix3 0 2 j)) (fun k => x1 (ix3 0 r k)) (fun k => x2 (ix3 0 r k)) (fun k => x5 (ix2 k j)) := by
  have e : ∀ (u w : Vec Ideal S512x1024 .bf16) (d : Vec Ideal S1x1x1024 .f32), (show EReal from k0_pay3 x1 u x2 w x0 d (ix2 r j))
      = (show EReal from x0 (ix3 0 r j)) + (show EReal from d (ix3 0 0 j)) * ((∑ l : Fin 512, (show EReal from x1 (ix3 0 r l)) * u (ix2 l j)) + ∑ l : Fin 512, (show EReal from x2 (ix3 0 r l)) * w (ix2 l j)) := by
    intro u w d
    unfold k0_pay3
    pointwise []
  refine (e _ _ _).trans ?_
  unfold gated
  refine congr (congrArg HAdd.hAdd rfl) (congr (congrArg HMul.hMul ?_) (congr (congrArg HAdd.hAdd (Finset.sum_congr rfl fun l _ => congrArg (_ * ·) ?_)) (Finset.sum_congr rfl fun l _ => congrArg (_ * ·) ?_)))
  · exact congrArg x3 (by ext a; match a with | ⟨0, _⟩ => rfl | ⟨1, _⟩ => rfl | ⟨2, _⟩ => show 0 + 1 * j.val = j.val; omega)
  · exact congrArg x5 (by ext a; match a with | ⟨0, _⟩ => (show 0 + 1 * l.val = l.val; omega) | ⟨1, _⟩ => (show 0 + 1 * j.val = j.val; omega))
  · exact congrArg x5 (by ext a; match a with | ⟨0, _⟩ => (show 512 + 1 * l.val = 512 + l.val; omega) | ⟨1, _⟩ => (show 0 + 1 * j.val = j.val; omega))

theorem sumBlock_apply (x0 : Vec Ideal S1x512x1024 .f32) (x1 x2 : Vec Ideal S1x512x512 .bf16) (x3 : Vec Ideal S1x6x1024 .f32) (x5 : Vec Ideal S1024x1024 .bf16)
    (r : Fin 512) (j : Fin 1024) : (show EReal from sumBlock x0 x1 x2 x3 x5 (ix3 0 r j)) = residual x0 x1 x2 x3 x5 (ix2 r j) := by
  have e : ∀ (X : FVec Ideal S512x1024 .f32), (show EReal from shapeCast S1x512x1024 X shapeCasts_S512x1024_S1x512x1024 (ix3 0 r j)) = X (ix2 r j) := by
    intro X
    pointwise []
  exact e (residual x0 x1 x2 x3 x5)

/-- The stored second norm, from the block of sums. -/
theorem norm_pay (X : FVec Ideal S512x1024 .f32) (g : Vec Ideal S1x1024 .f32) (sc sh : Vec Ideal S1x1x1024 .f32) (r : Fin 512) (j : Fin 1024) :
    (show EReal from k0_pay8 X (shapeCast S512x1 (multiReduction .add [1] S512 (mulf X X) 0x00000000#32 reduces_S512x1024_S512 (.inl rfl) rfl) shapeCasts_S512_S512x1)
        k0_pay6 g sc sh (ix3 0 r j))
      = modulated (Ideal.ofBits .f32 0x44800000#32) (Ideal.ofBits .f32 0x358637BD#32) (Ideal.ofBits .f32 0x3F800000#32)
          (fun k => (show EReal from X (ix2 r k))) (fun k => g (ix2 0 k)) (fun k => sc (ix3 0 0 k)) (fun k => sh (ix3 0 0 k)) j := by
  unfold k0_pay8 k0_pay7 k0_pay6 modulated normed rowFactor meanSquare
  pointwise []

theorem normBlock_apply (x0 : Vec Ideal S1x512x1024 .f32) (x1 x2 : Vec Ideal S1x512x512 .bf16) (x3 : Vec Ideal S1x6x1024 .f32) (x4 : Vec Ideal S1x1024 .f32)
    (x5 : Vec Ideal S1024x1024 .bf16) (r : Fin 512) (j : Fin 1024) :
    (show EReal from normBlock x0 x1 x2 x3 x4 x5 (ix3 0 r j))
      = modulated (Ideal.ofBits .f32 0x44800000#32) (Ideal.ofBits .f32 0x358637BD#32) (Ideal.ofBits .f32 0x3F800000#32)
          (fun k => (show EReal from residual x0 x1 x2 x3 x5 (ix2 r k))) (fun k => x4 (ix2 0 k)) (fun k => x3 (ix3 0 4 k)) (fun k => x3 (ix3 0 3 k)) j := by
  refine (norm_pay (residual x0 x1 x2 x3 x5) x4 (scaleRow x3) (shiftRow x3) r j).trans ?_
  refine congr (congr (congrArg (modulated _ _ _ _ _) (funext fun k => ?_)) (funext fun k => ?_)) rfl
  · exact congrArg x3 (by ext a; match a with | ⟨0, _⟩ => rfl | ⟨1, _⟩ => rfl | ⟨2, _⟩ => (show 0 + 1 * k.val = k.val; omega))
  · exact congrArg x3 (by ext a; match a with | ⟨0, _⟩ => rfl | ⟨1, _⟩ => rfl | ⟨2, _⟩ => (show 0 + 1 * k.val = k.val; omega))

end Cert.Kernel4Ideal.Out

end
-- ==== Proof.OutValue.lean ====
/- What the output projection's pipeline of `Kernel4Ideal` leaves in its first two results at an index. -/
module

public import proofs.«01_k».proof.Proof.OutBlock
public import Idealize.ShloMosaic.Lib.Pipeline.Covers

@[expose] public section

set_option maxRecDepth 16384

noncomputable section

namespace Cert.Kernel4Ideal.Out

open Idealize.ShloMosaic Idealize.ShloMosaic.TcCoe
open Cert.Kernel4Ideal Cert.Kernel4Ideal.Gen Cert.Kernel4Ideal.Value Cert.Norm

/-- A grid point's blocks: the sequence and the block of rows, or the sequence alone, or the whole array. -/
theorem map0_val (t : Fin grid0.N) : cc0_transform_0 (grid0.coords t) = ![t.val / 16, t.val % 16, 0] :=
  (by decide +kernel : ∀ t : Fin grid0.N, cc0_transform_0 (grid0.coords t) = ![t.val / 16, t.val % 16, 0]) t

theorem map3_val (t : Fin grid0.N) : cc0_transform_3 (grid0.coords t) = ![t.val / 16, 0, 0] :=
  (by decide +kernel : ∀ t : Fin grid0.N, cc0_transform_3 (grid0.coords t) = ![t.val / 16, 0, 0]) t

/-- An index of an array of rows of width `n`, from a block's index. -/
abbrev rowIdx (n : Nat) (t : Fin 64) (r : Fin 512) (l : Fin n) : (⟨3, ![4, 8192, n]⟩ : Shape).Idx :=
  ix3 ⟨t.val / 16, by omega⟩ ⟨512 * (t.val % 16) + r.val, by omega⟩ l

theorem rowIdx_eq (n : Nat) (t : Fin 64) (r : Fin 512) (l : Fin n) (f : Fin 3 → Nat) (hf : f = ![t.val / 16, t.val % 16, 0])
    (idx : (⟨3, ![4, 8192, n]⟩ : Shape).Idx) (e0 : (idx (0 : Fin 3)).val = f 0 * 1 + 1 * 0) (e1 : (idx (1 : Fin 3)).val = f 1 * 512 + 1 * r.val)
    (e2 : (idx (2 : Fin 3)).val = f 2 * n + 1 * l.val) : idx = rowIdx n t r l := by
  subst hf
  funext a
  refine Fin.ext ?_
  match a with
  | ⟨0, _⟩ => exact e0.trans (by show t.val / 16 * 1 + 1 * 0 = t.val / 16; omega)
  | ⟨1, _⟩ => exact e1.trans (by show t.val % 16 * 512 + 1 * r.val = 512 * (t.val % 16) + r.val; omega)
  | ⟨2, _⟩ => exact e2.trans (by show 0 * n + 1 * l.val = l.val; omega)

variable (m : (ℓ : Loc nD τ sig) → Buf (Elt Ideal) ℓ) (c : Dev nD)

set_option maxHeartbeats 4000000 in
/-- The gain and the weights the kernel is entered with. -/
theorem V_gain : V m c main_v18 = shapeCast S1x1024 (m ((c : Thread nD τ).loc main_arg4)) shapeCasts_S1024_S1x1024 := by
  unfold V
  simp only [hostOps0, StableHlo.TRef.binary, StableHlo.TRef.ternary, StableHlo.TRef.unary, StableHlo.TRef.nullary,
    StableHlo.TRef.toBuf, StableHlo.TRef.ofBuf, cast_eq]
  after_results_simp
  rfl

set_option maxHeartbeats 4000000 in
theorem V_weights : V m c main_v19 = truncf (F := Ideal) (s := S1024x1024) (φ := .f32) .bf16 (m ((c : Thread nD τ).loc main_arg5)) bitsLt_bf16_f32 := by
  unfold V
  simp only [hostOps0, StableHlo.TRef.binary, StableHlo.TRef.ternary, StableHlo.TRef.unary, StableHlo.TRef.nullary,
    StableHlo.TRef.toBuf, StableHlo.TRef.ofBuf, cast_eq]
  after_results_simp

/-- The blocks at a point, of the arguments. -/
theorem iblk0_apply (t : Fin cfg0.N) (r : Fin 512) (l : Fin 1024) :
    (show EReal from iblk m c 0 t (ix3 0 r l)) = m ((c : Thread nD τ).loc main_arg0) (rowIdx 1024 t r l) :=
  (congrArg (V m c main_arg0) (rowIdx_eq 1024 t r l _ (map0_val t) _ rfl rfl rfl)).trans (congrFun (V_main_arg0 m c) _)

theorem iblk1_apply (t : Fin cfg0.N) (r : Fin 512) (l : Fin 512) :
    (show EReal from iblk m c 1 t (ix3 0 r l)) = m ((c : Thread nD τ).loc main_arg1) (rowIdx 512 t r l) :=
  (congrArg (V m c main_arg1) (rowIdx_eq 512 t r l _ (map0_val t) _ rfl rfl rfl)).trans (congrFun (V_main_arg1 m c) _)

theorem iblk2_apply (t : Fin cfg0.N) (r : Fin 512) (l : Fin 512) :
    (show EReal from iblk m c 2 t (ix3 0 r l)) = m ((c : Thread nD τ).loc main_arg2) (rowIdx 512 t r l) :=
  (congrArg (V m c main_arg2) (rowIdx_eq 512 t r l _ (map0_val t) _ rfl rfl rfl)).trans (congrFun (V_main_arg2 m c) _)

theorem iblk3_apply (t : Fin cfg0.N) (a : Fin 6) (l : Fin 1024) (h : t.val / 16 < 4) :
    (show EReal from iblk m c 3 t (ix3 0 a l)) = m ((c : Thread nD τ).loc main_arg3) (ix3 ⟨t.val / 16, h⟩ a l) := by
  refine (congrArg (V m c main_arg3) (funext fun b => Fin.ext ?_)).trans (congrFun (V_main_arg3 m c) _)
  match b with
  | ⟨0, _⟩ => show cc0_transform_3 (grid0.coords t) 0 * 1 + 1 * 0 = t.val / 16; rw [map3_val t]; show t.val / 16 * 1 + 1 * 0 = t.val / 16; omega
  | ⟨1, _⟩ => show cc0_transform_3 (grid0.coords t) 1 * 6 + 1 * a.val = a.val; rw [map3_val t]; show 0 * 6 + 1 * a.val = a.val; omega
  | ⟨2, _⟩ => show cc0_transform_3 (grid0.coords t) 2 * 1024 + 1 * l.val = l.val; rw [map3_val t]; show 0 * 1024 + 1 * l.val = l.val; omega

theorem gain_apply (g : FVec Ideal S1024 .f32) (l : Fin 1024) : (show EReal from shapeCast S1x1024 g shapeCasts_S1024_S1x1024 (ix2 0 l)) = g (ix1 l) := by
  pointwise []

theorem iblk4_apply (t : Fin cfg0.N) (l : Fin 1024) :
    (show EReal from iblk m c 4 t (ix2 0 l)) = m ((c : Thread nD τ).loc main_arg4) (ix1 l) := by
  refine (congrArg (V m c main_v18) (a₂ := ix2 0 l) (funext fun b => Fin.ext ?_)).trans ((congrFun (V_gain m c) _).trans (gain_apply _ l))
  match b with
  | ⟨0, _⟩ => rfl
  | ⟨1, _⟩ => show 0 * 1024 + 1 * l.val = l.val; omega

theorem iblk5_apply (t : Fin cfg0.N) (k l : Fin 1024) :
    (show EReal from iblk m c 5 t (ix2 k l)) = m ((c : Thread nD τ).loc main_arg5) (ix2 k l) := by
  refine (congrArg (V m c main_v19) (a₂ := ix2 k l) (funext fun b => Fin.ext ?_)).trans (congrFun (V_weights m c) _)
  match b with
  | ⟨0, _⟩ => show 0 * 1024 + 1 * k.val = k.val; omega
  | ⟨1, _⟩ => show 0 * 1024 + 1 * l.val = l.val; omega

/-- What a point writes back, whichever of the two it is. -/
theorem sums_at (t : Fin cfg0.N) : (dats m 0 c).flushed 8 t
    = (cfg0.win 8).cut (grid0.coords t) (sumBlock (iblk m c 0 t) (iblk m c 1 t) (iblk m c 2 t) (iblk m c 3 t) (iblk m c 5 t)) := by
  by_cases h0 : t.val % 64 = 0
  · rw [flushed8_A m c t h0, out_A_8]
  · rw [flushed8_B m c t h0, out_B_8]

theorem norms_at (t : Fin cfg0.N) : (dats m 0 c).flushed 9 t
    = (cfg0.win 9).cut (grid0.coords t) (normBlock (iblk m c 0 t) (iblk m c 1 t) (iblk m c 2 t) (iblk m c 3 t) (iblk m c 4 t) (iblk m c 5 t)) := by
  by_cases h0 : t.val % 64 = 0
  · rw [flushed9_A m c t h0, out_A_9]
  · rw [flushed9_B m c t h0, out_B_9]

/-- The point that holds a block. -/
theorem point_of (a b : Nat) (ha : a < 4) (hb : b < 16) :
    ∃ t : Fin 64, t.val / 16 = a ∧ t.val % 16 = b := ⟨⟨a * 16 + b, by omega⟩, by show (a * 16 + b) / 16 = a; omega, by show (a * 16 + b) % 16 = b; omega⟩

/-- An array that agrees with every point's block of sums is the first result. -/
theorem final8 (G : Buf (Elt Ideal) ((c.tc : Thread nD τ).loc main_v21_0))
    (hG : ∀ (t : Fin 64) (r : Fin 512) (l : Fin 1024), (show EReal from G (rowIdx 1024 t r l))
      = sumBlock (iblk m c 0 t) (iblk m c 1 t) (iblk m c 2 t) (iblk m c 3 t) (iblk m c 5 t) (ix3 0 r l)) :
    (dats m 0 c).arrAt 8 cfg0.N = G := by
  refine (dats m 0 c).arrAt_eq_of_covers 8 _ ?_ fun t _ y => ?_
  · refine Pipeline.Window.covers_of_index_surj (w := cfg0.win 8) rfl ?_ ?_
    · exact (by decide : ∀ a : Fin 3, 0 < S1x512x1024.size a)
    · intro β
      obtain ⟨t, e0, e1⟩ := point_of (β (0 : Fin 3)).val (β (1 : Fin 3)).val
        (lt_of_lt_of_eq (β (0 : Fin 3)).isLt (show (cfg0.win 8).nblk (0 : Fin 3) = 4 from (by decide : (4 + 1 - 1) / 1 = 4)))
        (lt_of_lt_of_eq (β (1 : Fin 3)).isLt (show (cfg0.win 8).nblk (1 : Fin 3) = 16 from (by decide : (8192 + 512 - 1) / 512 = 16)))
      have h2 : (β (2 : Fin 3)).val < 1 := lt_of_lt_of_eq (β (2 : Fin 3)).isLt (show (cfg0.win 8).nblk (2 : Fin 3) = 1 from (by decide : (1024 + 1024 - 1) / 1024 = 1))
      refine ⟨t, fun a => ?_⟩
      match a with
      | ⟨0, _⟩ => exact (congrFun (map0_val t) 0).trans e0
      | ⟨1, _⟩ => exact (congrFun (map0_val t) 1).trans e1
      | ⟨2, _⟩ => exact (congrFun (map0_val t) 2).trans (by show 0 = (β (2 : Fin 3)).val; omega)
  · have hy : y = ix3 0 (y (1 : Fin 3)) (y (2 : Fin 3)) := by
      funext a
      match a with
      | ⟨0, _⟩ => exact Subsingleton.elim (α := Fin 1) _ _
      | ⟨1, _⟩ => rfl
      | ⟨2, _⟩ => rfl
    have e : (show EReal from sumBlock (iblk m c 0 t) (iblk m c 1 t) (iblk m c 2 t) (iblk m c 3 t) (iblk m c 5 t) y)
        = G (rowIdx 1024 t (y (1 : Fin 3)) (y (2 : Fin 3))) :=
      (congrArg (sumBlock (iblk m c 0 t) (iblk m c 1 t) (iblk m c 2 t) (iblk m c 3 t) (iblk m c 5 t)) hy).trans (hG t _ _).symm
    refine (congrFun (sums_at m c t) y).trans (e.trans ?_)
    refine congrArg G (rowIdx_eq 1024 t _ _ _ (map0_val t) _ ?_ rfl rfl).symm
    have : (y (0 : Fin 3)).val < 1 := (y (0 : Fin 3)).isLt
    show cc0_transform_0 (grid0.coords t) 0 * 1 + 1 * (y (0 : Fin 3)).val = cc0_transform_0 (grid0.coords t) 0 * 1 + 1 * 0
    omega

/-- The same of the normed rows and the second. -/
theorem final9 (G : Buf (Elt Ideal) ((c.tc : Thread nD τ).loc main_v21_1))
    (hG : ∀ (t : Fin 64) (r : Fin 512) (l : Fin 1024), (show EReal from G (rowIdx 1024 t r l))
      = normBlock (iblk m c 0 t) (iblk m c 1 t) (iblk m c 2 t) (iblk m c 3 t) (iblk m c 4 t) (iblk m c 5 t) (ix3 0 r l)) :
    (dats m 0 c).arrAt 9 cfg0.N = G := by
  refine (dats m 0 c).arrAt_eq_of_covers 9 _ ?_ fun t _ y => ?_
  · refine Pipeline.Window.covers_of_index_surj (w := cfg0.win 9) rfl ?_ ?_
    · exact (by decide : ∀ a : Fin 3, 0 < S1x512x1024.size a)
    · intro β
      obtain ⟨t, e0, e1⟩ := point_of (β (0 : Fin 3)).val (β (1 : Fin 3)).val
        (lt_of_lt_of_eq (β (0 : Fin 3)).isLt (show (cfg0.win 9).nblk (0 : Fin 3) = 4 from (by decide : (4 + 1 - 1) / 1 = 4)))
        (lt_of_lt_of_eq (β (1 : Fin 3)).isLt (show (cfg0.win 9).nblk (1 : Fin 3) = 16 from (by decide : (8192 + 512 - 1) / 512 = 16)))
      have h2 : (β (2 : Fin 3)).val < 1 := lt_of_lt_of_eq (β (2 : Fin 3)).isLt (show (cfg0.win 9).nblk (2 : Fin 3) = 1 from (by decide : (1024 + 1024 - 1) / 1024 = 1))
      refine ⟨t, fun a => ?_⟩
      match a with
      | ⟨0, _⟩ => exact (congrFun (map0_val t) 0).trans e0
      | ⟨1, _⟩ => exact (congrFun (map0_val t) 1).trans e1
      | ⟨2, _⟩ => exact (congrFun (map0_val t) 2).trans (by show 0 = (β (2 : Fin 3)).val; omega)
  · have hy : y = ix3 0 (y (1 : Fin 3)) (y (2 : Fin 3)) := by
      funext a
      match a with
      | ⟨0, _⟩ => exact Subsingleton.elim (α := Fin 1) _ _
      | ⟨1, _⟩ => rfl
      | ⟨2, _⟩ => rfl
    have e : (show EReal from normBlock (iblk m c 0 t) (iblk m c 1 t) (iblk m c 2 t) (iblk m c 3 t) (iblk m c 4 t) (iblk m c 5 t) y)
        = G (rowIdx 1024 t (y (1 : Fin 3)) (y (2 : Fin 3))) :=
      (congrArg (normBlock (iblk m c 0 t) (iblk m c 1 t) (iblk m c 2 t) (iblk m c 3 t) (iblk m c 4 t) (iblk m c 5 t)) hy).trans (hG t _ _).symm
    refine (congrFun (norms_at m c t) y).trans (e.trans ?_)
    refine congrArg G (rowIdx_eq 1024 t _ _ _ (map0_val t) _ ?_ rfl rfl).symm
    have : (y (0 : Fin 3)).val < 1 := (y (0 : Fin 3)).isLt
    show cc0_transform_0 (grid0.coords t) 0 * 1 + 1 * (y (0 : Fin 3)).val = cc0_transform_0 (grid0.coords t) 0 * 1 + 1 * 0
    omega

/-- A row's sums, of the arguments. -/
abbrev argRow (t : Fin 64) (r : Fin 512) (j : Fin 1024) : EReal :=
  gated (m ((c : Thread nD τ).loc main_arg0) (rowIdx 1024 t r j)) (m ((c : Thread nD τ).loc main_arg3) (ix3 ⟨t.val / 16, by omega⟩ 2 j))
    (fun k => m ((c : Thread nD τ).loc main_arg1) (rowIdx 512 t r k)) (fun k => m ((c : Thread nD τ).loc main_arg2) (rowIdx 512 t r k))
    (fun k => m ((c : Thread nD τ).loc main_arg5) (ix2 k j))

theorem residual_arg (t : Fin 64) (r : Fin 512) (j : Fin 1024) :
    (show EReal from residual (iblk m c 0 t) (iblk m c 1 t) (iblk m c 2 t) (iblk m c 3 t) (iblk m c 5 t) (ix2 r j)) = argRow m c t r j := by
  refine (residual_apply _ _ _ _ _ r j).trans ?_
  refine congr (congr (congr (congr (congrArg gated (iblk0_apply m c t r j)) (iblk3_apply m c t 2 j _)) (funext fun k => iblk1_apply m c t r k))
    (funext fun k => iblk2_apply m c t r k)) (funext fun k => iblk5_apply m c t k j)

theorem sums_arg (t : Fin 64) (r : Fin 512) (j : Fin 1024) :
    (show EReal from sumBlock (iblk m c 0 t) (iblk m c 1 t) (iblk m c 2 t) (iblk m c 3 t) (iblk m c 5 t) (ix3 0 r j)) = argRow m c t r j :=
  (sumBlock_apply _ _ _ _ _ r j).trans (residual_arg m c t r j)

theorem norms_arg (t : Fin 64) (r : Fin 512) (j : Fin 1024) :
    (show EReal from normBlock (iblk m c 0 t) (iblk m c 1 t) (iblk m c 2 t) (iblk m c 3 t) (iblk m c 4 t) (iblk m c 5 t) (ix3 0 r j))
      = modulated (Ideal.ofBits .f32 0x44800000#32) (Ideal.ofBits .f32 0x358637BD#32) (Ideal.ofBits .f32 0x3F800000#32)
          (argRow m c t r) (fun k => m ((c : Thread nD τ).loc main_arg4) (ix1 k))
          (fun k => m ((c : Thread nD τ).loc main_arg3) (ix3 ⟨t.val / 16, by omega⟩ 4 k))
          (fun k => m ((c : Thread nD τ).loc main_arg3) (ix3 ⟨t.val / 16, by omega⟩ 3 k)) j := by
  refine (normBlock_apply _ _ _ _ _ _ r j).trans ?_
  refine congr (congr (congr (congr (congrArg (modulated _ _ _) (funext fun k => residual_arg m c t r k)) (funext fun k => iblk4_apply m c t k))
    (funext fun k => iblk3_apply m c t 4 k _)) (funext fun k => iblk3_apply m c t 3 k _)) rfl

end Cert.Kernel4Ideal.Out

end
-- ==== Proof.OutRef.lean ====
/- The output projection's reference at an index. -/
module

public import proofs.«01_k».proof.Proof.Gen.Reference4Ideal.Run
public import proofs.«01_k».proof.Proof.NormMath

@[expose] public section

set_option maxRecDepth 16384

noncomputable section

namespace Cert.Reference4Ideal.Out

open Idealize.ShloMosaic Idealize.ShloMosaic.TcCoe
open Cert.Reference4Ideal Cert.Reference4Ideal.Gen Cert.Reference4Ideal.Value Cert.Norm

/-- The two mixers' results side by side. -/
def mixers (p a : FVec Ideal S4x8192x512 .bf16) : FVec Ideal S4x8192x1024 .bf16 :=
  concatenate S4x8192x1024 2 [⟨S4x8192x512, p⟩, ⟨S4x8192x512, a⟩] concatenates_S4x8192x512_S4x8192x512_S4x8192x1024_d2

/-- The residual and the gated product. -/
def sums (x : FVec Ideal S4x8192x1024 .f32) (z : FVec Ideal S4x8192x1024 .bf16) (d : FVec Ideal S4x6x1024 .f32) (w : FVec Ideal S1024x1024 .f32) :
    FVec Ideal S4x8192x1024 .f32 :=
  addf x (mulf (broadcastInDim S4x8192x1024 ![0, 1, 2] bcast_S4x1x1024_S4x8192x1024_0_1_2 (extractStridedSlice S4x1x1024 ![0, 2, 0] d slices_S4x6x1024_S4x1x1024_0_2_0))
    (Host.dotGeneral dot_S4x8192x1024_S1024x1024_S4x8192x1024_2_0_01_1_n_n none (extf .f32 z bitsLt_bf16_f32) w))

/-- The rows' factors. -/
def factors (x : FVec Ideal S4x8192x1024 .f32) : FVec Ideal S4x8192x1 .f32 :=
  Host.rsqrt (addf (Host.divf (broadcastInDim S4x8192x1 ![0, 1] bcast_S4x8192_S4x8192x1_0_1 (Host.reduceAdd (mulf x x) (constant S_ .f32 0x00000000#32) reducesTo_S4x8192x1024_S4x8192_d2 h_S_))
    (broadcastInDim S4x8192x1 ![] bcast_S_S4x8192x1 (constant S_ .f32 0x44800000#32))) (broadcastInDim S4x8192x1 ![] bcast_S_S4x8192x1 (constant S_ .f32 0x358637BD#32)))

/-- The norm with its gain and its modulation. -/
def norms (x : FVec Ideal S4x8192x1024 .f32) (g : FVec Ideal S1024 .f32) (d : FVec Ideal S4x6x1024 .f32) : FVec Ideal S4x8192x1024 .f32 :=
  addf (mulf (mulf (mulf x (broadcastInDim S4x8192x1024 ![0, 1, 2] bcast_S4x8192x1_S4x8192x1024_0_1_2 (factors x)))
      (broadcastInDim S4x8192x1024 ![0, 1, 2] bcast_S1x1x1024_S4x8192x1024_0_1_2 (broadcastInDim S1x1x1024 ![2] bcast_S1024_S1x1x1024_2 g)))
    (broadcastInDim S4x8192x1024 ![0, 1, 2] bcast_S4x1x1024_S4x8192x1024_0_1_2 (addf (broadcastInDim S4x1x1024 ![] bcast_S_S4x1x1024 (constant S_ .f32 0x3F800000#32))
      (extractStridedSlice S4x1x1024 ![0, 4, 0] d slices_S4x6x1024_S4x1x1024_0_4_0))))
    (broadcastInDim S4x8192x1024 ![0, 1, 2] bcast_S4x1x1024_S4x8192x1024_0_1_2 (extractStridedSlice S4x1x1024 ![0, 3, 0] d slices_S4x6x1024_S4x1x1024_0_3_0))

/-- The reference's run, its results as these terms of its arguments. -/
theorem run_terms (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v8) = sums (m ((c.tc : Thread nD τ).loc main_arg0)) (mixers (m ((c.tc : Thread nD τ).loc main_arg1)) (m ((c.tc : Thread nD τ).loc main_arg2)))
          (m ((c.tc : Thread nD τ).loc main_arg3)) (m ((c.tc : Thread nD τ).loc main_arg5))
      ∧ r.2.mem ((c.tc : Thread nD τ).loc main_v27) = norms (sums (m ((c.tc : Thread nD τ).loc main_arg0)) (mixers (m ((c.tc : Thread nD τ).loc main_arg1)) (m ((c.tc : Thread nD τ).loc main_arg2)))
          (m ((c.tc : Thread nD τ).loc main_arg3)) (m ((c.tc : Thread nD τ).loc main_arg5))) (m ((c.tc : Thread nD τ).loc main_arg4)) (m ((c.tc : Thread nD τ).loc main_arg3)) :=
  (θ_run defs _ _).mono (fun _ h c => ⟨(h c).1, (h c).2.1⟩) (Value.run (F := Ideal) m ρ)

theorem mixers_lower (p a : FVec Ideal S4x8192x512 .bf16) (b : Fin 4) (n : Fin 8192) (l : Fin 512) :
    (show EReal from mixers p a (ix3 b n ⟨l.val, by omega⟩)) = p (ix3 b n l) :=
  concatenate_apply_piece (2 : Fin S4x8192x1024.rank) [⟨S4x8192x512, p⟩, ⟨S4x8192x512, a⟩] concatenates_S4x8192x512_S4x8192x512_S4x8192x1024_d2
    (ix3 b n ⟨l.val, by omega⟩) 0 (by simp) S4x8192x512 p rfl rfl 0 rfl (ix3 b n l)
    (fun d hd => match d, hd with | ⟨0, _⟩, _ => rfl | ⟨1, _⟩, _ => rfl | ⟨2, _⟩, hd => absurd rfl hd) (Nat.zero_add _)

theorem mixers_upper (p a : FVec Ideal S4x8192x512 .bf16) (b : Fin 4) (n : Fin 8192) (l : Fin 512) :
    (show EReal from mixers p a (ix3 b n ⟨512 + l.val, by omega⟩)) = a (ix3 b n l) :=
  concatenate_apply_piece (2 : Fin S4x8192x1024.rank) [⟨S4x8192x512, p⟩, ⟨S4x8192x512, a⟩] concatenates_S4x8192x512_S4x8192x512_S4x8192x1024_d2
    (ix3 b n ⟨512 + l.val, by omega⟩) 1 (by simp) S4x8192x512 a rfl rfl 512 (Nat.add_zero 512) (ix3 b n l)
    (fun d hd => match d, hd with | ⟨0, _⟩, _ => rfl | ⟨1, _⟩, _ => rfl | ⟨2, _⟩, hd => absurd rfl hd) rfl

theorem sums_product (x : FVec Ideal S4x8192x1024 .f32) (z : FVec Ideal S4x8192x1024 .bf16) (d : FVec Ideal S4x6x1024 .f32) (w : FVec Ideal S1024x1024 .f32)
    (b : Fin 4) (n : Fin 8192) (j : Fin 1024) :
    (show EReal from sums x z d w (ix3 b n j)) = (show EReal from x (ix3 b n j)) + (show EReal from d (ix3 b 2 j)) * ∑ k : Fin 1024, (show EReal from z (ix3 b n k)) * w (ix2 k j) := by
  unfold sums
  pointwise []

theorem sums_apply (x : FVec Ideal S4x8192x1024 .f32) (p a : FVec Ideal S4x8192x512 .bf16) (d : FVec Ideal S4x6x1024 .f32) (w : FVec Ideal S1024x1024 .f32)
    (b : Fin 4) (n : Fin 8192) (j : Fin 1024) :
    (show EReal from sums x (mixers p a) d w (ix3 b n j)) = gated (x (ix3 b n j)) (d (ix3 b 2 j)) (fun k => p (ix3 b n k)) (fun k => a (ix3 b n k)) (fun k => w (ix2 k j)) := by
  refine (sums_product x (mixers p a) d w b n j).trans ?_
  unfold gated
  refine congrArg (fun s => (show EReal from x (ix3 b n j)) + (show EReal from d (ix3 b 2 j)) * s) ((sum_halves _).trans ?_)
  exact congr (congrArg HAdd.hAdd (Finset.sum_congr rfl fun l _ => congrArg (· * _) (mixers_lower p a b n l)))
    (Finset.sum_congr rfl fun l _ => congrArg (· * _) (mixers_upper p a b n l))

theorem norms_apply (x : FVec Ideal S4x8192x1024 .f32) (g : FVec Ideal S1024 .f32) (d : FVec Ideal S4x6x1024 .f32) (b : Fin 4) (n : Fin 8192) (j : Fin 1024) :
    (show EReal from norms x g d (ix3 b n j))
      = modulated (Ideal.ofBits .f32 0x44800000#32) (Ideal.ofBits .f32 0x358637BD#32) (Ideal.ofBits .f32 0x3F800000#32)
          (fun k => (show EReal from x (ix3 b n k))) (fun k => g (ix1 k)) (fun k => d (ix3 b 4 k)) (fun k => d (ix3 b 3 k)) j := by
  unfold norms factors modulated normed rowFactor meanSquare
  pointwise []

end Cert.Reference4Ideal.Out

end
-- ==== Proof.OutEqual.lean ====
/- The output projection's kernel and reference meet, array by array. -/
module

public import proofs.«01_k».proof.Proof.OutValue
public import proofs.«01_k».proof.Proof.OutRef

@[expose] public section

set_option maxRecDepth 16384

noncomputable section

namespace Cert.Proof

open Idealize.ShloMosaic Idealize.ShloMosaic.TcCoe
open Cert.Norm

/-- The reference's two results, of the arguments. -/
abbrev outSums (m' : (ℓ : Loc Cert.Reference4Ideal.nD Cert.Reference4Ideal.τ Cert.Reference4Ideal.sig) → Buf (Elt Ideal) ℓ) (c : Dev 1) :
    FVec Ideal Cert.Reference4Ideal.S4x8192x1024 .f32 :=
  Cert.Reference4Ideal.Out.sums (m' ((c.tc : Thread Cert.Reference4Ideal.nD Cert.Reference4Ideal.τ).loc Cert.Reference4Ideal.main_arg0))
    (Cert.Reference4Ideal.Out.mixers (m' ((c.tc : Thread Cert.Reference4Ideal.nD Cert.Reference4Ideal.τ).loc Cert.Reference4Ideal.main_arg1))
      (m' ((c.tc : Thread Cert.Reference4Ideal.nD Cert.Reference4Ideal.τ).loc Cert.Reference4Ideal.main_arg2)))
    (m' ((c.tc : Thread Cert.Reference4Ideal.nD Cert.Reference4Ideal.τ).loc Cert.Reference4Ideal.main_arg3))
    (m' ((c.tc : Thread Cert.Reference4Ideal.nD Cert.Reference4Ideal.τ).loc Cert.Reference4Ideal.main_arg5))

abbrev outNorms (m' : (ℓ : Loc Cert.Reference4Ideal.nD Cert.Reference4Ideal.τ Cert.Reference4Ideal.sig) → Buf (Elt Ideal) ℓ) (c : Dev 1) :
    FVec Ideal Cert.Reference4Ideal.S4x8192x1024 .f32 :=
  Cert.Reference4Ideal.Out.norms (outSums m' c) (m' ((c.tc : Thread Cert.Reference4Ideal.nD Cert.Reference4Ideal.τ).loc Cert.Reference4Ideal.main_arg4))
    (m' ((c.tc : Thread Cert.Reference4Ideal.nD Cert.Reference4Ideal.τ).loc Cert.Reference4Ideal.main_arg3))

section
variable
  (m : (ℓ : Loc Cert.Kernel4Ideal.nD Cert.Kernel4Ideal.τ Cert.Kernel4Ideal.sig) → Buf (Elt Ideal) ℓ) (m' : (ℓ : Loc Cert.Reference4Ideal.nD Cert.Reference4Ideal.τ Cert.Reference4Ideal.sig) → Buf (Elt Ideal) ℓ) (c : Dev 1)
  (e0 : m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0))
  (e1 : m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1))
  (e2 : m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2))
  (e3 : m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3))
  (e4 : m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4))
  (e5 : m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5))

include e0 e1 e2 e3 e5

theorem output_row (t : Fin 64) (r : Fin 512) (j : Fin 1024) :
    (show EReal from outSums m' c (ix3 ⟨t.val / 16, by omega⟩ ⟨512 * (t.val % 16) + r.val, by omega⟩ j)) = Cert.Kernel4Ideal.Out.argRow m c t r j := by
  refine (Cert.Reference4Ideal.Out.sums_apply _ _ _ _ _ _ _ j).trans ?_
  exact congr (congr (congr (congr (congrArg gated (congrFun e0 _)) (congrFun e3 _)) (funext fun k => congrFun e1 _)) (funext fun k => congrFun e2 _))
    (funext fun k => congrFun e5 _)

theorem output_sums : (Cert.Kernel4Ideal.Gen.dats m 0 c).arrAt 8 Cert.Kernel4Ideal.cfg0.N = outSums m' c :=
  Cert.Kernel4Ideal.Out.final8 m c (outSums m' c) fun t r l =>
    (output_row m m' c e0 e1 e2 e3 e5 t r l).trans (Cert.Kernel4Ideal.Out.sums_arg m c t r l).symm

include e4 in
theorem output_norms : (Cert.Kernel4Ideal.Gen.dats m 0 c).arrAt 9 Cert.Kernel4Ideal.cfg0.N = outNorms m' c :=
  Cert.Kernel4Ideal.Out.final9 m c (outNorms m' c) fun t r l =>
    (Cert.Reference4Ideal.Out.norms_apply _ _ _ _ _ l).trans ((congrArg (fun f => f l) (congr (congr (congr (congrArg (modulated _ _ _)
      (funext fun k => output_row m m' c e0 e1 e2 e3 e5 t r k)) (funext fun k => congrFun e4 _)) (funext fun k => congrFun e3 _)) (funext fun k => congrFun e3 _))).trans
      (Cert.Kernel4Ideal.Out.norms_arg m c t r l).symm)

end

end Cert.Proof

end
-- ==== Proof.AdaMath.lean ====
/- The modulation's entry: the gated condition against a column of the weights, and the bias. -/
module

public import Idealize.ShloMosaic.PureOps.Ideal

@[expose] public section

noncomputable section

namespace Cert.Ada

open Idealize.ShloMosaic

/-- The condition `x` by its sigmoid, against the column `w`, and the bias `b`. -/
def modAt (x w : Fin 1024 → EReal) (b : EReal) : EReal := (∑ k, x k * Ideal.div 1 (1 + Ideal.exp (-(x k))) * w k) + b

theorem modAt_congr {x x' w w' : Fin 1024 → EReal} {b b' : EReal} (hx : x = x') (hw : w = w') (hb : b = b') : modAt x w b = modAt x' w' b' := by
  rw [hx, hw, hb]

end Cert.Ada

end
-- ==== Proof.AdaValue.lean ====
/- What the adaLN projection's pipeline leaves in its result at an index. -/
module

public import proofs.«01_k».proof.Proof.Gen.Kernel5Ideal.Value
public import proofs.«01_k».proof.Proof.AdaMath
public import Idealize.ShloMosaic.Lib.Pipeline.Covers
public import Idealize.ShloMosaic.Lib.Pointwise

@[expose] public section

set_option maxRecDepth 16384

noncomputable section

namespace Cert.Kernel5Ideal.Ada

open Idealize.ShloMosaic Idealize.ShloMosaic.TcCoe
open Cert.Kernel5Ideal Cert.Kernel5Ideal.Gen Cert.Kernel5Ideal.Value Cert.Ada

theorem zeros3 : (![0, 0, 0] : Fin 3 → Nat) = fun _ => 0 := by decide
theorem zeros2 : (![0, 0] : Fin 2 → Nat) = fun _ => 0 := by decide

/-- A block of the result, of the blocks of the arguments. -/
theorem block_eq (x : Vec Ideal S8x1024 .f32) (w : Vec Ideal S1x1024x1024 .f32) (b : Vec Ideal S1x1x1024 .f32) : out0_3 x w b = k0_pay1 x w b := by
  unfold out0_3
  exact (View.canon_unit_zero (S := S1x8x1024) zeros3 _ _).trans (congr (congr (congrArg k0_pay1 (View.ld_unit_zero (S := S8x1024) zeros2 _ _))
    (View.ld_unit_zero (S := S1x1024x1024) zeros3 _ _)) (View.ld_unit_zero (S := S1x1x1024) zeros3 _ _))

theorem block_apply (x : Vec Ideal S8x1024 .f32) (w : Vec Ideal S1x1024x1024 .f32) (b : Vec Ideal S1x1x1024 .f32) (r : Fin 8) (l : Fin 1024) :
    (show EReal from out0_3 x w b (ix3 0 r l)) = modAt (fun k => x (ix2 r k)) (fun k => w (ix3 0 k l)) (b (ix3 0 0 l)) := by
  rw [block_eq]
  unfold k0_pay1 modAt
  pointwise []
  rfl

/-- A grid point's blocks: the layer and the block of columns. -/
theorem map1_val (t : Fin grid0.N) : cc0_transform_1 (grid0.coords t) = ![t.val / 6, 0, t.val % 6] :=
  (by decide +kernel : ∀ t : Fin grid0.N, cc0_transform_1 (grid0.coords t) = ![t.val / 6, 0, t.val % 6]) t

theorem map2_val (t : Fin grid0.N) : cc0_transform_2 (grid0.coords t) = ![t.val / 6, 0, t.val % 6] := map1_val t

theorem map3_val (t : Fin grid0.N) : cc0_transform_3 (grid0.coords t) = ![t.val / 6, 0, t.val % 6] := map1_val t

/-- An index of an array of `n` rows to a layer, from a block's index. -/
abbrev colIdx (n : Nat) (t : Fin 12) (r : Fin n) (l : Fin 1024) : (⟨3, ![2, n, 6144]⟩ : Shape).Idx :=
  ix3 ⟨t.val / 6, by omega⟩ r ⟨1024 * (t.val % 6) + l.val, by omega⟩

theorem colIdx_eq (n : Nat) (t : Fin 12) (r : Fin n) (l : Fin 1024) (f : Fin 3 → Nat) (hf : f = ![t.val / 6, 0, t.val % 6])
    (idx : (⟨3, ![2, n, 6144]⟩ : Shape).Idx) (e0 : (idx (0 : Fin 3)).val = f 0 * 1 + 1 * 0) (e1 : (idx (1 : Fin 3)).val = f 1 * n + 1 * r.val)
    (e2 : (idx (2 : Fin 3)).val = f 2 * 1024 + 1 * l.val) : idx = colIdx n t r l := by
  subst hf
  funext a
  refine Fin.ext ?_
  match a with
  | ⟨0, _⟩ => exact e0.trans (by show t.val / 6 * 1 + 1 * 0 = t.val / 6; omega)
  | ⟨1, _⟩ => exact e1.trans (by show 0 * n + 1 * r.val = r.val; omega)
  | ⟨2, _⟩ => exact e2.trans (by show t.val % 6 * 1024 + 1 * l.val = 1024 * (t.val % 6) + l.val; omega)

variable (m : (ℓ : Loc nD τ sig) → Buf (Elt Ideal) ℓ) (c : Dev nD)

set_option maxHeartbeats 4000000 in
/-- The biases the kernel is entered with. -/
theorem V_bias : V m c main_v0 = shapeCast S2x1x6144 (m ((c : Thread nD τ).loc main_arg2)) shapeCasts_S2x6144_S2x1x6144 := by
  unfold V
  simp only [hostOps0, StableHlo.TRef.binary, StableHlo.TRef.ternary, StableHlo.TRef.unary, StableHlo.TRef.nullary,
    StableHlo.TRef.toBuf, StableHlo.TRef.ofBuf, cast_eq]
  after_results_simp
  rfl

theorem iblk0_apply (t : Fin cfg0.N) (r : Fin 8) (k : Fin 1024) :
    (show EReal from iblk m c 0 t (ix2 r k)) = m ((c : Thread nD τ).loc main_arg0) (ix2 r k) := by
  refine (congrArg (V m c main_arg0) (a₂ := ix2 r k) (funext fun b => Fin.ext ?_)).trans (congrFun (V_main_arg0 m c) _)
  match b with
  | ⟨0, _⟩ => show 0 * 8 + 1 * r.val = r.val; omega
  | ⟨1, _⟩ => show 0 * 1024 + 1 * k.val = k.val; omega

theorem iblk1_apply (t : Fin cfg0.N) (k l : Fin 1024) :
    (show EReal from iblk m c 1 t (ix3 0 k l)) = m ((c : Thread nD τ).loc main_arg1) (colIdx 1024 t k l) :=
  (congrArg (V m c main_arg1) (colIdx_eq 1024 t k l _ (map1_val t) _ rfl rfl rfl)).trans (congrFun (V_main_arg1 m c) _)

theorem bias_apply (g : FVec Ideal S2x6144 .f32) (a : Fin 2) (l : Fin 6144) : (show EReal from shapeCast S2x1x6144 g shapeCasts_S2x6144_S2x1x6144 (ix3 a 0 l)) = g (ix2 a l) := by
  pointwise []

theorem iblk2_apply (t : Fin cfg0.N) (l : Fin 1024) (h0 : t.val / 6 < 2) (h1 : 1024 * (t.val % 6) + l.val < 6144) :
    (show EReal from iblk m c 2 t (ix3 0 0 l)) = m ((c : Thread nD τ).loc main_arg2) (ix2 ⟨t.val / 6, h0⟩ ⟨1024 * (t.val % 6) + l.val, h1⟩) :=
  (congrArg (V m c main_v0) (colIdx_eq 1 t 0 l _ (map2_val t) _ rfl rfl rfl)).trans ((congrFun (V_bias m c) _).trans (bias_apply _ _ _))

/-- The point that holds a layer's block of columns. -/
theorem point_of (a b : Nat) (ha : a < 2) (hb : b < 6) : ∃ t : Fin 12, t.val / 6 = a ∧ t.val % 6 = b :=
  ⟨⟨a * 6 + b, by omega⟩, by show (a * 6 + b) / 6 = a; omega, by show (a * 6 + b) % 6 = b; omega⟩

/-- An array that holds the modulation at every index is the result. -/
theorem final3 (G : Buf (Elt Ideal) ((c.tc : Thread nD τ).loc main_v1))
    (hG : ∀ (a : Fin 2) (r : Fin 8) (l : Fin 6144), (show EReal from G (ix3 a r l))
      = modAt (fun k => m ((c : Thread nD τ).loc main_arg0) (ix2 r k)) (fun k => m ((c : Thread nD τ).loc main_arg1) (ix3 a k l)) (m ((c : Thread nD τ).loc main_arg2) (ix2 a l))) :
    (dats m 0 c).arrAt 3 cfg0.N = G := by
  refine (dats m 0 c).arrAt_eq_of_covers 3 _ ?_ fun t _ y => ?_
  · refine Pipeline.Window.covers_of_index_surj (w := cfg0.win 3) rfl ?_ ?_
    · exact (by decide : ∀ a : Fin 3, 0 < S1x8x1024.size a)
    · intro β
      have h0 : (β (0 : Fin 3)).val < 2 := lt_of_lt_of_eq (β (0 : Fin 3)).isLt (show (cfg0.win 3).nblk (0 : Fin 3) = 2 from (by decide : (2 + 1 - 1) / 1 = 2))
      have h1 : (β (1 : Fin 3)).val < 1 := lt_of_lt_of_eq (β (1 : Fin 3)).isLt (show (cfg0.win 3).nblk (1 : Fin 3) = 1 from (by decide : (8 + 8 - 1) / 8 = 1))
      have h2 : (β (2 : Fin 3)).val < 6 := lt_of_lt_of_eq (β (2 : Fin 3)).isLt (show (cfg0.win 3).nblk (2 : Fin 3) = 6 from (by decide : (6144 + 1024 - 1) / 1024 = 6))
      obtain ⟨t, e0, e2⟩ := point_of (β (0 : Fin 3)).val (β (2 : Fin 3)).val h0 h2
      refine ⟨t, fun a => ?_⟩
      match a with
      | ⟨0, _⟩ => exact (congrFun (map3_val t) 0).trans e0
      | ⟨1, _⟩ => exact (congrFun (map3_val t) 1).trans (by show 0 = (β (1 : Fin 3)).val; omega)
      | ⟨2, _⟩ => exact (congrFun (map3_val t) 2).trans e2
  · have hy : y = ix3 0 (y (1 : Fin 3)) (y (2 : Fin 3)) := by
      funext a
      match a with
      | ⟨0, _⟩ => exact Subsingleton.elim (α := Fin 1) _ _
      | ⟨1, _⟩ => rfl
      | ⟨2, _⟩ => rfl
    have e : (show EReal from out0_3 (iblk m c 0 t) (iblk m c 1 t) (iblk m c 2 t) y) = G (colIdx 8 t (y (1 : Fin 3)) (y (2 : Fin 3))) :=
      (congrArg (out0_3 (iblk m c 0 t) (iblk m c 1 t) (iblk m c 2 t)) hy).trans ((block_apply _ _ _ _ _).trans
        ((modAt_congr (funext fun k => iblk0_apply m c t _ k) (funext fun k => iblk1_apply m c t k _) (iblk2_apply m c t _ _ _)).trans (hG _ _ _).symm))
    refine (congrFun (flushed3 m c t) y).trans (e.trans ?_)
    refine congrArg G (colIdx_eq 8 t _ _ _ (map3_val t) _ ?_ rfl rfl).symm
    have : (y (0 : Fin 3)).val < 1 := (y (0 : Fin 3)).isLt
    show cc0_transform_3 (grid0.coords t) 0 * 1 + 1 * (y (0 : Fin 3)).val = cc0_transform_3 (grid0.coords t) 0 * 1 + 1 * 0
    omega

end Cert.Kernel5Ideal.Ada

end
-- ==== Proof.AdaRef.lean ====
/- The modulation's reference at an index. -/
module

public import proofs.«01_k».proof.Proof.Gen.Reference5Ideal.Run
public import proofs.«01_k».proof.Proof.AdaMath
public import Idealize.ShloMosaic.Lib.Pipeline.Value
public import Idealize.ShloMosaic.Lib.Pointwise

@[expose] public section

set_option maxRecDepth 16384

noncomputable section

namespace Cert.Reference5Ideal.Ada

open Idealize.ShloMosaic Idealize.ShloMosaic.TcCoe
open Cert.Reference5Ideal Cert.Reference5Ideal.Gen Cert.Reference5Ideal.Value Cert.Ada

/-- The condition by its sigmoid. -/
def gated (x : FVec Ideal S8x1024 .f32) : FVec Ideal S8x1024 .f32 :=
  mulf x (Host.divf (broadcastInDim S8x1024 ![] bcast_S_S8x1024 (constant S_ .f32 0x3F800000#32))
    (addf (broadcastInDim S8x1024 ![] bcast_S_S8x1024 (constant S_ .f32 0x3F800000#32)) (Host.exp (Host.negf x))))

/-- A layer's modulation, of its weights and biases. -/
def layer (x : FVec Ideal S8x1024 .f32) (w : FVec Ideal S1x1024x6144 .f32) (b : FVec Ideal S1x6144 .f32) : FVec Ideal S1x8x6144 .f32 :=
  broadcastInDim S1x8x6144 ![1, 2] bcast_S8x6144_S1x8x6144_1_2
    (addf (Host.dotGeneral (F := Ideal) (φ₁ := .f32) (φ₂ := .f32) dot_S8x1024_S1024x6144_S8x6144_1_0_0_1_n_n none (gated x) (shapeCast S1024x6144 w shapeCasts_S1x1024x6144_S1024x6144))
      (broadcastInDim S8x6144 ![0, 1] bcast_S1x6144_S8x6144_0_1 (broadcastInDim S1x6144 ![1] bcast_S6144_S1x6144_1 (shapeCast S6144 b shapeCasts_S1x6144_S6144))))

theorem layer_apply (x : FVec Ideal S8x1024 .f32) (w : FVec Ideal S1x1024x6144 .f32) (b : FVec Ideal S1x6144 .f32) (r : Fin 8) (l : Fin 6144) :
    (show EReal from layer x w b (ix3 0 r l)) = modAt (fun k => x (ix2 r k)) (fun k => w (ix3 0 k l)) (b (ix2 0 l)) := by
  unfold layer gated modAt
  pointwise []

/-- The two layers' modulations. -/
def layers (x : FVec Ideal S8x1024 .f32) (w : FVec Ideal S2x1024x6144 .f32) (b : FVec Ideal S2x6144 .f32) : Fin 2 → FVec Ideal S1x8x6144 .f32 :=
  ![layer x (extractStridedSlice S1x1024x6144 ![0, 0, 0] w slices_S2x1024x6144_S1x1024x6144_0_0_0) (extractStridedSlice S1x6144 ![0, 0] b slices_S2x6144_S1x6144_0_0),
    layer x (extractStridedSlice S1x1024x6144 ![1, 0, 0] w slices_S2x1024x6144_S1x1024x6144_1_0_0) (extractStridedSlice S1x6144 ![1, 0] b slices_S2x6144_S1x6144_1_0)]

def both (p : Fin 2 → FVec Ideal S1x8x6144 .f32) : FVec Ideal S2x8x6144 .f32 :=
  concatenate S2x8x6144 0 [⟨S1x8x6144, p 0⟩, ⟨S1x8x6144, p 1⟩] concatenates_S1x8x6144_S1x8x6144_S2x8x6144_d0

theorem both_apply (p : Fin 2 → FVec Ideal S1x8x6144 .f32) (a : Fin 2) (r : Fin 8) (l : Fin 6144) : (show EReal from both p (ix3 a r l)) = p a (ix3 0 r l) :=
  concatenate_apply_piece (0 : Fin S2x8x6144.rank) [⟨S1x8x6144, p 0⟩, ⟨S1x8x6144, p 1⟩] concatenates_S1x8x6144_S1x8x6144_S2x8x6144_d0 (ix3 a r l) a.val a.isLt S1x8x6144 (p a)
    (match a with | 0 => rfl | 1 => rfl) rfl a.val (match a with | 0 => rfl | 1 => rfl) (ix3 0 r l)
    (fun b hb => match b, hb with | ⟨0, _⟩, hb => absurd rfl hb | ⟨1, _⟩, _ => rfl | ⟨2, _⟩, _ => rfl) rfl

theorem layers_apply (x : FVec Ideal S8x1024 .f32) (w : FVec Ideal S2x1024x6144 .f32) (b : FVec Ideal S2x6144 .f32) (a : Fin 2) (r : Fin 8) (l : Fin 6144) :
    (show EReal from layers x w b a (ix3 0 r l)) = modAt (fun k => x (ix2 r k)) (fun k => w (ix3 a k l)) (b (ix2 a l)) := by
  match a with
  | 0 =>
    refine (layer_apply _ _ _ r l).trans (modAt_congr rfl (funext fun k => ?_) ?_)
    · pointwise []
    · pointwise []
  | 1 =>
    refine (layer_apply _ _ _ r l).trans (modAt_congr rfl (funext fun k => ?_) ?_)
    · pointwise []
    · pointwise []

/-- The reference's result. -/
def outMod (m : (ℓ : Loc nD τ sig) → Buf (Elt Ideal) ℓ) (c : Dev nD) : FVec Ideal S2x8x6144 .f32 :=
  both (layers (m ((c.tc : Thread nD τ).loc main_arg0)) (m ((c.tc : Thread nD τ).loc main_arg1)) (m ((c.tc : Thread nD τ).loc main_arg2)))

theorem outMod_apply (m : (ℓ : Loc nD τ sig) → Buf (Elt Ideal) ℓ) (c : Dev nD) (a : Fin 2) (r : Fin 8) (l : Fin 6144) :
    (show EReal from outMod m c (ix3 a r l))
      = modAt (fun k => m ((c.tc : Thread nD τ).loc main_arg0) (ix2 r k)) (fun k => m ((c.tc : Thread nD τ).loc main_arg1) (ix3 a k l)) (m ((c.tc : Thread nD τ).loc main_arg2) (ix2 a l)) :=
  (both_apply _ a r l).trans (layers_apply _ _ _ a r l)

end Cert.Reference5Ideal.Ada

end
-- ==== Proof.AdaEqual.lean ====
/- The adaLN projection's kernel and reference meet. -/
module

public import proofs.«01_k».proof.Proof.AdaValue
public import proofs.«01_k».proof.Proof.AdaRef

@[expose] public section

set_option maxRecDepth 16384

noncomputable section

namespace Cert.Proof

open Idealize.ShloMosaic Idealize.ShloMosaic.TcCoe
open Cert.Ada

theorem modulation_meets (m : (ℓ : Loc Cert.Kernel5Ideal.nD Cert.Kernel5Ideal.τ Cert.Kernel5Ideal.sig) → Buf (Elt Ideal) ℓ)
    (m' : (ℓ : Loc Cert.Reference5Ideal.nD Cert.Reference5Ideal.τ Cert.Reference5Ideal.sig) → Buf (Elt Ideal) ℓ) (c : Dev 1)
    (e0 : m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0))
    (e1 : m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1))
    (e2 : m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) :
    (Cert.Kernel5Ideal.Gen.dats m 0 c).arrAt 3 Cert.Kernel5Ideal.cfg0.N = Cert.Reference5Ideal.Ada.outMod m' c :=
  Cert.Kernel5Ideal.Ada.final3 m c (Cert.Reference5Ideal.Ada.outMod m' c) fun a r l =>
    (Cert.Reference5Ideal.Ada.outMod_apply m' c a r l).trans (modAt_congr (funext fun k => congrFun e0 (ix2 r k)) (funext fun k => congrFun e1 (ix3 a k l)) (congrFun e2 (ix2 a l)))

end Cert.Proof

end
-- ==== Proof.CombineMath.lean ====
/- The combination's mathematics, free of both programs: one place of the sum, the gather of one row for each word, and what
   the precondition says of the two lists of row numbers. -/
module

public import proofs.«01_k».proof.Pre_rows_named
public import proofs.«01_k».proof.Proof.Gen.Pre_rows_named
public import Idealize.ShloMosaic.Lib.Pipeline.ValueKit
public import Idealize.ShloMosaic.Lib.Pointwise
public import Idealize.ShloMosaic.Lib.ReduceAll

@[expose] public section

set_option maxRecDepth 16384

noncomputable section

namespace Cert.Combine

open Idealize.ShloMosaic

/-- One place of the combination: the residual and the gate by the two experts' weighted outputs. -/
def combined (x g y0 w0 y1 w1 : EReal) : EReal := x + g * (y0 * w0 + y1 * w1)

theorem combined_congr {x g y0 w0 y1 w1 x' g' y0' w0' y1' w1' : EReal} (hx : x = x') (hg : g = g') (h0 : y0 = y0') (hw0 : w0 = w0')
    (h1 : y1 = y1') (hw1 : w1 = w1') : combined x g y0 w0 y1 w1 = combined x' g' y0' w0' y1' w1' := by
  subst hx; subst hg; subst h0; subst hw0; subst h1; subst hw1; rfl

/-! ## The gather of one row for each word -/

section Rows
variable {α : Type}

/-- The dimension numbers of taking, for each of `n` words, one row of a table of `N` rows of `A`. -/
abbrev rowDims (N A n : Nat)
    (wf : GatherDims.WF ⟨2, ![N, A]⟩ ⟨2, ![n, 1]⟩ ⟨2, ![n, A]⟩ [1] [0] [] [0] [] 1 ![1, A]) :
    GatherDims ⟨2, ![N, A]⟩ ⟨2, ![n, 1]⟩ ⟨2, ![n, A]⟩ where
  offsetDims := [1]
  collapsedSliceDims := [0]
  operandBatchingDims := []
  startIndicesBatchingDims := []
  startIndexMap := [0]
  indexVectorDim := 1
  sliceSizes := ![1, A]
  wf := wf

/-- That gather at an index: the row the word names, when the word is a row's number. -/
theorem gather_row_apply {N A n : Nat}
    (wf : GatherDims.WF ⟨2, ![N, A]⟩ ⟨2, ![n, 1]⟩ ⟨2, ![n, A]⟩ [1] [0] [] [0] [] 1 ![1, A])
    (x : (⟨2, ![N, A]⟩ : Shape).Idx → α) (idx : IVec ⟨2, ![n, 1]⟩ 32) (b : Fin n) (l : Fin A) (e : Fin N)
    (he : (idx (ix2 b 0)).toInt = e.val) :
    Host.gather (rowDims N A n wf) x idx (ix2 b l) = x (ix2 e l) := by
  unfold Host.gather
  congr 1
  funext a
  refine Fin.ext ?_
  show (rowDims N A n wf).start (ix2 b l) idx a + (rowDims N A n wf).batchCoord (ix2 b l) a
    + (rowDims N A n wf).offCoord (ix2 b l) a = _
  rw [GatherDims.batchCoord_eq_zero _ _ _ List.not_mem_nil]
  have hs := (rowDims N A n wf).start_le (ix2 b l) idx a
  have h01 : a = 0 ∨ a = 1 := by
    match a with
    | ⟨0, _⟩ => exact Or.inl rfl
    | ⟨1, _⟩ => exact Or.inr rfl
  rcases h01 with rfl | rfl
  · unfold GatherDims.start
    rw [dif_pos (show (0 : Fin 2) ∈ (rowDims N A n wf).startIndexMap from List.mem_cons_self)]
    have hsi : (rowDims N A n wf).siIdx (ix2 b l) ⟨List.idxOf (0 : Fin 2) (rowDims N A n wf).startIndexMap,
        List.idxOf_lt_length_iff.2 List.mem_cons_self⟩ = ix2 b 0 := by
      funext b; refine Fin.ext ?_
      match b with
      | ⟨0, _⟩ => rfl
      | ⟨1, _⟩ => rfl
    show min (idx ((rowDims N A n wf).siIdx (ix2 b l) ⟨List.idxOf (0 : Fin 2) (rowDims N A n wf).startIndexMap,
        List.idxOf_lt_length_iff.2 List.mem_cons_self⟩)).toInt.toNat (N - 1) + 0 + 0 = e.val
    rw [hsi, he]; have := e.isLt; omega
  · have : (rowDims N A n wf).start (ix2 b l) idx 1 ≤ A - A := hs
    show (rowDims N A n wf).start (ix2 b l) idx 1 + 0 + l.val = l.val
    omega

end Rows

/-! ## The precondition -/

/-- Two words each between 0 and 73727, read signed, are their own values below 73728. -/
theorem words_of_bounds (v w : BitVec 32) (e : IntOp.andi (IntOp.andi (IntOp.andi (IntOp.cmpi .sge v 0#32) (IntOp.cmpi .slt v 73728#32))
    (IntOp.cmpi .sge w 0#32)) (IntOp.cmpi .slt w 73728#32) = 1#1) : v.toNat < 73728 ∧ w.toNat < 73728 := by
  have both (p q : Bool) : IntOp.andi (BitVec.ofBool p) (BitVec.ofBool q) = BitVec.ofBool (p && q) := by
    cases p <;> cases q <;> decide
  have one (p : Bool) : (BitVec.ofBool p = 1#1) ↔ p = true := by cases p <;> decide
  simp only [IntOp.cmpi, both, one, Bool.and_eq_true, BitVec.sle_eq_decide, BitVec.slt_eq_decide,
    decide_eq_true_eq, BitVec.toInt_eq_toNat_cond, BitVec.toNat_ofNat, Nat.reducePow, Nat.reduceMod] at e
  omega

open Cert.Pre_rows_named in
/-- The precondition says that every word of the two lists is a row's number. -/
theorem lt_of_pre [Pre_rows_named.Facts] {F : FTy → Type} [FloatOps F] (a0 : FVec F S4x8192x1024 .f32) (a1 : FVec F S4x8192x128 .f32)
    (a2 : FVec F S4x6x1024 .f32) (a3 : FVec F S73728x1024 .f32) (a4 a5 : IVec S32768 32)
    (h : Pre_rows_named.fn (F := F) a0 a1 a2 a3 a4 a5 = fun _ => 1#1) (x : S32768.Idx) : (a4 x).toNat < 73728 ∧ (a5 x).toNat < 73728 := by
  have e := congrFun h (fun a => a.elim0)
  unfold Pre_rows_named.fn at e
  haveI : Subsingleton S_.Idx := ⟨fun a b => funext fun i => i.elim0⟩
  have k := Host.reduce_andi_all _ _ _ _ _ e x
  simp only [andi, cmpi, broadcastInDim, constantI] at k
  exact words_of_bounds _ _ k

end Cert.Combine

end
-- ==== Proof.CombineOk.lean ====
/- The precondition on the two lists gives what the run of `Kernel6` asks of them. -/
module

public import proofs.«01_k».proof.Proof.CombineRun
public import proofs.«01_k».proof.Proof.CombineMath

@[expose] public section

set_option maxRecDepth 16384

noncomputable section

namespace Cert.Kernel6.Combine

open Cert.Kernel6 Cert.Kernel6.Gen
open Idealize.ShloMosaic Idealize.ShloMosaic.TcCoe

variable {F : FTy → Type} [FloatOps F]

/-- A memory the precondition holds of has row numbers in both lists. -/
theorem ok_of_pre [Pre_rows_named.Facts] (m : (ℓ : Loc nD τ sig) → Buf (Elt F) ℓ)
    (h : ∀ c : Dev nD, Pre_rows_named.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) = fun _ => 1#1) : Ok m :=
  ⟨fun c y => (Cert.Combine.lt_of_pre _ _ _ _ _ _ (h c) y).1, fun c y => (Cert.Combine.lt_of_pre _ _ _ _ _ _ (h c) y).2⟩

end Cert.Kernel6.Combine

end
-- ==== Proof.CombineIdealRun.lean ====
/- The combination of `Kernel6Ideal`: the copies of the two experts' rows, their waits, and what the body leaves in the
   result's block. -/
module

public import proofs.«01_k».proof.Proof.Gen.Kernel6Ideal.Launch
public import proofs.«01_k».proof.Proof.Gen.Kernel6Ideal.Skeleton
public import proofs.«01_k».proof.Proof.Gen.Kernel6Ideal.Points
public import proofs.«01_k».proof.Proof.Gen.Kernel6Ideal.Frame
public import Idealize.ShloMosaic.Lib.Pipeline.FrameBody
public import Idealize.ShloMosaic.Lib.Pipeline.ValueKit
public import Idealize.ShloMosaic.Lib.Ring
public import Idealize.ShloMosaic.Lib.Batch
public import Idealize.ShloMosaic.Lib.Tactic
public import Idealize.ShloMosaic.Lib.WordCmp
public import Idealize.ShloMosaic.Lib.Claim

@[expose] public section

set_option maxRecDepth 16384

noncomputable section

namespace Cert.Kernel6Ideal.Combine

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## Indices -/

/-- Row `w` of the experts' rows, at column `j`. -/
def rowIx (w : BitVec 32) (j : Fin 1024) : S73728x1024.Idx := fun a => match a with
  | ⟨0, _⟩ => (⟨w.toNat % 73728, Nat.mod_lt _ (by decide)⟩ : Fin 73728)
  | ⟨1, _⟩ => j

/-- Word `b` of a block of row numbers. -/
def wordIx (b : Fin 256) : S1x1x256.Idx := fun a => match a with
  | ⟨0, _⟩ => (0 : Fin 1)
  | ⟨1, _⟩ => (0 : Fin 1)
  | ⟨2, _⟩ => b

/-- The rows that a block of row numbers names, one under the other. -/
def rows (x : Vec F S1x1x256 .i32) (ys : Vec F S73728x1024 .f32) : Vec F S256x1024 .f32 :=
  fun y => ys (rowIx (x (wordIx (y 0))) (y 1))

/-- Every word of a block of row numbers names a row. -/
def Named (x : Vec F S1x1x256 .i32) : Prop := ∀ y, (x y : BitVec 32).toNat < 73728

/-- The credit of one row's copy. -/
abbrev NN : ℕ := RefSig.tileCredit S1x1024 .f32

theorem credit_lt {k m n N : ℕ} (hn : n = 256) (hm : m = 256) (h : k + 1 < m) (hN : 0 < N) : k * N + N < N * n := by
  subst hn; subst hm
  rw [Nat.mul_comm N 256, ← Nat.succ_mul]
  exact Nat.mul_lt_mul_of_pos_right h hN

theorem credit_eq {k m n N : ℕ} (hn : n = 256) (hm : m = 256) (hk : k < m) (h : k + 1 ≥ m) : k * N + N = N * n := by
  subst hn; subst hm
  rw [Nat.mul_comm N 256, ← Nat.succ_mul, show k.succ = 256 by omega]

/-! ## The copies and the waits of the rows named by arg2 -/

section Rows1

variable (c : Dev nD) (i : grid0.Coords) (arg2 : Memref sig .tc .smem S1x1x256 .i32) (harg2 : arg2.IsWhole) (arg3 : Memref sig .tc .smem S1x1x256 .i32) (harg3 : arg3.IsWhole) (arg4 : Memref sig .tc .vmem S1x256x1024 .f32) (harg4 : arg4.IsWhole) (arg5 : Memref sig .tc .vmem S1x256x128 .f32) (harg5 : arg5.IsWhole) (arg6 : Memref sig .tc .vmem S1x6x1024 .f32) (harg6 : arg6.IsWhole) (arg8 : Memref sig .tc .vmem S1x256x1024 .f32) (harg8 : arg8.IsWhole)

/-- The row of the scratch that copy `k` fills. -/
abbrev dst1 (k : Fin k0_t1_loop.trips) : Memref sig .tc .vmem S1x1024 .f32 :=
  (Memref.whole cc0_scratch0).slice (Rect.unit (s := S256x1024) (k0_off2 k) S1x1024.size (k0_off2_inb k)) (fun _ => rfl)

/-- The row of the experts' rows that the word `w` names. -/
abbrev src1 (w : BitVec 32) (h : k0_chk1 w) : Memref sig .tc .hbm S1x1024 .f32 :=
  (Memref.whole main_arg3).slice (Rect.unit (s := S73728x1024) (k0_off3 w) S1x1024.size (k0_off3_inb w h)) (fun _ => rfl)

/-- The word copy `k` reads. -/
def wd1 (x : Vec F S1x1x256 .i32) (k : Fin k0_t1_loop.trips) : BitVec 32 :=
  x ((Rect.unit (s := S1x1x256) (k0_off1 k) S1x1x1.size (k0_off1_inb k)).emb (Shape.Idx.first (numel1_S1x1x1.symm ▸ Nat.one_pos)))

theorem trips1 : k0_t1_loop.trips = 256 := by decide
theorem trips3 : k0_t3_loop.trips = 256 := by decide

theorem wd1_eq (x : Vec F S1x1x256 .i32) (k : Fin k0_t1_loop.trips) (b : Fin 256) (h : k.val = b.val) :
    wd1 x k = x (wordIx b) := by
  unfold wd1
  congr 1
  funext a
  apply Fin.ext
  have h1 : ((Rect.unit (s := S1x1x256) (k0_off1 k) S1x1x1.size (k0_off1_inb k)).emb (Shape.Idx.first (numel1_S1x1x1.symm ▸ Nat.one_pos)) a).val
      = k0_off1 k a + 0 := rfl
  rw [h1, k0_off1_eq]
  fin_cases a
  · rfl
  · rfl
  · exact h

theorem ok1 {x : Vec F S1x1x256 .i32} (hx : Named (F := F) x) (k : Fin k0_t1_loop.trips) : k0_chk1 (wd1 (F := F) x k) := by
  have h : (wd1 (F := F) x k).toNat < 73728 := hx _
  intro a
  fin_cases a
  · show (wd1 (F := F) x k).toNat + 1 ≤ 73728; omega
  · exact (le_refl 1024 : 0 + 1024 ≤ 1024)

variable (x : Vec F S1x1x256 .i32) (hx : Named (F := F) x) (ys : Vec F S73728x1024 .f32) (q : PosShare TreeShare)

/-- The experts' rows under read token `b`; -/
def tok1 (b : ℕ) : sProp 𝕄 := (Memref.whole main_arg3 : Memref sig .tc .hbm S73728x1024 .f32).view.loc (c : Thread nD τ) ↦{Transfers.shareTokN q b} ys

/-- the row copy `b` reads, under its token; -/
def row1 (b : Fin k0_t1_loop.trips) : sProp 𝕄 :=
  (src1 (wd1 (F := F) x b) (ok1 hx b)).view.loc (c : Thread nD τ) ↦[(src1 (wd1 (F := F) x b) (ok1 hx b)).view.set]{Transfers.shareTokN q b.val} ys

/-- the other rows, under its token. -/
def rest1 (b : Fin k0_t1_loop.trips) : sProp 𝕄 :=
  (src1 (wd1 (F := F) x b) (ok1 hx b)).view.loc (c : Thread nD τ) ↦[Finset.univ \ (src1 (wd1 (F := F) x b) (ok1 hx b)).view.set]{Transfers.shareTokN q b.val} ys

/-- The scratch's row `b` at contents `f`. -/
def hold1 (f : Vec F S256x1024 .f32) (b : Fin k0_t1_loop.trips) : sProp 𝕄 :=
  (dst1 b).view.loc (c : Thread nD τ) ↦[(dst1 b).view.set]{fullShare} f

/-- What copy `b` hands back: its row of the scratch filled, and the row it read. -/
def deliv1 (b : Fin k0_t1_loop.trips) : sProp 𝕄 :=
  iprop(hold1 c (rows (F := F) x ys) b ∗ row1 c x hx ys q b)

instance deliv1_storable (b : Fin k0_t1_loop.trips) : BI.Storable (upEmb : UEmb _ 𝕄) (deliv1 c x hx ys q b) := by
  unfold deliv1 hold1 row1; infer_instance

/-- The batch of the copies, `j` issued, `u` of credit consumed. -/
abbrev batch1 (j u : ℕ) : sProp 𝕄 :=
  Transfers.Batch (countersEmb (U := Pipeline.UD sig nD τ)) (c : Thread nD τ) (.dma 12) () NN (deliv1 c x hx ys q) j u

/-- A copy fills its row with the row its word names. -/
theorem written1 (k : Fin k0_t1_loop.trips) (f : Vec F S256x1024 .f32) :
    ∀ y ∈ (dst1 k).view.set,
      (dst1 k).view.write (Elt F) f ((src1 (wd1 (F := F) x k) (ok1 hx k)).view.read (Elt F) ys) Finset.univ y = rows (F := F) x ys y := by
  intro y hy
  obtain ⟨z, -, rfl⟩ := Finset.mem_map.mp hy
  refine (View.write_emb_of_mem _ _ (Finset.mem_univ z)).trans ?_
  show ys ((src1 (wd1 (F := F) x k) (ok1 hx k)).view.emb z) = ys (rowIx (x (wordIx ((dst1 k).view.emb z 0))) ((dst1 k).view.emb z 1))
  congr 1
  have hk : k.val < 256 := trips1 ▸ k.isLt
  have h0 : ((dst1 k).view.emb z 0).val = k.val := by
    have : ((dst1 k).view.emb z 0).val = k0_off2 k 0 + 1 * (z 0).val := rfl
    rw [this, k0_off2_eq]
    have : (z 0).val < 1 := (z 0).isLt
    show k.val + 1 * (z 0).val = k.val
    omega
  have h1 : ((dst1 k).view.emb z 1).val = (z 1).val := by
    have : ((dst1 k).view.emb z 1).val = k0_off2 k 1 + 1 * (z 1).val := rfl
    rw [this, k0_off2_eq]
    show 0 + 1 * (z 1).val = (z 1).val
    omega
  have hw := wd1_eq (F := F) x k ((dst1 k).view.emb z 0) h0.symm
  rw [← hw]
  have hlt : (wd1 (F := F) x k).toNat < 73728 := hx _
  funext a
  apply Fin.ext
  fin_cases a
  · have : (z 0).val < 1 := (z 0).isLt
    show (wd1 (F := F) x k).toNat + 1 * (z 0).val = (wd1 (F := F) x k).toNat % 73728
    rw [Nat.mod_eq_of_lt hlt]; omega
  · show 0 + 1 * (z 1).val = ((dst1 k).view.emb z 1).val
    omega

/-- Before copy `k`: the words unread, `k` copies issued, the later rows of the scratch and the later tokens in hand, and of the
    earlier tokens the rows not read. -/
def issue1 (f : Vec F S256x1024 .f32) (k : ℕ) (_ : Unit) : sProp 𝕄 :=
  iprop((arg2.view.loc (c : Thread nD τ) ↦{fullShare} harg2.unread x) ∗ batch1 c x hx ys q k 0
    ∗ bigSep (Ring.rangeSet k0_t1_loop.trips k k0_t1_loop.trips) (hold1 c f)
    ∗ bigSep (Ring.rangeSet k0_t1_loop.trips k k0_t1_loop.trips) (fun b => tok1 c ys q b.val)
    ∗ bigSep (Ring.rangeSet k0_t1_loop.trips 0 k) (rest1 c x hx ys q))

theorem issue1_step (f : Vec F S256x1024 .f32) (k : Fin k0_t1_loop.trips) (acc : Unit) :
    issue1 c arg2 harg2 x hx ys q f k acc ⊢ wp frame (wpE (defs₀ (F := F)) Variants.none (c : Thread nD τ) none) Set.univ
      (k0_t1_body (F := F) i arg2 harg2 arg3 harg3 arg4 harg4 arg5 harg5 arg6 harg6 (Memref.whole main_arg3) (Memref.isWhole_whole _) arg8 harg8 (Memref.whole cc0_scratch0) (Memref.isWhole_whole _) (Memref.whole cc0_scratch1) (Memref.isWhole_whole _) cc0_scratch2 k acc)
      (issue1 c arg2 harg2 x hx ys q f (k.val + 1)) := by
  have hk := k.isLt
  have hok := ok1 (F := F) hx k
  unfold issue1
  rw [Ring.bigSep_rangeSet_head (Φ := hold1 c f) hk hk,
    Ring.bigSep_rangeSet_head (Φ := fun b : Fin k0_t1_loop.trips => tok1 c ys q b.val) hk hk,
    Ring.bigSep_rangeSet_last (Φ := rest1 c x hx ys q) (hi := k.val + 1) (Nat.succ_pos _) hk]
  simp only [Nat.add_sub_cancel]
  iintro ⟨HA, HB, ⟨HR, HRs⟩, ⟨HT, HTs⟩, Hrest⟩
  unfold k0_t1_body smemLoad
  rw [smemLoadElt_bind]
  iapply (wp_smemLoadElt_named Variants.none (c : Thread nD τ) none Set.univ) $$ HA
  iintro HA %w %hw
  have hw' : w = wd1 (F := F) x k := by
    rw [hw]
    show (arg2.view.read (Elt F) (harg2.unread x)) _ = _
    rw [harg2.read_unread]; rfl
  subst hw'
  iapply (wp_assume _ _ _ _ hok)
  unfold tok1
  ihave HT' := (pointsTo_split_subset (Finset.subset_univ (src1 (wd1 (F := F) x k) (ok1 hx k)).view.set)).1 $$ HT
  icases HT' with ⟨HS, HQ⟩
  iapply (Transfers.wp_dmaBatch (countersEmb (U := Pipeline.UD sig nD τ)) Variants.none (c : Thread nD τ) none
    (src := src1 (wd1 (F := F) x k) (ok1 hx k)) (dst := dst1 k) (sm := .dma 12) () NN rfl subset_rfl
    (D := deliv1 c x hx ys q) (j := k.val) (u := 0) hk (Nat.zero_le _)
    (by
      unfold deliv1 hold1 row1
      exact sep_mono (Entails.of_eq (pointsTo_congr (written1 x hx ys k f))) .rfl)) $$ [HS HR HB]
  · isplitl [HS]; · iexact HS
    isplitl [HR]; · unfold hold1; iexact HR
    iexact HB
  iintro HB
  rw [show ∀ (a : PUnit) (k : PUnit → Prog (TpuEff nD τ sig (Elt F) Λ₀ .tc) Unit), (Prog.ret a).bind k = k a from fun _ _ => rfl]
  sl_step
  isplitl [HA]; · iexact HA
  isplitl [HB]; · iexact HB
  isplitl [HRs]; · iexact HRs
  isplitl [HTs]; · iexact HTs
  isplitl [HQ]; · unfold rest1; iexact HQ
  iexact Hrest

/-- Before wait `k`: `k` waits done and nothing handed back, or every wait done and everything handed back. -/
def drain1 (k : ℕ) (_ : Unit) : sProp 𝕄 :=
  iprop(⌜k ≤ k0_t3_loop.trips⌝ ∗ (∃ W, owes (c : Thread nD τ) 0 W)
    ∗ (if k < k0_t3_loop.trips then batch1 c x hx ys q k0_t1_loop.trips (k * NN)
       else iprop(semVal ((c : Thread nD τ), SemLoc.dma 12) 0 ∗ bigSep Finset.univ (deliv1 c x hx ys q))))

theorem drain1_step (k : Fin k0_t3_loop.trips) (acc : Unit) :
    drain1 c x hx ys q k acc ⊢ wp frame (wpE (defs₀ (F := F)) Variants.none (c : Thread nD τ) none) Set.univ
      (k0_t3_body (F := F) i arg2 harg2 arg3 harg3 arg4 harg4 arg5 harg5 arg6 harg6 (Memref.whole main_arg3) (Memref.isWhole_whole _) arg8 harg8 (Memref.whole cc0_scratch0) (Memref.isWhole_whole _) (Memref.whole cc0_scratch1) (Memref.isWhole_whole _) cc0_scratch2 k acc)
      (drain1 c x hx ys q (k.val + 1)) := by
  have hk := k.isLt
  have hn := trips1
  have hm := trips3
  have hN : 0 < NN := by decide
  unfold drain1
  simp only [if_pos hk]
  rcases Nat.lt_or_ge (k.val + 1) k0_t3_loop.trips with h1 | h1
  · simp only [if_pos h1]
    iintro ⟨-, ⟨%W, HO⟩, HB⟩
    unfold k0_t3_body
    iapply (Transfers.wp_waitBatch (countersEmb (U := Pipeline.UD sig nD τ)) Variants.none (c : Thread nD τ) none () (N := NN) rfl
      (D := deliv1 c x hx ys q) (u := k.val * NN)
      (credit_lt hn hm h1 hN)) $$ [HB HO]
    · isplitl [HB]; · iexact HB
      iexact HO
    iintro ⟨HB, HO⟩
    rw [show ∀ (a : PUnit) (k : PUnit → Prog (TpuEff nD τ sig (Elt F) Λ₀ .tc) Unit), (Prog.ret a).bind k = k a from fun _ _ => rfl]
    sl_step
    isplitr; · ipureintro; omega
    isplitl [HO]; · iexists _; iexact HO
    rw [Nat.succ_mul]
    iexact HB
  · simp only [if_neg (Nat.not_lt.mpr h1)]
    iintro ⟨-, ⟨%W, HO⟩, HB⟩
    unfold k0_t3_body
    iapply (Transfers.wp_waitBatchLast (countersEmb (U := Pipeline.UD sig nD τ)) Variants.none (c : Thread nD τ) none () (N := NN) rfl hN
      (D := deliv1 c x hx ys q) (u := k.val * NN)
      (credit_eq hn hm hk h1)) $$ [HB HO]
    · isplitl [HB]; · iexact HB
      iexact HO
    iintro ⟨HD, HS, HO⟩
    rw [show ∀ (a : PUnit) (k : PUnit → Prog (TpuEff nD τ sig (Elt F) Λ₀ .tc) Unit), (Prog.ret a).bind k = k a from fun _ _ => rfl]
    sl_step
    isplitr; · ipureintro; omega
    isplitl [HO]; · iexists _; iexact HO
    isplitl [HS]; · iexact HS
    iexact HD

/-! The scratch as its rows, the experts' rows as their read tokens. -/

/-- Row `b` of the scratch, as a set of its elements. -/
abbrev rset1 (b : Fin k0_t1_loop.trips) : Finset S256x1024.Idx :=
  (Rect.unit (s := S256x1024) (k0_off2 b) S1x1024.size (k0_off2_inb b)).set

theorem dset1 (b : Fin k0_t1_loop.trips) : (dst1 b).view.set = rset1 b := View.set_slice_whole _ _

theorem mem_rset1 (b : Fin k0_t1_loop.trips) (y : S256x1024.Idx) : y ∈ rset1 b ↔ (y 0).val = b.val := by
  rw [Rect.mem_set_unit, k0_off2_eq]
  constructor
  · intro H
    have a0 : b.val ≤ (y 0).val ∧ (y 0).val < b.val + 1 := H 0
    omega
  · intro H a
    have h1 : (y 1).val < 1024 := (y 1).isLt
    fin_cases a
    · show b.val ≤ (y 0).val ∧ (y 0).val < b.val + 1; omega
    · show 0 ≤ (y 1).val ∧ (y 1).val < 0 + 1024; omega

theorem rset1_disjoint : ∀ b b' : Fin k0_t1_loop.trips, b ≠ b' → Disjoint (rset1 b) (rset1 b') := fun b b' hne => by
  rw [Finset.disjoint_left]; intro y hy hy'; rw [mem_rset1] at hy hy'; exact hne (Fin.ext (hy.symm.trans hy'))

theorem rset1_cover : Finset.univ.biUnion rset1 = Finset.univ := by
  refine Finset.eq_univ_iff_forall.mpr fun y => ?_
  have hb : (y 0).val < k0_t1_loop.trips := Nat.lt_of_lt_of_eq (show (y 0).val < 256 from (y 0).isLt) trips1.symm
  exact Finset.mem_biUnion.mpr ⟨⟨(y 0).val, hb⟩, Finset.mem_univ _, (mem_rset1 ⟨(y 0).val, hb⟩ y).mpr rfl⟩

theorem hold1_eq (f : Vec F S256x1024 .f32) :
    ((Memref.whole cc0_scratch0 : Memref sig .tc .vmem S256x1024 .f32).view.loc (c : Thread nD τ) ↦{fullShare} f : sProp 𝕄)
      = bigSep Finset.univ (hold1 c f) := by
  refine (Ring.pointsTo_blocks (ℓ := (Memref.whole cc0_scratch0 : Memref sig .tc .vmem S256x1024 .f32).view.loc (c : Thread nD τ)) (q := fullShare)
    rset1 rset1_disjoint rset1_cover f).trans (congrArg (bigSep Finset.univ) (funext fun b => ?_))
  unfold hold1
  rw [dset1]

theorem toks1_eq : (bigSep Finset.univ (fun b : Fin k0_t1_loop.trips => tok1 c ys q b.val) : sProp 𝕄)
    = bigSep (Finset.range k0_t1_loop.trips) (tok1 c ys q) := by
  rw [← Ring.rangeSet_univ, Ring.bigSep_rangeSet_eq_range (Φ := fun b : Fin k0_t1_loop.trips => tok1 c ys q b.val) le_rfl (tok1 c ys q)
    (fun k _ => by show tok1 c ys q k = tok1 c ys q (0 + k); rw [Nat.zero_add])]
  rfl

/-- What is left of the experts' rows once the tokens are dealt. -/
def left1 : sProp 𝕄 :=
  (Memref.whole main_arg3 : Memref sig .tc .hbm S73728x1024 .f32).view.loc (c : Thread nD τ) ↦{Transfers.shareDrop q k0_t1_loop.trips} ys

theorem deal1 : ((Memref.whole main_arg3 : Memref sig .tc .hbm S73728x1024 .f32).view.loc (c : Thread nD τ) ↦{q} ys : sProp 𝕄)
    ⊣⊢ iprop(left1 c ys q ∗ bigSep Finset.univ (fun b : Fin k0_t1_loop.trips => tok1 c ys q b.val)) := by
  rw [toks1_eq]
  unfold left1 tok1
  exact Transfers.pointsTo_toks_range q k0_t1_loop.trips

/-- A row read and the other rows are the rows under the token. -/
theorem whole1 (b : Fin k0_t1_loop.trips) : iprop(row1 c x hx ys q b ∗ rest1 c x hx ys q b) ⊢ (tok1 c ys q b.val : sProp 𝕄) := by
  unfold row1 rest1 tok1
  exact (pointsTo_split_subset (Finset.subset_univ (src1 (wd1 (F := F) x b) (ok1 hx b)).view.set)).2

/-- Everything handed back: the scratch filled, the experts' rows as they were. -/
theorem collect1 :
    iprop(bigSep Finset.univ (deliv1 c x hx ys q) ∗ bigSep (Ring.rangeSet k0_t1_loop.trips 0 k0_t1_loop.trips) (rest1 c x hx ys q) ∗ left1 c ys q)
      ⊢ (iprop(((Memref.whole cc0_scratch0 : Memref sig .tc .vmem S256x1024 .f32).view.loc (c : Thread nD τ) ↦{fullShare} rows (F := F) x ys)
          ∗ ((Memref.whole main_arg3 : Memref sig .tc .hbm S73728x1024 .f32).view.loc (c : Thread nD τ) ↦{q} ys)) : sProp 𝕄) := by
  rw [hold1_eq, Ring.rangeSet_univ]
  iintro ⟨HD, HR, HL⟩
  ihave HD' := (show bigSep Finset.univ (deliv1 c x hx ys q)
      ⊢ (iprop(bigSep Finset.univ (hold1 c (rows (F := F) x ys)) ∗ bigSep Finset.univ (row1 c x hx ys q)) : sProp 𝕄)
    from Entails.of_eq (BI.bigSep_sep _ _ _)) $$ HD
  icases HD' with ⟨HH, HW⟩
  isplitl [HH]; · iexact HH
  iapply (deal1 c ys q).2
  isplitl [HL]; · iexact HL
  iapply (show (iprop(bigSep Finset.univ (row1 c x hx ys q) ∗ bigSep Finset.univ (rest1 c x hx ys q)) : sProp 𝕄)
      ⊢ bigSep Finset.univ (fun b : Fin k0_t1_loop.trips => tok1 c ys q b.val)
    from (Entails.of_eq (BI.bigSep_sep Finset.univ (row1 c x hx ys q) (rest1 c x hx ys q)).symm).trans
      (BI.bigSep_mono fun b _ => whole1 c x hx ys q b))
  isplitl [HW] <;> iassumption

end Rows1

/-! ## The copies and the waits of the rows named by arg3 -/

section Rows2

variable (c : Dev nD) (i : grid0.Coords) (arg2 : Memref sig .tc .smem S1x1x256 .i32) (harg2 : arg2.IsWhole) (arg3 : Memref sig .tc .smem S1x1x256 .i32) (harg3 : arg3.IsWhole) (arg4 : Memref sig .tc .vmem S1x256x1024 .f32) (harg4 : arg4.IsWhole) (arg5 : Memref sig .tc .vmem S1x256x128 .f32) (harg5 : arg5.IsWhole) (arg6 : Memref sig .tc .vmem S1x6x1024 .f32) (harg6 : arg6.IsWhole) (arg8 : Memref sig .tc .vmem S1x256x1024 .f32) (harg8 : arg8.IsWhole)

/-- The row of the scratch that copy `k` fills. -/
abbrev dst2 (k : Fin k0_t2_loop.trips) : Memref sig .tc .vmem S1x1024 .f32 :=
  (Memref.whole cc0_scratch1).slice (Rect.unit (s := S256x1024) (k0_off5 k) S1x1024.size (k0_off5_inb k)) (fun _ => rfl)

/-- The row of the experts' rows that the word `w` names. -/
abbrev src2 (w : BitVec 32) (h : k0_chk2 w) : Memref sig .tc .hbm S1x1024 .f32 :=
  (Memref.whole main_arg3).slice (Rect.unit (s := S73728x1024) (k0_off6 w) S1x1024.size (k0_off6_inb w h)) (fun _ => rfl)

/-- The word copy `k` reads. -/
def wd2 (x : Vec F S1x1x256 .i32) (k : Fin k0_t2_loop.trips) : BitVec 32 :=
  x ((Rect.unit (s := S1x1x256) (k0_off4 k) S1x1x1.size (k0_off4_inb k)).emb (Shape.Idx.first (numel1_S1x1x1.symm ▸ Nat.one_pos)))

theorem trips2 : k0_t2_loop.trips = 256 := by decide
theorem trips4 : k0_t4_loop.trips = 256 := by decide

theorem wd2_eq (x : Vec F S1x1x256 .i32) (k : Fin k0_t2_loop.trips) (b : Fin 256) (h : k.val = b.val) :
    wd2 x k = x (wordIx b) := by
  unfold wd2
  congr 1
  funext a
  apply Fin.ext
  have h1 : ((Rect.unit (s := S1x1x256) (k0_off4 k) S1x1x1.size (k0_off4_inb k)).emb (Shape.Idx.first (numel1_S1x1x1.symm ▸ Nat.one_pos)) a).val
      = k0_off4 k a + 0 := rfl
  rw [h1, k0_off4_eq]
  fin_cases a
  · rfl
  · rfl
  · exact h

theorem ok2 {x : Vec F S1x1x256 .i32} (hx : Named (F := F) x) (k : Fin k0_t2_loop.trips) : k0_chk2 (wd2 (F := F) x k) := by
  have h : (wd2 (F := F) x k).toNat < 73728 := hx _
  intro a
  fin_cases a
  · show (wd2 (F := F) x k).toNat + 1 ≤ 73728; omega
  · exact (le_refl 1024 : 0 + 1024 ≤ 1024)

variable (x : Vec F S1x1x256 .i32) (hx : Named (F := F) x) (ys : Vec F S73728x1024 .f32) (q : PosShare TreeShare)

/-- The experts' rows under read token `b`; -/
def tok2 (b : ℕ) : sProp 𝕄 := (Memref.whole main_arg3 : Memref sig .tc .hbm S73728x1024 .f32).view.loc (c : Thread nD τ) ↦{Transfers.shareTokN q b} ys

/-- the row copy `b` reads, under its token; -/
def row2 (b : Fin k0_t2_loop.trips) : sProp 𝕄 :=
  (src2 (wd2 (F := F) x b) (ok2 hx b)).view.loc (c : Thread nD τ) ↦[(src2 (wd2 (F := F) x b) (ok2 hx b)).view.set]{Transfers.shareTokN q b.val} ys

/-- the other rows, under its token. -/
def rest2 (b : Fin k0_t2_loop.trips) : sProp 𝕄 :=
  (src2 (wd2 (F := F) x b) (ok2 hx b)).view.loc (c : Thread nD τ) ↦[Finset.univ \ (src2 (wd2 (F := F) x b) (ok2 hx b)).view.set]{Transfers.shareTokN q b.val} ys

/-- The scratch's row `b` at contents `f`. -/
def hold2 (f : Vec F S256x1024 .f32) (b : Fin k0_t2_loop.trips) : sProp 𝕄 :=
  (dst2 b).view.loc (c : Thread nD τ) ↦[(dst2 b).view.set]{fullShare} f

/-- What copy `b` hands back: its row of the scratch filled, and the row it read. -/
def deliv2 (b : Fin k0_t2_loop.trips) : sProp 𝕄 :=
  iprop(hold2 c (rows (F := F) x ys) b ∗ row2 c x hx ys q b)

instance deliv2_storable (b : Fin k0_t2_loop.trips) : BI.Storable (upEmb : UEmb _ 𝕄) (deliv2 c x hx ys q b) := by
  unfold deliv2 hold2 row2; infer_instance

/-- The batch of the copies, `j` issued, `u` of credit consumed. -/
abbrev batch2 (j u : ℕ) : sProp 𝕄 :=
  Transfers.Batch (countersEmb (U := Pipeline.UD sig nD τ)) (c : Thread nD τ) (.dma 13) () NN (deliv2 c x hx ys q) j u

/-- A copy fills its row with the row its word names. -/
theorem written2 (k : Fin k0_t2_loop.trips) (f : Vec F S256x1024 .f32) :
    ∀ y ∈ (dst2 k).view.set,
      (dst2 k).view.write (Elt F) f ((src2 (wd2 (F := F) x k) (ok2 hx k)).view.read (Elt F) ys) Finset.univ y = rows (F := F) x ys y := by
  intro y hy
  obtain ⟨z, -, rfl⟩ := Finset.mem_map.mp hy
  refine (View.write_emb_of_mem _ _ (Finset.mem_univ z)).trans ?_
  show ys ((src2 (wd2 (F := F) x k) (ok2 hx k)).view.emb z) = ys (rowIx (x (wordIx ((dst2 k).view.emb z 0))) ((dst2 k).view.emb z 1))
  congr 1
  have hk : k.val < 256 := trips2 ▸ k.isLt
  have h0 : ((dst2 k).view.emb z 0).val = k.val := by
    have : ((dst2 k).view.emb z 0).val = k0_off5 k 0 + 1 * (z 0).val := rfl
    rw [this, k0_off5_eq]
    have : (z 0).val < 1 := (z 0).isLt
    show k.val + 1 * (z 0).val = k.val
    omega
  have h1 : ((dst2 k).view.emb z 1).val = (z 1).val := by
    have : ((dst2 k).view.emb z 1).val = k0_off5 k 1 + 1 * (z 1).val := rfl
    rw [this, k0_off5_eq]
    show 0 + 1 * (z 1).val = (z 1).val
    omega
  have hw := wd2_eq (F := F) x k ((dst2 k).view.emb z 0) h0.symm
  rw [← hw]
  have hlt : (wd2 (F := F) x k).toNat < 73728 := hx _
  funext a
  apply Fin.ext
  fin_cases a
  · have : (z 0).val < 1 := (z 0).isLt
    show (wd2 (F := F) x k).toNat + 1 * (z 0).val = (wd2 (F := F) x k).toNat % 73728
    rw [Nat.mod_eq_of_lt hlt]; omega
  · show 0 + 1 * (z 1).val = ((dst2 k).view.emb z 1).val
    omega

/-- Before copy `k`: the words unread, `k` copies issued, the later rows of the scratch and the later tokens in hand, and of the
    earlier tokens the rows not read. -/
def issue2 (f : Vec F S256x1024 .f32) (k : ℕ) (_ : Unit) : sProp 𝕄 :=
  iprop((arg3.view.loc (c : Thread nD τ) ↦{fullShare} harg3.unread x) ∗ batch2 c x hx ys q k 0
    ∗ bigSep (Ring.rangeSet k0_t2_loop.trips k k0_t2_loop.trips) (hold2 c f)
    ∗ bigSep (Ring.rangeSet k0_t2_loop.trips k k0_t2_loop.trips) (fun b => tok2 c ys q b.val)
    ∗ bigSep (Ring.rangeSet k0_t2_loop.trips 0 k) (rest2 c x hx ys q))

theorem issue2_step (f : Vec F S256x1024 .f32) (k : Fin k0_t2_loop.trips) (acc : Unit) :
    issue2 c arg3 harg3 x hx ys q f k acc ⊢ wp frame (wpE (defs₀ (F := F)) Variants.none (c : Thread nD τ) none) Set.univ
      (k0_t2_body (F := F) i arg2 harg2 arg3 harg3 arg4 harg4 arg5 harg5 arg6 harg6 (Memref.whole main_arg3) (Memref.isWhole_whole _) arg8 harg8 (Memref.whole cc0_scratch0) (Memref.isWhole_whole _) (Memref.whole cc0_scratch1) (Memref.isWhole_whole _) cc0_scratch2 k acc)
      (issue2 c arg3 harg3 x hx ys q f (k.val + 1)) := by
  have hk := k.isLt
  have hok := ok2 (F := F) hx k
  unfold issue2
  rw [Ring.bigSep_rangeSet_head (Φ := hold2 c f) hk hk,
    Ring.bigSep_rangeSet_head (Φ := fun b : Fin k0_t2_loop.trips => tok2 c ys q b.val) hk hk,
    Ring.bigSep_rangeSet_last (Φ := rest2 c x hx ys q) (hi := k.val + 1) (Nat.succ_pos _) hk]
  simp only [Nat.add_sub_cancel]
  iintro ⟨HA, HB, ⟨HR, HRs⟩, ⟨HT, HTs⟩, Hrest⟩
  unfold k0_t2_body smemLoad
  rw [smemLoadElt_bind]
  iapply (wp_smemLoadElt_named Variants.none (c : Thread nD τ) none Set.univ) $$ HA
  iintro HA %w %hw
  have hw' : w = wd2 (F := F) x k := by
    rw [hw]
    show (arg3.view.read (Elt F) (harg3.unread x)) _ = _
    rw [harg3.read_unread]; rfl
  subst hw'
  iapply (wp_assume _ _ _ _ hok)
  unfold tok2
  ihave HT' := (pointsTo_split_subset (Finset.subset_univ (src2 (wd2 (F := F) x k) (ok2 hx k)).view.set)).1 $$ HT
  icases HT' with ⟨HS, HQ⟩
  iapply (Transfers.wp_dmaBatch (countersEmb (U := Pipeline.UD sig nD τ)) Variants.none (c : Thread nD τ) none
    (src := src2 (wd2 (F := F) x k) (ok2 hx k)) (dst := dst2 k) (sm := .dma 13) () NN rfl subset_rfl
    (D := deliv2 c x hx ys q) (j := k.val) (u := 0) hk (Nat.zero_le _)
    (by
      unfold deliv2 hold2 row2
      exact sep_mono (Entails.of_eq (pointsTo_congr (written2 x hx ys k f))) .rfl)) $$ [HS HR HB]
  · isplitl [HS]; · iexact HS
    isplitl [HR]; · unfold hold2; iexact HR
    iexact HB
  iintro HB
  rw [show ∀ (a : PUnit) (k : PUnit → Prog (TpuEff nD τ sig (Elt F) Λ₀ .tc) Unit), (Prog.ret a).bind k = k a from fun _ _ => rfl]
  sl_step
  isplitl [HA]; · iexact HA
  isplitl [HB]; · iexact HB
  isplitl [HRs]; · iexact HRs
  isplitl [HTs]; · iexact HTs
  isplitl [HQ]; · unfold rest2; iexact HQ
  iexact Hrest

/-- Before wait `k`: `k` waits done and nothing handed back, or every wait done and everything handed back. -/
def drain2 (k : ℕ) (_ : Unit) : sProp 𝕄 :=
  iprop(⌜k ≤ k0_t4_loop.trips⌝ ∗ (∃ W, owes (c : Thread nD τ) 0 W)
    ∗ (if k < k0_t4_loop.trips then batch2 c x hx ys q k0_t2_loop.trips (k * NN)
       else iprop(semVal ((c : Thread nD τ), SemLoc.dma 13) 0 ∗ bigSep Finset.univ (deliv2 c x hx ys q))))

theorem drain2_step (k : Fin k0_t4_loop.trips) (acc : Unit) :
    drain2 c x hx ys q k acc ⊢ wp frame (wpE (defs₀ (F := F)) Variants.none (c : Thread nD τ) none) Set.univ
      (k0_t4_body (F := F) i arg2 harg2 arg3 harg3 arg4 harg4 arg5 harg5 arg6 harg6 (Memref.whole main_arg3) (Memref.isWhole_whole _) arg8 harg8 (Memref.whole cc0_scratch0) (Memref.isWhole_whole _) (Memref.whole cc0_scratch1) (Memref.isWhole_whole _) cc0_scratch2 k acc)
      (drain2 c x hx ys q (k.val + 1)) := by
  have hk := k.isLt
  have hn := trips2
  have hm := trips4
  have hN : 0 < NN := by decide
  unfold drain2
  simp only [if_pos hk]
  rcases Nat.lt_or_ge (k.val + 1) k0_t4_loop.trips with h1 | h1
  · simp only [if_pos h1]
    iintro ⟨-, ⟨%W, HO⟩, HB⟩
    unfold k0_t4_body
    iapply (Transfers.wp_waitBatch (countersEmb (U := Pipeline.UD sig nD τ)) Variants.none (c : Thread nD τ) none () (N := NN) rfl
      (D := deliv2 c x hx ys q) (u := k.val * NN)
      (credit_lt hn hm h1 hN)) $$ [HB HO]
    · isplitl [HB]; · iexact HB
      iexact HO
    iintro ⟨HB, HO⟩
    rw [show ∀ (a : PUnit) (k : PUnit → Prog (TpuEff nD τ sig (Elt F) Λ₀ .tc) Unit), (Prog.ret a).bind k = k a from fun _ _ => rfl]
    sl_step
    isplitr; · ipureintro; omega
    isplitl [HO]; · iexists _; iexact HO
    rw [Nat.succ_mul]
    iexact HB
  · simp only [if_neg (Nat.not_lt.mpr h1)]
    iintro ⟨-, ⟨%W, HO⟩, HB⟩
    unfold k0_t4_body
    iapply (Transfers.wp_waitBatchLast (countersEmb (U := Pipeline.UD sig nD τ)) Variants.none (c : Thread nD τ) none () (N := NN) rfl hN
      (D := deliv2 c x hx ys q) (u := k.val * NN)
      (credit_eq hn hm hk h1)) $$ [HB HO]
    · isplitl [HB]; · iexact HB
      iexact HO
    iintro ⟨HD, HS, HO⟩
    rw [show ∀ (a : PUnit) (k : PUnit → Prog (TpuEff nD τ sig (Elt F) Λ₀ .tc) Unit), (Prog.ret a).bind k = k a from fun _ _ => rfl]
    sl_step
    isplitr; · ipureintro; omega
    isplitl [HO]; · iexists _; iexact HO
    isplitl [HS]; · iexact HS
    iexact HD

/-! The scratch as its rows, the experts' rows as their read tokens. -/

/-- Row `b` of the scratch, as a set of its elements. -/
abbrev rset2 (b : Fin k0_t2_loop.trips) : Finset S256x1024.Idx :=
  (Rect.unit (s := S256x1024) (k0_off5 b) S1x1024.size (k0_off5_inb b)).set

theorem dset2 (b : Fin k0_t2_loop.trips) : (dst2 b).view.set = rset2 b := View.set_slice_whole _ _

theorem mem_rset2 (b : Fin k0_t2_loop.trips) (y : S256x1024.Idx) : y ∈ rset2 b ↔ (y 0).val = b.val := by
  rw [Rect.mem_set_unit, k0_off5_eq]
  constructor
  · intro H
    have a0 : b.val ≤ (y 0).val ∧ (y 0).val < b.val + 1 := H 0
    omega
  · intro H a
    have h1 : (y 1).val < 1024 := (y 1).isLt
    fin_cases a
    · show b.val ≤ (y 0).val ∧ (y 0).val < b.val + 1; omega
    · show 0 ≤ (y 1).val ∧ (y 1).val < 0 + 1024; omega

theorem rset2_disjoint : ∀ b b' : Fin k0_t2_loop.trips, b ≠ b' → Disjoint (rset2 b) (rset2 b') := fun b b' hne => by
  rw [Finset.disjoint_left]; intro y hy hy'; rw [mem_rset2] at hy hy'; exact hne (Fin.ext (hy.symm.trans hy'))

theorem rset2_cover : Finset.univ.biUnion rset2 = Finset.univ := by
  refine Finset.eq_univ_iff_forall.mpr fun y => ?_
  have hb : (y 0).val < k0_t2_loop.trips := Nat.lt_of_lt_of_eq (show (y 0).val < 256 from (y 0).isLt) trips2.symm
  exact Finset.mem_biUnion.mpr ⟨⟨(y 0).val, hb⟩, Finset.mem_univ _, (mem_rset2 ⟨(y 0).val, hb⟩ y).mpr rfl⟩

theorem hold2_eq (f : Vec F S256x1024 .f32) :
    ((Memref.whole cc0_scratch1 : Memref sig .tc .vmem S256x1024 .f32).view.loc (c : Thread nD τ) ↦{fullShare} f : sProp 𝕄)
      = bigSep Finset.univ (hold2 c f) := by
  refine (Ring.pointsTo_blocks (ℓ := (Memref.whole cc0_scratch1 : Memref sig .tc .vmem S256x1024 .f32).view.loc (c : Thread nD τ)) (q := fullShare)
    rset2 rset2_disjoint rset2_cover f).trans (congrArg (bigSep Finset.univ) (funext fun b => ?_))
  unfold hold2
  rw [dset2]

theorem toks2_eq : (bigSep Finset.univ (fun b : Fin k0_t2_loop.trips => tok2 c ys q b.val) : sProp 𝕄)
    = bigSep (Finset.range k0_t2_loop.trips) (tok2 c ys q) := by
  rw [← Ring.rangeSet_univ, Ring.bigSep_rangeSet_eq_range (Φ := fun b : Fin k0_t2_loop.trips => tok2 c ys q b.val) le_rfl (tok2 c ys q)
    (fun k _ => by show tok2 c ys q k = tok2 c ys q (0 + k); rw [Nat.zero_add])]
  rfl

/-- What is left of the experts' rows once the tokens are dealt. -/
def left2 : sProp 𝕄 :=
  (Memref.whole main_arg3 : Memref sig .tc .hbm S73728x1024 .f32).view.loc (c : Thread nD τ) ↦{Transfers.shareDrop q k0_t2_loop.trips} ys

theorem deal2 : ((Memref.whole main_arg3 : Memref sig .tc .hbm S73728x1024 .f32).view.loc (c : Thread nD τ) ↦{q} ys : sProp 𝕄)
    ⊣⊢ iprop(left2 c ys q ∗ bigSep Finset.univ (fun b : Fin k0_t2_loop.trips => tok2 c ys q b.val)) := by
  rw [toks2_eq]
  unfold left2 tok2
  exact Transfers.pointsTo_toks_range q k0_t2_loop.trips

/-- A row read and the other rows are the rows under the token. -/
theorem whole2 (b : Fin k0_t2_loop.trips) : iprop(row2 c x hx ys q b ∗ rest2 c x hx ys q b) ⊢ (tok2 c ys q b.val : sProp 𝕄) := by
  unfold row2 rest2 tok2
  exact (pointsTo_split_subset (Finset.subset_univ (src2 (wd2 (F := F) x b) (ok2 hx b)).view.set)).2

/-- Everything handed back: the scratch filled, the experts' rows as they were. -/
theorem collect2 :
    iprop(bigSep Finset.univ (deliv2 c x hx ys q) ∗ bigSep (Ring.rangeSet k0_t2_loop.trips 0 k0_t2_loop.trips) (rest2 c x hx ys q) ∗ left2 c ys q)
      ⊢ (iprop(((Memref.whole cc0_scratch1 : Memref sig .tc .vmem S256x1024 .f32).view.loc (c : Thread nD τ) ↦{fullShare} rows (F := F) x ys)
          ∗ ((Memref.whole main_arg3 : Memref sig .tc .hbm S73728x1024 .f32).view.loc (c : Thread nD τ) ↦{q} ys)) : sProp 𝕄) := by
  rw [hold2_eq, Ring.rangeSet_univ]
  iintro ⟨HD, HR, HL⟩
  ihave HD' := (show bigSep Finset.univ (deliv2 c x hx ys q)
      ⊢ (iprop(bigSep Finset.univ (hold2 c (rows (F := F) x ys)) ∗ bigSep Finset.univ (row2 c x hx ys q)) : sProp 𝕄)
    from Entails.of_eq (BI.bigSep_sep _ _ _)) $$ HD
  icases HD' with ⟨HH, HW⟩
  isplitl [HH]; · iexact HH
  iapply (deal2 c ys q).2
  isplitl [HL]; · iexact HL
  iapply (show (iprop(bigSep Finset.univ (row2 c x hx ys q) ∗ bigSep Finset.univ (rest2 c x hx ys q)) : sProp 𝕄)
      ⊢ bigSep Finset.univ (fun b : Fin k0_t2_loop.trips => tok2 c ys q b.val)
    from (Entails.of_eq (BI.bigSep_sep Finset.univ (row2 c x hx ys q) (rest2 c x hx ys q)).symm).trans
      (BI.bigSep_mono fun b _ => whole2 c x hx ys q b))
  isplitl [HW] <;> iassumption

end Rows2

/-! ## The body -/

/-- What the body leaves in the result's block, from the inputs' blocks and the experts' rows. -/
def outC (x0 x1 : Vec F S1x1x256 .i32) (x2 : Vec F S1x256x1024 .f32) (x3 : Vec F S1x256x128 .f32) (x4 : Vec F S1x6x1024 .f32)
    (ys : Vec F S73728x1024 .f32) : Vec F S1x256x1024 .f32 :=
  k0_pay1 (k0_pay2 (View.ld x3 (Rect.unit (s := S1x256x128) ![0, 0, 2] S1x256x1.size inb_S1x256x128_S1x256x1_0_0_2)) (View.ld x3 (Rect.unit (s := S1x256x128) ![0, 0, 3] S1x256x1.size inb_S1x256x128_S1x256x1_0_0_3)) (rows (F := F) x0 ys) (rows (F := F) x1 ys))
    (k0_pay3 x2) (View.ld x4 (Rect.unit (s := S1x6x1024) ![0, 5, 0] S1x1x1024.size inb_S1x6x1024_S1x1x1024_0_5_0))

section Body

variable (c : Dev nD) (x0 x1 : Vec F S1x1x256 .i32) (h0 : Named (F := F) x0) (h1 : Named (F := F) x1) (ys : Vec F S73728x1024 .f32)

theorem trips1_pos : 0 < k0_t3_loop.trips := by rw [trips3]; decide
theorem trips2_pos : 0 < k0_t4_loop.trips := by rw [trips4]; decide

/-- Before the first copy of the first rows. -/
theorem issue1_start (arg : Memref sig .tc .smem S1x1x256 .i32) (harg : arg.IsWhole) (x : Vec F S1x1x256 .i32) (hx : Named (F := F) x)
    (q : PosShare TreeShare) (f : Vec F S256x1024 .f32) :
    iprop((arg.view.loc (c : Thread nD τ) ↦[arg.view.set]{fullShare} harg.unread x) ∗ batch1 c x hx ys q 0 0
      ∗ ((Memref.whole cc0_scratch0 : Memref sig .tc .vmem S256x1024 .f32).view.loc (c : Thread nD τ) ↦{fullShare} f)
      ∗ bigSep Finset.univ (fun b : Fin k0_t1_loop.trips => tok1 c ys q b.val)) ⊢ (issue1 c arg harg x hx ys q f 0 () : sProp 𝕄) := by
  unfold issue1
  rw [harg.set_eq_univ, hold1_eq, Ring.rangeSet_univ, Ring.bigSep_rangeSet_empty (Φ := rest1 c x hx ys q) (le_refl 0)]
  iintro ⟨HA, HB, HH, HT⟩
  isplitl [HA]; · iexact HA
  isplitl [HB]; · iexact HB
  isplitl [HH]; · iexact HH
  isplitl [HT]; · iexact HT
  iempintro

/-- Before the first copy of the second rows. -/
theorem issue2_start (arg : Memref sig .tc .smem S1x1x256 .i32) (harg : arg.IsWhole) (x : Vec F S1x1x256 .i32) (hx : Named (F := F) x)
    (q : PosShare TreeShare) (f : Vec F S256x1024 .f32) :
    iprop((arg.view.loc (c : Thread nD τ) ↦[arg.view.set]{fullShare} harg.unread x) ∗ batch2 c x hx ys q 0 0
      ∗ ((Memref.whole cc0_scratch1 : Memref sig .tc .vmem S256x1024 .f32).view.loc (c : Thread nD τ) ↦{fullShare} f)
      ∗ bigSep Finset.univ (fun b : Fin k0_t2_loop.trips => tok2 c ys q b.val)) ⊢ (issue2 c arg harg x hx ys q f 0 () : sProp 𝕄) := by
  unfold issue2
  rw [harg.set_eq_univ, hold2_eq, Ring.rangeSet_univ, Ring.bigSep_rangeSet_empty (Φ := rest2 c x hx ys q) (le_refl 0)]
  iintro ⟨HA, HB, HH, HT⟩
  isplitl [HA]; · iexact HA
  isplitl [HB]; · iexact HB
  isplitl [HH]; · iexact HH
  isplitl [HT]; · iexact HT
  iempintro

/-- After the last copy: the words, the batch whole, the rows not read. -/
theorem issue1_end (arg : Memref sig .tc .smem S1x1x256 .i32) (harg : arg.IsWhole) (x : Vec F S1x1x256 .i32) (hx : Named (F := F) x)
    (q : PosShare TreeShare) (f : Vec F S256x1024 .f32) (acc : Unit) :
    issue1 c arg harg x hx ys q f k0_t1_loop.trips acc
      ⊢ (iprop((arg.view.loc (c : Thread nD τ) ↦[arg.view.set]{fullShare} harg.unread x) ∗ batch1 c x hx ys q k0_t1_loop.trips 0
        ∗ bigSep (Ring.rangeSet k0_t1_loop.trips 0 k0_t1_loop.trips) (rest1 c x hx ys q)) : sProp 𝕄) := by
  unfold issue1
  rw [harg.set_eq_univ]
  iintro ⟨HA, HB, -, -, HR⟩
  isplitl [HA]; · iexact HA
  isplitl [HB]; · iexact HB
  iexact HR

theorem issue2_end (arg : Memref sig .tc .smem S1x1x256 .i32) (harg : arg.IsWhole) (x : Vec F S1x1x256 .i32) (hx : Named (F := F) x)
    (q : PosShare TreeShare) (f : Vec F S256x1024 .f32) (acc : Unit) :
    issue2 c arg harg x hx ys q f k0_t2_loop.trips acc
      ⊢ (iprop((arg.view.loc (c : Thread nD τ) ↦[arg.view.set]{fullShare} harg.unread x) ∗ batch2 c x hx ys q k0_t2_loop.trips 0
        ∗ bigSep (Ring.rangeSet k0_t2_loop.trips 0 k0_t2_loop.trips) (rest2 c x hx ys q)) : sProp 𝕄) := by
  unfold issue2
  rw [harg.set_eq_univ]
  iintro ⟨HA, HB, -, -, HR⟩
  isplitl [HA]; · iexact HA
  isplitl [HB]; · iexact HB
  iexact HR

/-- Before the first wait, and after the last. -/
theorem drain1_start (x : Vec F S1x1x256 .i32) (hx : Named (F := F) x) (q : PosShare TreeShare) :
    iprop((∃ W, owes (c : Thread nD τ) 0 W) ∗ batch1 c x hx ys q k0_t1_loop.trips 0) ⊢ (drain1 c x hx ys q 0 () : sProp 𝕄) := by
  unfold drain1
  rw [if_pos trips1_pos, Nat.zero_mul]
  iintro ⟨HO, HB⟩
  isplitr; · ipureintro; exact Nat.zero_le _
  isplitl [HO]; · iexact HO
  iexact HB

theorem drain2_start (x : Vec F S1x1x256 .i32) (hx : Named (F := F) x) (q : PosShare TreeShare) :
    iprop((∃ W, owes (c : Thread nD τ) 0 W) ∗ batch2 c x hx ys q k0_t2_loop.trips 0) ⊢ (drain2 c x hx ys q 0 () : sProp 𝕄) := by
  unfold drain2
  rw [if_pos trips2_pos, Nat.zero_mul]
  iintro ⟨HO, HB⟩
  isplitr; · ipureintro; exact Nat.zero_le _
  isplitl [HO]; · iexact HO
  iexact HB

theorem drain1_end (x : Vec F S1x1x256 .i32) (hx : Named (F := F) x) (q : PosShare TreeShare) (acc : Unit) :
    drain1 c x hx ys q k0_t3_loop.trips acc ⊢ (iprop((∃ W, owes (c : Thread nD τ) 0 W)
      ∗ semVal ((c : Thread nD τ), SemLoc.dma 12) 0 ∗ bigSep Finset.univ (deliv1 c x hx ys q)) : sProp 𝕄) := by
  unfold drain1
  rw [if_neg (Nat.lt_irrefl _)]
  iintro ⟨-, HO, HS, HD⟩
  isplitl [HO]; · iexact HO
  isplitl [HS]; · iexact HS
  iexact HD

theorem drain2_end (x : Vec F S1x1x256 .i32) (hx : Named (F := F) x) (q : PosShare TreeShare) (acc : Unit) :
    drain2 c x hx ys q k0_t4_loop.trips acc ⊢ (iprop((∃ W, owes (c : Thread nD τ) 0 W)
      ∗ semVal ((c : Thread nD τ), SemLoc.dma 13) 0 ∗ bigSep Finset.univ (deliv2 c x hx ys q)) : sProp 𝕄) := by
  unfold drain2
  rw [if_neg (Nat.lt_irrefl _)]
  iintro ⟨-, HO, HS, HD⟩
  isplitl [HO]; · iexact HO
  isplitl [HS]; · iexact HS
  iexact HD

include h0 h1 in
set_option maxHeartbeats 4000000 in
/-- The body's triple: on whole staging memrefs, the inputs' at their contents, the experts' rows in hand and the two cells at
    zero, the body ends with all of these as they were and the result's at `outC`. -/
theorem kernelRun (i : grid0.Coords) (arg2 : Memref sig .tc .smem S1x1x256 .i32) (harg2 : arg2.IsWhole) (arg3 : Memref sig .tc .smem S1x1x256 .i32) (harg3 : arg3.IsWhole) (arg4 : Memref sig .tc .vmem S1x256x1024 .f32) (harg4 : arg4.IsWhole) (arg5 : Memref sig .tc .vmem S1x256x128 .f32) (harg5 : arg5.IsWhole) (arg6 : Memref sig .tc .vmem S1x6x1024 .f32) (harg6 : arg6.IsWhole) (arg8 : Memref sig .tc .vmem S1x256x1024 .f32) (harg8 : arg8.IsWhole)
    (x2 : Vec F S1x256x1024 .f32) (x3 : Vec F S1x256x128 .f32) (x4 : Vec F S1x6x1024 .f32) (W : Waits sig Unit) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg8 fullShare d)
        ∗ (∃ f : Vec F S256x1024 .f32, (Memref.whole cc0_scratch0 : Memref sig .tc .vmem S256x1024 .f32).view.loc (c : Thread nD τ) ↦{fullShare} f)
        ∗ (∃ f : Vec F S256x1024 .f32, (Memref.whole cc0_scratch1 : Memref sig .tc .vmem S256x1024 .f32).view.loc (c : Thread nD τ) ↦{fullShare} f)
        ∗ ((Memref.whole main_arg3 : Memref sig .tc .hbm S73728x1024 .f32).view.loc (c : Thread nD τ) ↦{fullShare} ys)
        ∗ semVal ((c : Thread nD τ), SemLoc.dma 12) 0 ∗ semVal ((c : Thread nD τ), SemLoc.dma 13) 0
        ∗ owes (c : Thread nD τ) 0 W
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg8 fullShare (outC (F := F) x0 x1 x2 x3 x4 ys)
        ∗ (∃ f : Vec F S256x1024 .f32, (Memref.whole cc0_scratch0 : Memref sig .tc .vmem S256x1024 .f32).view.loc (c : Thread nD τ) ↦{fullShare} f)
        ∗ (∃ f : Vec F S256x1024 .f32, (Memref.whole cc0_scratch1 : Memref sig .tc .vmem S256x1024 .f32).view.loc (c : Thread nD τ) ↦{fullShare} f)
        ∗ ((Memref.whole main_arg3 : Memref sig .tc .hbm S73728x1024 .f32).view.loc (c : Thread nD τ) ↦{fullShare} ys)
        ∗ semVal ((c : Thread nD τ), SemLoc.dma 12) 0 ∗ semVal ((c : Thread nD τ), SemLoc.dma 13) 0
        ∗ (∃ W, owes (c : Thread nD τ) 0 W)) -∗ K ⟨⟩))
      ⊢ wp frame (wpE (defs₀ (F := F)) Variants.none (c : Thread nD τ) none) Set.univ
          (cc0_combine_rows (F := F) i arg2 harg2 arg3 harg3 arg4 harg4 arg5 harg5 arg6 harg6 (Memref.whole main_arg3) (Memref.isWhole_whole _) arg8 harg8 (Memref.whole cc0_scratch0) (Memref.isWhole_whole _) (Memref.whole cc0_scratch1) (Memref.isWhole_whole _) cc0_scratch2) K := by
  simp only [cc0_combine_rows_eq_skeleton]; unfold cc0_combine_rows_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d8, %f8, -, H8⟩, ⟨%g0, HS0⟩, ⟨%g1, HS1⟩, HY, Hc0, Hc1, HO, Hk⟩
  obtain rfl := harg2.eq_unread hf0; obtain rfl := harg3.eq_unread hf1; obtain rfl := harg4.eq_unread hf2; obtain rfl := harg5.eq_unread hf3; obtain rfl := harg6.eq_unread hf4
  ihave HY' := (pointsTo_share (PosShare.mem_left_op_right fullShare)).1 $$ HY
  icases HY' with ⟨HYl, HYr⟩
  ihave HYl' := (deal1 c ys fullShare.left).1 $$ HYl
  icases HYl' with ⟨HL1, HT1⟩
  ihave HYr' := (deal2 c ys fullShare.right).1 $$ HYr
  icases HYr' with ⟨HL2, HT2⟩
  imod (Transfers.batch_alloc' (Lvl := ℕ) (countersEmb (U := Pipeline.UD sig nD τ)) (c : Thread nD τ) () NN (deliv1 c x0 h0 ys fullShare.left) (sm := .dma 12) (E := Set.univ)) $$ Hc0 with HB1
  imod (Transfers.batch_alloc' (Lvl := ℕ) (countersEmb (U := Pipeline.UD sig nD τ)) (c : Thread nD τ) () NN (deliv2 c x1 h1 ys fullShare.right) (sm := .dma 13) (E := Set.univ)) $$ Hc1 with HB2
  ihave HI1 := (issue1_start c ys arg2 harg2 x0 h0 fullShare.left g0) $$ [H0 HB1 HS0 HT1]
  · isplitl [H0]; · iexact H0
    isplitl [HB1]; · iexact HB1
    isplitl [HS0]; · iexact HS0
    iexact HT1
  ihave HI2 := (issue2_start c ys arg3 harg3 x1 h1 fullShare.right g1) $$ [H1 HB2 HS1 HT2]
  · isplitl [H1]; · iexact H1
    isplitl [HB2]; · iexact HB2
    isplitl [HS1]; · iexact HS1
    iexact HT2
  simp only [bind_assoc]
  sl_for (issue1 c arg2 harg2 x0 h0 ys fullShare.left g0) $$ [HI1]
  · intro k acc; exact issue1_step c i arg2 harg2 arg3 harg3 arg4 harg4 arg5 harg5 arg6 harg6 arg8 harg8 x0 h0 ys fullShare.left g0 k acc
  · iexact HI1
  iintro %acc1 HI1
  sl_for (issue2 c arg3 harg3 x1 h1 ys fullShare.right g1) $$ [HI2]
  · intro k acc; exact issue2_step c i arg2 harg2 arg3 harg3 arg4 harg4 arg5 harg5 arg6 harg6 arg8 harg8 x1 h1 ys fullShare.right g1 k acc
  · iexact HI2
  iintro %acc2 HI2
  ihave HI1' := (issue1_end c ys arg2 harg2 x0 h0 fullShare.left g0 acc1) $$ HI1
  icases HI1' with ⟨H0, HB1, HR1⟩
  ihave HI2' := (issue2_end c ys arg3 harg3 x1 h1 fullShare.right g1 acc2) $$ HI2
  icases HI2' with ⟨H1, HB2, HR2⟩
  ihave HD1 := (drain1_start c ys x0 h0 fullShare.left) $$ [HO HB1]
  · isplitl [HO]; · iexists _; iexact HO
    iexact HB1
  sl_for (drain1 c x0 h0 ys fullShare.left) $$ [HD1]
  · intro k acc; exact drain1_step c i arg2 harg2 arg3 harg3 arg4 harg4 arg5 harg5 arg6 harg6 arg8 harg8 x0 h0 ys fullShare.left k acc
  · iexact HD1
  iintro %acc3 HD1
  ihave HD1' := (drain1_end c ys x0 h0 fullShare.left acc3) $$ HD1
  icases HD1' with ⟨HO, Hc0, HD1⟩
  ihave HD2 := (drain2_start c ys x1 h1 fullShare.right) $$ [HO HB2]
  · isplitl [HO]; · iexact HO
    iexact HB2
  sl_for (drain2 c x1 h1 ys fullShare.right) $$ [HD2]
  · intro k acc; exact drain2_step c i arg2 harg2 arg3 harg3 arg4 harg4 arg5 harg5 arg6 harg6 arg8 harg8 x1 h1 ys fullShare.right k acc
  · iexact HD2
  iintro %acc4 HD2
  ihave HD2' := (drain2_end c ys x1 h1 fullShare.right acc4) $$ HD2
  icases HD2' with ⟨⟨%W', HO⟩, Hc1, HD2⟩
  ihave HC1 := (collect1 c x0 h0 ys fullShare.left) $$ [HD1 HR1 HL1]
  · isplitl [HD1]; · iexact HD1
    isplitl [HR1]; · iexact HR1
    iexact HL1
  icases HC1 with ⟨HS0, HYl⟩
  ihave HC2 := (collect2 c x1 h1 ys fullShare.right) $$ [HD2 HR2 HL2]
  · isplitl [HD2]; · iexact HD2
    isplitl [HR2]; · iexact HR2
    iexact HL2
  icases HC2 with ⟨HS1, HYr⟩
  ihave HY := (pointsTo_share (PosShare.mem_left_op_right fullShare)).2 $$ [HYl HYr]
  · isplitl [HYl]; · iexact HYl
    iexact HYr
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H8]
  · iexists _; isplitr; swap; · iexact H8
    ipureintro
    rw [View.read_writes_eq_canon _ _ _ (View.cover_of_tiled _ S1x256x1024.size (by rfl)), View.canon_cons_unit_lit _ _ _ (by decide)]
    unfold outC
    have e2 := View.ld_unit_lit inb_S1x256x1024_S1x256x1024_0_0_0 (arg4.view.read (Elt F) (harg4.unread x2)) (by decide)
    have es0 := View.ld_unit_lit inb_S256x1024_S256x1024_0_0 ((Memref.whole cc0_scratch0 : Memref sig .tc .vmem S256x1024 .f32).view.read (Elt F) (rows (F := F) x0 ys)) (by decide)
    have es1 := View.ld_unit_lit inb_S256x1024_S256x1024_0_0 ((Memref.whole cc0_scratch1 : Memref sig .tc .vmem S256x1024 .f32).view.read (Elt F) (rows (F := F) x1 ys)) (by decide)
    have e3 : ∀ r : Rect S1x256x128, View.ld (arg5.view.read (Elt F) (harg5.unread x3)) r = View.ld x3 r := fun r => by rw [hf3]
    have e4 : ∀ r : Rect S1x6x1024, View.ld (arg6.view.read (Elt F) (harg6.unread x4)) r = View.ld x4 r := fun r => by rw [hf4]
    exact congr (congr (congrArg k0_pay1 (congr (congr (congr (congrArg k0_pay2 (e3 _)) (e3 _)) es0) es1)) (congrArg k0_pay3 (e2.trans hf2))) (e4 (Rect.unit (s := S1x6x1024) ![0, 5, 0] S1x1x1024.size inb_S1x6x1024_S1x1x1024_0_5_0))
  isplitl [HS0]; · iexists _; iexact HS0
  isplitl [HS1]; · iexists _; iexact HS1
  isplitl [HY]; · iexact HY
  isplitl [Hc0]; · iexact Hc0
  isplitl [Hc1]; · iexact Hc1
  iexists _; iexact HO

end Body

/-! ## @main up to the region -/

variable (m : (ℓ : Loc nD τ sig) → Buf (Elt F) ℓ) (ρ : Dev nD → PrngReg)

set_option maxHeartbeats 800000 in
/-- @main up to the region, over the counters the copies use. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The region finds the two lists of row numbers cut into blocks. -/
theorem V_main_v0 (c : Dev nD) : V m c main_v0
    = (shapeCast S128x1x256 (show Vec F S32768 .i32 from m ((c : Thread nD τ).loc main_arg4)) shapeCasts_S32768_S128x1x256 : Vec F S128x1x256 .i32) := by
  show StableHlo.after hostOps0 _ (Proc.devRef .tc main_v0) = _
  have hne : main_v0 ≠ main_v1 := by decide
  rw [StableHlo.after_cons, StableHlo.after_cons, StableHlo.after_nil, StableHlo.reshape_result_ne (h := hne), StableHlo.reshape_result]
  rfl
theorem V_main_v1 (c : Dev nD) : V m c main_v1
    = (shapeCast S128x1x256 (show Vec F S32768 .i32 from m ((c : Thread nD τ).loc main_arg5)) shapeCasts_S32768_S128x1x256 : Vec F S128x1x256 .i32) := by
  show StableHlo.after hostOps0 _ (Proc.devRef .tc main_v1) = _
  have hne : main_arg5 ≠ main_v0 := by decide
  rw [StableHlo.after_cons, StableHlo.after_cons, StableHlo.after_nil, StableHlo.reshape_result, StableHlo.reshape_result_ne (h := hne)]
  rfl

/-- Every word of the two lists names a row. -/
def Ok : Prop :=
  (∀ (c : Dev nD) (y : S32768.Idx), (show BitVec 32 from (show Vec F S32768 .i32 from m ((c : Thread nD τ).loc main_arg4)) y).toNat < 73728)
  ∧ (∀ (c : Dev nD) (y : S32768.Idx), (show BitVec 32 from (show Vec F S32768 .i32 from m ((c : Thread nD τ).loc main_arg5)) y).toNat < 73728)

variable {m} in
theorem named0 (hO : Ok m) (c : Dev nD) (t : Fin cfg0.N) : Named (F := F) (iblk m c 0 t) := fun y => by
  show (show BitVec 32 from (V m c main_v0) (((cfg0.win 0).blk t).view.emb y)).toNat < 73728
  rw [V_main_v0]
  exact hO.1 c _
variable {m} in
theorem named1 (hO : Ok m) (c : Dev nD) (t : Fin cfg0.N) : Named (F := F) (iblk m c 1 t) := fun y => by
  show (show BitVec 32 from (V m c main_v1) (((cfg0.win 1).blk t).view.emb y)).toNat < 73728
  rw [V_main_v1]
  exact hO.2 c _

/-! ## The proof data -/

/-- The two cells the copies complete on. -/
abbrev osem0 : Fin 2 → SemLoc sig := fun j => (![SemLoc.dma 12, SemLoc.dma 13] : Fin 2 → SemLoc sig) j
theorem ownSemFacts0 : Pipeline.OwnSemFacts spec0 osem0 := by decide
/-- The buffer the copies read: the experts' rows. -/
abbrev H0 : Finset (Ref sig .tc) := {main_arg3}
theorem H0_sub : H0 ⊆ Pipeline.restRefs sig spec0 := by decide

/-- The proof data: the arrays as the region finds them, each input's buffer its block, the result's buffer `outC`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outC (F := F) (iblk m c 0 t) (iblk m c 1 t) (iblk m c 2 t) (iblk m c 3 t) (iblk m c 4 t) (V m c main_arg3)
  Φ _ := Pipeline.ΦD osem0 spec0 H0 (V m) c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]; try rfl
theorem after0_1 (c : Dev nD) (t : Fin cfg0.N) : (dats m 0 c).after 1 t = iblk m c 1 t := by dsimp only [dats]; try rfl
theorem after0_2 (c : Dev nD) (t : Fin cfg0.N) : (dats m 0 c).after 2 t = iblk m c 2 t := by dsimp only [dats]; try rfl
theorem after0_3 (c : Dev nD) (t : Fin cfg0.N) : (dats m 0 c).after 3 t = iblk m c 3 t := by dsimp only [dats]; try rfl
theorem after0_4 (c : Dev nD) (t : Fin cfg0.N) : (dats m 0 c).after 4 t = iblk m c 4 t := by dsimp only [dats]; try rfl
theorem after0_5 (c : Dev nD) (t : Fin cfg0.N) : (dats m 0 c).after 5 t = outC (F := F) (iblk m c 0 t) (iblk m c 1 t) (iblk m c 2 t) (iblk m c 3 t) (iblk m c 4 t) (V m c main_arg3) := by dsimp only [dats]; try rfl

/-- Each input's buffer holds its block before the body. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)

/-- What the pipeline lends the body besides the windows: the two scratches, the generator's register, the two cells at zero, and
    the experts' rows. -/
theorem Phi_eq (c : Dev nD) : (Pipeline.ΦD osem0 spec0 H0 (V m) c : sProp 𝕄)
    = iprop(((∃ f : Vec F S256x1024 .f32, (Memref.whole cc0_scratch0 : Memref sig .tc .vmem S256x1024 .f32).view.loc (c : Thread nD τ) ↦{fullShare} f)
        ∗ (∃ f : Vec F S256x1024 .f32, (Memref.whole cc0_scratch1 : Memref sig .tc .vmem S256x1024 .f32).view.loc (c : Thread nD τ) ↦{fullShare} f))
      ∗ (∃ r, prngReg c r)
      ∗ (semVal ((c : Thread nD τ), SemLoc.dma 12) 0 ∗ semVal ((c : Thread nD τ), SemLoc.dma 13) 0)
      ∗ ((Memref.whole main_arg3 : Memref sig .tc .hbm S73728x1024 .f32).view.loc (c : Thread nD τ) ↦{fullShare} V m c main_arg3)) := by
  rw [Pipeline.ΦD_eq, scopedRest0_eq, Pipeline.ownSems0_eq_of_list c osem0 [0, 1] (by decide) (by decide),
    BI.bigSep_eq_bigSepL_of_eq [main_arg3] (by decide) (by decide)]
  rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

variable {m}

/-- The body at any point: the run applies to the inputs' blocks. -/
theorem sound_body (hO : Ok m) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = Pipeline.ΦD osem0 spec0 H0 (V m) c from rfl,
    show (dats m 0 c).Φ t.castSucc = Pipeline.ΦD osem0 spec0 H0 (V m) c from rfl, Phi_eq,
    after0_0, after0_1, after0_2, after0_3, after0_4, after0_5]
  unfold Dat.owesAt Pipeline.owesWithin
  rw [show (dats m 0 c).owed t.castSucc = 0 from rfl, show (dats m 0 c).owed t.succ = 0 from rfl]
  iintro ⟨⟨⟨HS0, HS1⟩, HP, ⟨Hc0, Hc1⟩, HY⟩, ⟨%W, -, HW⟩, ⟨%d0, H0⟩, ⟨%d1, H1⟩, ⟨%d2, H2⟩, ⟨%d3, H3⟩, ⟨%d4, H4⟩, ⟨%d5, H5⟩⟩
  iapply (kernelRun c (iblk m c 0 t) (iblk m c 1 t) (named0 hO c t) (named1 hO c t) (V m c main_arg3) (grid0.coords t) _ _ _ _ _ _ _ _ _ _ _ _
    (iblk m c 2 t) (iblk m c 3 t) (iblk m c 4 t) W _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HY]; · iexact HY
  isplitl [Hc0]; · iexact Hc0
  isplitl [Hc1]; · iexact Hc1
  isplitl [HW]; · iexact HW
  iintro ⟨H0, H1, H2, H3, H4, H5, HS0, HS1, HY, Hc0, Hc1, ⟨%W', HW⟩⟩
  isplitl [HS0 HS1 HP Hc0 Hc1 HY]
  · isplitl [HS0 HS1]
    · isplitl [HS0]; · iexact HS0
      iexact HS1
    isplitl [HP]; · iexact HP
    isplitl [Hc0 Hc1]
    · isplitl [Hc0]; · iexact Hc0
      iexact Hc1
    iexact HY
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (hO : Ok m) (c : Dev nD) : BodyObligation (dats (F := F) m 0 c) (defs₀ (F := F)) Variants.none () Set.univ := fun t => by
  rw [bigSep_W0, bigSep_W0, defs₀_row]
  exact triple_restated (sound_body hO c t) rfl .rfl fun _ => .rfl

/-! ## The run and the frame -/

set_option backward.isDefEq.respectTransparency.types false in
/-- THE LAUNCH: every weakly fair execution of @main terminates, every final state has every array of the pipeline at what
    the proof data gives it, every other buffer as found, and every semaphore counter at zero. -/
theorem run_main (hO : Ok m) : θ_run defs (onTc (τ := τ) (main (F := F))) (s₀ m ρ)
    (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation hO c).loose) (hshare := fun c => (dats m 0 c).share_full fun _ => rfl)
    (howed := fun _ _ => rfl) (V := V m) (hmain := hmain m Variants.none) (hA := A_eq m) (hin := fun _ => .rfl) (hout := fun _ => .rfl)

/-- The run with its result: the result array ends at what the proof data gives it, the arguments as launched, the
    counters at zero. -/
theorem run (hO : Ok m) : θ_run defs (onTc (τ := τ) (main (F := F))) ⟨m, fun _ => 0, ρ⟩ (fun r => (∀ c : Dev nD,
      r.2.mem ((c.tc : Thread nD τ).loc main_v2) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 5,
      ((h.1 c).1 2).trans (((dats m 0 c).arrAt_in 2 rfl _).trans ((A_eq m c 2).trans (V_main_arg0 m c))),
      ((h.1 c).1 3).trans (((dats m 0 c).arrAt_in 3 rfl _).trans ((A_eq m c 3).trans (V_main_arg1 m c))),
      ((h.1 c).1 4).trans (((dats m 0 c).arrAt_in 4 rfl _).trans ((A_eq m c 4).trans (V_main_arg2 m c))),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩)
    (run_main ρ hO)

/-- The frame: the argument arrays end unchanged and the counters at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => (h.1 c).2, h.2⟩) (run ρ hO)

end Cert.Kernel6Ideal.Combine

end
-- ==== Proof.CombineIdealOk.lean ====
/- The precondition on the two lists gives what the run of `Kernel6Ideal` asks of them. -/
module

public import proofs.«01_k».proof.Proof.CombineIdealRun
public import proofs.«01_k».proof.Proof.CombineMath

@[expose] public section

set_option maxRecDepth 16384

noncomputable section

namespace Cert.Kernel6Ideal.Combine

open Cert.Kernel6Ideal Cert.Kernel6Ideal.Gen
open Idealize.ShloMosaic Idealize.ShloMosaic.TcCoe

variable {F : FTy → Type} [FloatOps F]

/-- A memory the precondition holds of has row numbers in both lists. -/
theorem ok_of_pre [Pre_rows_named.Facts] (m : (ℓ : Loc nD τ sig) → Buf (Elt F) ℓ)
    (h : ∀ c : Dev nD, Pre_rows_named.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) = fun _ => 1#1) : Ok m :=
  ⟨fun c y => (Cert.Combine.lt_of_pre _ _ _ _ _ _ (h c) y).1, fun c y => (Cert.Combine.lt_of_pre _ _ _ _ _ _ (h c) y).2⟩

end Cert.Kernel6Ideal.Combine

end
-- ==== Proof.CombineValue.lean ====
/- What the combination's pipeline of `Kernel6Ideal` leaves in its result at an index. -/
module

public import proofs.«01_k».proof.Proof.CombineIdealRun
public import proofs.«01_k».proof.Proof.CombineMath
public import Idealize.ShloMosaic.Lib.Pipeline.Covers

@[expose] public section

set_option maxRecDepth 16384

noncomputable section

namespace Cert.Kernel6Ideal.Combine

open Idealize.ShloMosaic Idealize.ShloMosaic.TcCoe
open Cert.Kernel6Ideal Cert.Kernel6Ideal.Gen Cert.Combine

/-! ## The body's block -/

/-- The block the body leaves, at an index. -/
theorem outC_apply (x0 x1 : Vec Ideal S1x1x256 .i32) (x2 : Vec Ideal S1x256x1024 .f32) (x3 : Vec Ideal S1x256x128 .f32)
    (x4 : Vec Ideal S1x6x1024 .f32) (ys : Vec Ideal S73728x1024 .f32) (r : Fin 256) (l : Fin 1024) :
    (show EReal from outC (F := Ideal) x0 x1 x2 x3 x4 ys (ix3 0 r l))
      = combined (x2 (ix3 0 r l)) (x4 (ix3 0 5 l)) (rows (F := Ideal) x0 ys (ix2 r l)) (x3 (ix3 0 r 2))
        (rows (F := Ideal) x1 ys (ix2 r l)) (x3 (ix3 0 r 3)) := by
  have e2 : (View.ld x3 (Rect.unit (s := S1x256x128) ![0, 0, 2] S1x256x1.size inb_S1x256x128_S1x256x1_0_0_2)) (ix3 0 r 0) = x3 (ix3 0 r 2) := by
    refine congrArg x3 (funext fun a => Fin.ext ?_)
    match a with
    | ⟨0, _⟩ => rfl
    | ⟨1, _⟩ => show 0 + 1 * r.val = r.val; omega
    | ⟨2, _⟩ => rfl
  have e3 : (View.ld x3 (Rect.unit (s := S1x256x128) ![0, 0, 3] S1x256x1.size inb_S1x256x128_S1x256x1_0_0_3)) (ix3 0 r 0) = x3 (ix3 0 r 3) := by
    refine congrArg x3 (funext fun a => Fin.ext ?_)
    match a with
    | ⟨0, _⟩ => rfl
    | ⟨1, _⟩ => show 0 + 1 * r.val = r.val; omega
    | ⟨2, _⟩ => rfl
  have e4 : (View.ld x4 (Rect.unit (s := S1x6x1024) ![0, 5, 0] S1x1x1024.size inb_S1x6x1024_S1x1x1024_0_5_0)) (ix3 0 0 l) = x4 (ix3 0 5 l) := by
    refine congrArg x4 (funext fun a => Fin.ext ?_)
    match a with
    | ⟨0, _⟩ => rfl
    | ⟨1, _⟩ => rfl
    | ⟨2, _⟩ => show 0 + 1 * l.val = l.val; omega
  unfold combined
  rw [← e2, ← e3, ← e4]
  unfold outC
  generalize View.ld x3 (Rect.unit (s := S1x256x128) ![0, 0, 2] S1x256x1.size inb_S1x256x128_S1x256x1_0_0_2) = w2
  generalize View.ld x3 (Rect.unit (s := S1x256x128) ![0, 0, 3] S1x256x1.size inb_S1x256x128_S1x256x1_0_0_3) = w3
  generalize View.ld x4 (Rect.unit (s := S1x6x1024) ![0, 5, 0] S1x1x1024.size inb_S1x6x1024_S1x1x1024_0_5_0) = w4
  unfold k0_pay1 k0_pay2 k0_pay3
  pointwise []

/-! ## The blocks of a point -/

/-- A grid point's blocks: the point's own, or the sequence and the block of tokens, or the sequence alone. -/
theorem map0_val (t : Fin grid0.N) : cc0_transform_0 (grid0.coords t) = ![t.val, 0, 0] :=
  (by decide +kernel : ∀ t : Fin grid0.N, cc0_transform_0 (grid0.coords t) = ![t.val, 0, 0]) t
theorem map1_val (t : Fin grid0.N) : cc0_transform_1 (grid0.coords t) = ![t.val, 0, 0] :=
  (by decide +kernel : ∀ t : Fin grid0.N, cc0_transform_1 (grid0.coords t) = ![t.val, 0, 0]) t
theorem map2_val (t : Fin grid0.N) : cc0_transform_2 (grid0.coords t) = ![t.val / 32, t.val % 32, 0] :=
  (by decide +kernel : ∀ t : Fin grid0.N, cc0_transform_2 (grid0.coords t) = ![t.val / 32, t.val % 32, 0]) t
theorem map3_val (t : Fin grid0.N) : cc0_transform_3 (grid0.coords t) = ![t.val / 32, t.val % 32, 0] :=
  (by decide +kernel : ∀ t : Fin grid0.N, cc0_transform_3 (grid0.coords t) = ![t.val / 32, t.val % 32, 0]) t
theorem map4_val (t : Fin grid0.N) : cc0_transform_4 (grid0.coords t) = ![t.val / 32, 0, 0] :=
  (by decide +kernel : ∀ t : Fin grid0.N, cc0_transform_4 (grid0.coords t) = ![t.val / 32, 0, 0]) t
theorem map6_val (t : Fin grid0.N) : cc0_transform_6 (grid0.coords t) = ![t.val / 32, t.val % 32, 0] :=
  (by decide +kernel : ∀ t : Fin grid0.N, cc0_transform_6 (grid0.coords t) = ![t.val / 32, t.val % 32, 0]) t

/-- An index of an array of tokens of width `n`, from a block's index. -/
abbrev tokIdx (n : Nat) (t : Fin 128) (r : Fin 256) (l : Fin n) : (⟨3, ![4, 8192, n]⟩ : Shape).Idx :=
  ix3 ⟨t.val / 32, by omega⟩ ⟨t.val % 32 * 256 + r.val, by omega⟩ l

theorem tokIdx_eq (n : Nat) (t : Fin 128) (r : Fin 256) (l : Fin n) (f : Fin 3 → Nat) (hf : f = ![t.val / 32, t.val % 32, 0])
    (idx : (⟨3, ![4, 8192, n]⟩ : Shape).Idx) (e0 : (idx (0 : Fin 3)).val = f 0 * 1 + 1 * 0) (e1 : (idx (1 : Fin 3)).val = f 1 * 256 + 1 * r.val)
    (e2 : (idx (2 : Fin 3)).val = f 2 * n + 1 * l.val) : idx = tokIdx n t r l := by
  subst hf
  funext a
  refine Fin.ext ?_
  match a with
  | ⟨0, _⟩ => exact e0.trans (by show t.val / 32 * 1 + 1 * 0 = t.val / 32; omega)
  | ⟨1, _⟩ => exact e1.trans (by show t.val % 32 * 256 + 1 * r.val = t.val % 32 * 256 + r.val; omega)
  | ⟨2, _⟩ => exact e2.trans (by show 0 * n + 1 * l.val = l.val; omega)

variable (m : (ℓ : Loc nD τ sig) → Buf (Elt Ideal) ℓ) (c : Dev nD)

/-- A list cut into blocks, at a block's word. -/
theorem cut_apply (d : IVec S32768 32) (t : Fin 128) (r : Fin 256) (h : t.val * 256 + r.val < 32768) :
    shapeCast S128x1x256 d shapeCasts_S32768_S128x1x256 (ix3 t 0 r) = d (ix1 ⟨t.val * 256 + r.val, h⟩) := by
  pointwise []

theorem iblk0_apply (t : Fin 128) (r : Fin 256) (h : t.val * 256 + r.val < 32768) :
    (show BitVec 32 from iblk m c 0 t (wordIx r)) = (show IVec S32768 32 from m ((c : Thread nD τ).loc main_arg4)) (ix1 ⟨t.val * 256 + r.val, h⟩) := by
  refine (congrArg (V m c main_v0) (a₂ := ix3 t 0 r) (funext fun b => Fin.ext ?_)).trans ((congrFun (V_main_v0 m c) _).trans (cut_apply _ t r h))
  match b with
  | ⟨0, _⟩ => show cc0_transform_0 (grid0.coords t) 0 * 1 + 1 * 0 = t.val; rw [map0_val t]; show t.val * 1 + 1 * 0 = t.val; omega
  | ⟨1, _⟩ => show cc0_transform_0 (grid0.coords t) 1 * 1 + 1 * 0 = 0; rw [map0_val t]; rfl
  | ⟨2, _⟩ => show cc0_transform_0 (grid0.coords t) 2 * 256 + 1 * r.val = r.val; rw [map0_val t]; show 0 * 256 + 1 * r.val = r.val; omega

theorem iblk1_apply (t : Fin 128) (r : Fin 256) (h : t.val * 256 + r.val < 32768) :
    (show BitVec 32 from iblk m c 1 t (wordIx r)) = (show IVec S32768 32 from m ((c : Thread nD τ).loc main_arg5)) (ix1 ⟨t.val * 256 + r.val, h⟩) := by
  refine (congrArg (V m c main_v1) (a₂ := ix3 t 0 r) (funext fun b => Fin.ext ?_)).trans ((congrFun (V_main_v1 m c) _).trans (cut_apply _ t r h))
  match b with
  | ⟨0, _⟩ => show cc0_transform_1 (grid0.coords t) 0 * 1 + 1 * 0 = t.val; rw [map1_val t]; show t.val * 1 + 1 * 0 = t.val; omega
  | ⟨1, _⟩ => show cc0_transform_1 (grid0.coords t) 1 * 1 + 1 * 0 = 0; rw [map1_val t]; rfl
  | ⟨2, _⟩ => show cc0_transform_1 (grid0.coords t) 2 * 256 + 1 * r.val = r.val; rw [map1_val t]; show 0 * 256 + 1 * r.val = r.val; omega

theorem iblk2_apply (t : Fin 128) (r : Fin 256) (l : Fin 1024) :
    (show EReal from iblk m c 2 t (ix3 0 r l)) = m ((c : Thread nD τ).loc main_arg0) (tokIdx 1024 t r l) :=
  (congrArg (V m c main_arg0) (tokIdx_eq 1024 t r l _ (map2_val t) _ rfl rfl rfl)).trans (congrFun (V_main_arg0 m c) _)

theorem iblk3_apply (t : Fin 128) (r : Fin 256) (l : Fin 128) :
    (show EReal from iblk m c 3 t (ix3 0 r l)) = m ((c : Thread nD τ).loc main_arg1) (tokIdx 128 t r l) :=
  (congrArg (V m c main_arg1) (tokIdx_eq 128 t r l _ (map3_val t) _ rfl rfl rfl)).trans (congrFun (V_main_arg1 m c) _)

theorem iblk4_apply (t : Fin 128) (a : Fin 6) (l : Fin 1024) (h : t.val / 32 < 4) :
    (show EReal from iblk m c 4 t (ix3 0 a l)) = m ((c : Thread nD τ).loc main_arg2) (ix3 ⟨t.val / 32, h⟩ a l) := by
  refine (congrArg (V m c main_arg2) (funext fun b => Fin.ext ?_)).trans (congrFun (V_main_arg2 m c) _)
  match b with
  | ⟨0, _⟩ => show cc0_transform_4 (grid0.coords t) 0 * 1 + 1 * 0 = t.val / 32; rw [map4_val t]; show t.val / 32 * 1 + 1 * 0 = t.val / 32; omega
  | ⟨1, _⟩ => show cc0_transform_4 (grid0.coords t) 1 * 6 + 1 * a.val = a.val; rw [map4_val t]; show 0 * 6 + 1 * a.val = a.val; omega
  | ⟨2, _⟩ => show cc0_transform_4 (grid0.coords t) 2 * 1024 + 1 * l.val = l.val; rw [map4_val t]; show 0 * 1024 + 1 * l.val = l.val; omega

/-- The row a word names, when it is a row's number. -/
theorem rowIx_of_lt (w : BitVec 32) (hw : w.toNat < 73728) (l : Fin 1024) : rowIx w l = ix2 ⟨w.toNat, hw⟩ l := by
  funext a
  refine Fin.ext ?_
  match a with
  | ⟨0, _⟩ => exact Nat.mod_eq_of_lt hw
  | ⟨1, _⟩ => rfl

/-- The rows a point's words name. -/
theorem rows0_apply (hO : Ok m) (t : Fin 128) (r : Fin 256) (l : Fin 1024) (h : t.val * 256 + r.val < 32768) :
    (show EReal from rows (F := Ideal) (iblk m c 0 t) (V m c main_arg3) (ix2 r l))
      = m ((c : Thread nD τ).loc main_arg3) (ix2 ⟨((show IVec S32768 32 from m ((c : Thread nD τ).loc main_arg4)) (ix1 ⟨t.val * 256 + r.val, h⟩)).toNat, hO.1 c _⟩ l) :=
  (congrFun (V_main_arg3 m c) _).trans (congrArg (m ((c : Thread nD τ).loc main_arg3))
    ((congrArg (fun w => rowIx w l) (iblk0_apply m c t r h)).trans (rowIx_of_lt _ (hO.1 c _) l)))

theorem rows1_apply (hO : Ok m) (t : Fin 128) (r : Fin 256) (l : Fin 1024) (h : t.val * 256 + r.val < 32768) :
    (show EReal from rows (F := Ideal) (iblk m c 1 t) (V m c main_arg3) (ix2 r l))
      = m ((c : Thread nD τ).loc main_arg3) (ix2 ⟨((show IVec S32768 32 from m ((c : Thread nD τ).loc main_arg5)) (ix1 ⟨t.val * 256 + r.val, h⟩)).toNat, hO.2 c _⟩ l) :=
  (congrFun (V_main_arg3 m c) _).trans (congrArg (m ((c : Thread nD τ).loc main_arg3))
    ((congrArg (fun w => rowIx w l) (iblk1_apply m c t r h)).trans (rowIx_of_lt _ (hO.2 c _) l)))

/-- What the body leaves in the result's buffer at a point, at an index. -/
theorem after5_apply (hO : Ok m) (t : Fin 128) (r : Fin 256) (l : Fin 1024) (h : t.val * 256 + r.val < 32768) (ht : t.val / 32 < 4) :
    (show EReal from (dats m 0 c).after 5 t (ix3 0 r l))
      = combined (m ((c : Thread nD τ).loc main_arg0) (tokIdx 1024 t r l)) (m ((c : Thread nD τ).loc main_arg2) (ix3 ⟨t.val / 32, ht⟩ 5 l))
          (m ((c : Thread nD τ).loc main_arg3) (ix2 ⟨((show IVec S32768 32 from m ((c : Thread nD τ).loc main_arg4)) (ix1 ⟨t.val * 256 + r.val, h⟩)).toNat, hO.1 c _⟩ l))
          (m ((c : Thread nD τ).loc main_arg1) (tokIdx 128 t r 2))
          (m ((c : Thread nD τ).loc main_arg3) (ix2 ⟨((show IVec S32768 32 from m ((c : Thread nD τ).loc main_arg5)) (ix1 ⟨t.val * 256 + r.val, h⟩)).toNat, hO.2 c _⟩ l))
          (m ((c : Thread nD τ).loc main_arg1) (tokIdx 128 t r 3)) :=
  (congrFun (after0_5 m c t) _).trans ((outC_apply (iblk m c 0 t) (iblk m c 1 t) (iblk m c 2 t) (iblk m c 3 t) (iblk m c 4 t) (V m c main_arg3) r l).trans
    (combined_congr (iblk2_apply m c t r l) (iblk4_apply m c t 5 l ht) (rows0_apply m c hO t r l h) (iblk3_apply m c t r 2)
      (rows1_apply m c hO t r l h) (iblk3_apply m c t r 3)))

/-- The point that holds a block. -/
theorem point_of (a b : Nat) (ha : a < 4) (hb : b < 32) : ∃ t : Fin 128, t.val / 32 = a ∧ t.val % 32 = b :=
  ⟨⟨a * 32 + b, by omega⟩, by show (a * 32 + b) / 32 = a; omega, by show (a * 32 + b) % 32 = b; omega⟩

/-- An array that agrees with every point's block is the result. -/
theorem final (G : Buf (Elt Ideal) ((c.tc : Thread nD τ).loc main_v2))
    (hG : ∀ (t : Fin 128) (r : Fin 256) (l : Fin 1024), (show EReal from G (tokIdx 1024 t r l)) = (dats m 0 c).after 5 t (ix3 0 r l)) :
    (dats m 0 c).arrAt 5 cfg0.N = G := by
  refine (dats m 0 c).arrAt_eq_of_covers 5 _ ?_ fun t _ y => ?_
  · refine Pipeline.Window.covers_of_index_surj (w := cfg0.win 5) rfl ?_ ?_
    · exact (by decide : ∀ a : Fin 3, 0 < S1x256x1024.size a)
    · intro β
      obtain ⟨t, e0, e1⟩ := point_of (β (0 : Fin 3)).val (β (1 : Fin 3)).val
        (lt_of_lt_of_eq (β (0 : Fin 3)).isLt (show (cfg0.win 5).nblk (0 : Fin 3) = 4 from (by decide : (4 + 1 - 1) / 1 = 4)))
        (lt_of_lt_of_eq (β (1 : Fin 3)).isLt (show (cfg0.win 5).nblk (1 : Fin 3) = 32 from (by decide : (8192 + 256 - 1) / 256 = 32)))
      have h2 : (β (2 : Fin 3)).val < 1 := lt_of_lt_of_eq (β (2 : Fin 3)).isLt (show (cfg0.win 5).nblk (2 : Fin 3) = 1 from (by decide : (1024 + 1024 - 1) / 1024 = 1))
      refine ⟨t, fun a => ?_⟩
      match a with
      | ⟨0, _⟩ => exact (congrFun (map6_val t) 0).trans e0
      | ⟨1, _⟩ => exact (congrFun (map6_val t) 1).trans e1
      | ⟨2, _⟩ => exact (congrFun (map6_val t) 2).trans (by show 0 = (β (2 : Fin 3)).val; omega)
  · have hy : y = ix3 0 (y (1 : Fin 3)) (y (2 : Fin 3)) := by
      funext a
      match a with
      | ⟨0, _⟩ => exact Subsingleton.elim (α := Fin 1) _ _
      | ⟨1, _⟩ => rfl
      | ⟨2, _⟩ => rfl
    have e : (show EReal from (dats m 0 c).after 5 t y) = G (tokIdx 1024 t (y (1 : Fin 3)) (y (2 : Fin 3))) :=
      (congrArg ((dats m 0 c).after 5 t) hy).trans (hG t _ _).symm
    refine e.trans ?_
    refine congrArg G (tokIdx_eq 1024 t _ _ _ (map6_val t) _ ?_ rfl rfl).symm
    have : (y (0 : Fin 3)).val < 1 := (y (0 : Fin 3)).isLt
    show cc0_transform_6 (grid0.coords t) 0 * 1 + 1 * (y (0 : Fin 3)).val = cc0_transform_6 (grid0.coords t) 0 * 1 + 1 * 0
    omega

end Cert.Kernel6Ideal.Combine

end
-- ==== Proof.CombineRef.lean ====
/- The combination's reference at an index: the residual and the gate by the weighted rows the two words name. -/
module

public import proofs.«01_k».proof.Proof.Gen.Reference6Ideal.Run
public import proofs.«01_k».proof.Proof.CombineMath

@[expose] public section

set_option maxRecDepth 16384

noncomputable section

namespace Cert.Reference6Ideal.Combine

open Idealize.ShloMosaic Idealize.ShloMosaic.TcCoe
open Cert.Reference6Ideal Cert.Reference6Ideal.Gen Cert.Reference6Ideal.Value Cert.Combine

/-- The words a gather starts at: the list, a negative word wrapped. -/
def starts (d : IVec S32768 32) : IVec S32768x1 32 :=
  broadcastInDim S32768x1 ![0] bcast_S32768_S32768x1_0 (select (cmpi .slt d (broadcastInDim S32768 ![] bcast_S_S32768 (constantI S_ 32 0#32)))
    (addi d (broadcastInDim S32768 ![] bcast_S_S32768 (constantI S_ 32 73728#32))) d)

/-- The rows a list names, token by token. -/
def named (ys : FVec Ideal S73728x1024 .f32) (d : IVec S32768 32) : FVec Ideal S4x8192x1024 .f32 :=
  shapeCast _ (Host.gather gather_S73728x1024_S32768x1_S32768x1024_1_0_n_n_0_1_11024 ys (starts d)) shapeCasts_S32768x1024_S4x8192x1024

/-- The result as one term of the residual, the weights, the gates and the two lists' rows. -/
def sumTerm (x : FVec Ideal S4x8192x1024 .f32) (w : FVec Ideal S4x8192x128 .f32) (g : FVec Ideal S4x6x1024 .f32)
    (y0 y1 : FVec Ideal S4x8192x1024 .f32) : FVec Ideal S4x8192x1024 .f32 :=
  addf x (mulf (broadcastInDim S4x8192x1024 ![0, 1, 2] bcast_S4x1x1024_S4x8192x1024_0_1_2 (extractStridedSlice S4x1x1024 ![0, 5, 0] g slices_S4x6x1024_S4x1x1024_0_5_0))
    (addf (mulf y0 (broadcastInDim S4x8192x1024 ![0, 1, 2] bcast_S4x8192x1_S4x8192x1024_0_1_2
        (extractStridedSlice S4x8192x1 ![0, 0, 0] (extractStridedSlice S4x8192x2 ![0, 0, 2] w slices_S4x8192x128_S4x8192x2_0_0_2) slices_S4x8192x2_S4x8192x1_0_0_0)))
      (mulf y1 (broadcastInDim S4x8192x1024 ![0, 1, 2] bcast_S4x8192x1_S4x8192x1024_0_1_2
        (extractStridedSlice S4x8192x1 ![0, 0, 1] (extractStridedSlice S4x8192x2 ![0, 0, 2] w slices_S4x8192x128_S4x8192x2_0_0_2) slices_S4x8192x2_S4x8192x1_0_0_1)))))

/-- The reference's result. -/
def out (m : (ℓ : Loc nD τ sig) → Buf (Elt Ideal) ℓ) (c : Dev nD) : FVec Ideal S4x8192x1024 .f32 :=
  sumTerm (m ((c : Thread nD τ).loc main_arg0)) (m ((c : Thread nD τ).loc main_arg1)) (m ((c : Thread nD τ).loc main_arg2))
    (named (m ((c : Thread nD τ).loc main_arg3)) (m ((c : Thread nD τ).loc main_arg4)))
    (named (m ((c : Thread nD τ).loc main_arg3)) (m ((c : Thread nD τ).loc main_arg5)))

/-- The reference's run, its result that term. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v27) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Cert.Reference6Ideal.Value.run (F := Ideal) m ρ

/-- A selection by a signed comparison. -/
theorem select_slt {α : Type} (v w : BitVec 32) (x y : α) :
    Scalar.select (IntOp.cmpi CmpIPredicate.slt v w) x y = if v.toInt < w.toInt then x else y := by
  by_cases h : v.toInt < w.toInt <;> simp [Scalar.select, IntOp.cmpi, BitVec.slt_eq_decide, h]

/-- A start word: the list's, when it is a row's number. -/
theorem starts_apply (d : IVec S32768 32) (hlt : ∀ x : S32768.Idx, (d x).toNat < 73728) (b : Fin 32768) :
    (starts d (ix2 b 0)).toInt = ((d (ix1 b)).toNat : Int) := by
  have hb := hlt (ix1 b)
  have hw : starts d (ix2 b 0) = d (ix1 b) := by
    unfold starts
    pointwise []
    rw [select_slt, if_neg]
    have h0 : (0#32 : BitVec 32).toInt = 0 := rfl
    rw [h0, BitVec.toInt_eq_toNat_cond]
    omega
  rw [hw, BitVec.toInt_eq_toNat_cond]
  omega

/-- A token's row. -/
theorem named_apply (ys : FVec Ideal S73728x1024 .f32) (d : IVec S32768 32) (hlt : ∀ x : S32768.Idx, (d x).toNat < 73728)
    (b : Fin 4) (s : Fin 8192) (l : Fin 1024) (h) :
    (show EReal from named ys d (ix3 b s l)) = ys (ix2 ⟨(d (ix1 ⟨b.val * 8192 + s.val, h⟩)).toNat, hlt _⟩ l) := by
  have hg := gather_row_apply gather_S73728x1024_S32768x1_S32768x1024_1_0_n_n_0_1_11024.wf ys (starts d) ⟨b.val * 8192 + s.val, h⟩ l
    ⟨(d (ix1 ⟨b.val * 8192 + s.val, h⟩)).toNat, hlt _⟩ (starts_apply d hlt _)
  unfold named
  pointwise []
  exact hg

/-- The term at an index. -/
theorem sumTerm_apply (x : FVec Ideal S4x8192x1024 .f32) (w : FVec Ideal S4x8192x128 .f32) (g : FVec Ideal S4x6x1024 .f32)
    (y0 y1 : FVec Ideal S4x8192x1024 .f32) (b : Fin 4) (s : Fin 8192) (l : Fin 1024) :
    (show EReal from sumTerm x w g y0 y1 (ix3 b s l))
      = combined (x (ix3 b s l)) (g (ix3 b 5 l)) (y0 (ix3 b s l)) (w (ix3 b s 2)) (y1 (ix3 b s l)) (w (ix3 b s 3)) := by
  unfold sumTerm combined
  pointwise []

end Cert.Reference6Ideal.Combine

end
-- ==== Proof.ExpertsIdealRun.lean ====
/- The experts' pipeline of `Kernel2Ideal` at any admissible contents of its two tables: what the launch needs, the body's run
   in the two cases of the block's place before or after the last used block, and what the result's buffer then holds. -/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel2Ideal.Experts

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S288 .i32 := Memref.whole main_arg0
abbrev htbM0_0 : tbM0_0.IsWhole := Memref.isWhole_whole _
abbrev tbM0_1 : Memref sig .tc .smem S1 .i32 := Memref.whole main_arg1
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S256x1024 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x512 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1024x512 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x512x1024 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S256x1024 .f32 := spec0_4.stage ((cfgM m hO).slots t 4)
abbrev hs0_4 (hO : Ok m) (t : Fin (cfgM m hO).N) : (ms0_4 m hO t).IsWhole := hstage0_4 (((cfgM m hO).slots t 4).cast nbuf0_4)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_experts (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4))

/-- The number of used blocks, as the kernel reads it from its second table. -/
def nUsed (xt1 : Vec F S1 .i32) : BitVec 32 :=
  xt1 ((Rect.unit (s := S1) ![0] S1.size inb_S1_S1_0).emb (Shape.Idx.first (numel1_S1.symm ▸ Nat.one_pos)))

/-- What the body leaves in the result's block: the experts' block before the last used block, zeros after. -/
def outE (i : grid0.Coords) (n : BitVec 32) (x0 : Vec F S256x1024 .f32) (x1 x2 : Vec F S1x1024x512 .bf16)
    (x3 : Vec F S1x512x1024 .bf16) : Vec F S256x1024 .f32 :=
  if k0_cond2 i n = 1#1 then k0_pay2 else k0_pay1 x0 x1 x2 x3

/-- A truth value made a word and compared with zero is itself. -/
theorem word_bool (b : Bool) : Scalar.cmpi .ne (Scalar.extui (BitVec.ofBool b)) 0#32 = 1#1 ↔ b = true := by
  cases b <;> decide

/-- The first condition: the block's number is below the number of used blocks. -/
theorem cond1_iff (i : grid0.Coords) (n : BitVec 32) : k0_cond1 i n = 1#1 ↔ (BitVec.ofNat 32 (i 0).val).toInt < n.toInt := by
  rw [show k0_cond1 i n = Scalar.cmpi .ne (Scalar.extui (BitVec.ofBool ((BitVec.ofNat 32 (i 0).val).slt n))) 0#32 from rfl,
    word_bool, BitVec.slt_iff_toInt_lt]

/-- The second condition: it is not. -/
theorem cond2_iff (i : grid0.Coords) (n : BitVec 32) : k0_cond2 i n = 1#1 ↔ n.toInt ≤ (BitVec.ofNat 32 (i 0).val).toInt := by
  rw [show k0_cond2 i n = Scalar.cmpi .ne (Scalar.extui (BitVec.ofBool (n.sle (BitVec.ofNat 32 (i 0).val)))) 0#32 from rfl,
    word_bool, BitVec.sle_iff_toInt_le]

/-- One of the two holds. -/
theorem cond1_of_not_cond2 (i : grid0.Coords) (n : BitVec 32) (h : ¬ k0_cond2 i n = 1#1) : k0_cond1 i n = 1#1 := by
  rw [cond2_iff] at h; rw [cond1_iff]; omega

set_option maxHeartbeats 1000000 in
/-- The body's triple: on whole staging memrefs, the inputs' at their contents, the body ends with the inputs' as they were
    and the result's at `outE`. -/
theorem kernelRun (c : Dev nD) (i : grid0.Coords) (arg3 : Memref sig .tc .vmem S256x1024 .f32) (harg3 : arg3.IsWhole) (arg4 : Memref sig .tc .vmem S1x1024x512 .bf16) (harg4 : arg4.IsWhole) (arg5 : Memref sig .tc .vmem S1x1024x512 .bf16) (harg5 : arg5.IsWhole) (arg6 : Memref sig .tc .vmem S1x512x1024 .bf16) (harg6 : arg6.IsWhole) (arg7 : Memref sig .tc .vmem S256x1024 .f32) (harg7 : arg7.IsWhole)
    (x0 : Vec F S256x1024 .f32) (x1 : Vec F S1x1024x512 .bf16) (x2 : Vec F S1x1024x512 .bf16) (x3 : Vec F S1x512x1024 .bf16) (xt0 : TbBuf0 (F := F) c tbM0_0) (xt1 : TbBuf0 (F := F) c tbM0_1) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (outE i (nUsed (F := F) xt1) x0 x1 x2 x3) ∗ tbPt0 c tbM0_0 xt0 ∗ tbPt0 c tbM0_1 xt1) -∗ K ⟨⟩))
          ⊢ wp frame (wpE (defs₀ (F := F)) Variants.none c none) E (cc0_experts i tbM0_0 htbM0_0 tbM0_1 htbM0_1 arg3 harg3 arg4 harg4 arg5 harg5 arg6 harg6 arg7 harg7) K := by
  intro E K
  simp only [cc0_experts_eq_skeleton]; unfold cc0_experts_skel
  unfold owns
  iintro ⟨⟨%f0, %hf0, H0⟩, ⟨%f1, %hf1, H1⟩, ⟨%f2, %hf2, H2⟩, ⟨%f3, %hf3, H3⟩, ⟨%d4, %f4, -, H4⟩, HT0, HT1, Hk⟩
  obtain rfl := harg3.eq_unread hf0; obtain rfl := harg4.eq_unread hf1; obtain rfl := harg5.eq_unread hf2; obtain rfl := harg6.eq_unread hf3
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; swap; · iexact H4
    ipureintro
    have hn : kernelRun.sl.r c xt1 = nUsed (F := F) xt1 := rfl
    rw [hn]
    unfold outE
    by_cases h2 : k0_cond2 i (nUsed (F := F) xt1) = 1#1
    · rw [dif_pos h2, if_pos h2, View.read_writes_eq_canon _ _ _ (View.cover_of_tiled _ S256x1024.size (by rfl)),
        View.canon_cons_unit_lit _ _ _ (by decide)]
    · rw [dif_neg h2, if_neg h2, dif_pos (cond1_of_not_cond2 _ _ h2),
        View.read_writes_eq_canon _ _ _ (View.cover_of_tiled _ S256x1024.size (by rfl)), View.canon_cons_unit_lit _ _ _ (by decide)]
      have e0 := View.ld_unit_lit inb_S256x1024_S256x1024_0_0 (arg3.view.read (Elt F) (harg3.unread x0)) (by decide)
      have e1 := View.ld_unit_lit inb_S1x1024x512_S1x1024x512_0_0_0 (arg4.view.read (Elt F) (harg4.unread x1)) (by decide)
      have e2 := View.ld_unit_lit inb_S1x1024x512_S1x1024x512_0_0_0 (arg5.view.read (Elt F) (harg5.unread x2)) (by decide)
      have e3 := View.ld_unit_lit inb_S1x512x1024_S1x512x1024_0_0_0 (arg6.view.read (Elt F) (harg6.unread x3)) (by decide)
      exact congr (congr (congr (congrArg k0_pay1 (e0.trans hf0)) (e1.trans hf1)) (e2.trans hf2)) (e3.trans hf3)
  isplitl [HT0]; · iexact HT0
  iexact HT1

/-! ## The proof data -/

/-- The proof data: the arrays as the region finds them, each input's buffer its block, the result's buffer `outE`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outE (grid0.coords t) (nUsed (F := F) (tbl m 1)) (iblk m hO c 0 t) (iblk m hO c 1 t) (iblk m hO c 2 t) (iblk m hO c 3 t)
  Φ _ := iprop(Pipeline.ΦA spec0 c ∗ Pipeline.ΦT pre0 (tbl m) c)
  q _ := fullShare
  owed _ := 0

/-- The proof data's arrays are the region-entry contents. -/
theorem A_eq (hO : Ok m) (c : Dev nD) (w : Fin (cfgM m hO).W) : (dats m hO 0 c).A w = V m c (Pipeline.arrRef spec0 w) := by
  dsimp only [dats]

/-- What the body leaves, window by window. -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = outE (grid0.coords t) (nUsed (F := F) (tbl m 1)) (iblk m hO c 0 t) (iblk m hO c 1 t) (iblk m hO c 2 t) (iblk m hO c 3 t) := by dsimp only [dats]; try rfl

/-- Each input's buffer holds its block before the body. -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t))

/-- The body at any point: the run applies to the inputs' blocks; the invariant passes through unread. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4]
  rw [show (dats m hO 0 c).Φ t.castSucc = iprop(Pipeline.ΦA spec0 c ∗ Pipeline.ΦT pre0 (tbl m) c) from rfl, PhiT0_eq]
  iintro ⟨⟨HΦ, ⟨HT0, HT1⟩⟩, Ho, ⟨%d0, H0⟩, ⟨%d1, H1⟩, ⟨%d2, H2⟩, ⟨%d3, H3⟩, ⟨%d4, H4⟩⟩
  iapply ((kernelRun c (grid0.coords t) _ _ _ _ _ _ _ _ _ _ (iblk m hO c 0 t) (iblk m hO c 1 t) (iblk m hO c 2 t) (iblk m hO c 3 t) (tbl m 0) (tbl m 1)) Set.univ _)
  isplitl [H0]; · iexact H0
  isplitl [H1]; · iexact H1
  isplitl [H2]; · iexact H2
  isplitl [H3]; · iexact H3
  isplitl [H4]; · iexists _; iexact H4
  isplitl [HT0]; · iexact HT0
  isplitl [HT1]; · iexact HT1
  iintro ⟨H0, H1, H2, H3, H4, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  iexact H4

/-- The result's block is written back at every point. -/
theorem flush0_4 (a : (pcfg0 (F := F)).Adm) : ∀ t : Fin (cfg0 a).N, ((cfg0 a).win 4).flush t = true :=
  (fun t => (Pipeline.Window.flushOf_reads cc0_transform_4 reads0_4 hreads0_4 0 (by decide) (by decide) (Pipeline.Window.sep_of_coord cc0_transform_4 0 0 (fun _ => rfl) (by decide)) (P := 1) (m := 0) (by decide) rfl t).mpr (Nat.mod_one _) : ∀ t : Fin grid0.N, Pipeline.Window.flushOf grid0 true cc0_transform_4 t = true)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- A window written back at a point is left at what the body leaves, idle there or not. -/
theorem leaves_of_flushed {M : Type} [URA M] (b : Bool) {fl : Bool} (h : fl = true) (A B : sProp M) :
    B ⊢ (match (generalizing := false) b with | true => (match (generalizing := false) fl with | false => A | true => B) | false => B) := by
  subst h; cases b <;> exact .rfl

/-- The library's body obligation, at every point: the result's block is left at `outE` whether or not the printed
    conditions call the point idle, as it is written back at every point. -/
theorem body_obligation (hO : Ok m) (c : Dev nD) : BodyObligation (dats (F := F) m hO 0 c) (defs₀ (F := F)) Variants.none () Set.univ := fun t => by
  rw [bigSep_W0, bigSep_W0, defs₀_row m hO]
  have hf := flush0_4 (adm m hO) t
  refine triple_restated (sound_body m hO c t) rfl .rfl fun _ => ?_
  exact sep_mono .rfl (sep_mono .rfl (sep_mono .rfl (sep_mono .rfl (sep_mono .rfl (sep_mono .rfl
    (leaves_of_flushed ((cfgM m hO).idle 4 ((cfgM m hO).grid.coords t)) hf _ _))))))

/-! ## The run and the frame -/

set_option backward.isDefEq.respectTransparency.types false in
/-- THE LAUNCH: every weakly fair execution of @main terminates, every final state has every array of the pipeline at what
    the proof data gives it, every other buffer as found, and every semaphore counter at zero. -/
theorem run_main (hO : Ok m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- The run with its result: the result array ends at what the proof data gives it, the arguments as launched, the
    counters at zero. -/
theorem run (hO : Ok m) : θ_run defs (onTc (τ := τ) (main (F := F))) ⟨m, fun _ => 0, ρ⟩ (fun r => (∀ c : Dev nD,
      r.2.mem ((c.tc : Thread nD τ).loc main_v0) = (dats m hO 0 c).arrAt 4 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 4,
      ((h.1 c).2 main_arg0 (by decide : main_arg0 ∈ Pipeline.restRefs sig spec0)).trans (V_main_arg0 m c),
      ((h.1 c).2 main_arg1 (by decide : main_arg1 ∈ Pipeline.restRefs sig spec0)).trans (V_main_arg1 m c),
      ((h.1 c).1 0).trans (((dats m hO 0 c).arrAt_in 0 rfl _).trans ((A_eq m hO c 0).trans (V_main_arg2 m c))),
      ((h.1 c).1 1).trans (((dats m hO 0 c).arrAt_in 1 rfl _).trans ((A_eq m hO c 1).trans (V_main_arg3 m c))),
      ((h.1 c).1 2).trans (((dats m hO 0 c).arrAt_in 2 rfl _).trans ((A_eq m hO c 2).trans (V_main_arg4 m c))),
      ((h.1 c).1 3).trans (((dats m hO 0 c).arrAt_in 3 rfl _).trans ((A_eq m hO c 3).trans (V_main_arg5 m c)))⟩, h.2⟩)
    (run_main m ρ hO)

/-- The frame: the argument arrays end unchanged and the counters at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => (h.1 c).2, h.2⟩) (run m ρ hO)

end Cert.Kernel2Ideal.Experts

end
-- ==== Proof.ExpertsIdealOk.lean ====
/- The tables the experts' precondition admits are the ones the pipeline of `Kernel2Ideal` runs at. -/
module

public import proofs.«01_k».proof.Proof.ExpertsIdealRun
public import proofs.«01_k».proof.Proof.ExpertsMath

@[expose] public section

set_option maxRecDepth 16384

noncomputable section

namespace Cert.Kernel2Ideal.Experts

open Cert.Kernel2Ideal.Gen
open Idealize.ShloMosaic Idealize.ShloMosaic.TcCoe

variable {F : FTy → Type} [FloatOps F]

/-- A grid coordinate, made a word and cast to an index, is itself. -/
theorem word_index (n : Nat) (h : n < 288) : (Scalar.indexCast (BitVec.ofNat 32 n)).toNat = n := by
  simp [Scalar.indexCast]
  omega

/-- The word at a grid point's place of the first table. -/
theorem word_at (pf : pre0.Contents (Elt F)) (i : grid0.Coords) :
    pf.at 0 (Rect.unit (s := S288) ![(Scalar.indexCast (BitVec.ofNat 32 (i 0).val)).toNat] S1.size (k0_off1_inb i)) numel1_S1 = pf 0 (ix1 (i 0)) := by
  refine congrArg (pf 0) (funext fun a => Fin.ext ?_)
  have hi : (i 0).val < 288 := (i 0).isLt
  match a with
  | ⟨0, _⟩ =>
    show (Scalar.indexCast (BitVec.ofNat 32 (i 0).val)).toNat + _ = (i 0).val
    have h0 : ∀ x : Fin 1, x.val = 0 := fun x => by omega
    exact (congrArg (fun z => (Scalar.indexCast (BitVec.ofNat 32 (i 0).val)).toNat + 1 * z) (h0 _)).trans (word_index _ hi)

/-- The block of the first products' tables at a point: the expert the first table names. -/
theorem map1_eq (pf : pre0.Contents (Elt F)) (i : grid0.Coords) :
    cc0_transform_1 k0_off1_inb numel1_S1 pf i = ![(show BitVec 32 from pf 0 (ix1 (i 0))).toNat, 0, 0] := by
  rw [← word_at pf i]; rfl
theorem map2_eq (pf : pre0.Contents (Elt F)) (i : grid0.Coords) :
    cc0_transform_2 k0_off1_inb numel1_S1 pf i = ![(show BitVec 32 from pf 0 (ix1 (i 0))).toNat, 0, 0] := by
  rw [← word_at pf i]; rfl
theorem map3_eq (pf : pre0.Contents (Elt F)) (i : grid0.Coords) :
    cc0_transform_3 k0_off1_inb numel1_S1 pf i = ![(show BitVec 32 from pf 0 (ix1 (i 0))).toNat, 0, 0] := by
  rw [← word_at pf i]; rfl

/-- A table whose words are all experts' numbers is admissible. -/
theorem ok_of_lt (pf : pre0.Contents (Elt F)) (h : ∀ x : S288.Idx, (show BitVec 32 from pf 0 x).toNat < 32) : ok0 (F := F) pf := by
  refine ⟨fun i => ⟨?_, .inr (Affine.block_words_dvd (s := S32x1024x512) (p := EltTy.packing .bf16) (by decide) (by decide))⟩,
    fun i => ⟨?_, .inr (Affine.block_words_dvd (s := S32x1024x512) (p := EltTy.packing .bf16) (by decide) (by decide))⟩,
    fun i => ⟨?_, .inr (Affine.block_words_dvd (s := S32x512x1024) (p := EltTy.packing .bf16) (by decide) (by decide))⟩⟩
  all_goals
    intro a
    have hi := h (ix1 (i 0))
  · rw [map1_eq]
    match a with
    | ⟨0, _⟩ => show (BitVec.toNat _ + 1) * 1 ≤ 32; omega
    | ⟨1, _⟩ => exact (by decide : (0 + 1) * 1024 ≤ 1024)
    | ⟨2, _⟩ => exact (by decide : (0 + 1) * 512 ≤ 512)
  · rw [map2_eq]
    match a with
    | ⟨0, _⟩ => show (BitVec.toNat _ + 1) * 1 ≤ 32; omega
    | ⟨1, _⟩ => exact (by decide : (0 + 1) * 1024 ≤ 1024)
    | ⟨2, _⟩ => exact (by decide : (0 + 1) * 512 ≤ 512)
  · rw [map3_eq]
    match a with
    | ⟨0, _⟩ => show (BitVec.toNat _ + 1) * 1 ≤ 32; omega
    | ⟨1, _⟩ => exact (by decide : (0 + 1) * 512 ≤ 512)
    | ⟨2, _⟩ => exact (by decide : (0 + 1) * 1024 ≤ 1024)

/-- So is the one of a memory the precondition holds of. -/
theorem ok_of_pre [Pre_experts_named.Facts] (m : (ℓ : Loc nD τ sig) → Buf (Elt F) ℓ)
    (h : ∀ c : Dev nD, Pre_experts_named.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) = fun _ => 1#1) : Ok m :=
  ok_of_lt (tbl m) (Cert.Experts.lt_of_pre _ _ _ _ _ _ (h 0))

end Cert.Kernel2Ideal.Experts

end
-- ==== Proof.ExpertsValue.lean ====
/- What the experts' pipeline of `Kernel2Ideal` leaves in the result at an index. -/
module

public import proofs.«01_k».proof.Proof.ExpertsIdealOk
public import Idealize.ShloMosaic.Lib.Pipeline.ValueKit
public import Idealize.ShloMosaic.Lib.Pointwise
public import Idealize.ShloMosaic.Lib.Pipeline.Covers

@[expose] public section

set_option maxRecDepth 16384

noncomputable section

namespace Cert.Kernel2Ideal.Experts

open Cert.Kernel2Ideal Cert.Kernel2Ideal.Gen Cert.Experts
open Idealize.ShloMosaic Idealize.ShloMosaic.TcCoe

/-- The experts' block at an index: the row through the three tables. -/
theorem pay1_apply (x0 : Vec Ideal S256x1024 .f32) (x1 x2 : Vec Ideal S1x1024x512 .bf16) (x3 : Vec Ideal S1x512x1024 .bf16)
    (r : Fin 256) (l : Fin 1024) :
    (show EReal from k0_pay1 x0 x1 x2 x3 (ix2 r l))
      = expert (fun k => (show EReal from x0 (ix2 r k))) (fun k f => (show EReal from x1 (ix3 0 k f)))
          (fun k f => (show EReal from x2 (ix3 0 k f))) (fun f c => (show EReal from x3 (ix3 0 f c))) l := by
  unfold k0_pay1 expert gatedRow
  pointwise []
  rfl

/-- A grid point's one coordinate is its number. -/
theorem coords_val (t : Fin grid0.N) : (grid0.coords t 0).val = t.val :=
  (by decide +kernel : ∀ t : Fin grid0.N, (grid0.coords t 0).val = t.val) t

theorem map0_val (t : Fin grid0.N) : cc0_transform_0 (grid0.coords t) = ![t.val, 0] :=
  (by decide +kernel : ∀ t : Fin grid0.N, cc0_transform_0 (grid0.coords t) = ![t.val, 0]) t

theorem map4_val (t : Fin grid0.N) : cc0_transform_4 (grid0.coords t) = ![t.val, 0] :=
  (by decide +kernel : ∀ t : Fin grid0.N, cc0_transform_4 (grid0.coords t) = ![t.val, 0]) t

/-- The rows' block at a point. -/
theorem iblk0_apply (m : (ℓ : Loc nD τ sig) → Buf (Elt Ideal) ℓ) (hO : Ok m) (c : Dev nD) (t : Fin (cfgM m hO).N) (r : Fin 256) (k : Fin 1024) (h) :
    (show EReal from iblk m hO c 0 t (ix2 r k)) = (show EReal from m ((c : Thread nD τ).loc main_arg2) (ix2 ⟨t.val * 256 + r.val, h⟩ k)) := by
  refine congrArg (m ((c : Thread nD τ).loc main_arg2)) (funext fun a => Fin.ext ?_)
  match a with
  | ⟨0, _⟩ =>
    show cc0_transform_0 (grid0.coords t) 0 * 256 + 1 * r.val = t.val * 256 + r.val
    rw [map0_val t]; show t.val * 256 + 1 * r.val = _; omega
  | ⟨1, _⟩ =>
    show cc0_transform_0 (grid0.coords t) 1 * 1024 + 1 * k.val = k.val
    rw [map0_val t]; show 0 * 1024 + 1 * k.val = _; omega

/-- The tables' blocks at a point: the expert's tables. -/
theorem iblk1_apply (m : (ℓ : Loc nD τ sig) → Buf (Elt Ideal) ℓ) (hO : Ok m) (c : Dev nD) (t : Fin (cfgM m hO).N) (k : Fin 1024) (f : Fin 512) (h) :
    (show EReal from iblk m hO c 1 t (ix3 0 k f)) = (show EReal from m ((c : Thread nD τ).loc main_arg3)
      (ix3 ⟨(show BitVec 32 from tbl m 0 (ix1 (grid0.coords t 0))).toNat, h⟩ k f)) := by
  refine congrArg (m ((c : Thread nD τ).loc main_arg3)) (funext fun a => Fin.ext ?_)
  match a with
  | ⟨0, _⟩ =>
    show cc0_transform_1 k0_off1_inb numel1_S1 (tbl m) (grid0.coords t) 0 * 1 + 1 * 0 = _
    rw [map1_eq]; exact Nat.mul_one _
  | ⟨1, _⟩ =>
    show cc0_transform_1 k0_off1_inb numel1_S1 (tbl m) (grid0.coords t) 1 * 1024 + 1 * k.val = k.val
    rw [map1_eq]; show 0 * 1024 + 1 * k.val = _; omega
  | ⟨2, _⟩ =>
    show cc0_transform_1 k0_off1_inb numel1_S1 (tbl m) (grid0.coords t) 2 * 512 + 1 * f.val = f.val
    rw [map1_eq]; show 0 * 512 + 1 * f.val = _; omega

theorem iblk2_apply (m : (ℓ : Loc nD τ sig) → Buf (Elt Ideal) ℓ) (hO : Ok m) (c : Dev nD) (t : Fin (cfgM m hO).N) (k : Fin 1024) (f : Fin 512) (h) :
    (show EReal from iblk m hO c 2 t (ix3 0 k f)) = (show EReal from m ((c : Thread nD τ).loc main_arg4)
      (ix3 ⟨(show BitVec 32 from tbl m 0 (ix1 (grid0.coords t 0))).toNat, h⟩ k f)) := by
  refine congrArg (m ((c : Thread nD τ).loc main_arg4)) (funext fun a => Fin.ext ?_)
  match a with
  | ⟨0, _⟩ =>
    show cc0_transform_2 k0_off1_inb numel1_S1 (tbl m) (grid0.coords t) 0 * 1 + 1 * 0 = _
    rw [map2_eq]; exact Nat.mul_one _
  | ⟨1, _⟩ =>
    show cc0_transform_2 k0_off1_inb numel1_S1 (tbl m) (grid0.coords t) 1 * 1024 + 1 * k.val = k.val
    rw [map2_eq]; show 0 * 1024 + 1 * k.val = _; omega
  | ⟨2, _⟩ =>
    show cc0_transform_2 k0_off1_inb numel1_S1 (tbl m) (grid0.coords t) 2 * 512 + 1 * f.val = f.val
    rw [map2_eq]; show 0 * 512 + 1 * f.val = _; omega

theorem iblk3_apply (m : (ℓ : Loc nD τ sig) → Buf (Elt Ideal) ℓ) (hO : Ok m) (c : Dev nD) (t : Fin (cfgM m hO).N) (f : Fin 512) (l : Fin 1024) (h) :
    (show EReal from iblk m hO c 3 t (ix3 0 f l)) = (show EReal from m ((c : Thread nD τ).loc main_arg5)
      (ix3 ⟨(show BitVec 32 from tbl m 0 (ix1 (grid0.coords t 0))).toNat, h⟩ f l)) := by
  refine congrArg (m ((c : Thread nD τ).loc main_arg5)) (funext fun a => Fin.ext ?_)
  match a with
  | ⟨0, _⟩ =>
    show cc0_transform_3 k0_off1_inb numel1_S1 (tbl m) (grid0.coords t) 0 * 1 + 1 * 0 = _
    rw [map3_eq]; exact Nat.mul_one _
  | ⟨1, _⟩ =>
    show cc0_transform_3 k0_off1_inb numel1_S1 (tbl m) (grid0.coords t) 1 * 512 + 1 * f.val = f.val
    rw [map3_eq]; show 0 * 512 + 1 * f.val = _; omega
  | ⟨2, _⟩ =>
    show cc0_transform_3 k0_off1_inb numel1_S1 (tbl m) (grid0.coords t) 2 * 1024 + 1 * l.val = l.val
    rw [map3_eq]; show 0 * 1024 + 1 * l.val = _; omega

/-- What the body leaves in the result's block at a point, at an index. -/
theorem after4_apply (m : (ℓ : Loc nD τ sig) → Buf (Elt Ideal) ℓ) (hO : Ok m) (c : Dev nD) (hlt : ∀ x : S288.Idx, (show BitVec 32 from tbl m 0 x).toNat < 32)
    (t : Fin (cfgM m hO).N) (r : Fin 256) (l : Fin 1024) (h) :
    (show EReal from (dats m hO 0 c).after 4 t (ix2 r l))
      = if (BitVec.ofNat 32 t.val).toInt < (show BitVec 32 from tbl m 1 (ix1 0)).toInt then
          expert (fun k => (show EReal from m ((c : Thread nD τ).loc main_arg2) (ix2 ⟨t.val * 256 + r.val, h⟩ k)))
            (fun k f => (show EReal from m ((c : Thread nD τ).loc main_arg3) (ix3 ⟨(show BitVec 32 from tbl m 0 (ix1 t)).toNat, hlt _⟩ k f)))
            (fun k f => (show EReal from m ((c : Thread nD τ).loc main_arg4) (ix3 ⟨(show BitVec 32 from tbl m 0 (ix1 t)).toNat, hlt _⟩ k f)))
            (fun f c' => (show EReal from m ((c : Thread nD τ).loc main_arg5) (ix3 ⟨(show BitVec 32 from tbl m 0 (ix1 t)).toNat, hlt _⟩ f c'))) l
        else 0 := by
  have hc : grid0.coords t 0 = t := Fin.ext (coords_val t)
  have hn : nUsed (F := Ideal) (tbl m 1) = (show BitVec 32 from tbl m 1 (ix1 0)) :=
    congrArg (tbl m 1) (funext fun a => match a with | ⟨0, _⟩ => Subsingleton.elim (α := Fin 1) _ _)
  rw [after0_4]
  unfold outE
  rw [hn]
  by_cases h2 : k0_cond2 (grid0.coords t) (show BitVec 32 from tbl m 1 (ix1 0)) = 1#1
  · rw [if_pos h2, if_neg (by rw [cond2_iff, coords_val] at h2; omega)]
    unfold k0_pay2
    pointwise []
  · rw [if_neg h2, if_pos (by rw [cond2_iff, coords_val] at h2; omega)]
    refine (pay1_apply _ _ _ _ r l).trans ?_
    have e0 : (fun k => (show EReal from iblk m hO c 0 t (ix2 r k))) = _ := funext fun k => iblk0_apply m hO c t r k h
    have e1 : (fun k f => (show EReal from iblk m hO c 1 t (ix3 0 k f))) = _ := funext fun k => funext fun f => iblk1_apply m hO c t k f (hlt _)
    have e2 : (fun k f => (show EReal from iblk m hO c 2 t (ix3 0 k f))) = _ := funext fun k => funext fun f => iblk2_apply m hO c t k f (hlt _)
    have e3 : (fun k f => (show EReal from iblk m hO c 3 t (ix3 0 k f))) = _ := funext fun k => funext fun f => iblk3_apply m hO c t k f (hlt _)
    rw [hc] at e1 e2 e3
    exact congrFun (congr (congr (congr (congrArg expert e0) e1) e2) e3) l

/-- An array that is that function is the run's result. -/
theorem final (m : (ℓ : Loc nD τ sig) → Buf (Elt Ideal) ℓ) (hO : Ok m) (c : Dev nD)
    (G : Buf (Elt Ideal) ((c.tc : Thread nD τ).loc main_v0))
    (hG : ∀ (t : Fin 288) (r : Fin 256) (l : Fin 1024) (h), (show EReal from G (ix2 ⟨t.val * 256 + r.val, h⟩ l)) = (dats m hO 0 c).after 4 t (ix2 r l)) :
    (dats m hO 0 c).arrAt 4 (cfgM m hO).N = G := by
  refine (dats m hO 0 c).arrAt_eq_of_covers 4 _ ?_ fun t _ y => ?_
  · refine Pipeline.Window.covers_of_index_surj (w := (cfgM m hO).win 4) rfl ?_ ?_
    · exact (by decide : ∀ a : Fin 2, 0 < S256x1024.size a)
    · intro β
      have hn : ((cfgM m hO).win 4).nblk (0 : Fin 2) = 288 := (by decide : (73728 + 256 - 1) / 256 = 288)
      refine ⟨⟨(β (0 : Fin 2)).val, lt_of_lt_of_eq (β (0 : Fin 2)).isLt hn⟩, fun a => ?_⟩
      match a with
      | ⟨0, _⟩ => show cc0_transform_4 (grid0.coords _) 0 = _; rw [map4_val]; rfl
      | ⟨1, _⟩ =>
        show cc0_transform_4 (grid0.coords ⟨(β (0 : Fin 2)).val, lt_of_lt_of_eq (β (0 : Fin 2)).isLt hn⟩) 1 = _; rw [map4_val]
        have h1 : (β (1 : Fin 2)).val < 1 := lt_of_lt_of_eq (β (1 : Fin 2)).isLt
          (show ((cfgM m hO).win 4).nblk (1 : Fin 2) = 1 from (by decide : (1024 + 1024 - 1) / 1024 = 1))
        show 0 = (β (1 : Fin 2)).val
        omega
  · have hy : y = ix2 (y (0 : Fin 2)) (y (1 : Fin 2)) := by
      funext a
      match a with
      | ⟨0, _⟩ => rfl
      | ⟨1, _⟩ => rfl
    have hr : (y (0 : Fin 2)).val < 256 := (y (0 : Fin 2)).isLt
    have ht : t.val < 288 := t.isLt
    refine Eq.trans ?_ ((hG t (y (0 : Fin 2)) (y (1 : Fin 2)) (by omega)).symm.trans (congrArg G (funext fun a => Fin.ext ?_)))
    · exact congrArg ((dats m hO 0 c).after 4 t) hy
    · match a with
      | ⟨0, _⟩ =>
        show t.val * 256 + (y (0 : Fin 2)).val = cc0_transform_4 (grid0.coords t) 0 * 256 + 1 * (y (0 : Fin 2)).val
        rw [map4_val t]; show _ = t.val * 256 + 1 * (y (0 : Fin 2)).val; omega
      | ⟨1, _⟩ =>
        show (y (1 : Fin 2)).val = cc0_transform_4 (grid0.coords t) 1 * 1024 + 1 * (y (1 : Fin 2)).val
        rw [map4_val t]; show _ = 0 * 1024 + 1 * (y (1 : Fin 2)).val; omega

end Cert.Kernel2Ideal.Experts

end
-- ==== Proof.ExpertsRef.lean ====
/- The experts' reference at an index: the row of its block through the expert the table names, or zero past the last used
   block. -/
module

public import proofs.«01_k».proof.Proof.Gen.Reference2Ideal.Run
public import proofs.«01_k».proof.Proof.ExpertsMath

@[expose] public section

set_option maxRecDepth 16384

noncomputable section

namespace Cert.Reference2Ideal.Experts

open Idealize.ShloMosaic Idealize.ShloMosaic.TcCoe
open Cert.Reference2Ideal Cert.Reference2Ideal.Gen Cert.Reference2Ideal.Value Cert.Experts

/-- A start index's first column: the table's words, a negative one wrapped. -/
def wrapped (a0 : IVec S288 32) : IVec S288x1 32 :=
  broadcastInDim S288x1 ![0] bcast_S288_S288x1_0 (select (cmpi .slt a0 (broadcastInDim S288 ![] bcast_S_S288 (constantI S_ 32 0#32)))
    (addi a0 (broadcastInDim S288 ![] bcast_S_S288 (constantI S_ 32 32#32))) a0)

/-- A start index's other columns: zero. -/
def zeros (p : BitVec 32) : IVec S288x1 32 :=
  broadcastInDim S288x1 ![] bcast_S_S288x1 (select (cmpi .slt (constantI S_ 32 0#32) (constantI S_ 32 0#32))
    (addi (constantI S_ 32 0#32) (constantI S_ 32 p)) (constantI S_ 32 0#32))

/-- The start indices of the gather that takes each block's expert's table. -/
def starts (p q : BitVec 32) (a0 : IVec S288 32) : IVec S288x3 32 :=
  concatenate S288x3 1 [⟨S288x1, wrapped a0⟩, ⟨S288x1, zeros p⟩, ⟨S288x1, zeros q⟩] concatenates_S288x1_S288x1_S288x1_S288x3_d1

/-- Each block's expert's table of the first two products. -/
def tabIn (a0 : IVec S288 32) (T : FVec Ideal S32x1024x512 .bf16) : FVec Ideal S288x1024x512 .f32 :=
  shapeCast _ (Host.gather gather_S32x1024x512_S288x3_S288x1x1024x512_123_n_n_n_012_1_11024512 (extf .f32 T bitsLt_bf16_f32) (starts 1024#32 512#32 a0))
    shapeCasts_S288x1x1024x512_S288x1024x512

/-- Each block's expert's table of the last product. -/
def tabOut (a0 : IVec S288 32) (T : FVec Ideal S32x512x1024 .bf16) : FVec Ideal S288x512x1024 .f32 :=
  shapeCast _ (Host.gather gather_S32x512x1024_S288x3_S288x1x512x1024_123_n_n_n_012_1_15121024 (extf .f32 T bitsLt_bf16_f32) (starts 512#32 1024#32 a0))
    shapeCasts_S288x1x512x1024_S288x512x1024

/-- The rows, the three tables of each block and the count of used blocks: the result as one term. -/
def refTerm (a1 : IVec S1 32) (X : FVec Ideal S73728x1024 .f32) (WG WU : FVec Ideal S288x1024x512 .f32) (WD : FVec Ideal S288x512x1024 .f32) :
    FVec Ideal S73728x1024 .f32 :=
  shapeCast _ (select (broadcastInDim S288x256x1024 ![0, 1, 2] bcast_S288x1x1_S288x256x1024_0_1_2
      (broadcastInDim S288x1x1 ![0] bcast_S288_S288x1x1_0 (cmpi .slt (iotaInDim S288 32 0) (broadcastInDim S288 ![] bcast_S_S288
        (shapeCast _ a1 shapeCasts_S1_S_)))))
    (Host.dotGeneral dot_S288x256x512_S288x512x1024_S288x256x1024_2_1_1_2_0_0 none
      (mulf (mulf (Host.dotGeneral dot_S288x256x1024_S288x1024x512_S288x256x512_2_1_1_2_0_0 none (shapeCast _ X shapeCasts_S73728x1024_S288x256x1024) WG)
        (Host.divf (broadcastInDim S288x256x512 ![] bcast_S_S288x256x512 (constant S_ .f32 0x3F800000#32))
          (addf (broadcastInDim S288x256x512 ![] bcast_S_S288x256x512 (constant S_ .f32 0x3F800000#32))
            (Host.exp (Host.negf (Host.dotGeneral dot_S288x256x1024_S288x1024x512_S288x256x512_2_1_1_2_0_0 none
              (shapeCast _ X shapeCasts_S73728x1024_S288x256x1024) WG))))))
        (Host.dotGeneral dot_S288x256x1024_S288x1024x512_S288x256x512_2_1_1_2_0_0 none (shapeCast _ X shapeCasts_S73728x1024_S288x256x1024) WU))
      WD)
    (broadcastInDim S288x256x1024 ![] bcast_S_S288x256x1024 (constant S_ .f32 0x00000000#32))) shapeCasts_S288x256x1024_S73728x1024

/-- The reference's result is that term of its arguments. -/
theorem res_eq (m : (ℓ : Loc nD τ sig) → Buf (Elt Ideal) ℓ) (c : Dev nD) :
    res_main_v66 m c = refTerm (m ((c : Thread nD τ).loc main_arg1)) (m ((c : Thread nD τ).loc main_arg2))
      (tabIn (m ((c : Thread nD τ).loc main_arg0)) (m ((c : Thread nD τ).loc main_arg3)))
      (tabIn (m ((c : Thread nD τ).loc main_arg0)) (m ((c : Thread nD τ).loc main_arg4)))
      (tabOut (m ((c : Thread nD τ).loc main_arg0)) (m ((c : Thread nD τ).loc main_arg5))) := by
  with_unfolding_all rfl

/-- A selection by a signed comparison. -/
theorem select_slt {α : Type} (v w : BitVec 32) (x y : α) :
    Scalar.select (IntOp.cmpi CmpIPredicate.slt v w) x y = if v.toInt < w.toInt then x else y := by
  by_cases h : v.toInt < w.toInt <;> simp [Scalar.select, IntOp.cmpi, BitVec.slt_eq_decide, h]

/-- A start index's first word: the block's expert. -/
theorem starts_first (p q : BitVec 32) (a0 : IVec S288 32) (hlt : ∀ x : S288.Idx, (a0 x).toNat < 32) (b : Fin 288) :
    (starts p q a0 (ix2 b 0)).toInt = ((a0 (ix1 b)).toNat : Int) := by
  have h : starts p q a0 (ix2 b 0) = wrapped a0 (ix2 b 0) :=
    concatenate_apply_piece (1 : Fin S288x3.rank) [⟨S288x1, wrapped a0⟩, ⟨S288x1, zeros p⟩, ⟨S288x1, zeros q⟩] concatenates_S288x1_S288x1_S288x1_S288x3_d1 (ix2 b 0) 0 (Nat.zero_lt_succ _) S288x1 (wrapped a0) rfl rfl 0 rfl (ix2 b 0)
      (fun d _ => match d with | ⟨0, _⟩ => rfl | ⟨1, _⟩ => rfl) rfl
  have hb := hlt (ix1 b)
  have hw : wrapped a0 (ix2 b 0) = a0 (ix1 b) := by
    unfold wrapped
    pointwise []
    rw [select_slt, if_neg]
    have h0 : (0#32 : BitVec 32).toInt = 0 := rfl
    rw [h0, BitVec.toInt_eq_toNat_cond]
    omega
  rw [h, hw]
  rw [BitVec.toInt_eq_toNat_cond]
  omega

/-- The gathered table at an index: the named expert's. -/
theorem tabIn_apply (a0 : IVec S288 32) (T : FVec Ideal S32x1024x512 .bf16) (hlt : ∀ x : S288.Idx, (a0 x).toNat < 32)
    (b : Fin 288) (k : Fin 1024) (f : Fin 512) : (show EReal from tabIn a0 T (ix3 b k f)) = T (ix3 ⟨(a0 (ix1 b)).toNat, hlt _⟩ k f) := by
  have h := gather_stack_apply gather_S32x1024x512_S288x3_S288x1x1024x512_123_n_n_n_012_1_11024512.wf (extf .f32 T bitsLt_bf16_f32) (starts 1024#32 512#32 a0) b 0 k f ⟨(a0 (ix1 b)).toNat, hlt _⟩
    (starts_first _ _ a0 hlt b)
  unfold tabIn
  pointwise []
  exact h

/-- The gathered table at an index: the named expert's. -/
theorem tabOut_apply (a0 : IVec S288 32) (T : FVec Ideal S32x512x1024 .bf16) (hlt : ∀ x : S288.Idx, (a0 x).toNat < 32)
    (b : Fin 288) (k : Fin 512) (f : Fin 1024) : (show EReal from tabOut a0 T (ix3 b k f)) = T (ix3 ⟨(a0 (ix1 b)).toNat, hlt _⟩ k f) := by
  have h := gather_stack_apply gather_S32x512x1024_S288x3_S288x1x512x1024_123_n_n_n_012_1_15121024.wf (extf .f32 T bitsLt_bf16_f32) (starts 512#32 1024#32 a0) b 0 k f ⟨(a0 (ix1 b)).toNat, hlt _⟩
    (starts_first _ _ a0 hlt b)
  unfold tabOut
  pointwise []
  exact h

/-- The term at an index. -/
theorem refTerm_apply (a1 : IVec S1 32) (X : FVec Ideal S73728x1024 .f32) (WG WU : FVec Ideal S288x1024x512 .f32) (WD : FVec Ideal S288x512x1024 .f32)
    (b : Fin 288) (r : Fin 256) (l : Fin 1024) :
    (show EReal from refTerm a1 X WG WU WD (ix2 ⟨b.val * 256 + r.val, by omega⟩ l))
      = if (BitVec.ofNat 32 b.val).toInt < (a1 (ix1 0)).toInt then
          expert (fun k => (show EReal from X (ix2 ⟨b.val * 256 + r.val, by omega⟩ k))) (fun k f => (show EReal from WG (ix3 b k f)))
            (fun k f => (show EReal from WU (ix3 b k f))) (fun f c => (show EReal from WD (ix3 b f c))) l
        else 0 := by
  unfold refTerm expert gatedRow
  pointwise []
  exact select_slt _ _ _ _

end Cert.Reference2Ideal.Experts

end
-- ==== Proof.lean ====
/- The claims: the kernels' and the references' frames, and the equality of each kernel's and its reference's results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_finite
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Loops
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Loops
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Pre_rows_named
public import proofs.«01_k».proof.Proof.AttEqual
public import proofs.«01_k».proof.Proof.PoolEqual
public import proofs.«01_k».proof.Proof.OutEqual
public import proofs.«01_k».proof.Proof.AdaEqual
public import proofs.«01_k».proof.Proof.CombineOk
public import proofs.«01_k».proof.Proof.CombineIdealOk
public import proofs.«01_k».proof.Proof.CombineValue
public import proofs.«01_k».proof.Proof.CombineRef
public import proofs.«01_k».proof.Proof.ExpertsOk
public import proofs.«01_k».proof.Proof.ExpertsValue
public import proofs.«01_k».proof.Proof.ExpertsRef
public import Idealize.ShloMosaic.Adequacy
public import Idealize.ShloMosaic.Init
public import Idealize.ShloMosaic.Lib.Quiescent

@[expose] public section

set_option maxRecDepth 16384

noncomputable section

namespace Cert.Proof

open Idealize.ShloMosaic Idealize.ShloMosaic.TcCoe Idealize.SL.Sem

/-- The experts' kernel terminates with its arguments unchanged and its counters at zero. -/
theorem experts_kernel : Cert.quiescent_Kernel2 := fun m g h => Cert.Kernel2.Experts.frame m g (Cert.Kernel2.Experts.ok_of_pre m h)

/-- So does its idealization. -/
theorem experts_ideal : Cert.quiescent_Kernel2Ideal := fun m g h =>
  Cert.Kernel2Ideal.Experts.frame m g (Cert.Kernel2Ideal.Experts.ok_of_pre m h)

/-- The reference's run, with its counters: it declares no semaphore. -/
theorem experts_reference : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

/-- The same under the kernel's precondition. -/
theorem experts_reference_pre : Cert.quiescent_Reference2Ideal_pre_experts_named := fun m g _ =>
  (θ_run Cert.Reference2Ideal.defs _ _).mono (fun r h => ⟨fun c => (h c).2, sem_eq_zero_of_no_sems (by decide) r.2⟩)
    (Cert.Reference2Ideal.Value.run (F := Ideal) m g)

/-- The reference's result at an index of a kernel's arguments is what the kernel's body leaves there. -/
theorem experts_point (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ)
    (hO : Cert.Kernel2Ideal.Experts.Ok m)
    (hlt : ∀ x : Cert.Kernel2Ideal.S288.Idx, (show BitVec 32 from Cert.Kernel2Ideal.Experts.tbl m 0 x).toNat < 32)
    (e0 : m' (((0 : Dev 1).tc : Thread Cert.Reference2Ideal.nD Cert.Reference2Ideal.τ).loc Cert.Reference2Ideal.main_arg0) = m (((0 : Dev 1).tc : Thread Cert.Kernel2Ideal.nD Cert.Kernel2Ideal.τ).loc Cert.Kernel2Ideal.main_arg0))
    (e1 : m' (((0 : Dev 1).tc : Thread Cert.Reference2Ideal.nD Cert.Reference2Ideal.τ).loc Cert.Reference2Ideal.main_arg1) = m (((0 : Dev 1).tc : Thread Cert.Kernel2Ideal.nD Cert.Kernel2Ideal.τ).loc Cert.Kernel2Ideal.main_arg1))
    (e2 : m' (((0 : Dev 1).tc : Thread Cert.Reference2Ideal.nD Cert.Reference2Ideal.τ).loc Cert.Reference2Ideal.main_arg2) = m (((0 : Dev 1).tc : Thread Cert.Kernel2Ideal.nD Cert.Kernel2Ideal.τ).loc Cert.Kernel2Ideal.main_arg2))
    (e3 : m' (((0 : Dev 1).tc : Thread Cert.Reference2Ideal.nD Cert.Reference2Ideal.τ).loc Cert.Reference2Ideal.main_arg3) = m (((0 : Dev 1).tc : Thread Cert.Kernel2Ideal.nD Cert.Kernel2Ideal.τ).loc Cert.Kernel2Ideal.main_arg3))
    (e4 : m' (((0 : Dev 1).tc : Thread Cert.Reference2Ideal.nD Cert.Reference2Ideal.τ).loc Cert.Reference2Ideal.main_arg4) = m (((0 : Dev 1).tc : Thread Cert.Kernel2Ideal.nD Cert.Kernel2Ideal.τ).loc Cert.Kernel2Ideal.main_arg4))
    (e5 : m' (((0 : Dev 1).tc : Thread Cert.Reference2Ideal.nD Cert.Reference2Ideal.τ).loc Cert.Reference2Ideal.main_arg5) = m (((0 : Dev 1).tc : Thread Cert.Kernel2Ideal.nD Cert.Kernel2Ideal.τ).loc Cert.Kernel2Ideal.main_arg5))
    (t : Fin 288) (r : Fin 256) (l : Fin 1024) (h : t.val * 256 + r.val < 73728) :
    (show EReal from Cert.Reference2Ideal.Value.res_main_v66 m' (0 : Dev 1) (ix2 ⟨t.val * 256 + r.val, h⟩ l))
      = (Cert.Kernel2Ideal.Experts.dats m hO 0 0).after 4 t (ix2 r l) := by
  refine Eq.trans ?_ (Cert.Kernel2Ideal.Experts.after4_apply m hO 0 hlt t r l h).symm
  rw [Cert.Reference2Ideal.Experts.res_eq]
  erw [e0, e1, e2, e3, e4, e5]
  refine (Cert.Reference2Ideal.Experts.refTerm_apply _ _ _ _ _ t r l).trans ?_
  have hlt' : ∀ x : Cert.Reference2Ideal.S288.Idx, (show BitVec 32 from m (((0 : Dev 1).tc : Thread Cert.Kernel2Ideal.nD Cert.Kernel2Ideal.τ).loc Cert.Kernel2Ideal.main_arg0) x).toNat < 32 := hlt
  have t1 : (fun (k : Fin 1024) (f : Fin 512) => (show EReal from Cert.Reference2Ideal.Experts.tabIn
      (m (((0 : Dev 1).tc : Thread Cert.Kernel2Ideal.nD Cert.Kernel2Ideal.τ).loc Cert.Kernel2Ideal.main_arg0))
      (m (((0 : Dev 1).tc : Thread Cert.Kernel2Ideal.nD Cert.Kernel2Ideal.τ).loc Cert.Kernel2Ideal.main_arg3)) (ix3 t k f))) = _ :=
    funext fun k => funext fun f => Cert.Reference2Ideal.Experts.tabIn_apply _ _ hlt' t k f
  have t2 : (fun (k : Fin 1024) (f : Fin 512) => (show EReal from Cert.Reference2Ideal.Experts.tabIn
      (m (((0 : Dev 1).tc : Thread Cert.Kernel2Ideal.nD Cert.Kernel2Ideal.τ).loc Cert.Kernel2Ideal.main_arg0))
      (m (((0 : Dev 1).tc : Thread Cert.Kernel2Ideal.nD Cert.Kernel2Ideal.τ).loc Cert.Kernel2Ideal.main_arg4)) (ix3 t k f))) = _ :=
    funext fun k => funext fun f => Cert.Reference2Ideal.Experts.tabIn_apply _ _ hlt' t k f
  have t3 : (fun (k : Fin 512) (f : Fin 1024) => (show EReal from Cert.Reference2Ideal.Experts.tabOut
      (m (((0 : Dev 1).tc : Thread Cert.Kernel2Ideal.nD Cert.Kernel2Ideal.τ).loc Cert.Kernel2Ideal.main_arg0))
      (m (((0 : Dev 1).tc : Thread Cert.Kernel2Ideal.nD Cert.Kernel2Ideal.τ).loc Cert.Kernel2Ideal.main_arg5)) (ix3 t k f))) = _ :=
    funext fun k => funext fun f => Cert.Reference2Ideal.Experts.tabOut_apply _ _ hlt' t k f
  erw [t1, t2, t3]
  rfl

/-- The experts' kernel and reference end with equal results. -/
theorem experts_equal : Cert.algebraic_Kernel2Ideal_Reference2Ideal := by
  intro m g m' g' hpre hagree
  have hO := Cert.Kernel2Ideal.Experts.ok_of_pre m hpre
  have hlt : ∀ x : Cert.Kernel2Ideal.S288.Idx, (show BitVec 32 from Cert.Kernel2Ideal.Experts.tbl m 0 x).toNat < 32 :=
    Cert.Experts.lt_of_pre _ _ _ _ _ _ (hpre 0)
  refine ⟨fun c => (Cert.Kernel2Ideal.Experts.dats m hO 0 c).arrAt 4 (Cert.Kernel2Ideal.Experts.cfgM m hO).N,
    (θ_run Cert.Kernel2Ideal.defs _ _).mono (fun _ h => h.1) (Cert.Kernel2Ideal.Experts.run m g hO),
    (θ_run Cert.Reference2Ideal.defs _ _).mono (fun r h c => ⟨(h c).1.trans ?_, (h c).2⟩) (Cert.Reference2Ideal.Value.run (F := Ideal) m' g')⟩
  obtain rfl : c = 0 := Subsingleton.elim _ _
  obtain ⟨e0, e1, e2, e3, e4, e5⟩ := hagree 0
  exact (Cert.Kernel2Ideal.Experts.final m hO 0 (Cert.Reference2Ideal.Value.res_main_v66 m' 0)
    (experts_point m m' hO hlt e0 e1 e2 e3 e4 e5)).symm

/-- The attention's reference's run, with its counters: it declares no semaphore. -/
theorem attention_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The attention's kernel and reference end with equal results when the queries, keys and biases are finite. -/
theorem attention_equal : Cert.algebraic_KernelIdeal_ReferenceIdeal_pre_finite := by
  intro m g m' g' hpre hagree
  refine ⟨fun c => (Cert.KernelIdeal.Gen.dats m 0 c).arrAt 6 Cert.KernelIdeal.cfg0.N,
    Cert.KernelIdeal.Value.run_blocks (F := Ideal) m g,
    (θ_run Cert.ReferenceIdeal.defs _ _).mono (fun r h c => ⟨(h c).1.trans ?_, (h c).2⟩) (Cert.ReferenceIdeal.Value.run (F := Ideal) m' g')⟩
  obtain ⟨e0, e1, e2, e3⟩ := hagree c
  obtain ⟨rq, rk, rT⟩ := Cert.Attention.real_of_pre _ _ _ _ (hpre c)
  have hp := Cert.KernelIdeal.Attention.point m c _ _ _ _ e0 e1 e2 e3 (e0 ▸ rq) (e1 ▸ rk) (e3 ▸ rT)
  rw [← Cert.ReferenceIdeal.Attention.res_eq m' c] at hp
  exact (Cert.KernelIdeal.Attention.final m c (Cert.ReferenceIdeal.Value.res_main_v93 m' c) hp).symm

/-- The input projection's reference's run, with its counters. -/
theorem input_reference : Cert.quiescent_Reference3Ideal := fun m g _ =>
  (θ_run Cert.Reference3Ideal.defs _ _).mono (fun r h => ⟨fun c => (h c).2.2.2.2, sem_eq_zero_of_no_sems (by decide) r.2⟩)
    (Cert.Reference3Ideal.Value.run (F := Ideal) m g)

/-- The input projection's kernel and reference end with equal pooled tokens, queries, keys and values. -/
theorem input_equal : Cert.algebraic_Kernel3Ideal_Reference3Ideal := by
  intro m g m' g' _ hagree
  refine ⟨fun c => (Cert.Kernel3Ideal.Gen.dats m 0 c).arrAt 9 Cert.Kernel3Ideal.cfg0.N,
    fun c => (Cert.Kernel3Ideal.Gen.dats m 0 c).arrAt 10 Cert.Kernel3Ideal.cfg0.N,
    fun c => (Cert.Kernel3Ideal.Gen.dats m 0 c).arrAt 11 Cert.Kernel3Ideal.cfg0.N,
    fun c => (Cert.Kernel3Ideal.Gen.dats m 0 c).arrAt 12 Cert.Kernel3Ideal.cfg0.N,
    (θ_run Cert.Kernel3Ideal.defs _ _).mono (fun _ h c => h c) (Cert.Kernel3Ideal.Value.run_blocks (F := Ideal) m g),
    (θ_run Cert.Reference3Ideal.defs _ _).mono (fun r h c => ⟨(h c).1.trans ?_, (h c).2.1.trans ?_, (h c).2.2.1.trans ?_, (h c).2.2.2.1.trans ?_, (h c).2.2.2.2⟩)
      (Cert.Reference3Ideal.Value.run (F := Ideal) m' g')⟩
  all_goals obtain ⟨e0, e1, e2, e3, e4, e5, e6, e7⟩ := hagree c
  · exact (Cert.Reference3Ideal.In.mixer_eq m' c).trans (input_pool m m' c e0 e1 e2 e3 e4 e5).symm
  · exact (Cert.Reference3Ideal.In.queries_eq m' c).trans (input_queries m m' c e0 e1 e2 e3 e6).symm
  · exact (Cert.Reference3Ideal.In.keys_eq m' c).trans (input_keys m m' c e0 e1 e2 e3 e7).symm
  · exact (input_values m m' c e0 e1 e2 e3).symm

/-- The output projection's reference's run, with its counters. -/
theorem output_reference : Cert.quiescent_Reference4Ideal := fun m g _ =>
  (θ_run Cert.Reference4Ideal.defs _ _).mono (fun r h => ⟨fun c => (h c).2.2, sem_eq_zero_of_no_sems (by decide) r.2⟩)
    (Cert.Reference4Ideal.Value.run (F := Ideal) m g)

/-- The output projection's kernel and reference end with equal sums and equal normed rows. -/
theorem output_equal : Cert.algebraic_Kernel4Ideal_Reference4Ideal := by
  intro m g m' g' _ hagree
  refine ⟨fun c => (Cert.Kernel4Ideal.Gen.dats m 0 c).arrAt 8 Cert.Kernel4Ideal.cfg0.N,
    fun c => (Cert.Kernel4Ideal.Gen.dats m 0 c).arrAt 9 Cert.Kernel4Ideal.cfg0.N,
    (θ_run Cert.Kernel4Ideal.defs _ _).mono (fun _ h c => ⟨(h c).1, (h c).2.1, (h c).2.2.2.2⟩) (Cert.Kernel4Ideal.Value.run_blocks (F := Ideal) m g),
    (θ_run Cert.Reference4Ideal.defs _ _).mono (fun r h c => ⟨(h c).1.trans ?_, (h c).2.1.trans ?_, (h c).2.2⟩)
      (Cert.Reference4Ideal.Value.run (F := Ideal) m' g')⟩
  all_goals obtain ⟨e0, e1, e2, e3, e4, e5, e6, e7, e8, e9⟩ := hagree c
  · exact (output_sums m m' c e0 e1 e2 e3 e5).symm
  · exact (output_norms m m' c e0 e1 e2 e3 e4 e5).symm

/-- The adaLN projection's reference's run, with its counters. -/
theorem modulation_reference : Cert.quiescent_Reference5Ideal := fun m g _ =>
  (θ_run Cert.Reference5Ideal.defs _ _).mono (fun r h => ⟨fun c => (h c).2, sem_eq_zero_of_no_sems (by decide) r.2⟩)
    (Cert.Reference5Ideal.Value.run (F := Ideal) m g)

/-- The adaLN projection's kernel and reference end with equal modulations. -/
theorem modulation_equal : Cert.algebraic_Kernel5Ideal_Reference5Ideal := by
  intro m g m' g' _ hagree
  refine ⟨fun c => (Cert.Kernel5Ideal.Gen.dats m 0 c).arrAt 3 Cert.Kernel5Ideal.cfg0.N,
    (θ_run Cert.Kernel5Ideal.defs _ _).mono (fun _ h c => h c) (Cert.Kernel5Ideal.Value.run_blocks (F := Ideal) m g),
    (θ_run Cert.Reference5Ideal.defs _ _).mono (fun r h c => ⟨(h c).1.trans ?_, (h c).2⟩) (Cert.Reference5Ideal.Value.run (F := Ideal) m' g')⟩
  obtain ⟨e0, e1, e2⟩ := hagree c
  exact (modulation_meets m m' c e0 e1 e2).symm

/-- The combination's kernel terminates with its arguments unchanged and its counters at zero. -/
theorem combine_kernel : Cert.quiescent_Kernel6 := fun m g h => Cert.Kernel6.Combine.frame g (Cert.Kernel6.Combine.ok_of_pre m h)

/-- So does its idealization. -/
theorem combine_ideal : Cert.quiescent_Kernel6Ideal := fun m g h => Cert.Kernel6Ideal.Combine.frame g (Cert.Kernel6Ideal.Combine.ok_of_pre m h)

/-- The reference's run, with its counters: it declares no semaphore. -/
theorem combine_reference : Cert.quiescent_Reference6Ideal := fun m g _ =>
  (θ_run Cert.Reference6Ideal.defs _ _).mono (fun r h => ⟨fun c => (h c).2, sem_eq_zero_of_no_sems (by decide) r.2⟩)
    (Cert.Reference6Ideal.Combine.run_out m g)

/-- The same under the kernel's precondition. -/
theorem combine_reference_pre : Cert.quiescent_Reference6Ideal_pre_rows_named := fun m g _ =>
  (θ_run Cert.Reference6Ideal.defs _ _).mono (fun r h => ⟨fun c => (h c).2, sem_eq_zero_of_no_sems (by decide) r.2⟩)
    (Cert.Reference6Ideal.Combine.run_out m g)

/-- The reference's result at an index of a kernel's arguments is what the kernel's body leaves there. -/
theorem combine_point (m : (ℓ : Loc Cert.Kernel6Ideal.nD Cert.Kernel6Ideal.τ Cert.Kernel6Ideal.sig) → Buf (Elt Ideal) ℓ)
    (m' : (ℓ : Loc Cert.Reference6Ideal.nD Cert.Reference6Ideal.τ Cert.Reference6Ideal.sig) → Buf (Elt Ideal) ℓ)
    (hO : Cert.Kernel6Ideal.Combine.Ok m)
    (e0 : m' (((0 : Dev 1).tc : Thread Cert.Reference6Ideal.nD Cert.Reference6Ideal.τ).loc Cert.Reference6Ideal.main_arg0) = m (((0 : Dev 1).tc : Thread Cert.Kernel6Ideal.nD Cert.Kernel6Ideal.τ).loc Cert.Kernel6Ideal.main_arg0))
    (e1 : m' (((0 : Dev 1).tc : Thread Cert.Reference6Ideal.nD Cert.Reference6Ideal.τ).loc Cert.Reference6Ideal.main_arg1) = m (((0 : Dev 1).tc : Thread Cert.Kernel6Ideal.nD Cert.Kernel6Ideal.τ).loc Cert.Kernel6Ideal.main_arg1))
    (e2 : m' (((0 : Dev 1).tc : Thread Cert.Reference6Ideal.nD Cert.Reference6Ideal.τ).loc Cert.Reference6Ideal.main_arg2) = m (((0 : Dev 1).tc : Thread Cert.Kernel6Ideal.nD Cert.Kernel6Ideal.τ).loc Cert.Kernel6Ideal.main_arg2))
    (e3 : m' (((0 : Dev 1).tc : Thread Cert.Reference6Ideal.nD Cert.Reference6Ideal.τ).loc Cert.Reference6Ideal.main_arg3) = m (((0 : Dev 1).tc : Thread Cert.Kernel6Ideal.nD Cert.Kernel6Ideal.τ).loc Cert.Kernel6Ideal.main_arg3))
    (e4 : m' (((0 : Dev 1).tc : Thread Cert.Reference6Ideal.nD Cert.Reference6Ideal.τ).loc Cert.Reference6Ideal.main_arg4) = m (((0 : Dev 1).tc : Thread Cert.Kernel6Ideal.nD Cert.Kernel6Ideal.τ).loc Cert.Kernel6Ideal.main_arg4))
    (e5 : m' (((0 : Dev 1).tc : Thread Cert.Reference6Ideal.nD Cert.Reference6Ideal.τ).loc Cert.Reference6Ideal.main_arg5) = m (((0 : Dev 1).tc : Thread Cert.Kernel6Ideal.nD Cert.Kernel6Ideal.τ).loc Cert.Kernel6Ideal.main_arg5))
    (t : Fin 128) (r : Fin 256) (l : Fin 1024) :
    (show EReal from Cert.Reference6Ideal.Combine.out m' (0 : Dev 1) (Cert.Kernel6Ideal.Combine.tokIdx 1024 t r l))
      = (Cert.Kernel6Ideal.Combine.dats m 0 0).after 5 t (ix3 0 r l) := by
  have h : t.val * 256 + r.val < 32768 := by omega
  have hi : t.val / 32 * 8192 + (t.val % 32 * 256 + r.val) < 32768 := by omega
  have ei : (⟨t.val / 32 * 8192 + (t.val % 32 * 256 + r.val), hi⟩ : Fin 32768) = ⟨t.val * 256 + r.val, h⟩ := Fin.ext (by show t.val / 32 * 8192 + (t.val % 32 * 256 + r.val) = t.val * 256 + r.val; omega)
  refine Eq.trans ?_ (Cert.Kernel6Ideal.Combine.after5_apply m 0 hO t r l h (by omega)).symm
  unfold Cert.Reference6Ideal.Combine.out
  erw [e0, e1, e2, e3, e4, e5]
  refine (Cert.Reference6Ideal.Combine.sumTerm_apply _ _ _ _ _ ⟨t.val / 32, by omega⟩ ⟨t.val % 32 * 256 + r.val, by omega⟩ l).trans ?_
  refine Cert.Combine.combined_congr rfl rfl ?_ rfl ?_ rfl
  · refine (Cert.Reference6Ideal.Combine.named_apply _ _ (hO.1 0) ⟨t.val / 32, by omega⟩ ⟨t.val % 32 * 256 + r.val, by omega⟩ l hi).trans ?_
    simp only [ei]
  · refine (Cert.Reference6Ideal.Combine.named_apply _ _ (hO.2 0) ⟨t.val / 32, by omega⟩ ⟨t.val % 32 * 256 + r.val, by omega⟩ l hi).trans ?_
    simp only [ei]

/-- The combination: the kernel's result and the reference's are equal, on extended reals. -/
theorem combine_equal : Cert.algebraic_Kernel6Ideal_Reference6Ideal := by
  intro m g m' g' hpre hagree
  have hO := Cert.Kernel6Ideal.Combine.ok_of_pre m hpre
  refine ⟨fun c => (Cert.Kernel6Ideal.Combine.dats m 0 c).arrAt 5 Cert.Kernel6Ideal.cfg0.N,
    (θ_run Cert.Kernel6Ideal.defs _ _).mono (fun _ h c => h.1 c) (Cert.Kernel6Ideal.Combine.run g hO),
    (θ_run Cert.Reference6Ideal.defs _ _).mono (fun r h c => ⟨(h c).1.trans ?_, (h c).2⟩) (Cert.Reference6Ideal.Combine.run_out m' g')⟩
  obtain ⟨e0, e1, e2, e3, e4, e5⟩ := hagree c
  obtain rfl : c = (0 : Dev 1) := Subsingleton.elim _ _
  exact (Cert.Kernel6Ideal.Combine.final m 0 (Cert.Reference6Ideal.Combine.out m' 0)
    (fun t r l => combine_point m m' hO e0 e1 e2 e3 e4 e5 t r l)).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.Pre_finite.Gen.facts, Cert.Pre_experts_named.Gen.facts, Cert.Pre_rows_named.Gen.facts,
  fun m g _ => Cert.Kernel.Gen.frame m g, fun m g _ => Cert.KernelIdeal.Gen.frame m g, fun m g _ => Cert.KernelIdeal.Gen.frame m g,
  attention_reference, fun m g _ => attention_reference m g trivial,
  experts_kernel, experts_ideal, experts_reference, experts_reference_pre,
  fun m g _ => Cert.Kernel3.Gen.frame m g, fun m g _ => Cert.Kernel3Ideal.Gen.frame m g, input_reference,
  fun m g _ => Cert.Kernel4.Gen.frame m g, fun m g _ => Cert.Kernel4Ideal.Gen.frame m g, output_reference,
  fun m g _ => Cert.Kernel5.Gen.frame m g, fun m g _ => Cert.Kernel5Ideal.Gen.frame m g, modulation_reference,
  combine_kernel, combine_ideal, combine_reference, combine_reference_pre,
  IdealRules.named_const.statement Cert.KernelIdeal.κ "mask" .f32 0xF149F2CA#32 ⊥ rfl, attention_equal, trivial, experts_equal,
  trivial, input_equal, trivial, output_equal, trivial, modulation_equal, trivial, combine_equal⟩

end Cert.Proof

end
